-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sort (m : (ℓ : Loc Cert.Sort.nD Cert.Sort.τ Cert.Sort.sig) → Buf (Elt Bits) ℓ) : Prop :=
  True

def Pre_SortIdeal (m : (ℓ : Loc Cert.SortIdeal.nD Cert.SortIdeal.τ Cert.SortIdeal.sig) → Buf (Elt Ideal) ℓ) : Prop :=
  True

def Pre_PlainIdeal (m : (ℓ : Loc Cert.PlainIdeal.nD Cert.PlainIdeal.τ Cert.PlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Sort [hSort : Cert.Sort.Facts] : Prop :=
  ∀ (m : (ℓ : Loc Cert.Sort.nD Cert.Sort.τ Cert.Sort.sig) → Buf (Elt Bits) ℓ) (g : Dev Cert.Sort.nD → PrngReg), Pre_Sort m →
    θ_run (Cert.Sort.defs (F := Bits)) (onTc (τ := Cert.Sort.τ) (Cert.Sort.main (F := Bits))) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0)
      ∧ r.2.mem ((c.tc : Thread Cert.Sort.nD Cert.Sort.τ).loc Cert.Sort.main_arg1) = m ((c.tc : Thread Cert.Sort.nD Cert.Sort.τ).loc Cert.Sort.main_arg1))
      ∧ r.2.sem = fun _ => 0)

def quiescent_SortIdeal [hSortIdeal : Cert.SortIdeal.Facts] : Prop :=
  ∀ (m : (ℓ : Loc Cert.SortIdeal.nD Cert.SortIdeal.τ Cert.SortIdeal.sig) → Buf (Elt Ideal) ℓ) (g : Dev Cert.SortIdeal.nD → PrngReg), Pre_SortIdeal m →
    θ_run (Cert.SortIdeal.defs (F := Ideal)) (onTc (τ := Cert.SortIdeal.τ) (Cert.SortIdeal.main (F := Ideal))) ⟨m, fun _ => 0, g⟩ (fun r => (∀ c : Dev Cert.SortIdeal.nD,
      r.2.mem ((c.tc : Thread Cert.SortIdeal.nD Cert.SortIdeal.τ).loc Cert.SortIdeal.main_arg0) = m ((c.tc : Thread Cert.SortIdeal.nD Cert.SortIdeal.τ).loc Cert.SortIdeal.main_arg0)
      ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Sort_SortIdeal : Prop :=
  True

def algebraic_SortIdeal_PlainIdeal [hSortIdeal : Cert.SortIdeal.Facts] [hPlainIdeal : Cert.PlainIdeal.Facts] : Prop :=
  ∀ (m : (ℓ : Loc Cert.SortIdeal.nD Cert.SortIdeal.τ Cert.SortIdeal.sig) → Buf (Elt Ideal) ℓ) (g : Dev Cert.SortIdeal.nD → PrngReg)
    (m' : (ℓ : Loc Cert.PlainIdeal.nD Cert.PlainIdeal.τ Cert.PlainIdeal.sig) → Buf (Elt Ideal) ℓ) (g' : Dev Cert.PlainIdeal.nD → PrngReg), Pre_SortIdeal m →
    (∀ c : Dev Cert.SortIdeal.nD,
      m' ((c.tc : Thread Cert.PlainIdeal.nD Cert.PlainIdeal.τ).loc Cert.PlainIdeal.main_arg0) = m ((c.tc : Thread Cert.SortIdeal.nD Cert.SortIdeal.τ).loc Cert.SortIdeal.main_arg0)
      ∧ m' ((c.tc : Thread Cert.PlainIdeal.nD Cert.PlainIdeal.τ).loc Cert.PlainIdeal.main_arg1) = m ((c.tc : Thread Cert.SortIdeal.nD Cert.SortIdeal.τ).loc Cert.SortIdeal.main_arg1)) →
    ∃ (v0 : (c : Dev Cert.SortIdeal.nD) → Buf (Elt Ideal) ((c.tc : Thread Cert.SortIdeal.nD Cert.SortIdeal.τ).loc Cert.SortIdeal.main_v11_0)) (v1 : (c : Dev Cert.SortIdeal.nD) → Buf (Elt Ideal) ((c.tc : Thread Cert.SortIdeal.nD Cert.SortIdeal.τ).loc Cert.SortIdeal.main_v11_1)),
      θ_run (Cert.SortIdeal.defs (F := Ideal)) (onTc (τ := Cert.SortIdeal.τ) (Cert.SortIdeal.main (F := Ideal))) ⟨m, fun _ => 0, g⟩ (fun r => ∀ c : Dev Cert.SortIdeal.nD,
          r.2.mem ((c.tc : Thread Cert.SortIdeal.nD Cert.SortIdeal.τ).loc Cert.SortIdeal.main_v11_0) = v0 c
          ∧ r.2.mem ((c.tc : Thread Cert.SortIdeal.nD Cert.SortIdeal.τ).loc Cert.SortIdeal.main_v11_1) = v1 c
          ∧ r.2.mem ((c.tc : Thread Cert.SortIdeal.nD Cert.SortIdeal.τ).loc Cert.SortIdeal.main_arg0) = m ((c.tc : Thread Cert.SortIdeal.nD Cert.SortIdeal.τ).loc Cert.SortIdeal.main_arg0)
          ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ θ_run (Cert.PlainIdeal.defs (F := Ideal)) (onTc (τ := Cert.PlainIdeal.τ) (Cert.PlainIdeal.main (F := Ideal))) ⟨m', fun _ => 0, g'⟩ (fun r => ∀ c : Dev Cert.PlainIdeal.nD,
          r.2.mem ((c.tc : Thread Cert.PlainIdeal.nD Cert.PlainIdeal.τ).loc Cert.PlainIdeal.main_v18) = v0 c
          ∧ r.2.mem ((c.tc : Thread Cert.PlainIdeal.nD Cert.PlainIdeal.τ).loc Cert.PlainIdeal.main_v24) = v1 c
          ∧ r.2.mem ((c.tc : Thread Cert.PlainIdeal.nD Cert.PlainIdeal.τ).loc Cert.PlainIdeal.main_arg0) = m' ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m' ((c.tc : Thread Cert.PlainIdeal.nD Cert.PlainIdeal.τ).loc Cert.PlainIdeal.main_arg1))

def Claim : Prop :=
  ∃ (hKernel : Cert.Kernel.Facts) (hKernelIdeal : Cert.KernelIdeal.Facts) (hReferenceIdeal : Cert.ReferenceIdeal.Facts) (hSort : Cert.Sort.Facts) (hSortIdeal : Cert.SortIdeal.Facts) (hPlainIdeal : Cert.PlainIdeal.Facts),
    quiescent_Kernel (hKernel := hKernel)
    ∧ quiescent_KernelIdeal (hKernelIdeal := hKernelIdeal)
    ∧ quiescent_ReferenceIdeal (hReferenceIdeal := hReferenceIdeal)
    ∧ quiescent_Sort (hSort := hSort)
    ∧ quiescent_SortIdeal (hSortIdeal := hSortIdeal)
    ∧ quiescent_PlainIdeal (hPlainIdeal := hPlainIdeal)
    ∧ preserves_Kernel_KernelIdeal
    ∧ algebraic_KernelIdeal_ReferenceIdeal (hKernelIdeal := hKernelIdeal) (hReferenceIdeal := hReferenceIdeal)
    ∧ preserves_Sort_SortIdeal
    ∧ algebraic_SortIdeal_PlainIdeal (hSortIdeal := hSortIdeal) (hPlainIdeal := hPlainIdeal)
-- ==== Kernel.lean ====
abbrev S48x256x32x64 : Shape := ⟨4, ![48, 256, 32, 64]⟩
abbrev S48x256x2048 : Shape := ⟨3, ![48, 256, 2048]⟩
abbrev S12288x2048 : Shape := ⟨2, ![12288, 2048]⟩
abbrev S16x2048 : Shape := ⟨2, ![16, 2048]⟩
abbrev S16 : Shape := ⟨1, ![16]⟩
abbrev S_ : Shape := ⟨0, ![]⟩
abbrev S1x16 : Shape := ⟨2, ![1, 16]⟩

abbrev nBuf : Table → Nat
  | .hbm => 10
  | .local .scVector .vmem => 3
  | _ => 0

abbrev bufTy : (tb : Table) → Fin (nBuf tb) → BufTy
  | .hbm, ⟨0, _⟩ => ⟨S48x256x32x64, .f32⟩
  | .hbm, ⟨1, _⟩ => ⟨S48x256x2048, .f32⟩
  | .hbm, ⟨2, _⟩ => ⟨S48x256x2048, .f32⟩
  | .hbm, ⟨3, _⟩ => ⟨S48x256x2048, .i32⟩
  | .hbm, ⟨4, _⟩ => ⟨S48x256x2048, .f32⟩
  | .hbm, ⟨5, _⟩ => ⟨S48x256x2048, .i32⟩
  | .hbm, ⟨6, _⟩ => ⟨S12288x2048, .i32⟩
  | .hbm, ⟨7, _⟩ => ⟨S12288x2048, .f32⟩
  | .hbm, ⟨8, _⟩ => ⟨S12288x2048, .f32⟩
  | .hbm, ⟨9, _⟩ => ⟨S48x256x32x64, .f32⟩
  | .local .scVector .vmem, ⟨0, _⟩ => ⟨S16x2048, .i32⟩
  | .local .scVector .vmem, ⟨1, _⟩ => ⟨S16x2048, .f32⟩
  | .local .scVector .vmem, ⟨2, _⟩ => ⟨S16x2048, .f32⟩
  | _, _ => ⟨S48x256x32x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c24_i32 : BitVec 32 := 24#32
  let v19 : BitVec 32 := Scalar.addi c0_i32_2 c24_i32
  let c1_i32_3 : BitVec 32 := 1#32
  ⟨c0_i32_2, v19, c1_i32_3⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32_2 : BitVec 32 := 0#32
  let c1_i32_3 : BitVec 32 := 1#32
  let arg8 : BitVec 32 := Scf.iv c0_i32_2 c1_i32_3 k0_t1
  let c16_i32 : BitVec 32 := 16#32
  let v20 : BitVec 32 := Scalar.muli arg8 c16_i32
  let v21 : BitVec 32 := Scalar.addi v2 v20
  let c0_i32_9_r0 : BitVec 32 := 0#32
  ![v21.toNat, 0]
@[reducible] def k0_t2_loop : Scf.Loop 32 :=
  let c0_i32_6 : BitVec 32 := 0#32
  let c128_i32 : BitVec 32 := 128#32
  let v22 : BitVec 32 := Scalar.addi c0_i32_6 c128_i32
  let c1_i32_7 : BitVec 32 := 1#32
  ⟨c0_i32_6, v22, c1_i32_7⟩
def k0_off2 (k0_t2 : Fin k0_t2_loop.trips) : Fin 2 → Nat :=
  let c0_i32_10 : BitVec 32 := 0#32
  let v24 : Index := Scalar.indexCast c0_i32_10
  let c0_i32_6 : BitVec 32 := 0#32
  let c1_i32_7 : BitVec 32 := 1#32
  let arg9 : BitVec 32 := Scf.iv c0_i32_6 c1_i32_7 k0_t2
  let c16_i32_9 : BitVec 32 := 16#32
  let v23 : BitVec 32 := Scalar.muli arg9 c16_i32_9
  let v25 : Index := Scalar.indexCast v23
  ![0, v25.toNat]

def k0_chk1 (v3 : IVec S16 32) (v26 : IVec S16 32) : Prop :=
  (∀ a x, ((![v3, v26] : Fin 2 → IVec S16 32) a x).toNat < S16x2048.size a)
theorem k0_idx1_inb : ∀ (v3 : IVec S16 32) (v26 : IVec S16 32) (k0_hw1 : k0_chk1 v3 v26), ∀ a x, ((![v3, v26] : Fin 2 → IVec S16 32) a x).toNat < S16x2048.size a := fun v3 v26 k0_hw1 => k0_hw1
def k0_off3 (k0_t2 : Fin k0_t2_loop.trips) : Fin 2 → Nat :=
  let c1_i32_14 : BitVec 32 := 1#32
  let v32 : Index := Scalar.indexCast c1_i32_14
  let c0_i32_6 : BitVec 32 := 0#32
  let c1_i32_7 : BitVec 32 := 1#32
  let arg9 : BitVec 32 := Scf.iv c0_i32_6 c1_i32_7 k0_t2
  let c16_i32_13 : BitVec 32 := 16#32
  let v31 : BitVec 32 := Scalar.muli arg9 c16_i32_13
  let v33 : Index := Scalar.indexCast v31
  ![1, v33.toNat]

def k0_chk2 (v4 : IVec S16 32) (v34 : IVec S16 32) : Prop :=
  (∀ a x, ((![v4, v34] : Fin 2 → IVec S16 32) a x).toNat < S16x2048.size a)
theorem k0_idx2_inb : ∀ (v4 : IVec S16 32) (v34 : IVec S16 32) (k0_hw2 : k0_chk2 v4 v34), ∀ a x, ((![v4, v34] : Fin 2 → IVec S16 32) a x).toNat < S16x2048.size a := fun v4 v34 k0_hw2 => k0_hw2
def k0_off4 (k0_t2 : Fin k0_t2_loop.trips) : Fin 2 → Nat :=
  let c2_i32_18 : BitVec 32 := 2#32
  let v40 : Index := Scalar.indexCast c2_i32_18
  let c0_i32_6 : BitVec 32 := 0#32
  let c1_i32_7 : BitVec 32 := 1#32
  let arg9 : BitVec 32 := Scf.iv c0_i32_6 c1_i32_7 k0_t2
  let c16_i32_17 : BitVec 32 := 16#32
  let v39 : BitVec 32 := Scalar.muli arg9 c16_i32_17
  let v41 : Index := Scalar.indexCast v39
  ![2, v41.toNat]

def k0_chk3 (v5 : IVec S16 32) (v42 : IVec S16 32) : Prop :=
  (∀ a x, ((![v5, v42] : Fin 2 → IVec S16 32) a x).toNat < S16x2048.size a)
theorem k0_idx3_inb : ∀ (v5 : IVec S16 32) (v42 : IVec S16 32) (k0_hw3 : k0_chk3 v5 v42), ∀ a x, ((![v5, v42] : Fin 2 → IVec S16 32) a x).toNat < S16x2048.size a := fun v5 v42 k0_hw3 => k0_hw3
def k0_off5 (k0_t2 : Fin k0_t2_loop.trips) : Fin 2 → Nat :=
  let c3_i32_22 : BitVec 32 := 3#32
  let v48 : Index := Scalar.indexCast c3_i32_22
  let c0_i32_6 : BitVec 32 := 0#32
  let c1_i32_7 : BitVec 32 := 1#32
  let arg9 : BitVec 32 := Scf.iv c0_i32_6 c1_i32_7 k0_t2
  let c16_i32_21 : BitVec 32 := 16#32
  let v47 : BitVec 32 := Scalar.muli arg9 c16_i32_21
  let v49 : Index := Scalar.indexCast v47
  ![3, v49.toNat]

def k0_chk4 (v6 : IVec S16 32) (v50 : IVec S16 32) : Prop :=
  (∀ a x, ((![v6, v50] : Fin 2 → IVec S16 32) a x).toNat < S16x2048.size a)
theorem k0_idx4_inb : ∀ (v6 : IVec S16 32) (v50 : IVec S16 32) (k0_hw4 : k0_chk4 v6 v50), ∀ a x, ((![v6, v50] : Fin 2 → IVec S16 32) a x).toNat < S16x2048.size a := fun v6 v50 k0_hw4 => k0_hw4
def k0_off6 (k0_t2 : Fin k0_t2_loop.trips) : Fin 2 → Nat :=
  let c4_i32_26 : BitVec 32 := 4#32
  let v56 : Index := Scalar.indexCast c4_i32_26
  let c0_i32_6 : BitVec 32 := 0#32
  let c1_i32_7 : BitVec 32 := 1#32
  let arg9 : BitVec 32 := Scf.iv c0_i32_6 c1_i32_7 k0_t2
  let c16_i32_25 : BitVec 32 := 16#32
  let v55 : BitVec 32 := Scalar.muli arg9 c16_i32_25
  let v57 : Index := Scalar.indexCast v55
  ![4, v57.toNat]

def k0_chk5 (v7 : IVec S16 32) (v58 : IVec S16 32) : Prop :=
  (∀ a x, ((![v7, v58] : Fin 2 → IVec S16 32) a x).toNat < S16x2048.size a)
theorem k0_idx5_inb : ∀ (v7 : IVec S16 32) (v58 : IVec S16 32) (k0_hw5 : k0_chk5 v7 v58), ∀ a x, ((![v7, v58] : Fin 2 → IVec S16 32) a x).toNat < S16x2048.size a := fun v7 v58 k0_hw5 => k0_hw5
def k0_off7 (k0_t2 : Fin k0_t2_loop.trips) : Fin 2 → Nat :=
  let c5_i32_30 : BitVec 32 := 5#32
  let v64 : Index := Scalar.indexCast c5_i32_30
  let c0_i32_6 : BitVec 32 := 0#32
  let c1_i32_7 : BitVec 32 := 1#32
  let arg9 : BitVec 32 := Scf.iv c0_i32_6 c1_i32_7 k0_t2
  let c16_i32_29 : BitVec 32 := 16#32
  let v63 : BitVec 32 := Scalar.muli arg9 c16_i32_29
  let v65 : Index := Scalar.indexCast v63
  ![5, v65.toNat]

def k0_chk6 (v8 : IVec S16 32) (v66 : IVec S16 32) : Prop :=
  (∀ a x, ((![v8, v66] : Fin 2 → IVec S16 32) a x).toNat < S16x2048.size a)
theorem k0_idx6_inb : ∀ (v8 : IVec S16 32) (v66 : IVec S16 32) (k0_hw6 : k0_chk6 v8 v66), ∀ a x, ((![v8, v66] : Fin 2 → IVec S16 32) a x).toNat < S16x2048.size a := fun v8 v66 k0_hw6 => k0_hw6
def k0_off8 (k0_t2 : Fin k0_t2_loop.trips) : Fin 2 → Nat :=
  let c6_i32_34 : BitVec 32 := 6#32
  let v72 : Index := Scalar.indexCast c6_i32_34
  let c0_i32_6 : BitVec 32 := 0#32
  let c1_i32_7 : BitVec 32 := 1#32
  let arg9 : BitVec 32 := Scf.iv c0_i32_6 c1_i32_7 k0_t2
  let c16_i32_33 : BitVec 32 := 16#32
  let v71 : BitVec 32 := Scalar.muli arg9 c16_i32_33
  let v73 : Index := Scalar.indexCast v71
  ![6, v73.toNat]

def k0_chk7 (v9 : IVec S16 32) (v74 : IVec S16 32) : Prop :=
  (∀ a x, ((![v9, v74] : Fin 2 → IVec S16 32) a x).toNat < S16x2048.size a)
theorem k0_idx7_inb : ∀ (v9 : IVec S16 32) (v74 : IVec S16 32) (k0_hw7 : k0_chk7 v9 v74), ∀ a x, ((![v9, v74] : Fin 2 → IVec S16 32) a x).toNat < S16x2048.size a := fun v9 v74 k0_hw7 => k0_hw7
def k0_off9 (k0_t2 : Fin k0_t2_loop.trips) : Fin 2 → Nat :=
  let c7_i32_38 : BitVec 32 := 7#32
  let v80 : Index := Scalar.indexCast c7_i32_38
  let c0_i32_6 : BitVec 32 := 0#32
  let c1_i32_7 : BitVec 32 := 1#32
  let arg9 : BitVec 32 := Scf.iv c0_i32_6 c1_i32_7 k0_t2
  let c16_i32_37 : BitVec 32 := 16#32
  let v79 : BitVec 32 := Scalar.muli arg9 c16_i32_37
  let v81 : Index := Scalar.indexCast v79
  ![7, v81.toNat]

def k0_chk8 (v10 : IVec S16 32) (v82 : IVec S16 32) : Prop :=
  (∀ a x, ((![v10, v82] : Fin 2 → IVec S16 32) a x).toNat < S16x2048.size a)
theorem k0_idx8_inb : ∀ (v10 : IVec S16 32) (v82 : IVec S16 32) (k0_hw8 : k0_chk8 v10 v82), ∀ a x, ((![v10, v82] : Fin 2 → IVec S16 32) a x).toNat < S16x2048.size a := fun v10 v82 k0_hw8 => k0_hw8
def k0_off10 (k0_t2 : Fin k0_t2_loop.trips) : Fin 2 → Nat :=
  let c8_i32_42 : BitVec 32 := 8#32
  let v88 : Index := Scalar.indexCast c8_i32_42
  let c0_i32_6 : BitVec 32 := 0#32
  let c1_i32_7 : BitVec 32 := 1#32
  let arg9 : BitVec 32 := Scf.iv c0_i32_6 c1_i32_7 k0_t2
  let c16_i32_41 : BitVec 32 := 16#32
  let v87 : BitVec 32 := Scalar.muli arg9 c16_i32_41
  let v89 : Index := Scalar.indexCast v87
  ![8, v89.toNat]

def k0_chk9 (v11 : IVec S16 32) (v90 : IVec S16 32) : Prop :=
  (∀ a x, ((![v11, v90] : Fin 2 → IVec S16 32) a x).toNat < S16x2048.size a)
theorem k0_idx9_inb : ∀ (v11 : IVec S16 32) (v90 : IVec S16 32) (k0_hw9 : k0_chk9 v11 v90), ∀ a x, ((![v11, v90] : Fin 2 → IVec S16 32) a x).toNat < S16x2048.size a := fun v11 v90 k0_hw9 => k0_hw9
def k0_off11 (k0_t2 : Fin k0_t2_loop.trips) : Fin 2 → Nat :=
  let c9_i32_46 : BitVec 32 := 9#32
  let v96 : Index := Scalar.indexCast c9_i32_46
  let c0_i32_6 : BitVec 32 := 0#32
  let c1_i32_7 : BitVec 32 := 1#32
  let arg9 : BitVec 32 := Scf.iv c0_i32_6 c1_i32_7 k0_t2
  let c16_i32_45 : BitVec 32 := 16#32
  let v95 : BitVec 32 := Scalar.muli arg9 c16_i32_45
  let v97 : Index := Scalar.indexCast v95
  ![9, v97.toNat]

def k0_chk10 (v12 : IVec S16 32) (v98 : IVec S16 32) : Prop :=
  (∀ a x, ((![v12, v98] : Fin 2 → IVec S16 32) a x).toNat < S16x2048.size a)
theorem k0_idx10_inb : ∀ (v12 : IVec S16 32) (v98 : IVec S16 32) (k0_hw10 : k0_chk10 v12 v98), ∀ a x, ((![v12, v98] : Fin 2 → IVec S16 32) a x).toNat < S16x2048.size a := fun v12 v98 k0_hw10 => k0_hw10
def k0_off12 (k0_t2 : Fin k0_t2_loop.trips) : Fin 2 → Nat :=
  let c10_i32_50 : BitVec 32 := 10#32
  let v104 : Index := Scalar.indexCast c10_i32_50
  let c0_i32_6 : BitVec 32 := 0#32
  let c1_i32_7 : BitVec 32 := 1#32
  let arg9 : BitVec 32 := Scf.iv c0_i32_6 c1_i32_7 k0_t2
  let c16_i32_49 : BitVec 32 := 16#32
  let v103 : BitVec 32 := Scalar.muli arg9 c16_i32_49
  let v105 : Index := Scalar.indexCast v103
  ![10, v105.toNat]

def k0_chk11 (v13 : IVec S16 32) (v106 : IVec S16 32) : Prop :=
  (∀ a x, ((![v13, v106] : Fin 2 → IVec S16 32) a x).toNat < S16x2048.size a)
theorem k0_idx11_inb : ∀ (v13 : IVec S16 32) (v106 : IVec S16 32) (k0_hw11 : k0_chk11 v13 v106), ∀ a x, ((![v13, v106] : Fin 2 → IVec S16 32) a x).toNat < S16x2048.size a := fun v13 v106 k0_hw11 => k0_hw11
def k0_off13 (k0_t2 : Fin k0_t2_loop.trips) : Fin 2 → Nat :=
  let c11_i32_54 : BitVec 32 := 11#32
  let v112 : Index := Scalar.indexCast c11_i32_54
  let c0_i32_6 : BitVec 32 := 0#32
  let c1_i32_7 : BitVec 32 := 1#32
  let arg9 : BitVec 32 := Scf.iv c0_i32_6 c1_i32_7 k0_t2
  let c16_i32_53 : BitVec 32 := 16#32
  let v111 : BitVec 32 := Scalar.muli arg9 c16_i32_53
  let v113 : Index := Scalar.indexCast v111
  ![11, v113.toNat]

def k0_chk12 (v14 : IVec S16 32) (v114 : IVec S16 32) : Prop :=
  (∀ a x, ((![v14, v114] : Fin 2 → IVec S16 32) a x).toNat < S16x2048.size a)
theorem k0_idx12_inb : ∀ (v14 : IVec S16 32) (v114 : IVec S16 32) (k0_hw12 : k0_chk12 v14 v114), ∀ a x, ((![v14, v114] : Fin 2 → IVec S16 32) a x).toNat < S16x2048.size a := fun v14 v114 k0_hw12 => k0_hw12
def k0_off14 (k0_t2 : Fin k0_t2_loop.trips) : Fin 2 → Nat :=
  let c12_i32_58 : BitVec 32 := 12#32
  let v120 : Index := Scalar.indexCast c12_i32_58
  let c0_i32_6 : BitVec 32 := 0#32
  let c1_i32_7 : BitVec 32 := 1#32
  let arg9 : BitVec 32 := Scf.iv c0_i32_6 c1_i32_7 k0_t2
  let c16_i32_57 : BitVec 32 := 16#32
  let v119 : BitVec 32 := Scalar.muli arg9 c16_i32_57
  let v121 : Index := Scalar.indexCast v119
  ![12, v121.toNat]

def k0_chk13 (v15 : IVec S16 32) (v122 : IVec S16 32) : Prop :=
  (∀ a x, ((![v15, v122] : Fin 2 → IVec S16 32) a x).toNat < S16x2048.size a)
theorem k0_idx13_inb : ∀ (v15 : IVec S16 32) (v122 : IVec S16 32) (k0_hw13 : k0_chk13 v15 v122), ∀ a x, ((![v15, v122] : Fin 2 → IVec S16 32) a x).toNat < S16x2048.size a := fun v15 v122 k0_hw13 => k0_hw13
def k0_off15 (k0_t2 : Fin k0_t2_loop.trips) : Fin 2 → Nat :=
  let c13_i32_62 : BitVec 32 := 13#32
  let v128 : Index := Scalar.indexCast c13_i32_62
  let c0_i32_6 : BitVec 32 := 0#32
  let c1_i32_7 : BitVec 32 := 1#32
  let arg9 : BitVec 32 := Scf.iv c0_i32_6 c1_i32_7 k0_t2
  let c16_i32_61 : BitVec 32 := 16#32
  let v127 : BitVec 32 := Scalar.muli arg9 c16_i32_61
  let v129 : Index := Scalar.indexCast v127
  ![13, v129.toNat]

def k0_chk14 (v16 : IVec S16 32) (v130 : IVec S16 32) : Prop :=
  (∀ a x, ((![v16, v130] : Fin 2 → IVec S16 32) a x).toNat < S16x2048.size a)
theorem k0_idx14_inb : ∀ (v16 : IVec S16 32) (v130 : IVec S16 32) (k0_hw14 : k0_chk14 v16 v130), ∀ a x, ((![v16, v130] : Fin 2 → IVec S16 32) a x).toNat < S16x2048.size a := fun v16 v130 k0_hw14 => k0_hw14
def k0_off16 (k0_t2 : Fin k0_t2_loop.trips) : Fin 2 → Nat :=
  let c14_i32_66 : BitVec 32 := 14#32
  let v136 : Index := Scalar.indexCast c14_i32_66
  let c0_i32_6 : BitVec 32 := 0#32
  let c1_i32_7 : BitVec 32 := 1#32
  let arg9 : BitVec 32 := Scf.iv c0_i32_6 c1_i32_7 k0_t2
  let c16_i32_65 : BitVec 32 := 16#32
  let v135 : BitVec 32 := Scalar.muli arg9 c16_i32_65
  let v137 : Index := Scalar.indexCast v135
  ![14, v137.toNat]

def k0_chk15 (v17 : IVec S16 32) (v138 : IVec S16 32) : Prop :=
  (∀ a x, ((![v17, v138] : Fin 2 → IVec S16 32) a x).toNat < S16x2048.size a)
theorem k0_idx15_inb : ∀ (v17 : IVec S16 32) (v138 : IVec S16 32) (k0_hw15 : k0_chk15 v17 v138), ∀ a x, ((![v17, v138] : Fin 2 → IVec S16 32) a x).toNat < S16x2048.size a := fun v17 v138 k0_hw15 => k0_hw15
def k0_off17 (k0_t2 : Fin k0_t2_loop.trips) : Fin 2 → Nat :=
  let c15_i32_70 : BitVec 32 := 15#32
  let v144 : Index := Scalar.indexCast c15_i32_70
  let c0_i32_6 : BitVec 32 := 0#32
  let c1_i32_7 : BitVec 32 := 1#32
  let arg9 : BitVec 32 := Scf.iv c0_i32_6 c1_i32_7 k0_t2
  let c16_i32_69 : BitVec 32 := 16#32
  let v143 : BitVec 32 := Scalar.muli arg9 c16_i32_69
  let v145 : Index := Scalar.indexCast v143
  ![15, v145.toNat]

def k0_chk16 (v18 : IVec S16 32) (v146 : IVec S16 32) : Prop :=
  (∀ a x, ((![v18, v146] : Fin 2 → IVec S16 32) a x).toNat < S16x2048.size a)
theorem k0_idx16_inb : ∀ (v18 : IVec S16 32) (v146 : IVec S16 32) (k0_hw16 : k0_chk16 v18 v146), ∀ a x, ((![v18, v146] : Fin 2 → IVec S16 32) a x).toNat < S16x2048.size a := fun v18 v146 k0_hw16 => k0_hw16
def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32_2 : BitVec 32 := 0#32
  let c1_i32_3 : BitVec 32 := 1#32
  let arg8 : BitVec 32 := Scf.iv c0_i32_2 c1_i32_3 k0_t1
  let c16_i32 : BitVec 32 := 16#32
  let v20 : BitVec 32 := Scalar.muli arg8 c16_i32
  let v21 : BitVec 32 := Scalar.addi v2 v20
  let c0_i32_9_r2 : BitVec 32 := 0#32
  ![v21.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S48x256x32x64 : Shape := ⟨4, ![48, 256, 32, 64]⟩
abbrev S48x256x2048 : Shape := ⟨3, ![48, 256, 2048]⟩
abbrev S_ : Shape := ⟨0, ![]⟩
abbrev S48x256x2048x1 : Shape := ⟨4, ![48, 256, 2048, 1]⟩
abbrev S1 : Shape := ⟨1, ![1]⟩
abbrev S1x1x1x1 : Shape := ⟨4, ![1, 1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S48x256x32x64, .f32⟩
  | .hbm, ⟨1, _⟩ => ⟨S48x256x2048, .f32⟩
  | .hbm, ⟨2, _⟩ => ⟨S48x256x2048, .f32⟩
  | .hbm, ⟨3, _⟩ => ⟨S48x256x2048, .i32⟩
  | .hbm, ⟨4, _⟩ => ⟨S48x256x2048, .f32⟩
  | .hbm, ⟨5, _⟩ => ⟨S48x256x2048, .i32⟩
  | .hbm, ⟨6, _⟩ => ⟨S48x256x2048, .i32⟩
  | .hbm, ⟨7, _⟩ => ⟨S48x256x2048, .i32⟩
  | .hbm, ⟨8, _⟩ => ⟨S48x256x2048, .i32⟩
  | .hbm, ⟨9, _⟩ => ⟨S_, .i32⟩
  | .hbm, ⟨10, _⟩ => ⟨S48x256x2048, .i32⟩
  | .hbm, ⟨11, _⟩ => ⟨S48x256x2048, .i1⟩
  | .hbm, ⟨12, _⟩ => ⟨S_, .i32⟩
  | .hbm, ⟨13, _⟩ => ⟨S48x256x2048, .i32⟩
  | .hbm, ⟨14, _⟩ => ⟨S48x256x2048, .i32⟩
  | .hbm, ⟨15, _⟩ => ⟨S48x256x2048, .i32⟩
  | .hbm, ⟨16, _⟩ => ⟨S48x256x2048x1, .i32⟩
  | .hbm, ⟨17, _⟩ => ⟨S1, .i32⟩
  | .hbm, ⟨18, _⟩ => ⟨S_, .i32⟩
  | .hbm, ⟨19, _⟩ => ⟨S48x256x2048x1, .i32⟩
  | .hbm, ⟨20, _⟩ => ⟨S48x256x2048x1, .i1⟩
  | .hbm, ⟨21, _⟩ => ⟨S1x1x1x1, .i32⟩
  | .hbm, ⟨22, _⟩ => ⟨S48x256x2048x1, .i32⟩
  | .hbm, ⟨23, _⟩ => ⟨S48x256x2048x1, .i1⟩
  | .hbm, ⟨24, _⟩ => ⟨S48x256x2048x1, .i1⟩
  | .hbm, ⟨25, _⟩ => ⟨S_, .i1⟩
  | .hbm, ⟨26, _⟩ => ⟨S48x256x2048, .i1⟩
  | .hbm, ⟨27, _⟩ => ⟨S48x256x2048, .f32⟩
  | .hbm, ⟨28, _⟩ => ⟨S_, .f32⟩
  | .hbm, ⟨29, _⟩ => ⟨S48x256x2048, .f32⟩
  | .hbm, ⟨30, _⟩ => ⟨S48x256x2048, .f32⟩
  | .hbm, ⟨31, _⟩ => ⟨S48x256x32x64, .f32⟩
  | _, _ => ⟨S48x256x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_v0 : Ref sig .tc := ⟨.hbm, 6, rfl⟩
abbrev main_call1_v1_0 : Ref sig .tc := ⟨.hbm, 7, rfl⟩
abbrev main_v2 : Ref sig .tc := ⟨.hbm, 8, rfl⟩
abbrev main_call2_c : Ref sig .tc := ⟨.hbm, 9, rfl⟩
abbrev main_call2_v0 : Ref sig .tc := ⟨.hbm, 10, rfl⟩
abbrev main_call2_v1 : Ref sig .tc := ⟨.hbm, 11, rfl⟩
abbrev main_call2_c_0 : Ref sig .tc := ⟨.hbm, 12, rfl⟩
abbrev main_call2_v2 : Ref sig .tc := ⟨.hbm, 13, rfl⟩
abbrev main_call2_v3 : Ref sig .tc := ⟨.hbm, 14, rfl⟩
abbrev main_call2_v4 : Ref sig .tc := ⟨.hbm, 15, rfl⟩
abbrev main_call2_v5 : Ref sig .tc := ⟨.hbm, 16, rfl⟩
abbrev main_call2_c_1 : Ref sig .tc := ⟨.hbm, 17, rfl⟩
abbrev main_call2_c_2 : Ref sig .tc := ⟨.hbm, 18, rfl⟩
abbrev main_call2_v6 : Ref sig .tc := ⟨.hbm, 19, rfl⟩
abbrev main_call2_v7 : Ref sig .tc := ⟨.hbm, 20, rfl⟩
abbrev main_call2_v8 : Ref sig .tc := ⟨.hbm, 21, rfl⟩
abbrev main_call2_v9 : Ref sig .tc := ⟨.hbm, 22, rfl⟩
abbrev main_call2_v10 : Ref sig .tc := ⟨.hbm, 23, rfl⟩
abbrev main_call2_v11 : Ref sig .tc := ⟨.hbm, 24, rfl⟩
abbrev main_call2_c_3 : Ref sig .tc := ⟨.hbm, 25, rfl⟩
abbrev main_call2_v12 : Ref sig .tc := ⟨.hbm, 26, rfl⟩
abbrev main_call2_v13 : Ref sig .tc := ⟨.hbm, 27, rfl⟩
abbrev main_call2_cst : Ref sig .tc := ⟨.hbm, 28, rfl⟩
abbrev main_call2_v14 : Ref sig .tc := ⟨.hbm, 29, rfl⟩
abbrev main_v3 : Ref sig .tc := ⟨.hbm, 30, rfl⟩
abbrev main_v4 : Ref sig .tc := ⟨.hbm, 31, rfl⟩

abbrev nD : Nat := 1
abbrev τ : Topo := Topo.v7x

variable {F : FTy → Type} [FloatOps F]
-- ==== Sort.lean ====
abbrev S48x256x32x64 : Shape := ⟨4, ![48, 256, 32, 64]⟩
abbrev S48x256x2048 : Shape := ⟨3, ![48, 256, 2048]⟩
abbrev S_ : Shape := ⟨0, ![]⟩
abbrev S1 : Shape := ⟨1, ![1]⟩
abbrev S2 : Shape := ⟨1, ![2]⟩
abbrev S48 : Shape := ⟨1, ![48]⟩
abbrev S2x1 : Shape := ⟨2, ![2, 1]⟩
abbrev S2x2 : Shape := ⟨2, ![2, 2]⟩
abbrev S1x2 : Shape := ⟨2, ![1, 2]⟩
abbrev S1x256x2048 : Shape := ⟨3, ![1, 256, 2048]⟩
abbrev S2048x256 : Shape := ⟨2, ![2048, 256]⟩
abbrev S256x2048 : Shape := ⟨2, ![256, 2048]⟩
abbrev S2048x1 : Shape := ⟨2, ![2048, 1]⟩
abbrev S1x2x1024x256 : Shape := ⟨4, ![1, 2, 1024, 256]⟩
abbrev S1x1x1024x256 : Shape := ⟨4, ![1, 1, 1024, 256]⟩
abbrev S2x2x512x256 : Shape := ⟨4, ![2, 2, 512, 256]⟩
abbrev S2x1x512x256 : Shape := ⟨4, ![2, 1, 512, 256]⟩
abbrev S4x2x256x256 : Shape := ⟨4, ![4, 2, 256, 256]⟩
abbrev S4x1x256x256 : Shape := ⟨4, ![4, 1, 256, 256]⟩
abbrev S8x2x128x256 : Shape := ⟨4, ![8, 2, 128, 256]⟩
abbrev S8x1x128x256 : Shape := ⟨4, ![8, 1, 128, 256]⟩
abbrev S16x2x64x256 : Shape := ⟨4, ![16, 2, 64, 256]⟩
abbrev S16x1x64x256 : Shape := ⟨4, ![16, 1, 64, 256]⟩
abbrev S32x2x32x256 : Shape := ⟨4, ![32, 2, 32, 256]⟩
abbrev S32x1x32x256 : Shape := ⟨4, ![32, 1, 32, 256]⟩
abbrev S64x2x16x256 : Shape := ⟨4, ![64, 2, 16, 256]⟩
abbrev S64x1x16x256 : Shape := ⟨4, ![64, 1, 16, 256]⟩
abbrev S128x2x8x256 : Shape := ⟨4, ![128, 2, 8, 256]⟩
abbrev S128x1x8x256 : Shape := ⟨4, ![128, 1, 8, 256]⟩
abbrev S256x2x4x256 : Shape := ⟨4, ![256, 2, 4, 256]⟩
abbrev S256x1x4x256 : Shape := ⟨4, ![256, 1, 4, 256]⟩
abbrev S512x2x2x256 : Shape := ⟨4, ![512, 2, 2, 256]⟩
abbrev S512x1x2x256 : Shape := ⟨4, ![512, 1, 2, 256]⟩
abbrev S1024x2x1x256 : Shape := ⟨4, ![1024, 2, 1, 256]⟩
abbrev S1024x1x1x256 : Shape := ⟨4, ![1024, 1, 1, 256]⟩

abbrev nBuf : Space → Nat
  | .hbm => 498
  | .vmem => 10
  | .smem => 1
  | _ => 0

abbrev hbmTy0_0 (i : Nat) : BufTy := match i % 128 with
  | 0 => ⟨S48x256x32x64, .f32⟩
  | 1 => ⟨S48x256x2048, .f32⟩
  | 2 => ⟨S48x256x2048, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S48, .i32⟩
  | 14 => ⟨S1, .i32⟩
  | 15 => ⟨S_, .i32⟩
  | 16 => ⟨S1, .i32⟩
  | 17 => ⟨S_, .i32⟩
  | 18 => ⟨S2, .i64⟩
  | 19 => ⟨S_, .i64⟩
  | 20 => ⟨S2, .i64⟩
  | 21 => ⟨S2, .i64⟩
  | 22 => ⟨S_, .i64⟩
  | 23 => ⟨S2, .i64⟩
  | 24 => ⟨S2, .i64⟩
  | 25 => ⟨S2, .i32⟩
  | 26 => ⟨S2, .i32⟩
  | 27 => ⟨S_, .i32⟩
  | 28 => ⟨S_, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S48x256x32x64, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2x1, .i32⟩
  | 122 => ⟨S2x1, .i32⟩
  | 123 => ⟨S2x2, .i32⟩
  | 124 => ⟨S1x2, .i32⟩
  | 125 => ⟨S2, .i32⟩
  | 126 => ⟨S1x2, .i32⟩
  | 127 => ⟨S2, .i32⟩
  | _ => ⟨S48x256x32x64, .f32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S48, .i64⟩
  | 5 => ⟨S_, .i64⟩
  | 6 => ⟨S48, .i64⟩
  | 7 => ⟨S48, .i64⟩
  | 8 => ⟨S_, .i64⟩
  | 9 => ⟨S48, .i64⟩
  | 10 => ⟨S48, .i64⟩
  | 11 => ⟨S48, .i32⟩
  | 12 => ⟨S48, .i32⟩
  | 13 => ⟨S_, .i32⟩
  | 14 => ⟨S_, .i32⟩
  | 15 => ⟨S_, .i32⟩
  | 16 => ⟨S48, .i32⟩
  | 17 => ⟨S48, .i32⟩
  | 18 => ⟨S48, .i32⟩
  | 19 => ⟨S48, .i32⟩
  | 20 => ⟨S48, .i32⟩
  | 21 => ⟨S_, .i32⟩
  | 22 => ⟨S48, .i32⟩
  | 23 => ⟨S48, .i32⟩
  | 24 => ⟨S_, .i32⟩
  | 25 => ⟨S48, .i32⟩
  | 26 => ⟨S48, .i32⟩
  | 27 => ⟨S48, .i32⟩
  | 28 => ⟨S48, .i32⟩
  | 29 => ⟨S48, .i32⟩
  | 30 => ⟨S_, .i32⟩
  | 31 => ⟨S48, .i32⟩
  | 32 => ⟨S48, .i32⟩
  | 33 => ⟨S_, .i32⟩
  | 34 => ⟨S48, .i32⟩
  | 35 => ⟨S48, .i32⟩
  | 36 => ⟨S48, .i32⟩
  | 37 => ⟨S48, .i32⟩
  | 38 => ⟨S48, .i32⟩
  | 39 => ⟨S_, .i32⟩
  | 40 => ⟨S48, .i32⟩
  | 41 => ⟨S48, .i32⟩
  | 42 => ⟨S_, .i32⟩
  | 43 => ⟨S48, .i32⟩
  | 44 => ⟨S48, .i32⟩
  | 45 => ⟨S48, .i32⟩
  | 46 => ⟨S48, .i32⟩
  | 47 => ⟨S48, .i32⟩
  | 48 => ⟨S_, .i32⟩
  | 49 => ⟨S48, .i32⟩
  | 50 => ⟨S48, .i32⟩
  | 51 => ⟨S_, .i32⟩
  | 52 => ⟨S48, .i32⟩
  | 53 => ⟨S48, .i32⟩
  | 54 => ⟨S48, .i32⟩
  | 55 => ⟨S48, .i32⟩
  | 56 => ⟨S48, .i32⟩
  | 57 => ⟨S48, .i32⟩
  | 58 => ⟨S48, .i32⟩
  | 59 => ⟨S48, .i32⟩
  | 60 => ⟨S_, .i32⟩
  | 61 => ⟨S48, .i32⟩
  | 62 => ⟨S48, .i32⟩
  | 63 => ⟨S48, .i32⟩
  | 64 => ⟨S_, .i32⟩
  | 65 => ⟨S48, .i32⟩
  | 66 => ⟨S48, .i32⟩
  | 67 => ⟨S_, .i32⟩
  | 68 => ⟨S48, .i32⟩
  | 69 => ⟨S48, .i32⟩
  | 70 => ⟨S48, .i32⟩
  | 71 => ⟨S48, .i32⟩
  | 72 => ⟨S48, .i32⟩
  | 73 => ⟨S_, .i32⟩
  | 74 => ⟨S48, .i32⟩
  | 75 => ⟨S48, .i32⟩
  | 76 => ⟨S_, .i32⟩
  | 77 => ⟨S48, .i32⟩
  | 78 => ⟨S48, .i32⟩
  | 79 => ⟨S48, .i32⟩
  | 80 => ⟨S48, .i32⟩
  | 81 => ⟨S48, .i32⟩
  | 82 => ⟨S_, .i32⟩
  | 83 => ⟨S48, .i32⟩
  | 84 => ⟨S48, .i32⟩
  | 85 => ⟨S_, .i32⟩
  | 86 => ⟨S48, .i32⟩
  | 87 => ⟨S48, .i32⟩
  | 88 => ⟨S48, .i32⟩
  | 89 => ⟨S48, .i32⟩
  | 90 => ⟨S48, .i32⟩
  | 91 => ⟨S_, .i32⟩
  | 92 => ⟨S48, .i32⟩
  | 93 => ⟨S48, .i32⟩
  | 94 => ⟨S_, .i32⟩
  | 95 => ⟨S48, .i32⟩
  | 96 => ⟨S48, .i32⟩
  | 97 => ⟨S48, .i32⟩
  | 98 => ⟨S48, .i32⟩
  | 99 => ⟨S48, .i32⟩
  | 100 => ⟨S48, .i32⟩
  | 101 => ⟨S48, .i32⟩
  | 102 => ⟨S48, .i32⟩
  | 103 => ⟨S_, .i32⟩
  | 104 => ⟨S48, .i32⟩
  | 105 => ⟨S48, .i32⟩
  | 106 => ⟨S48, .i32⟩
  | 107 => ⟨S_, .i32⟩
  | 108 => ⟨S48, .i32⟩
  | 109 => ⟨S48, .i32⟩
  | 110 => ⟨S_, .i32⟩
  | 111 => ⟨S48, .i32⟩
  | 112 => ⟨S48, .i32⟩
  | 113 => ⟨S48, .i32⟩
  | 114 => ⟨S48, .i32⟩
  | 115 => ⟨S48, .i32⟩
  | 116 => ⟨S_, .i32⟩
  | 117 => ⟨S48, .i32⟩
  | 118 => ⟨S48, .i32⟩
  | 119 => ⟨S_, .i32⟩
  | 120 => ⟨S48, .i32⟩
  | 121 => ⟨S48, .i32⟩
  | 122 => ⟨S48, .i32⟩
  | 123 => ⟨S48, .i32⟩
  | 124 => ⟨S48, .i32⟩
  | 125 => ⟨S_, .i32⟩
  | 126 => ⟨S48, .i32⟩
  | 127 => ⟨S48, .i32⟩
  | _ => ⟨S48x256x32x64, .f32⟩

abbrev hbmTy0_3 (i : Nat) : BufTy := match i % 128 with
  | 0 => ⟨S_, .i32⟩
  | 1 => ⟨S48, .i32⟩
  | 2 => ⟨S48, .i32⟩
  | 3 => ⟨S48, .i32⟩
  | 4 => ⟨S48, .i32⟩
  | 5 => ⟨S48, .i32⟩
  | 6 => ⟨S_, .i32⟩
  | 7 => ⟨S48, .i32⟩
  | 8 => ⟨S48, .i32⟩
  | 9 => ⟨S_, .i32⟩
  | 10 => ⟨S48, .i32⟩
  | 11 => ⟨S48, .i32⟩
  | 12 => ⟨S48, .i32⟩
  | 13 => ⟨S48, .i32⟩
  | 14 => ⟨S48, .i32⟩
  | 15 => ⟨S48, .i32⟩
  | 16 => ⟨S48, .i32⟩
  | 17 => ⟨S48, .i32⟩
  | 18 => ⟨S_, .i32⟩
  | 19 => ⟨S48, .i32⟩
  | 20 => ⟨S48, .i32⟩
  | 21 => ⟨S48, .i32⟩
  | 22 => ⟨S_, .i32⟩
  | 23 => ⟨S48, .i32⟩
  | 24 => ⟨S48, .i32⟩
  | 25 => ⟨S_, .i32⟩
  | 26 => ⟨S48, .i32⟩
  | 27 => ⟨S48, .i32⟩
  | 28 => ⟨S48, .i32⟩
  | 29 => ⟨S48, .i32⟩
  | 30 => ⟨S48, .i32⟩
  | 31 => ⟨S_, .i32⟩
  | 32 => ⟨S48, .i32⟩
  | 33 => ⟨S48, .i32⟩
  | 34 => ⟨S_, .i32⟩
  | 35 => ⟨S48, .i32⟩
  | 36 => ⟨S48, .i32⟩
  | 37 => ⟨S48, .i32⟩
  | 38 => ⟨S48, .i32⟩
  | 39 => ⟨S48, .i32⟩
  | 40 => ⟨S_, .i32⟩
  | 41 => ⟨S48, .i32⟩
  | 42 => ⟨S48, .i32⟩
  | 43 => ⟨S_, .i32⟩
  | 44 => ⟨S48, .i32⟩
  | 45 => ⟨S48, .i32⟩
  | 46 => ⟨S48, .i32⟩
  | 47 => ⟨S48, .i32⟩
  | 48 => ⟨S48, .i32⟩
  | 49 => ⟨S_, .i32⟩
  | 50 => ⟨S48, .i32⟩
  | 51 => ⟨S48, .i32⟩
  | 52 => ⟨S_, .i32⟩
  | 53 => ⟨S48, .i32⟩
  | 54 => ⟨S48, .i32⟩
  | 55 => ⟨S48, .i32⟩
  | 56 => ⟨S48, .i32⟩
  | 57 => ⟨S48, .i32⟩
  | 58 => ⟨S48, .i32⟩
  | 59 => ⟨S48, .i32⟩
  | 60 => ⟨S48, .i32⟩
  | 61 => ⟨S_, .i32⟩
  | 62 => ⟨S48, .i32⟩
  | 63 => ⟨S48, .i32⟩
  | 64 => ⟨S48, .i32⟩
  | 65 => ⟨S_, .i32⟩
  | 66 => ⟨S48, .i32⟩
  | 67 => ⟨S48, .i32⟩
  | 68 => ⟨S_, .i32⟩
  | 69 => ⟨S48, .i32⟩
  | 70 => ⟨S48, .i32⟩
  | 71 => ⟨S48, .i32⟩
  | 72 => ⟨S48, .i32⟩
  | 73 => ⟨S48, .i32⟩
  | 74 => ⟨S_, .i32⟩
  | 75 => ⟨S48, .i32⟩
  | 76 => ⟨S48, .i32⟩
  | 77 => ⟨S_, .i32⟩
  | 78 => ⟨S48, .i32⟩
  | 79 => ⟨S48, .i32⟩
  | 80 => ⟨S48, .i32⟩
  | 81 => ⟨S48, .i32⟩
  | 82 => ⟨S48, .i32⟩
  | 83 => ⟨S_, .i32⟩
  | 84 => ⟨S48, .i32⟩
  | 85 => ⟨S48, .i32⟩
  | 86 => ⟨S_, .i32⟩
  | 87 => ⟨S48, .i32⟩
  | 88 => ⟨S48, .i32⟩
  | 89 => ⟨S48, .i32⟩
  | 90 => ⟨S48, .i32⟩
  | 91 => ⟨S48, .i32⟩
  | 92 => ⟨S_, .i32⟩
  | 93 => ⟨S48, .i32⟩
  | 94 => ⟨S48, .i32⟩
  | 95 => ⟨S_, .i32⟩
  | 96 => ⟨S48, .i32⟩
  | 97 => ⟨S48, .i32⟩
  | 98 => ⟨S48, .i32⟩
  | 99 => ⟨S48, .i32⟩
  | 100 => ⟨S48, .i32⟩
  | 101 => ⟨S48, .i32⟩
  | 102 => ⟨S48, .i32⟩
  | 103 => ⟨S48, .i32⟩
  | 104 => ⟨S_, .i32⟩
  | 105 => ⟨S48, .i32⟩
  | 106 => ⟨S48, .i32⟩
  | 107 => ⟨S48, .i32⟩
  | 108 => ⟨S48, .i32⟩
  | 109 => ⟨S48, .i32⟩
  | 110 => ⟨S48, .i32⟩
  | 111 => ⟨S48, .i32⟩
  | 112 => ⟨S48x256x2048, .i32⟩
  | 113 => ⟨S48x256x2048, .f32⟩
  | _ => ⟨S48x256x32x64, .f32⟩

abbrev hbmTy (i : Nat) : BufTy := match i / 128 with
  | 0 => hbmTy0_0 i
  | 1 => hbmTy0_1 i
  | 2 => hbmTy0_2 i
  | 3 => hbmTy0_3 i
  | _ => ⟨S48x256x32x64, .f32⟩

abbrev bufTy : (tb : Table) → Fin (tcTables nBuf tb) → BufTy
  | .hbm, ⟨i, _⟩ => hbmTy i
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .i32⟩
  | .local _ .vmem, ⟨5, _⟩ => ⟨S1x256x2048, .i32⟩
  | .local _ .vmem, ⟨6, _⟩ => ⟨S1x256x2048, .f32⟩
  | .local _ .vmem, ⟨7, _⟩ => ⟨S1x256x2048, .f32⟩
  | .local _ .vmem, ⟨8, _⟩ => ⟨S2048x256, .f32⟩
  | .local _ .vmem, ⟨9, _⟩ => ⟨S2048x256, .i32⟩
  | .local _ .smem, ⟨0, _⟩ => ⟨S48, .i32⟩
  | _, _ => ⟨S48x256x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_c : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_c_0 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_call0_v0 : Ref sig .tc := ⟨.hbm, 27, rfl⟩
abbrev main_call0_call0_call0_c : Ref sig .tc := ⟨.hbm, 28, rfl⟩
abbrev main_call0_call0_call0_v1 : Ref sig .tc := ⟨.hbm, 29, rfl⟩
abbrev main_call0_call0_call0_v2 : Ref sig .tc := ⟨.hbm, 30, rfl⟩
abbrev main_call0_call0_call0_v3 : Ref sig .tc := ⟨.hbm, 31, rfl⟩
abbrev main_call0_call0_call0_v4 : Ref sig .tc := ⟨.hbm, 32, rfl⟩
abbrev main_call0_call0_call0_v5 : Ref sig .tc := ⟨.hbm, 33, rfl⟩
abbrev main_call0_call0_call0_v6 : Ref sig .tc := ⟨.hbm, 34, rfl⟩
abbrev main_call0_call0_call0_c_0 : Ref sig .tc := ⟨.hbm, 35, rfl⟩
abbrev main_call0_call0_call0_v7 : Ref sig .tc := ⟨.hbm, 36, rfl⟩
abbrev main_call0_call0_call0_v8 : Ref sig .tc := ⟨.hbm, 37, rfl⟩
abbrev main_call0_call0_call0_c_1 : Ref sig .tc := ⟨.hbm, 38, rfl⟩
abbrev main_call0_call0_call0_v9 : Ref sig .tc := ⟨.hbm, 39, rfl⟩
abbrev main_call0_call0_call0_v10 : Ref sig .tc := ⟨.hbm, 40, rfl⟩
abbrev main_call0_call0_call0_v11 : Ref sig .tc := ⟨.hbm, 41, rfl⟩
abbrev main_call0_call0_call0_v12 : Ref sig .tc := ⟨.hbm, 42, rfl⟩
abbrev main_call0_call0_call0_v13 : Ref sig .tc := ⟨.hbm, 43, rfl⟩
abbrev main_call0_call0_call0_c_2 : Ref sig .tc := ⟨.hbm, 44, rfl⟩
abbrev main_call0_call0_call0_v14 : Ref sig .tc := ⟨.hbm, 45, rfl⟩
abbrev main_call0_call0_call0_v15 : Ref sig .tc := ⟨.hbm, 46, rfl⟩
abbrev main_call0_call0_call0_c_3 : Ref sig .tc := ⟨.hbm, 47, rfl⟩
abbrev main_call0_call0_call0_v16 : Ref sig .tc := ⟨.hbm, 48, rfl⟩
abbrev main_call0_call0_call0_v17 : Ref sig .tc := ⟨.hbm, 49, rfl⟩
abbrev main_call0_call0_call0_v18 : Ref sig .tc := ⟨.hbm, 50, rfl⟩
abbrev main_call0_call0_call0_v19 : Ref sig .tc := ⟨.hbm, 51, rfl⟩
abbrev main_call0_call0_call0_v20 : Ref sig .tc := ⟨.hbm, 52, rfl⟩
abbrev main_call0_call0_call0_c_4 : Ref sig .tc := ⟨.hbm, 53, rfl⟩
abbrev main_call0_call0_call0_v21 : Ref sig .tc := ⟨.hbm, 54, rfl⟩
abbrev main_call0_call0_call0_v22 : Ref sig .tc := ⟨.hbm, 55, rfl⟩
abbrev main_call0_call0_call0_c_5 : Ref sig .tc := ⟨.hbm, 56, rfl⟩
abbrev main_call0_call0_call0_v23 : Ref sig .tc := ⟨.hbm, 57, rfl⟩
abbrev main_call0_call0_call0_v24 : Ref sig .tc := ⟨.hbm, 58, rfl⟩
abbrev main_call0_call0_call0_v25 : Ref sig .tc := ⟨.hbm, 59, rfl⟩
abbrev main_call0_call0_call0_v26 : Ref sig .tc := ⟨.hbm, 60, rfl⟩
abbrev main_call0_call0_call0_v27 : Ref sig .tc := ⟨.hbm, 61, rfl⟩
abbrev main_call0_call0_call0_c_6 : Ref sig .tc := ⟨.hbm, 62, rfl⟩
abbrev main_call0_call0_call0_v28 : Ref sig .tc := ⟨.hbm, 63, rfl⟩
abbrev main_call0_call0_call0_v29 : Ref sig .tc := ⟨.hbm, 64, rfl⟩
abbrev main_call0_call0_call0_c_7 : Ref sig .tc := ⟨.hbm, 65, rfl⟩
abbrev main_call0_call0_call0_v30 : Ref sig .tc := ⟨.hbm, 66, rfl⟩
abbrev main_call0_call0_call0_v31 : Ref sig .tc := ⟨.hbm, 67, rfl⟩
abbrev main_call0_call0_call0_v32 : Ref sig .tc := ⟨.hbm, 68, rfl⟩
abbrev main_call0_call0_call0_v33 : Ref sig .tc := ⟨.hbm, 69, rfl⟩
abbrev main_call0_call0_call0_v34 : Ref sig .tc := ⟨.hbm, 70, rfl⟩
abbrev main_call0_call0_call0_v35 : Ref sig .tc := ⟨.hbm, 71, rfl⟩
abbrev main_call0_call0_call0_v36 : Ref sig .tc := ⟨.hbm, 72, rfl⟩
abbrev main_call0_call0_call0_v37 : Ref sig .tc := ⟨.hbm, 73, rfl⟩
abbrev main_call0_call0_call0_c_8 : Ref sig .tc := ⟨.hbm, 74, rfl⟩
abbrev main_call0_call0_call0_v38 : Ref sig .tc := ⟨.hbm, 75, rfl⟩
abbrev main_call0_call0_call0_v39 : Ref sig .tc := ⟨.hbm, 76, rfl⟩
abbrev main_call0_call0_call0_v40 : Ref sig .tc := ⟨.hbm, 77, rfl⟩
abbrev main_call0_call0_call0_c_9 : Ref sig .tc := ⟨.hbm, 78, rfl⟩
abbrev main_call0_call0_call0_v41 : Ref sig .tc := ⟨.hbm, 79, rfl⟩
abbrev main_call0_call0_call0_v42 : Ref sig .tc := ⟨.hbm, 80, rfl⟩
abbrev main_call0_call0_call0_c_10 : Ref sig .tc := ⟨.hbm, 81, rfl⟩
abbrev main_call0_call0_call0_v43 : Ref sig .tc := ⟨.hbm, 82, rfl⟩
abbrev main_call0_call0_call0_v44 : Ref sig .tc := ⟨.hbm, 83, rfl⟩
abbrev main_call0_call0_call0_v45 : Ref sig .tc := ⟨.hbm, 84, rfl⟩
abbrev main_call0_call0_call0_v46 : Ref sig .tc := ⟨.hbm, 85, rfl⟩
abbrev main_call0_call0_call0_v47 : Ref sig .tc := ⟨.hbm, 86, rfl⟩
abbrev main_call0_call0_call0_c_11 : Ref sig .tc := ⟨.hbm, 87, rfl⟩
abbrev main_call0_call0_call0_v48 : Ref sig .tc := ⟨.hbm, 88, rfl⟩
abbrev main_call0_call0_call0_v49 : Ref sig .tc := ⟨.hbm, 89, rfl⟩
abbrev main_call0_call0_call0_c_12 : Ref sig .tc := ⟨.hbm, 90, rfl⟩
abbrev main_call0_call0_call0_v50 : Ref sig .tc := ⟨.hbm, 91, rfl⟩
abbrev main_call0_call0_call0_v51 : Ref sig .tc := ⟨.hbm, 92, rfl⟩
abbrev main_call0_call0_call0_v52 : Ref sig .tc := ⟨.hbm, 93, rfl⟩
abbrev main_call0_call0_call0_v53 : Ref sig .tc := ⟨.hbm, 94, rfl⟩
abbrev main_call0_call0_call0_v54 : Ref sig .tc := ⟨.hbm, 95, rfl⟩
abbrev main_call0_call0_call0_c_13 : Ref sig .tc := ⟨.hbm, 96, rfl⟩
abbrev main_call0_call0_call0_v55 : Ref sig .tc := ⟨.hbm, 97, rfl⟩
abbrev main_call0_call0_call0_v56 : Ref sig .tc := ⟨.hbm, 98, rfl⟩
abbrev main_call0_call0_call0_c_14 : Ref sig .tc := ⟨.hbm, 99, rfl⟩
abbrev main_call0_call0_call0_v57 : Ref sig .tc := ⟨.hbm, 100, rfl⟩
abbrev main_call0_call0_call0_v58 : Ref sig .tc := ⟨.hbm, 101, rfl⟩
abbrev main_call0_call0_call0_v59 : Ref sig .tc := ⟨.hbm, 102, rfl⟩
abbrev main_call0_call0_call0_v60 : Ref sig .tc := ⟨.hbm, 103, rfl⟩
abbrev main_call0_call0_call0_v61 : Ref sig .tc := ⟨.hbm, 104, rfl⟩
abbrev main_call0_call0_call0_c_15 : Ref sig .tc := ⟨.hbm, 105, rfl⟩
abbrev main_call0_call0_call0_v62 : Ref sig .tc := ⟨.hbm, 106, rfl⟩
abbrev main_call0_call0_call0_v63 : Ref sig .tc := ⟨.hbm, 107, rfl⟩
abbrev main_call0_call0_call0_c_16 : Ref sig .tc := ⟨.hbm, 108, rfl⟩
abbrev main_call0_call0_call0_v64 : Ref sig .tc := ⟨.hbm, 109, rfl⟩
abbrev main_call0_call0_call0_v65 : Ref sig .tc := ⟨.hbm, 110, rfl⟩
abbrev main_call0_call0_call0_v66 : Ref sig .tc := ⟨.hbm, 111, rfl⟩
abbrev main_call0_call0_call0_v67 : Ref sig .tc := ⟨.hbm, 112, rfl⟩
abbrev main_call0_call0_call0_v68 : Ref sig .tc := ⟨.hbm, 113, rfl⟩
abbrev main_call0_call0_call0_v69 : Ref sig .tc := ⟨.hbm, 114, rfl⟩
abbrev main_call0_call0_call0_v70 : Ref sig .tc := ⟨.hbm, 115, rfl⟩
abbrev main_call0_call0_call0_v71 : Ref sig .tc := ⟨.hbm, 116, rfl⟩
abbrev main_call0_call0_call0_c_17 : Ref sig .tc := ⟨.hbm, 117, rfl⟩
abbrev main_call0_call0_call0_v72 : Ref sig .tc := ⟨.hbm, 118, rfl⟩
abbrev main_call0_call0_call0_v73 : Ref sig .tc := ⟨.hbm, 119, rfl⟩
abbrev main_call0_call0_call0_v74 : Ref sig .tc := ⟨.hbm, 120, rfl⟩
abbrev main_call0_call0_call0_c_18 : Ref sig .tc := ⟨.hbm, 121, rfl⟩
abbrev main_call0_call0_call0_v75 : Ref sig .tc := ⟨.hbm, 122, rfl⟩
abbrev main_call0_call0_call0_v76 : Ref sig .tc := ⟨.hbm, 123, rfl⟩
abbrev main_call0_call0_call0_c_19 : Ref sig .tc := ⟨.hbm, 124, rfl⟩
abbrev main_call0_call0_call0_v77 : Ref sig .tc := ⟨.hbm, 125, rfl⟩
abbrev main_call0_call0_call0_v78 : Ref sig .tc := ⟨.hbm, 126, rfl⟩
abbrev main_call0_call0_call0_v79 : Ref sig .tc := ⟨.hbm, 127, rfl⟩
abbrev main_call0_call0_call0_v80 : Ref sig .tc := ⟨.hbm, 128, rfl⟩
abbrev main_call0_call0_call0_v81 : Ref sig .tc := ⟨.hbm, 129, rfl⟩
abbrev main_call0_call0_call0_c_20 : Ref sig .tc := ⟨.hbm, 130, rfl⟩
abbrev main_call0_call0_call0_v82 : Ref sig .tc := ⟨.hbm, 131, rfl⟩
abbrev main_call0_call0_call0_v83 : Ref sig .tc := ⟨.hbm, 132, rfl⟩
abbrev main_call0_call0_call0_c_21 : Ref sig .tc := ⟨.hbm, 133, rfl⟩
abbrev main_call0_call0_call0_v84 : Ref sig .tc := ⟨.hbm, 134, rfl⟩
abbrev main_call0_call0_call0_v85 : Ref sig .tc := ⟨.hbm, 135, rfl⟩
abbrev main_call0_call0_call0_v86 : Ref sig .tc := ⟨.hbm, 136, rfl⟩
abbrev main_call0_call0_call0_v87 : Ref sig .tc := ⟨.hbm, 137, rfl⟩
abbrev main_call0_call0_call0_v88 : Ref sig .tc := ⟨.hbm, 138, rfl⟩
abbrev main_call0_call0_call0_c_22 : Ref sig .tc := ⟨.hbm, 139, rfl⟩
abbrev main_call0_call0_call0_v89 : Ref sig .tc := ⟨.hbm, 140, rfl⟩
abbrev main_call0_call0_call0_v90 : Ref sig .tc := ⟨.hbm, 141, rfl⟩
abbrev main_call0_call0_call0_c_23 : Ref sig .tc := ⟨.hbm, 142, rfl⟩
abbrev main_call0_call0_call0_v91 : Ref sig .tc := ⟨.hbm, 143, rfl⟩
abbrev main_call0_call0_call0_v92 : Ref sig .tc := ⟨.hbm, 144, rfl⟩
abbrev main_call0_call0_call0_v93 : Ref sig .tc := ⟨.hbm, 145, rfl⟩
abbrev main_call0_call0_call0_v94 : Ref sig .tc := ⟨.hbm, 146, rfl⟩
abbrev main_call0_call0_call0_v95 : Ref sig .tc := ⟨.hbm, 147, rfl⟩
abbrev main_call0_call0_call0_c_24 : Ref sig .tc := ⟨.hbm, 148, rfl⟩
abbrev main_call0_call0_call0_v96 : Ref sig .tc := ⟨.hbm, 149, rfl⟩
abbrev main_call0_call0_call0_v97 : Ref sig .tc := ⟨.hbm, 150, rfl⟩
abbrev main_call0_call0_call0_c_25 : Ref sig .tc := ⟨.hbm, 151, rfl⟩
abbrev main_call0_call0_call0_v98 : Ref sig .tc := ⟨.hbm, 152, rfl⟩
abbrev main_call0_call0_call0_v99 : Ref sig .tc := ⟨.hbm, 153, rfl⟩
abbrev main_call0_call0_call0_v100 : Ref sig .tc := ⟨.hbm, 154, rfl⟩
abbrev main_call0_call0_call0_v101 : Ref sig .tc := ⟨.hbm, 155, rfl⟩
abbrev main_call0_call0_call0_v102 : Ref sig .tc := ⟨.hbm, 156, rfl⟩
abbrev main_call0_call0_call0_v103 : Ref sig .tc := ⟨.hbm, 157, rfl⟩
abbrev main_call0_call0_call0_v104 : Ref sig .tc := ⟨.hbm, 158, rfl⟩
abbrev main_call0_call0_call0_v105 : Ref sig .tc := ⟨.hbm, 159, rfl⟩
abbrev main_call0_call0_call0_c_26 : Ref sig .tc := ⟨.hbm, 160, rfl⟩
abbrev main_call0_call0_call0_v106 : Ref sig .tc := ⟨.hbm, 161, rfl⟩
abbrev main_call0_call0_call0_v107 : Ref sig .tc := ⟨.hbm, 162, rfl⟩
abbrev main_call0_call0_call0_v108 : Ref sig .tc := ⟨.hbm, 163, rfl⟩
abbrev main_call0_call0_call0_c_27 : Ref sig .tc := ⟨.hbm, 164, rfl⟩
abbrev main_call0_call0_call0_v109 : Ref sig .tc := ⟨.hbm, 165, rfl⟩
abbrev main_call0_call0_call0_v110 : Ref sig .tc := ⟨.hbm, 166, rfl⟩
abbrev main_call0_call0_call0_c_28 : Ref sig .tc := ⟨.hbm, 167, rfl⟩
abbrev main_call0_call0_call0_v111 : Ref sig .tc := ⟨.hbm, 168, rfl⟩
abbrev main_call0_call0_call0_v112 : Ref sig .tc := ⟨.hbm, 169, rfl⟩
abbrev main_call0_call0_call0_v113 : Ref sig .tc := ⟨.hbm, 170, rfl⟩
abbrev main_call0_call0_call0_v114 : Ref sig .tc := ⟨.hbm, 171, rfl⟩
abbrev main_call0_call0_call0_v115 : Ref sig .tc := ⟨.hbm, 172, rfl⟩
abbrev main_call0_call0_call0_c_29 : Ref sig .tc := ⟨.hbm, 173, rfl⟩
abbrev main_call0_call0_call0_v116 : Ref sig .tc := ⟨.hbm, 174, rfl⟩
abbrev main_call0_call0_call0_v117 : Ref sig .tc := ⟨.hbm, 175, rfl⟩
abbrev main_call0_call0_call0_c_30 : Ref sig .tc := ⟨.hbm, 176, rfl⟩
abbrev main_call0_call0_call0_v118 : Ref sig .tc := ⟨.hbm, 177, rfl⟩
abbrev main_call0_call0_call0_v119 : Ref sig .tc := ⟨.hbm, 178, rfl⟩
abbrev main_call0_call0_call0_v120 : Ref sig .tc := ⟨.hbm, 179, rfl⟩
abbrev main_call0_call0_call0_v121 : Ref sig .tc := ⟨.hbm, 180, rfl⟩
abbrev main_call0_call0_call0_v122 : Ref sig .tc := ⟨.hbm, 181, rfl⟩
abbrev main_call0_call0_call0_c_31 : Ref sig .tc := ⟨.hbm, 182, rfl⟩
abbrev main_call0_call0_call0_v123 : Ref sig .tc := ⟨.hbm, 183, rfl⟩
abbrev main_call0_call0_call0_v124 : Ref sig .tc := ⟨.hbm, 184, rfl⟩
abbrev main_call0_call0_call0_c_32 : Ref sig .tc := ⟨.hbm, 185, rfl⟩
abbrev main_call0_call0_call0_v125 : Ref sig .tc := ⟨.hbm, 186, rfl⟩
abbrev main_call0_call0_call0_v126 : Ref sig .tc := ⟨.hbm, 187, rfl⟩
abbrev main_call0_call0_call0_v127 : Ref sig .tc := ⟨.hbm, 188, rfl⟩
abbrev main_call0_call0_call0_v128 : Ref sig .tc := ⟨.hbm, 189, rfl⟩
abbrev main_call0_call0_call0_v129 : Ref sig .tc := ⟨.hbm, 190, rfl⟩
abbrev main_call0_call0_call0_c_33 : Ref sig .tc := ⟨.hbm, 191, rfl⟩
abbrev main_call0_call0_call0_v130 : Ref sig .tc := ⟨.hbm, 192, rfl⟩
abbrev main_call0_call0_call0_v131 : Ref sig .tc := ⟨.hbm, 193, rfl⟩
abbrev main_call0_call0_call0_c_34 : Ref sig .tc := ⟨.hbm, 194, rfl⟩
abbrev main_call0_call0_call0_v132 : Ref sig .tc := ⟨.hbm, 195, rfl⟩
abbrev main_call0_call0_call0_v133 : Ref sig .tc := ⟨.hbm, 196, rfl⟩
abbrev main_call0_call0_call0_v134 : Ref sig .tc := ⟨.hbm, 197, rfl⟩
abbrev main_call0_call0_call0_v135 : Ref sig .tc := ⟨.hbm, 198, rfl⟩
abbrev main_call0_call0_call0_v136 : Ref sig .tc := ⟨.hbm, 199, rfl⟩
abbrev main_call0_call0_call0_v137 : Ref sig .tc := ⟨.hbm, 200, rfl⟩
abbrev main_call0_call0_call0_v138 : Ref sig .tc := ⟨.hbm, 201, rfl⟩
abbrev main_call0_call0_call0_v139 : Ref sig .tc := ⟨.hbm, 202, rfl⟩
abbrev main_call0_call0_call0_c_35 : Ref sig .tc := ⟨.hbm, 203, rfl⟩
abbrev main_call0_call0_call0_v140 : Ref sig .tc := ⟨.hbm, 204, rfl⟩
abbrev main_call0_call0_call0_v141 : Ref sig .tc := ⟨.hbm, 205, rfl⟩
abbrev main_call0_call0_call0_v142 : Ref sig .tc := ⟨.hbm, 206, rfl⟩
abbrev main_call0_call0_call0_c_36 : Ref sig .tc := ⟨.hbm, 207, rfl⟩
abbrev main_call0_call0_call0_v143 : Ref sig .tc := ⟨.hbm, 208, rfl⟩
abbrev main_call0_call0_call0_v144 : Ref sig .tc := ⟨.hbm, 209, rfl⟩
abbrev main_call0_call0_call0_c_37 : Ref sig .tc := ⟨.hbm, 210, rfl⟩
abbrev main_call0_call0_call0_v145 : Ref sig .tc := ⟨.hbm, 211, rfl⟩
abbrev main_call0_call0_call0_v146 : Ref sig .tc := ⟨.hbm, 212, rfl⟩
abbrev main_call0_call0_call0_v147 : Ref sig .tc := ⟨.hbm, 213, rfl⟩
abbrev main_call0_call0_call0_v148 : Ref sig .tc := ⟨.hbm, 214, rfl⟩
abbrev main_call0_call0_call0_v149 : Ref sig .tc := ⟨.hbm, 215, rfl⟩
abbrev main_call0_call0_call0_c_38 : Ref sig .tc := ⟨.hbm, 216, rfl⟩
abbrev main_call0_call0_call0_v150 : Ref sig .tc := ⟨.hbm, 217, rfl⟩
abbrev main_call0_call0_call0_v151 : Ref sig .tc := ⟨.hbm, 218, rfl⟩
abbrev main_call0_call0_call0_c_39 : Ref sig .tc := ⟨.hbm, 219, rfl⟩
abbrev main_call0_call0_call0_v152 : Ref sig .tc := ⟨.hbm, 220, rfl⟩
abbrev main_call0_call0_call0_v153 : Ref sig .tc := ⟨.hbm, 221, rfl⟩
abbrev main_call0_call0_call0_v154 : Ref sig .tc := ⟨.hbm, 222, rfl⟩
abbrev main_call0_call0_call0_v155 : Ref sig .tc := ⟨.hbm, 223, rfl⟩
abbrev main_call0_call0_call0_v156 : Ref sig .tc := ⟨.hbm, 224, rfl⟩
abbrev main_call0_call0_call0_c_40 : Ref sig .tc := ⟨.hbm, 225, rfl⟩
abbrev main_call0_call0_call0_v157 : Ref sig .tc := ⟨.hbm, 226, rfl⟩
abbrev main_call0_call0_call0_v158 : Ref sig .tc := ⟨.hbm, 227, rfl⟩
abbrev main_call0_call0_call0_c_41 : Ref sig .tc := ⟨.hbm, 228, rfl⟩
abbrev main_call0_call0_call0_v159 : Ref sig .tc := ⟨.hbm, 229, rfl⟩
abbrev main_call0_call0_call0_v160 : Ref sig .tc := ⟨.hbm, 230, rfl⟩
abbrev main_call0_call0_call0_v161 : Ref sig .tc := ⟨.hbm, 231, rfl⟩
abbrev main_call0_call0_call0_v162 : Ref sig .tc := ⟨.hbm, 232, rfl⟩
abbrev main_call0_call0_call0_v163 : Ref sig .tc := ⟨.hbm, 233, rfl⟩
abbrev main_call0_call0_call0_c_42 : Ref sig .tc := ⟨.hbm, 234, rfl⟩
abbrev main_call0_call0_call0_v164 : Ref sig .tc := ⟨.hbm, 235, rfl⟩
abbrev main_call0_call0_call0_v165 : Ref sig .tc := ⟨.hbm, 236, rfl⟩
abbrev main_call0_call0_call0_c_43 : Ref sig .tc := ⟨.hbm, 237, rfl⟩
abbrev main_call0_call0_call0_v166 : Ref sig .tc := ⟨.hbm, 238, rfl⟩
abbrev main_call0_call0_call0_v167 : Ref sig .tc := ⟨.hbm, 239, rfl⟩
abbrev main_call0_call0_call0_v168 : Ref sig .tc := ⟨.hbm, 240, rfl⟩
abbrev main_call0_call0_call0_v169 : Ref sig .tc := ⟨.hbm, 241, rfl⟩
abbrev main_call0_call0_call0_v170 : Ref sig .tc := ⟨.hbm, 242, rfl⟩
abbrev main_call0_call0_v11_0 : Ref sig .tc := ⟨.hbm, 243, rfl⟩
abbrev main_call0_call0_call0_v172 : Ref sig .tc := ⟨.hbm, 244, rfl⟩
abbrev main_call0_call0_call0_v173 : Ref sig .tc := ⟨.hbm, 245, rfl⟩
abbrev main_call0_call0_call0_c_44 : Ref sig .tc := ⟨.hbm, 246, rfl⟩
abbrev main_call0_call0_call0_v174 : Ref sig .tc := ⟨.hbm, 247, rfl⟩
abbrev main_call0_call0_v11_1 : Ref sig .tc := ⟨.hbm, 248, rfl⟩
abbrev main_call0_call0_v12 : Ref sig .tc := ⟨.hbm, 249, rfl⟩
abbrev main_call0_call0_v13 : Ref sig .tc := ⟨.hbm, 250, rfl⟩
abbrev main_call0_v0 : Ref sig .tc := ⟨.hbm, 251, rfl⟩
abbrev main_call0_v1 : Ref sig .tc := ⟨.hbm, 252, rfl⟩
abbrev main_call0_v2 : Ref sig .tc := ⟨.hbm, 253, rfl⟩
abbrev main_call0_v3 : Ref sig .tc := ⟨.hbm, 254, rfl⟩
abbrev main_call0_v4 : Ref sig .tc := ⟨.hbm, 255, rfl⟩
abbrev main_call0_v5 : Ref sig .tc := ⟨.hbm, 256, rfl⟩
abbrev main_call0_v6 : Ref sig .tc := ⟨.hbm, 257, rfl⟩
abbrev main_call0_v7 : Ref sig .tc := ⟨.hbm, 258, rfl⟩
abbrev main_call0_v8 : Ref sig .tc := ⟨.hbm, 259, rfl⟩
abbrev main_call0_v9 : Ref sig .tc := ⟨.hbm, 260, rfl⟩
abbrev main_call0_c : Ref sig .tc := ⟨.hbm, 261, rfl⟩
abbrev main_call0_v10 : Ref sig .tc := ⟨.hbm, 262, rfl⟩
abbrev main_call0_v11 : Ref sig .tc := ⟨.hbm, 263, rfl⟩
abbrev main_call0_c_0 : Ref sig .tc := ⟨.hbm, 264, rfl⟩
abbrev main_call0_v12 : Ref sig .tc := ⟨.hbm, 265, rfl⟩
abbrev main_call0_v13 : Ref sig .tc := ⟨.hbm, 266, rfl⟩
abbrev main_call0_v14 : Ref sig .tc := ⟨.hbm, 267, rfl⟩
abbrev main_call0_v15 : Ref sig .tc := ⟨.hbm, 268, rfl⟩
abbrev main_call0_call1_v0 : Ref sig .tc := ⟨.hbm, 269, rfl⟩
abbrev main_call0_call1_c : Ref sig .tc := ⟨.hbm, 270, rfl⟩
abbrev main_call0_call1_v1 : Ref sig .tc := ⟨.hbm, 271, rfl⟩
abbrev main_call0_call1_v2 : Ref sig .tc := ⟨.hbm, 272, rfl⟩
abbrev main_call0_call1_v3 : Ref sig .tc := ⟨.hbm, 273, rfl⟩
abbrev main_call0_call1_v4 : Ref sig .tc := ⟨.hbm, 274, rfl⟩
abbrev main_call0_call1_v5 : Ref sig .tc := ⟨.hbm, 275, rfl⟩
abbrev main_call0_call1_v6 : Ref sig .tc := ⟨.hbm, 276, rfl⟩
abbrev main_call0_call1_c_0 : Ref sig .tc := ⟨.hbm, 277, rfl⟩
abbrev main_call0_call1_v7 : Ref sig .tc := ⟨.hbm, 278, rfl⟩
abbrev main_call0_call1_v8 : Ref sig .tc := ⟨.hbm, 279, rfl⟩
abbrev main_call0_call1_c_1 : Ref sig .tc := ⟨.hbm, 280, rfl⟩
abbrev main_call0_call1_v9 : Ref sig .tc := ⟨.hbm, 281, rfl⟩
abbrev main_call0_call1_v10 : Ref sig .tc := ⟨.hbm, 282, rfl⟩
abbrev main_call0_call1_v11 : Ref sig .tc := ⟨.hbm, 283, rfl⟩
abbrev main_call0_call1_v12 : Ref sig .tc := ⟨.hbm, 284, rfl⟩
abbrev main_call0_call1_v13 : Ref sig .tc := ⟨.hbm, 285, rfl⟩
abbrev main_call0_call1_c_2 : Ref sig .tc := ⟨.hbm, 286, rfl⟩
abbrev main_call0_call1_v14 : Ref sig .tc := ⟨.hbm, 287, rfl⟩
abbrev main_call0_call1_v15 : Ref sig .tc := ⟨.hbm, 288, rfl⟩
abbrev main_call0_call1_c_3 : Ref sig .tc := ⟨.hbm, 289, rfl⟩
abbrev main_call0_call1_v16 : Ref sig .tc := ⟨.hbm, 290, rfl⟩
abbrev main_call0_call1_v17 : Ref sig .tc := ⟨.hbm, 291, rfl⟩
abbrev main_call0_call1_v18 : Ref sig .tc := ⟨.hbm, 292, rfl⟩
abbrev main_call0_call1_v19 : Ref sig .tc := ⟨.hbm, 293, rfl⟩
abbrev main_call0_call1_v20 : Ref sig .tc := ⟨.hbm, 294, rfl⟩
abbrev main_call0_call1_c_4 : Ref sig .tc := ⟨.hbm, 295, rfl⟩
abbrev main_call0_call1_v21 : Ref sig .tc := ⟨.hbm, 296, rfl⟩
abbrev main_call0_call1_v22 : Ref sig .tc := ⟨.hbm, 297, rfl⟩
abbrev main_call0_call1_c_5 : Ref sig .tc := ⟨.hbm, 298, rfl⟩
abbrev main_call0_call1_v23 : Ref sig .tc := ⟨.hbm, 299, rfl⟩
abbrev main_call0_call1_v24 : Ref sig .tc := ⟨.hbm, 300, rfl⟩
abbrev main_call0_call1_v25 : Ref sig .tc := ⟨.hbm, 301, rfl⟩
abbrev main_call0_call1_v26 : Ref sig .tc := ⟨.hbm, 302, rfl⟩
abbrev main_call0_call1_v27 : Ref sig .tc := ⟨.hbm, 303, rfl⟩
abbrev main_call0_call1_c_6 : Ref sig .tc := ⟨.hbm, 304, rfl⟩
abbrev main_call0_call1_v28 : Ref sig .tc := ⟨.hbm, 305, rfl⟩
abbrev main_call0_call1_v29 : Ref sig .tc := ⟨.hbm, 306, rfl⟩
abbrev main_call0_call1_c_7 : Ref sig .tc := ⟨.hbm, 307, rfl⟩
abbrev main_call0_call1_v30 : Ref sig .tc := ⟨.hbm, 308, rfl⟩
abbrev main_call0_call1_v31 : Ref sig .tc := ⟨.hbm, 309, rfl⟩
abbrev main_call0_call1_v32 : Ref sig .tc := ⟨.hbm, 310, rfl⟩
abbrev main_call0_call1_v33 : Ref sig .tc := ⟨.hbm, 311, rfl⟩
abbrev main_call0_call1_v34 : Ref sig .tc := ⟨.hbm, 312, rfl⟩
abbrev main_call0_call1_v35 : Ref sig .tc := ⟨.hbm, 313, rfl⟩
abbrev main_call0_call1_v36 : Ref sig .tc := ⟨.hbm, 314, rfl⟩
abbrev main_call0_call1_v37 : Ref sig .tc := ⟨.hbm, 315, rfl⟩
abbrev main_call0_call1_c_8 : Ref sig .tc := ⟨.hbm, 316, rfl⟩
abbrev main_call0_call1_v38 : Ref sig .tc := ⟨.hbm, 317, rfl⟩
abbrev main_call0_call1_v39 : Ref sig .tc := ⟨.hbm, 318, rfl⟩
abbrev main_call0_call1_v40 : Ref sig .tc := ⟨.hbm, 319, rfl⟩
abbrev main_call0_call1_c_9 : Ref sig .tc := ⟨.hbm, 320, rfl⟩
abbrev main_call0_call1_v41 : Ref sig .tc := ⟨.hbm, 321, rfl⟩
abbrev main_call0_call1_v42 : Ref sig .tc := ⟨.hbm, 322, rfl⟩
abbrev main_call0_call1_c_10 : Ref sig .tc := ⟨.hbm, 323, rfl⟩
abbrev main_call0_call1_v43 : Ref sig .tc := ⟨.hbm, 324, rfl⟩
abbrev main_call0_call1_v44 : Ref sig .tc := ⟨.hbm, 325, rfl⟩
abbrev main_call0_call1_v45 : Ref sig .tc := ⟨.hbm, 326, rfl⟩
abbrev main_call0_call1_v46 : Ref sig .tc := ⟨.hbm, 327, rfl⟩
abbrev main_call0_call1_v47 : Ref sig .tc := ⟨.hbm, 328, rfl⟩
abbrev main_call0_call1_c_11 : Ref sig .tc := ⟨.hbm, 329, rfl⟩
abbrev main_call0_call1_v48 : Ref sig .tc := ⟨.hbm, 330, rfl⟩
abbrev main_call0_call1_v49 : Ref sig .tc := ⟨.hbm, 331, rfl⟩
abbrev main_call0_call1_c_12 : Ref sig .tc := ⟨.hbm, 332, rfl⟩
abbrev main_call0_call1_v50 : Ref sig .tc := ⟨.hbm, 333, rfl⟩
abbrev main_call0_call1_v51 : Ref sig .tc := ⟨.hbm, 334, rfl⟩
abbrev main_call0_call1_v52 : Ref sig .tc := ⟨.hbm, 335, rfl⟩
abbrev main_call0_call1_v53 : Ref sig .tc := ⟨.hbm, 336, rfl⟩
abbrev main_call0_call1_v54 : Ref sig .tc := ⟨.hbm, 337, rfl⟩
abbrev main_call0_call1_c_13 : Ref sig .tc := ⟨.hbm, 338, rfl⟩
abbrev main_call0_call1_v55 : Ref sig .tc := ⟨.hbm, 339, rfl⟩
abbrev main_call0_call1_v56 : Ref sig .tc := ⟨.hbm, 340, rfl⟩
abbrev main_call0_call1_c_14 : Ref sig .tc := ⟨.hbm, 341, rfl⟩
abbrev main_call0_call1_v57 : Ref sig .tc := ⟨.hbm, 342, rfl⟩
abbrev main_call0_call1_v58 : Ref sig .tc := ⟨.hbm, 343, rfl⟩
abbrev main_call0_call1_v59 : Ref sig .tc := ⟨.hbm, 344, rfl⟩
abbrev main_call0_call1_v60 : Ref sig .tc := ⟨.hbm, 345, rfl⟩
abbrev main_call0_call1_v61 : Ref sig .tc := ⟨.hbm, 346, rfl⟩
abbrev main_call0_call1_c_15 : Ref sig .tc := ⟨.hbm, 347, rfl⟩
abbrev main_call0_call1_v62 : Ref sig .tc := ⟨.hbm, 348, rfl⟩
abbrev main_call0_call1_v63 : Ref sig .tc := ⟨.hbm, 349, rfl⟩
abbrev main_call0_call1_c_16 : Ref sig .tc := ⟨.hbm, 350, rfl⟩
abbrev main_call0_call1_v64 : Ref sig .tc := ⟨.hbm, 351, rfl⟩
abbrev main_call0_call1_v65 : Ref sig .tc := ⟨.hbm, 352, rfl⟩
abbrev main_call0_call1_v66 : Ref sig .tc := ⟨.hbm, 353, rfl⟩
abbrev main_call0_call1_v67 : Ref sig .tc := ⟨.hbm, 354, rfl⟩
abbrev main_call0_call1_v68 : Ref sig .tc := ⟨.hbm, 355, rfl⟩
abbrev main_call0_call1_v69 : Ref sig .tc := ⟨.hbm, 356, rfl⟩
abbrev main_call0_call1_v70 : Ref sig .tc := ⟨.hbm, 357, rfl⟩
abbrev main_call0_call1_v71 : Ref sig .tc := ⟨.hbm, 358, rfl⟩
abbrev main_call0_call1_c_17 : Ref sig .tc := ⟨.hbm, 359, rfl⟩
abbrev main_call0_call1_v72 : Ref sig .tc := ⟨.hbm, 360, rfl⟩
abbrev main_call0_call1_v73 : Ref sig .tc := ⟨.hbm, 361, rfl⟩
abbrev main_call0_call1_v74 : Ref sig .tc := ⟨.hbm, 362, rfl⟩
abbrev main_call0_call1_c_18 : Ref sig .tc := ⟨.hbm, 363, rfl⟩
abbrev main_call0_call1_v75 : Ref sig .tc := ⟨.hbm, 364, rfl⟩
abbrev main_call0_call1_v76 : Ref sig .tc := ⟨.hbm, 365, rfl⟩
abbrev main_call0_call1_c_19 : Ref sig .tc := ⟨.hbm, 366, rfl⟩
abbrev main_call0_call1_v77 : Ref sig .tc := ⟨.hbm, 367, rfl⟩
abbrev main_call0_call1_v78 : Ref sig .tc := ⟨.hbm, 368, rfl⟩
abbrev main_call0_call1_v79 : Ref sig .tc := ⟨.hbm, 369, rfl⟩
abbrev main_call0_call1_v80 : Ref sig .tc := ⟨.hbm, 370, rfl⟩
abbrev main_call0_call1_v81 : Ref sig .tc := ⟨.hbm, 371, rfl⟩
abbrev main_call0_call1_c_20 : Ref sig .tc := ⟨.hbm, 372, rfl⟩
abbrev main_call0_call1_v82 : Ref sig .tc := ⟨.hbm, 373, rfl⟩
abbrev main_call0_call1_v83 : Ref sig .tc := ⟨.hbm, 374, rfl⟩
abbrev main_call0_call1_c_21 : Ref sig .tc := ⟨.hbm, 375, rfl⟩
abbrev main_call0_call1_v84 : Ref sig .tc := ⟨.hbm, 376, rfl⟩
abbrev main_call0_call1_v85 : Ref sig .tc := ⟨.hbm, 377, rfl⟩
abbrev main_call0_call1_v86 : Ref sig .tc := ⟨.hbm, 378, rfl⟩
abbrev main_call0_call1_v87 : Ref sig .tc := ⟨.hbm, 379, rfl⟩
abbrev main_call0_call1_v88 : Ref sig .tc := ⟨.hbm, 380, rfl⟩
abbrev main_call0_call1_c_22 : Ref sig .tc := ⟨.hbm, 381, rfl⟩
abbrev main_call0_call1_v89 : Ref sig .tc := ⟨.hbm, 382, rfl⟩
abbrev main_call0_call1_v90 : Ref sig .tc := ⟨.hbm, 383, rfl⟩
abbrev main_call0_call1_c_23 : Ref sig .tc := ⟨.hbm, 384, rfl⟩
abbrev main_call0_call1_v91 : Ref sig .tc := ⟨.hbm, 385, rfl⟩
abbrev main_call0_call1_v92 : Ref sig .tc := ⟨.hbm, 386, rfl⟩
abbrev main_call0_call1_v93 : Ref sig .tc := ⟨.hbm, 387, rfl⟩
abbrev main_call0_call1_v94 : Ref sig .tc := ⟨.hbm, 388, rfl⟩
abbrev main_call0_call1_v95 : Ref sig .tc := ⟨.hbm, 389, rfl⟩
abbrev main_call0_call1_c_24 : Ref sig .tc := ⟨.hbm, 390, rfl⟩
abbrev main_call0_call1_v96 : Ref sig .tc := ⟨.hbm, 391, rfl⟩
abbrev main_call0_call1_v97 : Ref sig .tc := ⟨.hbm, 392, rfl⟩
abbrev main_call0_call1_c_25 : Ref sig .tc := ⟨.hbm, 393, rfl⟩
abbrev main_call0_call1_v98 : Ref sig .tc := ⟨.hbm, 394, rfl⟩
abbrev main_call0_call1_v99 : Ref sig .tc := ⟨.hbm, 395, rfl⟩
abbrev main_call0_call1_v100 : Ref sig .tc := ⟨.hbm, 396, rfl⟩
abbrev main_call0_call1_v101 : Ref sig .tc := ⟨.hbm, 397, rfl⟩
abbrev main_call0_call1_v102 : Ref sig .tc := ⟨.hbm, 398, rfl⟩
abbrev main_call0_call1_v103 : Ref sig .tc := ⟨.hbm, 399, rfl⟩
abbrev main_call0_call1_v104 : Ref sig .tc := ⟨.hbm, 400, rfl⟩
abbrev main_call0_call1_v105 : Ref sig .tc := ⟨.hbm, 401, rfl⟩
abbrev main_call0_call1_c_26 : Ref sig .tc := ⟨.hbm, 402, rfl⟩
abbrev main_call0_call1_v106 : Ref sig .tc := ⟨.hbm, 403, rfl⟩
abbrev main_call0_call1_v107 : Ref sig .tc := ⟨.hbm, 404, rfl⟩
abbrev main_call0_call1_v108 : Ref sig .tc := ⟨.hbm, 405, rfl⟩
abbrev main_call0_call1_c_27 : Ref sig .tc := ⟨.hbm, 406, rfl⟩
abbrev main_call0_call1_v109 : Ref sig .tc := ⟨.hbm, 407, rfl⟩
abbrev main_call0_call1_v110 : Ref sig .tc := ⟨.hbm, 408, rfl⟩
abbrev main_call0_call1_c_28 : Ref sig .tc := ⟨.hbm, 409, rfl⟩
abbrev main_call0_call1_v111 : Ref sig .tc := ⟨.hbm, 410, rfl⟩
abbrev main_call0_call1_v112 : Ref sig .tc := ⟨.hbm, 411, rfl⟩
abbrev main_call0_call1_v113 : Ref sig .tc := ⟨.hbm, 412, rfl⟩
abbrev main_call0_call1_v114 : Ref sig .tc := ⟨.hbm, 413, rfl⟩
abbrev main_call0_call1_v115 : Ref sig .tc := ⟨.hbm, 414, rfl⟩
abbrev main_call0_call1_c_29 : Ref sig .tc := ⟨.hbm, 415, rfl⟩
abbrev main_call0_call1_v116 : Ref sig .tc := ⟨.hbm, 416, rfl⟩
abbrev main_call0_call1_v117 : Ref sig .tc := ⟨.hbm, 417, rfl⟩
abbrev main_call0_call1_c_30 : Ref sig .tc := ⟨.hbm, 418, rfl⟩
abbrev main_call0_call1_v118 : Ref sig .tc := ⟨.hbm, 419, rfl⟩
abbrev main_call0_call1_v119 : Ref sig .tc := ⟨.hbm, 420, rfl⟩
abbrev main_call0_call1_v120 : Ref sig .tc := ⟨.hbm, 421, rfl⟩
abbrev main_call0_call1_v121 : Ref sig .tc := ⟨.hbm, 422, rfl⟩
abbrev main_call0_call1_v122 : Ref sig .tc := ⟨.hbm, 423, rfl⟩
abbrev main_call0_call1_c_31 : Ref sig .tc := ⟨.hbm, 424, rfl⟩
abbrev main_call0_call1_v123 : Ref sig .tc := ⟨.hbm, 425, rfl⟩
abbrev main_call0_call1_v124 : Ref sig .tc := ⟨.hbm, 426, rfl⟩
abbrev main_call0_call1_c_32 : Ref sig .tc := ⟨.hbm, 427, rfl⟩
abbrev main_call0_call1_v125 : Ref sig .tc := ⟨.hbm, 428, rfl⟩
abbrev main_call0_call1_v126 : Ref sig .tc := ⟨.hbm, 429, rfl⟩
abbrev main_call0_call1_v127 : Ref sig .tc := ⟨.hbm, 430, rfl⟩
abbrev main_call0_call1_v128 : Ref sig .tc := ⟨.hbm, 431, rfl⟩
abbrev main_call0_call1_v129 : Ref sig .tc := ⟨.hbm, 432, rfl⟩
abbrev main_call0_call1_c_33 : Ref sig .tc := ⟨.hbm, 433, rfl⟩
abbrev main_call0_call1_v130 : Ref sig .tc := ⟨.hbm, 434, rfl⟩
abbrev main_call0_call1_v131 : Ref sig .tc := ⟨.hbm, 435, rfl⟩
abbrev main_call0_call1_c_34 : Ref sig .tc := ⟨.hbm, 436, rfl⟩
abbrev main_call0_call1_v132 : Ref sig .tc := ⟨.hbm, 437, rfl⟩
abbrev main_call0_call1_v133 : Ref sig .tc := ⟨.hbm, 438, rfl⟩
abbrev main_call0_call1_v134 : Ref sig .tc := ⟨.hbm, 439, rfl⟩
abbrev main_call0_call1_v135 : Ref sig .tc := ⟨.hbm, 440, rfl⟩
abbrev main_call0_call1_v136 : Ref sig .tc := ⟨.hbm, 441, rfl⟩
abbrev main_call0_call1_v137 : Ref sig .tc := ⟨.hbm, 442, rfl⟩
abbrev main_call0_call1_v138 : Ref sig .tc := ⟨.hbm, 443, rfl⟩
abbrev main_call0_call1_v139 : Ref sig .tc := ⟨.hbm, 444, rfl⟩
abbrev main_call0_call1_c_35 : Ref sig .tc := ⟨.hbm, 445, rfl⟩
abbrev main_call0_call1_v140 : Ref sig .tc := ⟨.hbm, 446, rfl⟩
abbrev main_call0_call1_v141 : Ref sig .tc := ⟨.hbm, 447, rfl⟩
abbrev main_call0_call1_v142 : Ref sig .tc := ⟨.hbm, 448, rfl⟩
abbrev main_call0_call1_c_36 : Ref sig .tc := ⟨.hbm, 449, rfl⟩
abbrev main_call0_call1_v143 : Ref sig .tc := ⟨.hbm, 450, rfl⟩
abbrev main_call0_call1_v144 : Ref sig .tc := ⟨.hbm, 451, rfl⟩
abbrev main_call0_call1_c_37 : Ref sig .tc := ⟨.hbm, 452, rfl⟩
abbrev main_call0_call1_v145 : Ref sig .tc := ⟨.hbm, 453, rfl⟩
abbrev main_call0_call1_v146 : Ref sig .tc := ⟨.hbm, 454, rfl⟩
abbrev main_call0_call1_v147 : Ref sig .tc := ⟨.hbm, 455, rfl⟩
abbrev main_call0_call1_v148 : Ref sig .tc := ⟨.hbm, 456, rfl⟩
abbrev main_call0_call1_v149 : Ref sig .tc := ⟨.hbm, 457, rfl⟩
abbrev main_call0_call1_c_38 : Ref sig .tc := ⟨.hbm, 458, rfl⟩
abbrev main_call0_call1_v150 : Ref sig .tc := ⟨.hbm, 459, rfl⟩
abbrev main_call0_call1_v151 : Ref sig .tc := ⟨.hbm, 460, rfl⟩
abbrev main_call0_call1_c_39 : Ref sig .tc := ⟨.hbm, 461, rfl⟩
abbrev main_call0_call1_v152 : Ref sig .tc := ⟨.hbm, 462, rfl⟩
abbrev main_call0_call1_v153 : Ref sig .tc := ⟨.hbm, 463, rfl⟩
abbrev main_call0_call1_v154 : Ref sig .tc := ⟨.hbm, 464, rfl⟩
abbrev main_call0_call1_v155 : Ref sig .tc := ⟨.hbm, 465, rfl⟩
abbrev main_call0_call1_v156 : Ref sig .tc := ⟨.hbm, 466, rfl⟩
abbrev main_call0_call1_c_40 : Ref sig .tc := ⟨.hbm, 467, rfl⟩
abbrev main_call0_call1_v157 : Ref sig .tc := ⟨.hbm, 468, rfl⟩
abbrev main_call0_call1_v158 : Ref sig .tc := ⟨.hbm, 469, rfl⟩
abbrev main_call0_call1_c_41 : Ref sig .tc := ⟨.hbm, 470, rfl⟩
abbrev main_call0_call1_v159 : Ref sig .tc := ⟨.hbm, 471, rfl⟩
abbrev main_call0_call1_v160 : Ref sig .tc := ⟨.hbm, 472, rfl⟩
abbrev main_call0_call1_v161 : Ref sig .tc := ⟨.hbm, 473, rfl⟩
abbrev main_call0_call1_v162 : Ref sig .tc := ⟨.hbm, 474, rfl⟩
abbrev main_call0_call1_v163 : Ref sig .tc := ⟨.hbm, 475, rfl⟩
abbrev main_call0_call1_c_42 : Ref sig .tc := ⟨.hbm, 476, rfl⟩
abbrev main_call0_call1_v164 : Ref sig .tc := ⟨.hbm, 477, rfl⟩
abbrev main_call0_call1_v165 : Ref sig .tc := ⟨.hbm, 478, rfl⟩
abbrev main_call0_call1_c_43 : Ref sig .tc := ⟨.hbm, 479, rfl⟩
abbrev main_call0_call1_v166 : Ref sig .tc := ⟨.hbm, 480, rfl⟩
abbrev main_call0_call1_v167 : Ref sig .tc := ⟨.hbm, 481, rfl⟩
abbrev main_call0_call1_v168 : Ref sig .tc := ⟨.hbm, 482, rfl⟩
abbrev main_call0_call1_v169 : Ref sig .tc := ⟨.hbm, 483, rfl⟩
abbrev main_call0_call1_v170 : Ref sig .tc := ⟨.hbm, 484, rfl⟩
abbrev main_call0_v16_0 : Ref sig .tc := ⟨.hbm, 485, rfl⟩
abbrev main_call0_call1_v172 : Ref sig .tc := ⟨.hbm, 486, rfl⟩
abbrev main_call0_call1_v173 : Ref sig .tc := ⟨.hbm, 487, rfl⟩
abbrev main_call0_call1_c_44 : Ref sig .tc := ⟨.hbm, 488, rfl⟩
abbrev main_call0_call1_v174 : Ref sig .tc := ⟨.hbm, 489, rfl⟩
abbrev main_call0_v16_1 : Ref sig .tc := ⟨.hbm, 490, rfl⟩
abbrev main_call0_v17 : Ref sig .tc := ⟨.hbm, 491, rfl⟩
abbrev main_call0_v18_0 : Ref sig .tc := ⟨.hbm, 492, rfl⟩
abbrev main_v9 : Ref sig .tc := ⟨.hbm, 493, rfl⟩
abbrev main_call1_v0 : Ref sig .tc := ⟨.hbm, 494, rfl⟩
abbrev main_call1_v1_0 : Ref sig .tc := ⟨.hbm, 495, rfl⟩
abbrev main_v11_0 : Ref sig .tc := ⟨.hbm, 496, rfl⟩
abbrev main_v11_1 : Ref sig .tc := ⟨.hbm, 497, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![48, 1], ![false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c1_i32 : BitVec 32 := 1#32
  let c11_i32 : BitVec 32 := 11#32
  let v11 : BitVec 32 := Scalar.addi c1_i32 c11_i32
  let c1_i32_6 : BitVec 32 := 1#32
  ⟨c1_i32, v11, c1_i32_6⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  ![v1.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PlainIdeal.lean ====
abbrev S48x256x32x64 : Shape := ⟨4, ![48, 256, 32, 64]⟩
abbrev S48x256x2048 : Shape := ⟨3, ![48, 256, 2048]⟩
abbrev S_ : Shape := ⟨0, ![]⟩
abbrev S1 : Shape := ⟨1, ![1]⟩
abbrev S2 : Shape := ⟨1, ![2]⟩
abbrev S48 : Shape := ⟨1, ![48]⟩
abbrev S2x1 : Shape := ⟨2, ![2, 1]⟩
abbrev S2x2 : Shape := ⟨2, ![2, 2]⟩
abbrev S1x2 : Shape := ⟨2, ![1, 2]⟩
abbrev S48x1 : Shape := ⟨2, ![48, 1]⟩

abbrev nBuf : Space → Nat
  | .hbm => 515
  | .vmem => 0
  | .smem => 0
  | _ => 0

abbrev hbmTy0_0 (i : Nat) : BufTy := match i % 128 with
  | 0 => ⟨S48x256x32x64, .f32⟩
  | 1 => ⟨S48x256x2048, .f32⟩
  | 2 => ⟨S48x256x2048, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S48, .i32⟩
  | 14 => ⟨S1, .i32⟩
  | 15 => ⟨S_, .i32⟩
  | 16 => ⟨S1, .i32⟩
  | 17 => ⟨S_, .i32⟩
  | 18 => ⟨S2, .i64⟩
  | 19 => ⟨S_, .i64⟩
  | 20 => ⟨S2, .i64⟩
  | 21 => ⟨S2, .i64⟩
  | 22 => ⟨S_, .i64⟩
  | 23 => ⟨S2, .i64⟩
  | 24 => ⟨S2, .i64⟩
  | 25 => ⟨S2, .i32⟩
  | 26 => ⟨S2, .i32⟩
  | 27 => ⟨S_, .i32⟩
  | 28 => ⟨S_, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S48x256x32x64, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2x1, .i32⟩
  | 122 => ⟨S2x1, .i32⟩
  | 123 => ⟨S2x2, .i32⟩
  | 124 => ⟨S1x2, .i32⟩
  | 125 => ⟨S2, .i32⟩
  | 126 => ⟨S1x2, .i32⟩
  | 127 => ⟨S2, .i32⟩
  | _ => ⟨S48x256x32x64, .f32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S48, .i64⟩
  | 5 => ⟨S_, .i64⟩
  | 6 => ⟨S48, .i64⟩
  | 7 => ⟨S48, .i64⟩
  | 8 => ⟨S_, .i64⟩
  | 9 => ⟨S48, .i64⟩
  | 10 => ⟨S48, .i64⟩
  | 11 => ⟨S48, .i32⟩
  | 12 => ⟨S48, .i32⟩
  | 13 => ⟨S_, .i32⟩
  | 14 => ⟨S_, .i32⟩
  | 15 => ⟨S_, .i32⟩
  | 16 => ⟨S48, .i32⟩
  | 17 => ⟨S48, .i32⟩
  | 18 => ⟨S48, .i32⟩
  | 19 => ⟨S48, .i32⟩
  | 20 => ⟨S48, .i32⟩
  | 21 => ⟨S_, .i32⟩
  | 22 => ⟨S48, .i32⟩
  | 23 => ⟨S48, .i32⟩
  | 24 => ⟨S_, .i32⟩
  | 25 => ⟨S48, .i32⟩
  | 26 => ⟨S48, .i32⟩
  | 27 => ⟨S48, .i32⟩
  | 28 => ⟨S48, .i32⟩
  | 29 => ⟨S48, .i32⟩
  | 30 => ⟨S_, .i32⟩
  | 31 => ⟨S48, .i32⟩
  | 32 => ⟨S48, .i32⟩
  | 33 => ⟨S_, .i32⟩
  | 34 => ⟨S48, .i32⟩
  | 35 => ⟨S48, .i32⟩
  | 36 => ⟨S48, .i32⟩
  | 37 => ⟨S48, .i32⟩
  | 38 => ⟨S48, .i32⟩
  | 39 => ⟨S_, .i32⟩
  | 40 => ⟨S48, .i32⟩
  | 41 => ⟨S48, .i32⟩
  | 42 => ⟨S_, .i32⟩
  | 43 => ⟨S48, .i32⟩
  | 44 => ⟨S48, .i32⟩
  | 45 => ⟨S48, .i32⟩
  | 46 => ⟨S48, .i32⟩
  | 47 => ⟨S48, .i32⟩
  | 48 => ⟨S_, .i32⟩
  | 49 => ⟨S48, .i32⟩
  | 50 => ⟨S48, .i32⟩
  | 51 => ⟨S_, .i32⟩
  | 52 => ⟨S48, .i32⟩
  | 53 => ⟨S48, .i32⟩
  | 54 => ⟨S48, .i32⟩
  | 55 => ⟨S48, .i32⟩
  | 56 => ⟨S48, .i32⟩
  | 57 => ⟨S48, .i32⟩
  | 58 => ⟨S48, .i32⟩
  | 59 => ⟨S48, .i32⟩
  | 60 => ⟨S_, .i32⟩
  | 61 => ⟨S48, .i32⟩
  | 62 => ⟨S48, .i32⟩
  | 63 => ⟨S48, .i32⟩
  | 64 => ⟨S_, .i32⟩
  | 65 => ⟨S48, .i32⟩
  | 66 => ⟨S48, .i32⟩
  | 67 => ⟨S_, .i32⟩
  | 68 => ⟨S48, .i32⟩
  | 69 => ⟨S48, .i32⟩
  | 70 => ⟨S48, .i32⟩
  | 71 => ⟨S48, .i32⟩
  | 72 => ⟨S48, .i32⟩
  | 73 => ⟨S_, .i32⟩
  | 74 => ⟨S48, .i32⟩
  | 75 => ⟨S48, .i32⟩
  | 76 => ⟨S_, .i32⟩
  | 77 => ⟨S48, .i32⟩
  | 78 => ⟨S48, .i32⟩
  | 79 => ⟨S48, .i32⟩
  | 80 => ⟨S48, .i32⟩
  | 81 => ⟨S48, .i32⟩
  | 82 => ⟨S_, .i32⟩
  | 83 => ⟨S48, .i32⟩
  | 84 => ⟨S48, .i32⟩
  | 85 => ⟨S_, .i32⟩
  | 86 => ⟨S48, .i32⟩
  | 87 => ⟨S48, .i32⟩
  | 88 => ⟨S48, .i32⟩
  | 89 => ⟨S48, .i32⟩
  | 90 => ⟨S48, .i32⟩
  | 91 => ⟨S_, .i32⟩
  | 92 => ⟨S48, .i32⟩
  | 93 => ⟨S48, .i32⟩
  | 94 => ⟨S_, .i32⟩
  | 95 => ⟨S48, .i32⟩
  | 96 => ⟨S48, .i32⟩
  | 97 => ⟨S48, .i32⟩
  | 98 => ⟨S48, .i32⟩
  | 99 => ⟨S48, .i32⟩
  | 100 => ⟨S48, .i32⟩
  | 101 => ⟨S48, .i32⟩
  | 102 => ⟨S48, .i32⟩
  | 103 => ⟨S_, .i32⟩
  | 104 => ⟨S48, .i32⟩
  | 105 => ⟨S48, .i32⟩
  | 106 => ⟨S48, .i32⟩
  | 107 => ⟨S_, .i32⟩
  | 108 => ⟨S48, .i32⟩
  | 109 => ⟨S48, .i32⟩
  | 110 => ⟨S_, .i32⟩
  | 111 => ⟨S48, .i32⟩
  | 112 => ⟨S48, .i32⟩
  | 113 => ⟨S48, .i32⟩
  | 114 => ⟨S48, .i32⟩
  | 115 => ⟨S48, .i32⟩
  | 116 => ⟨S_, .i32⟩
  | 117 => ⟨S48, .i32⟩
  | 118 => ⟨S48, .i32⟩
  | 119 => ⟨S_, .i32⟩
  | 120 => ⟨S48, .i32⟩
  | 121 => ⟨S48, .i32⟩
  | 122 => ⟨S48, .i32⟩
  | 123 => ⟨S48, .i32⟩
  | 124 => ⟨S48, .i32⟩
  | 125 => ⟨S_, .i32⟩
  | 126 => ⟨S48, .i32⟩
  | 127 => ⟨S48, .i32⟩
  | _ => ⟨S48x256x32x64, .f32⟩

abbrev hbmTy0_3 (i : Nat) : BufTy := match i % 128 with
  | 0 => ⟨S_, .i32⟩
  | 1 => ⟨S48, .i32⟩
  | 2 => ⟨S48, .i32⟩
  | 3 => ⟨S48, .i32⟩
  | 4 => ⟨S48, .i32⟩
  | 5 => ⟨S48, .i32⟩
  | 6 => ⟨S_, .i32⟩
  | 7 => ⟨S48, .i32⟩
  | 8 => ⟨S48, .i32⟩
  | 9 => ⟨S_, .i32⟩
  | 10 => ⟨S48, .i32⟩
  | 11 => ⟨S48, .i32⟩
  | 12 => ⟨S48, .i32⟩
  | 13 => ⟨S48, .i32⟩
  | 14 => ⟨S48, .i32⟩
  | 15 => ⟨S48, .i32⟩
  | 16 => ⟨S48, .i32⟩
  | 17 => ⟨S48, .i32⟩
  | 18 => ⟨S_, .i32⟩
  | 19 => ⟨S48, .i32⟩
  | 20 => ⟨S48, .i32⟩
  | 21 => ⟨S48, .i32⟩
  | 22 => ⟨S_, .i32⟩
  | 23 => ⟨S48, .i32⟩
  | 24 => ⟨S48, .i32⟩
  | 25 => ⟨S_, .i32⟩
  | 26 => ⟨S48, .i32⟩
  | 27 => ⟨S48, .i32⟩
  | 28 => ⟨S48, .i32⟩
  | 29 => ⟨S48, .i32⟩
  | 30 => ⟨S48, .i32⟩
  | 31 => ⟨S_, .i32⟩
  | 32 => ⟨S48, .i32⟩
  | 33 => ⟨S48, .i32⟩
  | 34 => ⟨S_, .i32⟩
  | 35 => ⟨S48, .i32⟩
  | 36 => ⟨S48, .i32⟩
  | 37 => ⟨S48, .i32⟩
  | 38 => ⟨S48, .i32⟩
  | 39 => ⟨S48, .i32⟩
  | 40 => ⟨S_, .i32⟩
  | 41 => ⟨S48, .i32⟩
  | 42 => ⟨S48, .i32⟩
  | 43 => ⟨S_, .i32⟩
  | 44 => ⟨S48, .i32⟩
  | 45 => ⟨S48, .i32⟩
  | 46 => ⟨S48, .i32⟩
  | 47 => ⟨S48, .i32⟩
  | 48 => ⟨S48, .i32⟩
  | 49 => ⟨S_, .i32⟩
  | 50 => ⟨S48, .i32⟩
  | 51 => ⟨S48, .i32⟩
  | 52 => ⟨S_, .i32⟩
  | 53 => ⟨S48, .i32⟩
  | 54 => ⟨S48, .i32⟩
  | 55 => ⟨S48, .i32⟩
  | 56 => ⟨S48, .i32⟩
  | 57 => ⟨S48, .i32⟩
  | 58 => ⟨S48, .i32⟩
  | 59 => ⟨S48, .i32⟩
  | 60 => ⟨S48, .i32⟩
  | 61 => ⟨S_, .i32⟩
  | 62 => ⟨S48, .i32⟩
  | 63 => ⟨S48, .i32⟩
  | 64 => ⟨S48, .i32⟩
  | 65 => ⟨S_, .i32⟩
  | 66 => ⟨S48, .i32⟩
  | 67 => ⟨S48, .i32⟩
  | 68 => ⟨S_, .i32⟩
  | 69 => ⟨S48, .i32⟩
  | 70 => ⟨S48, .i32⟩
  | 71 => ⟨S48, .i32⟩
  | 72 => ⟨S48, .i32⟩
  | 73 => ⟨S48, .i32⟩
  | 74 => ⟨S_, .i32⟩
  | 75 => ⟨S48, .i32⟩
  | 76 => ⟨S48, .i32⟩
  | 77 => ⟨S_, .i32⟩
  | 78 => ⟨S48, .i32⟩
  | 79 => ⟨S48, .i32⟩
  | 80 => ⟨S48, .i32⟩
  | 81 => ⟨S48, .i32⟩
  | 82 => ⟨S48, .i32⟩
  | 83 => ⟨S_, .i32⟩
  | 84 => ⟨S48, .i32⟩
  | 85 => ⟨S48, .i32⟩
  | 86 => ⟨S_, .i32⟩
  | 87 => ⟨S48, .i32⟩
  | 88 => ⟨S48, .i32⟩
  | 89 => ⟨S48, .i32⟩
  | 90 => ⟨S48, .i32⟩
  | 91 => ⟨S48, .i32⟩
  | 92 => ⟨S_, .i32⟩
  | 93 => ⟨S48, .i32⟩
  | 94 => ⟨S48, .i32⟩
  | 95 => ⟨S_, .i32⟩
  | 96 => ⟨S48, .i32⟩
  | 97 => ⟨S48, .i32⟩
  | 98 => ⟨S48, .i32⟩
  | 99 => ⟨S48, .i32⟩
  | 100 => ⟨S48, .i32⟩
  | 101 => ⟨S48, .i32⟩
  | 102 => ⟨S48, .i32⟩
  | 103 => ⟨S48, .i32⟩
  | 104 => ⟨S_, .i32⟩
  | 105 => ⟨S48, .i32⟩
  | 106 => ⟨S48, .i32⟩
  | 107 => ⟨S48, .i32⟩
  | 108 => ⟨S48, .i32⟩
  | 109 => ⟨S48, .i32⟩
  | 110 => ⟨S_, .i32⟩
  | 111 => ⟨S48, .i32⟩
  | 112 => ⟨S48, .i1⟩
  | 113 => ⟨S_, .i32⟩
  | 114 => ⟨S48, .i32⟩
  | 115 => ⟨S48, .i32⟩
  | 116 => ⟨S48, .i32⟩
  | 117 => ⟨S48x1, .i32⟩
  | 118 => ⟨S48x256x32x64, .f32⟩
  | 119 => ⟨S48x256x2048, .f32⟩
  | 120 => ⟨S48x256x2048, .i32⟩
  | 121 => ⟨S48x256x2048, .f32⟩
  | 122 => ⟨S48x256x2048, .i32⟩
  | 123 => ⟨S48x256x2048, .f32⟩
  | 124 => ⟨S_, .f32⟩
  | 125 => ⟨S48x256x2048, .f32⟩
  | 126 => ⟨S48x256x2048, .f32⟩
  | 127 => ⟨S_, .f32⟩
  | _ => ⟨S48x256x32x64, .f32⟩

abbrev hbmTy0_4 (i : Nat) : BufTy := match i % 128 with
  | 0 => ⟨S48x256x2048, .f32⟩
  | 1 => ⟨S48x256x2048, .f32⟩
  | 2 => ⟨S48x256x2048, .f32⟩
  | _ => ⟨S48x256x32x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S48x256x32x64, .f32⟩

abbrev bufTy : (tb : Table) → Fin (tcTables nBuf tb) → BufTy
  | .hbm, ⟨i, _⟩ => hbmTy i
  | _, _ => ⟨S48x256x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_c : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_c_0 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_call0_v0 : Ref sig .tc := ⟨.hbm, 27, rfl⟩
abbrev main_call0_call0_call0_c : Ref sig .tc := ⟨.hbm, 28, rfl⟩
abbrev main_call0_call0_call0_v1 : Ref sig .tc := ⟨.hbm, 29, rfl⟩
abbrev main_call0_call0_call0_v2 : Ref sig .tc := ⟨.hbm, 30, rfl⟩
abbrev main_call0_call0_call0_v3 : Ref sig .tc := ⟨.hbm, 31, rfl⟩
abbrev main_call0_call0_call0_v4 : Ref sig .tc := ⟨.hbm, 32, rfl⟩
abbrev main_call0_call0_call0_v5 : Ref sig .tc := ⟨.hbm, 33, rfl⟩
abbrev main_call0_call0_call0_v6 : Ref sig .tc := ⟨.hbm, 34, rfl⟩
abbrev main_call0_call0_call0_c_0 : Ref sig .tc := ⟨.hbm, 35, rfl⟩
abbrev main_call0_call0_call0_v7 : Ref sig .tc := ⟨.hbm, 36, rfl⟩
abbrev main_call0_call0_call0_v8 : Ref sig .tc := ⟨.hbm, 37, rfl⟩
abbrev main_call0_call0_call0_c_1 : Ref sig .tc := ⟨.hbm, 38, rfl⟩
abbrev main_call0_call0_call0_v9 : Ref sig .tc := ⟨.hbm, 39, rfl⟩
abbrev main_call0_call0_call0_v10 : Ref sig .tc := ⟨.hbm, 40, rfl⟩
abbrev main_call0_call0_call0_v11 : Ref sig .tc := ⟨.hbm, 41, rfl⟩
abbrev main_call0_call0_call0_v12 : Ref sig .tc := ⟨.hbm, 42, rfl⟩
abbrev main_call0_call0_call0_v13 : Ref sig .tc := ⟨.hbm, 43, rfl⟩
abbrev main_call0_call0_call0_c_2 : Ref sig .tc := ⟨.hbm, 44, rfl⟩
abbrev main_call0_call0_call0_v14 : Ref sig .tc := ⟨.hbm, 45, rfl⟩
abbrev main_call0_call0_call0_v15 : Ref sig .tc := ⟨.hbm, 46, rfl⟩
abbrev main_call0_call0_call0_c_3 : Ref sig .tc := ⟨.hbm, 47, rfl⟩
abbrev main_call0_call0_call0_v16 : Ref sig .tc := ⟨.hbm, 48, rfl⟩
abbrev main_call0_call0_call0_v17 : Ref sig .tc := ⟨.hbm, 49, rfl⟩
abbrev main_call0_call0_call0_v18 : Ref sig .tc := ⟨.hbm, 50, rfl⟩
abbrev main_call0_call0_call0_v19 : Ref sig .tc := ⟨.hbm, 51, rfl⟩
abbrev main_call0_call0_call0_v20 : Ref sig .tc := ⟨.hbm, 52, rfl⟩
abbrev main_call0_call0_call0_c_4 : Ref sig .tc := ⟨.hbm, 53, rfl⟩
abbrev main_call0_call0_call0_v21 : Ref sig .tc := ⟨.hbm, 54, rfl⟩
abbrev main_call0_call0_call0_v22 : Ref sig .tc := ⟨.hbm, 55, rfl⟩
abbrev main_call0_call0_call0_c_5 : Ref sig .tc := ⟨.hbm, 56, rfl⟩
abbrev main_call0_call0_call0_v23 : Ref sig .tc := ⟨.hbm, 57, rfl⟩
abbrev main_call0_call0_call0_v24 : Ref sig .tc := ⟨.hbm, 58, rfl⟩
abbrev main_call0_call0_call0_v25 : Ref sig .tc := ⟨.hbm, 59, rfl⟩
abbrev main_call0_call0_call0_v26 : Ref sig .tc := ⟨.hbm, 60, rfl⟩
abbrev main_call0_call0_call0_v27 : Ref sig .tc := ⟨.hbm, 61, rfl⟩
abbrev main_call0_call0_call0_c_6 : Ref sig .tc := ⟨.hbm, 62, rfl⟩
abbrev main_call0_call0_call0_v28 : Ref sig .tc := ⟨.hbm, 63, rfl⟩
abbrev main_call0_call0_call0_v29 : Ref sig .tc := ⟨.hbm, 64, rfl⟩
abbrev main_call0_call0_call0_c_7 : Ref sig .tc := ⟨.hbm, 65, rfl⟩
abbrev main_call0_call0_call0_v30 : Ref sig .tc := ⟨.hbm, 66, rfl⟩
abbrev main_call0_call0_call0_v31 : Ref sig .tc := ⟨.hbm, 67, rfl⟩
abbrev main_call0_call0_call0_v32 : Ref sig .tc := ⟨.hbm, 68, rfl⟩
abbrev main_call0_call0_call0_v33 : Ref sig .tc := ⟨.hbm, 69, rfl⟩
abbrev main_call0_call0_call0_v34 : Ref sig .tc := ⟨.hbm, 70, rfl⟩
abbrev main_call0_call0_call0_v35 : Ref sig .tc := ⟨.hbm, 71, rfl⟩
abbrev main_call0_call0_call0_v36 : Ref sig .tc := ⟨.hbm, 72, rfl⟩
abbrev main_call0_call0_call0_v37 : Ref sig .tc := ⟨.hbm, 73, rfl⟩
abbrev main_call0_call0_call0_c_8 : Ref sig .tc := ⟨.hbm, 74, rfl⟩
abbrev main_call0_call0_call0_v38 : Ref sig .tc := ⟨.hbm, 75, rfl⟩
abbrev main_call0_call0_call0_v39 : Ref sig .tc := ⟨.hbm, 76, rfl⟩
abbrev main_call0_call0_call0_v40 : Ref sig .tc := ⟨.hbm, 77, rfl⟩
abbrev main_call0_call0_call0_c_9 : Ref sig .tc := ⟨.hbm, 78, rfl⟩
abbrev main_call0_call0_call0_v41 : Ref sig .tc := ⟨.hbm, 79, rfl⟩
abbrev main_call0_call0_call0_v42 : Ref sig .tc := ⟨.hbm, 80, rfl⟩
abbrev main_call0_call0_call0_c_10 : Ref sig .tc := ⟨.hbm, 81, rfl⟩
abbrev main_call0_call0_call0_v43 : Ref sig .tc := ⟨.hbm, 82, rfl⟩
abbrev main_call0_call0_call0_v44 : Ref sig .tc := ⟨.hbm, 83, rfl⟩
abbrev main_call0_call0_call0_v45 : Ref sig .tc := ⟨.hbm, 84, rfl⟩
abbrev main_call0_call0_call0_v46 : Ref sig .tc := ⟨.hbm, 85, rfl⟩
abbrev main_call0_call0_call0_v47 : Ref sig .tc := ⟨.hbm, 86, rfl⟩
abbrev main_call0_call0_call0_c_11 : Ref sig .tc := ⟨.hbm, 87, rfl⟩
abbrev main_call0_call0_call0_v48 : Ref sig .tc := ⟨.hbm, 88, rfl⟩
abbrev main_call0_call0_call0_v49 : Ref sig .tc := ⟨.hbm, 89, rfl⟩
abbrev main_call0_call0_call0_c_12 : Ref sig .tc := ⟨.hbm, 90, rfl⟩
abbrev main_call0_call0_call0_v50 : Ref sig .tc := ⟨.hbm, 91, rfl⟩
abbrev main_call0_call0_call0_v51 : Ref sig .tc := ⟨.hbm, 92, rfl⟩
abbrev main_call0_call0_call0_v52 : Ref sig .tc := ⟨.hbm, 93, rfl⟩
abbrev main_call0_call0_call0_v53 : Ref sig .tc := ⟨.hbm, 94, rfl⟩
abbrev main_call0_call0_call0_v54 : Ref sig .tc := ⟨.hbm, 95, rfl⟩
abbrev main_call0_call0_call0_c_13 : Ref sig .tc := ⟨.hbm, 96, rfl⟩
abbrev main_call0_call0_call0_v55 : Ref sig .tc := ⟨.hbm, 97, rfl⟩
abbrev main_call0_call0_call0_v56 : Ref sig .tc := ⟨.hbm, 98, rfl⟩
abbrev main_call0_call0_call0_c_14 : Ref sig .tc := ⟨.hbm, 99, rfl⟩
abbrev main_call0_call0_call0_v57 : Ref sig .tc := ⟨.hbm, 100, rfl⟩
abbrev main_call0_call0_call0_v58 : Ref sig .tc := ⟨.hbm, 101, rfl⟩
abbrev main_call0_call0_call0_v59 : Ref sig .tc := ⟨.hbm, 102, rfl⟩
abbrev main_call0_call0_call0_v60 : Ref sig .tc := ⟨.hbm, 103, rfl⟩
abbrev main_call0_call0_call0_v61 : Ref sig .tc := ⟨.hbm, 104, rfl⟩
abbrev main_call0_call0_call0_c_15 : Ref sig .tc := ⟨.hbm, 105, rfl⟩
abbrev main_call0_call0_call0_v62 : Ref sig .tc := ⟨.hbm, 106, rfl⟩
abbrev main_call0_call0_call0_v63 : Ref sig .tc := ⟨.hbm, 107, rfl⟩
abbrev main_call0_call0_call0_c_16 : Ref sig .tc := ⟨.hbm, 108, rfl⟩
abbrev main_call0_call0_call0_v64 : Ref sig .tc := ⟨.hbm, 109, rfl⟩
abbrev main_call0_call0_call0_v65 : Ref sig .tc := ⟨.hbm, 110, rfl⟩
abbrev main_call0_call0_call0_v66 : Ref sig .tc := ⟨.hbm, 111, rfl⟩
abbrev main_call0_call0_call0_v67 : Ref sig .tc := ⟨.hbm, 112, rfl⟩
abbrev main_call0_call0_call0_v68 : Ref sig .tc := ⟨.hbm, 113, rfl⟩
abbrev main_call0_call0_call0_v69 : Ref sig .tc := ⟨.hbm, 114, rfl⟩
abbrev main_call0_call0_call0_v70 : Ref sig .tc := ⟨.hbm, 115, rfl⟩
abbrev main_call0_call0_call0_v71 : Ref sig .tc := ⟨.hbm, 116, rfl⟩
abbrev main_call0_call0_call0_c_17 : Ref sig .tc := ⟨.hbm, 117, rfl⟩
abbrev main_call0_call0_call0_v72 : Ref sig .tc := ⟨.hbm, 118, rfl⟩
abbrev main_call0_call0_call0_v73 : Ref sig .tc := ⟨.hbm, 119, rfl⟩
abbrev main_call0_call0_call0_v74 : Ref sig .tc := ⟨.hbm, 120, rfl⟩
abbrev main_call0_call0_call0_c_18 : Ref sig .tc := ⟨.hbm, 121, rfl⟩
abbrev main_call0_call0_call0_v75 : Ref sig .tc := ⟨.hbm, 122, rfl⟩
abbrev main_call0_call0_call0_v76 : Ref sig .tc := ⟨.hbm, 123, rfl⟩
abbrev main_call0_call0_call0_c_19 : Ref sig .tc := ⟨.hbm, 124, rfl⟩
abbrev main_call0_call0_call0_v77 : Ref sig .tc := ⟨.hbm, 125, rfl⟩
abbrev main_call0_call0_call0_v78 : Ref sig .tc := ⟨.hbm, 126, rfl⟩
abbrev main_call0_call0_call0_v79 : Ref sig .tc := ⟨.hbm, 127, rfl⟩
abbrev main_call0_call0_call0_v80 : Ref sig .tc := ⟨.hbm, 128, rfl⟩
abbrev main_call0_call0_call0_v81 : Ref sig .tc := ⟨.hbm, 129, rfl⟩
abbrev main_call0_call0_call0_c_20 : Ref sig .tc := ⟨.hbm, 130, rfl⟩
abbrev main_call0_call0_call0_v82 : Ref sig .tc := ⟨.hbm, 131, rfl⟩
abbrev main_call0_call0_call0_v83 : Ref sig .tc := ⟨.hbm, 132, rfl⟩
abbrev main_call0_call0_call0_c_21 : Ref sig .tc := ⟨.hbm, 133, rfl⟩
abbrev main_call0_call0_call0_v84 : Ref sig .tc := ⟨.hbm, 134, rfl⟩
abbrev main_call0_call0_call0_v85 : Ref sig .tc := ⟨.hbm, 135, rfl⟩
abbrev main_call0_call0_call0_v86 : Ref sig .tc := ⟨.hbm, 136, rfl⟩
abbrev main_call0_call0_call0_v87 : Ref sig .tc := ⟨.hbm, 137, rfl⟩
abbrev main_call0_call0_call0_v88 : Ref sig .tc := ⟨.hbm, 138, rfl⟩
abbrev main_call0_call0_call0_c_22 : Ref sig .tc := ⟨.hbm, 139, rfl⟩
abbrev main_call0_call0_call0_v89 : Ref sig .tc := ⟨.hbm, 140, rfl⟩
abbrev main_call0_call0_call0_v90 : Ref sig .tc := ⟨.hbm, 141, rfl⟩
abbrev main_call0_call0_call0_c_23 : Ref sig .tc := ⟨.hbm, 142, rfl⟩
abbrev main_call0_call0_call0_v91 : Ref sig .tc := ⟨.hbm, 143, rfl⟩
abbrev main_call0_call0_call0_v92 : Ref sig .tc := ⟨.hbm, 144, rfl⟩
abbrev main_call0_call0_call0_v93 : Ref sig .tc := ⟨.hbm, 145, rfl⟩
abbrev main_call0_call0_call0_v94 : Ref sig .tc := ⟨.hbm, 146, rfl⟩
abbrev main_call0_call0_call0_v95 : Ref sig .tc := ⟨.hbm, 147, rfl⟩
abbrev main_call0_call0_call0_c_24 : Ref sig .tc := ⟨.hbm, 148, rfl⟩
abbrev main_call0_call0_call0_v96 : Ref sig .tc := ⟨.hbm, 149, rfl⟩
abbrev main_call0_call0_call0_v97 : Ref sig .tc := ⟨.hbm, 150, rfl⟩
abbrev main_call0_call0_call0_c_25 : Ref sig .tc := ⟨.hbm, 151, rfl⟩
abbrev main_call0_call0_call0_v98 : Ref sig .tc := ⟨.hbm, 152, rfl⟩
abbrev main_call0_call0_call0_v99 : Ref sig .tc := ⟨.hbm, 153, rfl⟩
abbrev main_call0_call0_call0_v100 : Ref sig .tc := ⟨.hbm, 154, rfl⟩
abbrev main_call0_call0_call0_v101 : Ref sig .tc := ⟨.hbm, 155, rfl⟩
abbrev main_call0_call0_call0_v102 : Ref sig .tc := ⟨.hbm, 156, rfl⟩
abbrev main_call0_call0_call0_v103 : Ref sig .tc := ⟨.hbm, 157, rfl⟩
abbrev main_call0_call0_call0_v104 : Ref sig .tc := ⟨.hbm, 158, rfl⟩
abbrev main_call0_call0_call0_v105 : Ref sig .tc := ⟨.hbm, 159, rfl⟩
abbrev main_call0_call0_call0_c_26 : Ref sig .tc := ⟨.hbm, 160, rfl⟩
abbrev main_call0_call0_call0_v106 : Ref sig .tc := ⟨.hbm, 161, rfl⟩
abbrev main_call0_call0_call0_v107 : Ref sig .tc := ⟨.hbm, 162, rfl⟩
abbrev main_call0_call0_call0_v108 : Ref sig .tc := ⟨.hbm, 163, rfl⟩
abbrev main_call0_call0_call0_c_27 : Ref sig .tc := ⟨.hbm, 164, rfl⟩
abbrev main_call0_call0_call0_v109 : Ref sig .tc := ⟨.hbm, 165, rfl⟩
abbrev main_call0_call0_call0_v110 : Ref sig .tc := ⟨.hbm, 166, rfl⟩
abbrev main_call0_call0_call0_c_28 : Ref sig .tc := ⟨.hbm, 167, rfl⟩
abbrev main_call0_call0_call0_v111 : Ref sig .tc := ⟨.hbm, 168, rfl⟩
abbrev main_call0_call0_call0_v112 : Ref sig .tc := ⟨.hbm, 169, rfl⟩
abbrev main_call0_call0_call0_v113 : Ref sig .tc := ⟨.hbm, 170, rfl⟩
abbrev main_call0_call0_call0_v114 : Ref sig .tc := ⟨.hbm, 171, rfl⟩
abbrev main_call0_call0_call0_v115 : Ref sig .tc := ⟨.hbm, 172, rfl⟩
abbrev main_call0_call0_call0_c_29 : Ref sig .tc := ⟨.hbm, 173, rfl⟩
abbrev main_call0_call0_call0_v116 : Ref sig .tc := ⟨.hbm, 174, rfl⟩
abbrev main_call0_call0_call0_v117 : Ref sig .tc := ⟨.hbm, 175, rfl⟩
abbrev main_call0_call0_call0_c_30 : Ref sig .tc := ⟨.hbm, 176, rfl⟩
abbrev main_call0_call0_call0_v118 : Ref sig .tc := ⟨.hbm, 177, rfl⟩
abbrev main_call0_call0_call0_v119 : Ref sig .tc := ⟨.hbm, 178, rfl⟩
abbrev main_call0_call0_call0_v120 : Ref sig .tc := ⟨.hbm, 179, rfl⟩
abbrev main_call0_call0_call0_v121 : Ref sig .tc := ⟨.hbm, 180, rfl⟩
abbrev main_call0_call0_call0_v122 : Ref sig .tc := ⟨.hbm, 181, rfl⟩
abbrev main_call0_call0_call0_c_31 : Ref sig .tc := ⟨.hbm, 182, rfl⟩
abbrev main_call0_call0_call0_v123 : Ref sig .tc := ⟨.hbm, 183, rfl⟩
abbrev main_call0_call0_call0_v124 : Ref sig .tc := ⟨.hbm, 184, rfl⟩
abbrev main_call0_call0_call0_c_32 : Ref sig .tc := ⟨.hbm, 185, rfl⟩
abbrev main_call0_call0_call0_v125 : Ref sig .tc := ⟨.hbm, 186, rfl⟩
abbrev main_call0_call0_call0_v126 : Ref sig .tc := ⟨.hbm, 187, rfl⟩
abbrev main_call0_call0_call0_v127 : Ref sig .tc := ⟨.hbm, 188, rfl⟩
abbrev main_call0_call0_call0_v128 : Ref sig .tc := ⟨.hbm, 189, rfl⟩
abbrev main_call0_call0_call0_v129 : Ref sig .tc := ⟨.hbm, 190, rfl⟩
abbrev main_call0_call0_call0_c_33 : Ref sig .tc := ⟨.hbm, 191, rfl⟩
abbrev main_call0_call0_call0_v130 : Ref sig .tc := ⟨.hbm, 192, rfl⟩
abbrev main_call0_call0_call0_v131 : Ref sig .tc := ⟨.hbm, 193, rfl⟩
abbrev main_call0_call0_call0_c_34 : Ref sig .tc := ⟨.hbm, 194, rfl⟩
abbrev main_call0_call0_call0_v132 : Ref sig .tc := ⟨.hbm, 195, rfl⟩
abbrev main_call0_call0_call0_v133 : Ref sig .tc := ⟨.hbm, 196, rfl⟩
abbrev main_call0_call0_call0_v134 : Ref sig .tc := ⟨.hbm, 197, rfl⟩
abbrev main_call0_call0_call0_v135 : Ref sig .tc := ⟨.hbm, 198, rfl⟩
abbrev main_call0_call0_call0_v136 : Ref sig .tc := ⟨.hbm, 199, rfl⟩
abbrev main_call0_call0_call0_v137 : Ref sig .tc := ⟨.hbm, 200, rfl⟩
abbrev main_call0_call0_call0_v138 : Ref sig .tc := ⟨.hbm, 201, rfl⟩
abbrev main_call0_call0_call0_v139 : Ref sig .tc := ⟨.hbm, 202, rfl⟩
abbrev main_call0_call0_call0_c_35 : Ref sig .tc := ⟨.hbm, 203, rfl⟩
abbrev main_call0_call0_call0_v140 : Ref sig .tc := ⟨.hbm, 204, rfl⟩
abbrev main_call0_call0_call0_v141 : Ref sig .tc := ⟨.hbm, 205, rfl⟩
abbrev main_call0_call0_call0_v142 : Ref sig .tc := ⟨.hbm, 206, rfl⟩
abbrev main_call0_call0_call0_c_36 : Ref sig .tc := ⟨.hbm, 207, rfl⟩
abbrev main_call0_call0_call0_v143 : Ref sig .tc := ⟨.hbm, 208, rfl⟩
abbrev main_call0_call0_call0_v144 : Ref sig .tc := ⟨.hbm, 209, rfl⟩
abbrev main_call0_call0_call0_c_37 : Ref sig .tc := ⟨.hbm, 210, rfl⟩
abbrev main_call0_call0_call0_v145 : Ref sig .tc := ⟨.hbm, 211, rfl⟩
abbrev main_call0_call0_call0_v146 : Ref sig .tc := ⟨.hbm, 212, rfl⟩
abbrev main_call0_call0_call0_v147 : Ref sig .tc := ⟨.hbm, 213, rfl⟩
abbrev main_call0_call0_call0_v148 : Ref sig .tc := ⟨.hbm, 214, rfl⟩
abbrev main_call0_call0_call0_v149 : Ref sig .tc := ⟨.hbm, 215, rfl⟩
abbrev main_call0_call0_call0_c_38 : Ref sig .tc := ⟨.hbm, 216, rfl⟩
abbrev main_call0_call0_call0_v150 : Ref sig .tc := ⟨.hbm, 217, rfl⟩
abbrev main_call0_call0_call0_v151 : Ref sig .tc := ⟨.hbm, 218, rfl⟩
abbrev main_call0_call0_call0_c_39 : Ref sig .tc := ⟨.hbm, 219, rfl⟩
abbrev main_call0_call0_call0_v152 : Ref sig .tc := ⟨.hbm, 220, rfl⟩
abbrev main_call0_call0_call0_v153 : Ref sig .tc := ⟨.hbm, 221, rfl⟩
abbrev main_call0_call0_call0_v154 : Ref sig .tc := ⟨.hbm, 222, rfl⟩
abbrev main_call0_call0_call0_v155 : Ref sig .tc := ⟨.hbm, 223, rfl⟩
abbrev main_call0_call0_call0_v156 : Ref sig .tc := ⟨.hbm, 224, rfl⟩
abbrev main_call0_call0_call0_c_40 : Ref sig .tc := ⟨.hbm, 225, rfl⟩
abbrev main_call0_call0_call0_v157 : Ref sig .tc := ⟨.hbm, 226, rfl⟩
abbrev main_call0_call0_call0_v158 : Ref sig .tc := ⟨.hbm, 227, rfl⟩
abbrev main_call0_call0_call0_c_41 : Ref sig .tc := ⟨.hbm, 228, rfl⟩
abbrev main_call0_call0_call0_v159 : Ref sig .tc := ⟨.hbm, 229, rfl⟩
abbrev main_call0_call0_call0_v160 : Ref sig .tc := ⟨.hbm, 230, rfl⟩
abbrev main_call0_call0_call0_v161 : Ref sig .tc := ⟨.hbm, 231, rfl⟩
abbrev main_call0_call0_call0_v162 : Ref sig .tc := ⟨.hbm, 232, rfl⟩
abbrev main_call0_call0_call0_v163 : Ref sig .tc := ⟨.hbm, 233, rfl⟩
abbrev main_call0_call0_call0_c_42 : Ref sig .tc := ⟨.hbm, 234, rfl⟩
abbrev main_call0_call0_call0_v164 : Ref sig .tc := ⟨.hbm, 235, rfl⟩
abbrev main_call0_call0_call0_v165 : Ref sig .tc := ⟨.hbm, 236, rfl⟩
abbrev main_call0_call0_call0_c_43 : Ref sig .tc := ⟨.hbm, 237, rfl⟩
abbrev main_call0_call0_call0_v166 : Ref sig .tc := ⟨.hbm, 238, rfl⟩
abbrev main_call0_call0_call0_v167 : Ref sig .tc := ⟨.hbm, 239, rfl⟩
abbrev main_call0_call0_call0_v168 : Ref sig .tc := ⟨.hbm, 240, rfl⟩
abbrev main_call0_call0_call0_v169 : Ref sig .tc := ⟨.hbm, 241, rfl⟩
abbrev main_call0_call0_call0_v170 : Ref sig .tc := ⟨.hbm, 242, rfl⟩
abbrev main_call0_call0_v11_0 : Ref sig .tc := ⟨.hbm, 243, rfl⟩
abbrev main_call0_call0_call0_v172 : Ref sig .tc := ⟨.hbm, 244, rfl⟩
abbrev main_call0_call0_call0_v173 : Ref sig .tc := ⟨.hbm, 245, rfl⟩
abbrev main_call0_call0_call0_c_44 : Ref sig .tc := ⟨.hbm, 246, rfl⟩
abbrev main_call0_call0_call0_v174 : Ref sig .tc := ⟨.hbm, 247, rfl⟩
abbrev main_call0_call0_v11_1 : Ref sig .tc := ⟨.hbm, 248, rfl⟩
abbrev main_call0_call0_v12 : Ref sig .tc := ⟨.hbm, 249, rfl⟩
abbrev main_call0_call0_v13 : Ref sig .tc := ⟨.hbm, 250, rfl⟩
abbrev main_call0_v0 : Ref sig .tc := ⟨.hbm, 251, rfl⟩
abbrev main_call0_v1 : Ref sig .tc := ⟨.hbm, 252, rfl⟩
abbrev main_call0_v2 : Ref sig .tc := ⟨.hbm, 253, rfl⟩
abbrev main_call0_v3 : Ref sig .tc := ⟨.hbm, 254, rfl⟩
abbrev main_call0_v4 : Ref sig .tc := ⟨.hbm, 255, rfl⟩
abbrev main_call0_v5 : Ref sig .tc := ⟨.hbm, 256, rfl⟩
abbrev main_call0_v6 : Ref sig .tc := ⟨.hbm, 257, rfl⟩
abbrev main_call0_v7 : Ref sig .tc := ⟨.hbm, 258, rfl⟩
abbrev main_call0_v8 : Ref sig .tc := ⟨.hbm, 259, rfl⟩
abbrev main_call0_v9 : Ref sig .tc := ⟨.hbm, 260, rfl⟩
abbrev main_call0_c : Ref sig .tc := ⟨.hbm, 261, rfl⟩
abbrev main_call0_v10 : Ref sig .tc := ⟨.hbm, 262, rfl⟩
abbrev main_call0_v11 : Ref sig .tc := ⟨.hbm, 263, rfl⟩
abbrev main_call0_c_0 : Ref sig .tc := ⟨.hbm, 264, rfl⟩
abbrev main_call0_v12 : Ref sig .tc := ⟨.hbm, 265, rfl⟩
abbrev main_call0_v13 : Ref sig .tc := ⟨.hbm, 266, rfl⟩
abbrev main_call0_v14 : Ref sig .tc := ⟨.hbm, 267, rfl⟩
abbrev main_call0_v15 : Ref sig .tc := ⟨.hbm, 268, rfl⟩
abbrev main_call0_call1_v0 : Ref sig .tc := ⟨.hbm, 269, rfl⟩
abbrev main_call0_call1_c : Ref sig .tc := ⟨.hbm, 270, rfl⟩
abbrev main_call0_call1_v1 : Ref sig .tc := ⟨.hbm, 271, rfl⟩
abbrev main_call0_call1_v2 : Ref sig .tc := ⟨.hbm, 272, rfl⟩
abbrev main_call0_call1_v3 : Ref sig .tc := ⟨.hbm, 273, rfl⟩
abbrev main_call0_call1_v4 : Ref sig .tc := ⟨.hbm, 274, rfl⟩
abbrev main_call0_call1_v5 : Ref sig .tc := ⟨.hbm, 275, rfl⟩
abbrev main_call0_call1_v6 : Ref sig .tc := ⟨.hbm, 276, rfl⟩
abbrev main_call0_call1_c_0 : Ref sig .tc := ⟨.hbm, 277, rfl⟩
abbrev main_call0_call1_v7 : Ref sig .tc := ⟨.hbm, 278, rfl⟩
abbrev main_call0_call1_v8 : Ref sig .tc := ⟨.hbm, 279, rfl⟩
abbrev main_call0_call1_c_1 : Ref sig .tc := ⟨.hbm, 280, rfl⟩
abbrev main_call0_call1_v9 : Ref sig .tc := ⟨.hbm, 281, rfl⟩
abbrev main_call0_call1_v10 : Ref sig .tc := ⟨.hbm, 282, rfl⟩
abbrev main_call0_call1_v11 : Ref sig .tc := ⟨.hbm, 283, rfl⟩
abbrev main_call0_call1_v12 : Ref sig .tc := ⟨.hbm, 284, rfl⟩
abbrev main_call0_call1_v13 : Ref sig .tc := ⟨.hbm, 285, rfl⟩
abbrev main_call0_call1_c_2 : Ref sig .tc := ⟨.hbm, 286, rfl⟩
abbrev main_call0_call1_v14 : Ref sig .tc := ⟨.hbm, 287, rfl⟩
abbrev main_call0_call1_v15 : Ref sig .tc := ⟨.hbm, 288, rfl⟩
abbrev main_call0_call1_c_3 : Ref sig .tc := ⟨.hbm, 289, rfl⟩
abbrev main_call0_call1_v16 : Ref sig .tc := ⟨.hbm, 290, rfl⟩
abbrev main_call0_call1_v17 : Ref sig .tc := ⟨.hbm, 291, rfl⟩
abbrev main_call0_call1_v18 : Ref sig .tc := ⟨.hbm, 292, rfl⟩
abbrev main_call0_call1_v19 : Ref sig .tc := ⟨.hbm, 293, rfl⟩
abbrev main_call0_call1_v20 : Ref sig .tc := ⟨.hbm, 294, rfl⟩
abbrev main_call0_call1_c_4 : Ref sig .tc := ⟨.hbm, 295, rfl⟩
abbrev main_call0_call1_v21 : Ref sig .tc := ⟨.hbm, 296, rfl⟩
abbrev main_call0_call1_v22 : Ref sig .tc := ⟨.hbm, 297, rfl⟩
abbrev main_call0_call1_c_5 : Ref sig .tc := ⟨.hbm, 298, rfl⟩
abbrev main_call0_call1_v23 : Ref sig .tc := ⟨.hbm, 299, rfl⟩
abbrev main_call0_call1_v24 : Ref sig .tc := ⟨.hbm, 300, rfl⟩
abbrev main_call0_call1_v25 : Ref sig .tc := ⟨.hbm, 301, rfl⟩
abbrev main_call0_call1_v26 : Ref sig .tc := ⟨.hbm, 302, rfl⟩
abbrev main_call0_call1_v27 : Ref sig .tc := ⟨.hbm, 303, rfl⟩
abbrev main_call0_call1_c_6 : Ref sig .tc := ⟨.hbm, 304, rfl⟩
abbrev main_call0_call1_v28 : Ref sig .tc := ⟨.hbm, 305, rfl⟩
abbrev main_call0_call1_v29 : Ref sig .tc := ⟨.hbm, 306, rfl⟩
abbrev main_call0_call1_c_7 : Ref sig .tc := ⟨.hbm, 307, rfl⟩
abbrev main_call0_call1_v30 : Ref sig .tc := ⟨.hbm, 308, rfl⟩
abbrev main_call0_call1_v31 : Ref sig .tc := ⟨.hbm, 309, rfl⟩
abbrev main_call0_call1_v32 : Ref sig .tc := ⟨.hbm, 310, rfl⟩
abbrev main_call0_call1_v33 : Ref sig .tc := ⟨.hbm, 311, rfl⟩
abbrev main_call0_call1_v34 : Ref sig .tc := ⟨.hbm, 312, rfl⟩
abbrev main_call0_call1_v35 : Ref sig .tc := ⟨.hbm, 313, rfl⟩
abbrev main_call0_call1_v36 : Ref sig .tc := ⟨.hbm, 314, rfl⟩
abbrev main_call0_call1_v37 : Ref sig .tc := ⟨.hbm, 315, rfl⟩
abbrev main_call0_call1_c_8 : Ref sig .tc := ⟨.hbm, 316, rfl⟩
abbrev main_call0_call1_v38 : Ref sig .tc := ⟨.hbm, 317, rfl⟩
abbrev main_call0_call1_v39 : Ref sig .tc := ⟨.hbm, 318, rfl⟩
abbrev main_call0_call1_v40 : Ref sig .tc := ⟨.hbm, 319, rfl⟩
abbrev main_call0_call1_c_9 : Ref sig .tc := ⟨.hbm, 320, rfl⟩
abbrev main_call0_call1_v41 : Ref sig .tc := ⟨.hbm, 321, rfl⟩
abbrev main_call0_call1_v42 : Ref sig .tc := ⟨.hbm, 322, rfl⟩
abbrev main_call0_call1_c_10 : Ref sig .tc := ⟨.hbm, 323, rfl⟩
abbrev main_call0_call1_v43 : Ref sig .tc := ⟨.hbm, 324, rfl⟩
abbrev main_call0_call1_v44 : Ref sig .tc := ⟨.hbm, 325, rfl⟩
abbrev main_call0_call1_v45 : Ref sig .tc := ⟨.hbm, 326, rfl⟩
abbrev main_call0_call1_v46 : Ref sig .tc := ⟨.hbm, 327, rfl⟩
abbrev main_call0_call1_v47 : Ref sig .tc := ⟨.hbm, 328, rfl⟩
abbrev main_call0_call1_c_11 : Ref sig .tc := ⟨.hbm, 329, rfl⟩
abbrev main_call0_call1_v48 : Ref sig .tc := ⟨.hbm, 330, rfl⟩
abbrev main_call0_call1_v49 : Ref sig .tc := ⟨.hbm, 331, rfl⟩
abbrev main_call0_call1_c_12 : Ref sig .tc := ⟨.hbm, 332, rfl⟩
abbrev main_call0_call1_v50 : Ref sig .tc := ⟨.hbm, 333, rfl⟩
abbrev main_call0_call1_v51 : Ref sig .tc := ⟨.hbm, 334, rfl⟩
abbrev main_call0_call1_v52 : Ref sig .tc := ⟨.hbm, 335, rfl⟩
abbrev main_call0_call1_v53 : Ref sig .tc := ⟨.hbm, 336, rfl⟩
abbrev main_call0_call1_v54 : Ref sig .tc := ⟨.hbm, 337, rfl⟩
abbrev main_call0_call1_c_13 : Ref sig .tc := ⟨.hbm, 338, rfl⟩
abbrev main_call0_call1_v55 : Ref sig .tc := ⟨.hbm, 339, rfl⟩
abbrev main_call0_call1_v56 : Ref sig .tc := ⟨.hbm, 340, rfl⟩
abbrev main_call0_call1_c_14 : Ref sig .tc := ⟨.hbm, 341, rfl⟩
abbrev main_call0_call1_v57 : Ref sig .tc := ⟨.hbm, 342, rfl⟩
abbrev main_call0_call1_v58 : Ref sig .tc := ⟨.hbm, 343, rfl⟩
abbrev main_call0_call1_v59 : Ref sig .tc := ⟨.hbm, 344, rfl⟩
abbrev main_call0_call1_v60 : Ref sig .tc := ⟨.hbm, 345, rfl⟩
abbrev main_call0_call1_v61 : Ref sig .tc := ⟨.hbm, 346, rfl⟩
abbrev main_call0_call1_c_15 : Ref sig .tc := ⟨.hbm, 347, rfl⟩
abbrev main_call0_call1_v62 : Ref sig .tc := ⟨.hbm, 348, rfl⟩
abbrev main_call0_call1_v63 : Ref sig .tc := ⟨.hbm, 349, rfl⟩
abbrev main_call0_call1_c_16 : Ref sig .tc := ⟨.hbm, 350, rfl⟩
abbrev main_call0_call1_v64 : Ref sig .tc := ⟨.hbm, 351, rfl⟩
abbrev main_call0_call1_v65 : Ref sig .tc := ⟨.hbm, 352, rfl⟩
abbrev main_call0_call1_v66 : Ref sig .tc := ⟨.hbm, 353, rfl⟩
abbrev main_call0_call1_v67 : Ref sig .tc := ⟨.hbm, 354, rfl⟩
abbrev main_call0_call1_v68 : Ref sig .tc := ⟨.hbm, 355, rfl⟩
abbrev main_call0_call1_v69 : Ref sig .tc := ⟨.hbm, 356, rfl⟩
abbrev main_call0_call1_v70 : Ref sig .tc := ⟨.hbm, 357, rfl⟩
abbrev main_call0_call1_v71 : Ref sig .tc := ⟨.hbm, 358, rfl⟩
abbrev main_call0_call1_c_17 : Ref sig .tc := ⟨.hbm, 359, rfl⟩
abbrev main_call0_call1_v72 : Ref sig .tc := ⟨.hbm, 360, rfl⟩
abbrev main_call0_call1_v73 : Ref sig .tc := ⟨.hbm, 361, rfl⟩
abbrev main_call0_call1_v74 : Ref sig .tc := ⟨.hbm, 362, rfl⟩
abbrev main_call0_call1_c_18 : Ref sig .tc := ⟨.hbm, 363, rfl⟩
abbrev main_call0_call1_v75 : Ref sig .tc := ⟨.hbm, 364, rfl⟩
abbrev main_call0_call1_v76 : Ref sig .tc := ⟨.hbm, 365, rfl⟩
abbrev main_call0_call1_c_19 : Ref sig .tc := ⟨.hbm, 366, rfl⟩
abbrev main_call0_call1_v77 : Ref sig .tc := ⟨.hbm, 367, rfl⟩
abbrev main_call0_call1_v78 : Ref sig .tc := ⟨.hbm, 368, rfl⟩
abbrev main_call0_call1_v79 : Ref sig .tc := ⟨.hbm, 369, rfl⟩
abbrev main_call0_call1_v80 : Ref sig .tc := ⟨.hbm, 370, rfl⟩
abbrev main_call0_call1_v81 : Ref sig .tc := ⟨.hbm, 371, rfl⟩
abbrev main_call0_call1_c_20 : Ref sig .tc := ⟨.hbm, 372, rfl⟩
abbrev main_call0_call1_v82 : Ref sig .tc := ⟨.hbm, 373, rfl⟩
abbrev main_call0_call1_v83 : Ref sig .tc := ⟨.hbm, 374, rfl⟩
abbrev main_call0_call1_c_21 : Ref sig .tc := ⟨.hbm, 375, rfl⟩
abbrev main_call0_call1_v84 : Ref sig .tc := ⟨.hbm, 376, rfl⟩
abbrev main_call0_call1_v85 : Ref sig .tc := ⟨.hbm, 377, rfl⟩
abbrev main_call0_call1_v86 : Ref sig .tc := ⟨.hbm, 378, rfl⟩
abbrev main_call0_call1_v87 : Ref sig .tc := ⟨.hbm, 379, rfl⟩
abbrev main_call0_call1_v88 : Ref sig .tc := ⟨.hbm, 380, rfl⟩
abbrev main_call0_call1_c_22 : Ref sig .tc := ⟨.hbm, 381, rfl⟩
abbrev main_call0_call1_v89 : Ref sig .tc := ⟨.hbm, 382, rfl⟩
abbrev main_call0_call1_v90 : Ref sig .tc := ⟨.hbm, 383, rfl⟩
abbrev main_call0_call1_c_23 : Ref sig .tc := ⟨.hbm, 384, rfl⟩
abbrev main_call0_call1_v91 : Ref sig .tc := ⟨.hbm, 385, rfl⟩
abbrev main_call0_call1_v92 : Ref sig .tc := ⟨.hbm, 386, rfl⟩
abbrev main_call0_call1_v93 : Ref sig .tc := ⟨.hbm, 387, rfl⟩
abbrev main_call0_call1_v94 : Ref sig .tc := ⟨.hbm, 388, rfl⟩
abbrev main_call0_call1_v95 : Ref sig .tc := ⟨.hbm, 389, rfl⟩
abbrev main_call0_call1_c_24 : Ref sig .tc := ⟨.hbm, 390, rfl⟩
abbrev main_call0_call1_v96 : Ref sig .tc := ⟨.hbm, 391, rfl⟩
abbrev main_call0_call1_v97 : Ref sig .tc := ⟨.hbm, 392, rfl⟩
abbrev main_call0_call1_c_25 : Ref sig .tc := ⟨.hbm, 393, rfl⟩
abbrev main_call0_call1_v98 : Ref sig .tc := ⟨.hbm, 394, rfl⟩
abbrev main_call0_call1_v99 : Ref sig .tc := ⟨.hbm, 395, rfl⟩
abbrev main_call0_call1_v100 : Ref sig .tc := ⟨.hbm, 396, rfl⟩
abbrev main_call0_call1_v101 : Ref sig .tc := ⟨.hbm, 397, rfl⟩
abbrev main_call0_call1_v102 : Ref sig .tc := ⟨.hbm, 398, rfl⟩
abbrev main_call0_call1_v103 : Ref sig .tc := ⟨.hbm, 399, rfl⟩
abbrev main_call0_call1_v104 : Ref sig .tc := ⟨.hbm, 400, rfl⟩
abbrev main_call0_call1_v105 : Ref sig .tc := ⟨.hbm, 401, rfl⟩
abbrev main_call0_call1_c_26 : Ref sig .tc := ⟨.hbm, 402, rfl⟩
abbrev main_call0_call1_v106 : Ref sig .tc := ⟨.hbm, 403, rfl⟩
abbrev main_call0_call1_v107 : Ref sig .tc := ⟨.hbm, 404, rfl⟩
abbrev main_call0_call1_v108 : Ref sig .tc := ⟨.hbm, 405, rfl⟩
abbrev main_call0_call1_c_27 : Ref sig .tc := ⟨.hbm, 406, rfl⟩
abbrev main_call0_call1_v109 : Ref sig .tc := ⟨.hbm, 407, rfl⟩
abbrev main_call0_call1_v110 : Ref sig .tc := ⟨.hbm, 408, rfl⟩
abbrev main_call0_call1_c_28 : Ref sig .tc := ⟨.hbm, 409, rfl⟩
abbrev main_call0_call1_v111 : Ref sig .tc := ⟨.hbm, 410, rfl⟩
abbrev main_call0_call1_v112 : Ref sig .tc := ⟨.hbm, 411, rfl⟩
abbrev main_call0_call1_v113 : Ref sig .tc := ⟨.hbm, 412, rfl⟩
abbrev main_call0_call1_v114 : Ref sig .tc := ⟨.hbm, 413, rfl⟩
abbrev main_call0_call1_v115 : Ref sig .tc := ⟨.hbm, 414, rfl⟩
abbrev main_call0_call1_c_29 : Ref sig .tc := ⟨.hbm, 415, rfl⟩
abbrev main_call0_call1_v116 : Ref sig .tc := ⟨.hbm, 416, rfl⟩
abbrev main_call0_call1_v117 : Ref sig .tc := ⟨.hbm, 417, rfl⟩
abbrev main_call0_call1_c_30 : Ref sig .tc := ⟨.hbm, 418, rfl⟩
abbrev main_call0_call1_v118 : Ref sig .tc := ⟨.hbm, 419, rfl⟩
abbrev main_call0_call1_v119 : Ref sig .tc := ⟨.hbm, 420, rfl⟩
abbrev main_call0_call1_v120 : Ref sig .tc := ⟨.hbm, 421, rfl⟩
abbrev main_call0_call1_v121 : Ref sig .tc := ⟨.hbm, 422, rfl⟩
abbrev main_call0_call1_v122 : Ref sig .tc := ⟨.hbm, 423, rfl⟩
abbrev main_call0_call1_c_31 : Ref sig .tc := ⟨.hbm, 424, rfl⟩
abbrev main_call0_call1_v123 : Ref sig .tc := ⟨.hbm, 425, rfl⟩
abbrev main_call0_call1_v124 : Ref sig .tc := ⟨.hbm, 426, rfl⟩
abbrev main_call0_call1_c_32 : Ref sig .tc := ⟨.hbm, 427, rfl⟩
abbrev main_call0_call1_v125 : Ref sig .tc := ⟨.hbm, 428, rfl⟩
abbrev main_call0_call1_v126 : Ref sig .tc := ⟨.hbm, 429, rfl⟩
abbrev main_call0_call1_v127 : Ref sig .tc := ⟨.hbm, 430, rfl⟩
abbrev main_call0_call1_v128 : Ref sig .tc := ⟨.hbm, 431, rfl⟩
abbrev main_call0_call1_v129 : Ref sig .tc := ⟨.hbm, 432, rfl⟩
abbrev main_call0_call1_c_33 : Ref sig .tc := ⟨.hbm, 433, rfl⟩
abbrev main_call0_call1_v130 : Ref sig .tc := ⟨.hbm, 434, rfl⟩
abbrev main_call0_call1_v131 : Ref sig .tc := ⟨.hbm, 435, rfl⟩
abbrev main_call0_call1_c_34 : Ref sig .tc := ⟨.hbm, 436, rfl⟩
abbrev main_call0_call1_v132 : Ref sig .tc := ⟨.hbm, 437, rfl⟩
abbrev main_call0_call1_v133 : Ref sig .tc := ⟨.hbm, 438, rfl⟩
abbrev main_call0_call1_v134 : Ref sig .tc := ⟨.hbm, 439, rfl⟩
abbrev main_call0_call1_v135 : Ref sig .tc := ⟨.hbm, 440, rfl⟩
abbrev main_call0_call1_v136 : Ref sig .tc := ⟨.hbm, 441, rfl⟩
abbrev main_call0_call1_v137 : Ref sig .tc := ⟨.hbm, 442, rfl⟩
abbrev main_call0_call1_v138 : Ref sig .tc := ⟨.hbm, 443, rfl⟩
abbrev main_call0_call1_v139 : Ref sig .tc := ⟨.hbm, 444, rfl⟩
abbrev main_call0_call1_c_35 : Ref sig .tc := ⟨.hbm, 445, rfl⟩
abbrev main_call0_call1_v140 : Ref sig .tc := ⟨.hbm, 446, rfl⟩
abbrev main_call0_call1_v141 : Ref sig .tc := ⟨.hbm, 447, rfl⟩
abbrev main_call0_call1_v142 : Ref sig .tc := ⟨.hbm, 448, rfl⟩
abbrev main_call0_call1_c_36 : Ref sig .tc := ⟨.hbm, 449, rfl⟩
abbrev main_call0_call1_v143 : Ref sig .tc := ⟨.hbm, 450, rfl⟩
abbrev main_call0_call1_v144 : Ref sig .tc := ⟨.hbm, 451, rfl⟩
abbrev main_call0_call1_c_37 : Ref sig .tc := ⟨.hbm, 452, rfl⟩
abbrev main_call0_call1_v145 : Ref sig .tc := ⟨.hbm, 453, rfl⟩
abbrev main_call0_call1_v146 : Ref sig .tc := ⟨.hbm, 454, rfl⟩
abbrev main_call0_call1_v147 : Ref sig .tc := ⟨.hbm, 455, rfl⟩
abbrev main_call0_call1_v148 : Ref sig .tc := ⟨.hbm, 456, rfl⟩
abbrev main_call0_call1_v149 : Ref sig .tc := ⟨.hbm, 457, rfl⟩
abbrev main_call0_call1_c_38 : Ref sig .tc := ⟨.hbm, 458, rfl⟩
abbrev main_call0_call1_v150 : Ref sig .tc := ⟨.hbm, 459, rfl⟩
abbrev main_call0_call1_v151 : Ref sig .tc := ⟨.hbm, 460, rfl⟩
abbrev main_call0_call1_c_39 : Ref sig .tc := ⟨.hbm, 461, rfl⟩
abbrev main_call0_call1_v152 : Ref sig .tc := ⟨.hbm, 462, rfl⟩
abbrev main_call0_call1_v153 : Ref sig .tc := ⟨.hbm, 463, rfl⟩
abbrev main_call0_call1_v154 : Ref sig .tc := ⟨.hbm, 464, rfl⟩
abbrev main_call0_call1_v155 : Ref sig .tc := ⟨.hbm, 465, rfl⟩
abbrev main_call0_call1_v156 : Ref sig .tc := ⟨.hbm, 466, rfl⟩
abbrev main_call0_call1_c_40 : Ref sig .tc := ⟨.hbm, 467, rfl⟩
abbrev main_call0_call1_v157 : Ref sig .tc := ⟨.hbm, 468, rfl⟩
abbrev main_call0_call1_v158 : Ref sig .tc := ⟨.hbm, 469, rfl⟩
abbrev main_call0_call1_c_41 : Ref sig .tc := ⟨.hbm, 470, rfl⟩
abbrev main_call0_call1_v159 : Ref sig .tc := ⟨.hbm, 471, rfl⟩
abbrev main_call0_call1_v160 : Ref sig .tc := ⟨.hbm, 472, rfl⟩
abbrev main_call0_call1_v161 : Ref sig .tc := ⟨.hbm, 473, rfl⟩
abbrev main_call0_call1_v162 : Ref sig .tc := ⟨.hbm, 474, rfl⟩
abbrev main_call0_call1_v163 : Ref sig .tc := ⟨.hbm, 475, rfl⟩
abbrev main_call0_call1_c_42 : Ref sig .tc := ⟨.hbm, 476, rfl⟩
abbrev main_call0_call1_v164 : Ref sig .tc := ⟨.hbm, 477, rfl⟩
abbrev main_call0_call1_v165 : Ref sig .tc := ⟨.hbm, 478, rfl⟩
abbrev main_call0_call1_c_43 : Ref sig .tc := ⟨.hbm, 479, rfl⟩
abbrev main_call0_call1_v166 : Ref sig .tc := ⟨.hbm, 480, rfl⟩
abbrev main_call0_call1_v167 : Ref sig .tc := ⟨.hbm, 481, rfl⟩
abbrev main_call0_call1_v168 : Ref sig .tc := ⟨.hbm, 482, rfl⟩
abbrev main_call0_call1_v169 : Ref sig .tc := ⟨.hbm, 483, rfl⟩
abbrev main_call0_call1_v170 : Ref sig .tc := ⟨.hbm, 484, rfl⟩
abbrev main_call0_v16_0 : Ref sig .tc := ⟨.hbm, 485, rfl⟩
abbrev main_call0_call1_v172 : Ref sig .tc := ⟨.hbm, 486, rfl⟩
abbrev main_call0_call1_v173 : Ref sig .tc := ⟨.hbm, 487, rfl⟩
abbrev main_call0_call1_c_44 : Ref sig .tc := ⟨.hbm, 488, rfl⟩
abbrev main_call0_call1_v174 : Ref sig .tc := ⟨.hbm, 489, rfl⟩
abbrev main_call0_v16_1 : Ref sig .tc := ⟨.hbm, 490, rfl⟩
abbrev main_call0_v17 : Ref sig .tc := ⟨.hbm, 491, rfl⟩
abbrev main_call0_v18_0 : Ref sig .tc := ⟨.hbm, 492, rfl⟩
abbrev main_v9 : Ref sig .tc := ⟨.hbm, 493, rfl⟩
abbrev main_c_2 : Ref sig .tc := ⟨.hbm, 494, rfl⟩
abbrev main_v10 : Ref sig .tc := ⟨.hbm, 495, rfl⟩
abbrev main_v11 : Ref sig .tc := ⟨.hbm, 496, rfl⟩
abbrev main_c_3 : Ref sig .tc := ⟨.hbm, 497, rfl⟩
abbrev main_v12 : Ref sig .tc := ⟨.hbm, 498, rfl⟩
abbrev main_v13 : Ref sig .tc := ⟨.hbm, 499, rfl⟩
abbrev main_v14 : Ref sig .tc := ⟨.hbm, 500, rfl⟩
abbrev main_v15 : Ref sig .tc := ⟨.hbm, 501, rfl⟩
abbrev main_v16 : Ref sig .tc := ⟨.hbm, 502, rfl⟩
abbrev main_v17 : Ref sig .tc := ⟨.hbm, 503, rfl⟩
abbrev main_call1_v0 : Ref sig .tc := ⟨.hbm, 504, rfl⟩
abbrev main_call1_v1_0 : Ref sig .tc := ⟨.hbm, 505, rfl⟩
abbrev main_v18 : Ref sig .tc := ⟨.hbm, 506, rfl⟩
abbrev main_v19 : Ref sig .tc := ⟨.hbm, 507, rfl⟩
abbrev main_cst : Ref sig .tc := ⟨.hbm, 508, rfl⟩
abbrev main_v20 : Ref sig .tc := ⟨.hbm, 509, rfl⟩
abbrev main_v21 : Ref sig .tc := ⟨.hbm, 510, rfl⟩
abbrev main_cst_4 : Ref sig .tc := ⟨.hbm, 511, rfl⟩
abbrev main_v22 : Ref sig .tc := ⟨.hbm, 512, rfl⟩
abbrev main_v23 : Ref sig .tc := ⟨.hbm, 513, rfl⟩
abbrev main_v24 : Ref sig .tc := ⟨.hbm, 514, rfl⟩

abbrev nD : Nat := 1
abbrev τ : Topo := Topo.v7x

variable {F : FTy → Type} [FloatOps F]
-- ==== Proof.Scat.lean ====
/-
  The indexed store of sixteen lanes into one row of a 16 × 2048 tile, as a statement about the tile's elements: after
  the store an element is the value of some lane that names it, or keeps what it was when no lane does. `Good` says of a
  tile which of its elements are already the scattered ones; one store moves one row's bound on by sixteen.
-/
module

public import Idealize.ShloMosaic.PureOps

@[expose] public section

noncomputable section

namespace Cert.Scat

open Idealize.ShloMosaic

variable {F : FTy → Type} [FloatOps F]

abbrev SG : Shape := ⟨2, ![16, 2048]⟩
abbrev SV : Shape := ⟨1, ![16]⟩
/-- The position in row `a`, column `j` of the tile. -/
def at2 (a : Fin 16) (j : Fin 2048) : SG.Idx := fun | 0 => a | 1 => j
def lane (x : Fin 16) : SV.Idx := fun | 0 => x

theorem at2_eta (p : SG.Idx) : p = at2 (p 0) (p 1) := by
  funext a; match a with
  | 0 => rfl
  | 1 => rfl

/-- An unmasked indexed store, element by element. -/
theorem storeIdx_cases {s : Shape} {e : EltTy} {d : Fin 1 → Nat} (f : Vec F s e) (idxs : Fin s.rank → IVec ⟨1, d⟩ 32)
    (v : Vec F ⟨1, d⟩ e) (h : ∀ a x, (idxs a x).toNat < s.size a) (p : s.Idx) :
    (∃ x, (∀ a, (p a).val = (idxs a x).toNat) ∧ storeIdx f idxs v (fun _ => 1#1) false h p = v x)
      ∨ ((∀ x, ¬ ∀ a, (p a).val = (idxs a x).toNat) ∧ storeIdx f idxs v (fun _ => 1#1) false h p = f p) := by
  have key : ∀ (l : List (Fin (d 0))) (g : Vec F s e),
      (∃ k ∈ l, (∀ a, (p a).val = (idxs a (Shape.ofLane k)).toNat)
        ∧ (l.foldl (fun g k => fun j => if (∀ a, (j a).val = (idxs a (Shape.ofLane k)).toNat) then v (Shape.ofLane k) else g j) g) p = v (Shape.ofLane k))
      ∨ ((∀ k ∈ l, ¬ ∀ a, (p a).val = (idxs a (Shape.ofLane k)).toNat)
        ∧ (l.foldl (fun g k => fun j => if (∀ a, (j a).val = (idxs a (Shape.ofLane k)).toNat) then v (Shape.ofLane k) else g j) g) p = g p) := by
    intro l
    induction l with
    | nil => intro g; exact .inr ⟨fun _ h => absurd h List.not_mem_nil, rfl⟩
    | cons k l ih =>
      intro g
      rw [List.foldl_cons]
      rcases ih (fun j => if (∀ a, (j a).val = (idxs a (Shape.ofLane k)).toNat) then v (Shape.ofLane k) else g j) with ⟨k', hk', h1, h2⟩ | ⟨h1, h2⟩
      · exact .inl ⟨k', List.mem_cons_of_mem _ hk', h1, h2⟩
      · by_cases hk : ∀ a, (p a).val = (idxs a (Shape.ofLane k)).toNat
        · exact .inl ⟨k, List.mem_cons_self, hk, h2.trans (if_pos hk)⟩
        · refine .inr ⟨fun k' hk' => ?_, h2.trans (if_neg hk)⟩
          rcases List.mem_cons.mp hk' with rfl | hk'
          · exact hk
          · exact h1 k' hk'
  have e : storeIdx f idxs v (fun _ => 1#1) false h
      = (List.finRange (d 0)).foldl (fun g k => fun j => if (∀ a, (j a).val = (idxs a (Shape.ofLane k)).toNat) then v (Shape.ofLane k) else g j) f := by
    unfold storeIdx
    simp [idxAt]
  rw [e]
  rcases key (List.finRange (d 0)) f with ⟨k, -, h1, h2⟩ | ⟨h1, h2⟩
  · exact .inl ⟨_, h1, h2⟩
  · refine .inr ⟨fun x hx => h1 (x 0) (List.mem_finRange _) ?_, h2⟩
    have : Shape.ofLane (d := d) (x 0) = x := by funext a; rw [Fin.eq_zero a]; rfl
    rw [this]; exact hx

/-- The words of row `a` name distinct columns. -/
def RowInj (I : Vec F SG .i32) (a : Fin 16) : Prop := ∀ j k : Fin 2048, (I (at2 a j)).toNat = (I (at2 a k)).toNat → j = k

/-- In every row `a` of the tile whose words name distinct columns, the columns named by the first `b a` words hold the
    values at those words' positions. -/
def Good {e : EltTy} (I : Vec F SG .i32) (N : Vec F SG e) (g : Vec F SG e) (b : Fin 16 → Nat) : Prop :=
  ∀ a, RowInj I a → ∀ j : Fin 2048, j.val < b a → ∀ h : (I (at2 a j)).toNat < 2048, g (at2 a ⟨_, h⟩) = N (at2 a j)

theorem good_zero {e : EltTy} (I : Vec F SG .i32) (N g : Vec F SG e) : Good I N g (fun _ => 0) :=
  fun _ _ _ h => absurd h (Nat.not_lt_zero _)

/-- The bounds after the stores of rows `0 … a - 1` of chunk `t`. -/
def bnd (t a : Nat) : Fin 16 → Nat := fun r => if r.val < a then 16 * (t + 1) else 16 * t

theorem bnd_zero (t : Nat) : bnd t 0 = fun _ => 16 * t := by funext r; simp [bnd]
theorem bnd_last (t : Nat) : bnd t 16 = fun _ => 16 * (t + 1) := by funext r; simp [bnd, r.isLt]

/-- One store of the sixteen lanes of row `a`, chunk `t`. -/
theorem good_store {e : EltTy} {I : Vec F SG .i32} {N g : Vec F SG e} {t : Nat} (ht : t < 128) {a : Fin 16}
    (hg : Good I N g (bnd t a.val)) (rv iv : IVec SV 32) (v : Vec F SV e)
    (hr : ∀ x, (rv x).toNat = a.val) (hi : ∀ x : Fin 16, iv (lane x) = I (at2 a ⟨16 * t + x.val, by omega⟩))
    (hv : ∀ x : Fin 16, v (lane x) = N (at2 a ⟨16 * t + x.val, by omega⟩))
    (h : ∀ (c : Fin SG.rank) x, ((![rv, iv] : Fin 2 → IVec SV 32) c x).toNat < SG.size c) :
    Good I N (storeIdx g ![rv, iv] v (fun _ => 1#1) false h) (bnd t (a.val + 1)) := by
  have lane_eta : ∀ x : SV.Idx, ∃ y : Fin 16, x = lane y := fun x => ⟨x 0, by funext c; match c with | 0 => rfl⟩
  intro r hinj j hj hlt
  rcases storeIdx_cases g ![rv, iv] v h (at2 r ⟨_, hlt⟩) with ⟨x, hx, e⟩ | ⟨hx, e⟩
  · have h0 : r.val = (rv x).toNat := hx 0
    have h1 : (I (at2 r j)).toNat = (iv x).toNat := hx 1
    have hra : r = a := Fin.ext (h0.trans (hr x))
    subst hra
    obtain ⟨y, rfl⟩ := lane_eta x
    rw [hi] at h1
    rw [e, hv, ← hinj _ _ h1]
  · rw [e]
    refine hg r hinj j ?_ hlt
    by_contra hn
    simp only [bnd] at hj hn
    have hra : r = a := by
      apply Fin.ext
      rcases Nat.lt_trichotomy r.val a.val with h | h | h
      · rw [if_pos h] at hn; rw [if_pos (Nat.lt_succ_of_lt h)] at hj; omega
      · exact h
      · rw [if_neg (by omega)] at hn; rw [if_neg (by omega)] at hj; omega
    subst hra
    rw [if_neg (Nat.lt_irrefl _)] at hn
    rw [if_pos (Nat.lt_succ_self _)] at hj
    have hx16 : j.val - 16 * t < 16 := by omega
    refine hx (lane ⟨j.val - 16 * t, hx16⟩) ?_
    have hj' : (⟨16 * t + (j.val - 16 * t), by omega⟩ : Fin 2048) = j := Fin.ext (by simp; omega)
    intro c; match c with
    | 0 => exact (hr _).symm
    | 1 =>
      show (I (at2 r j)).toNat = (iv (lane ⟨j.val - 16 * t, hx16⟩)).toNat
      rw [hi, hj']

/-! ## The whole array, sixteen rows at a time -/

abbrev SB : Shape := ⟨2, ![12288, 2048]⟩
/-- The position in row `r`, column `j` of the array. -/
def atB (r : Fin 12288) (j : Fin 2048) : SB.Idx := fun | 0 => r | 1 => j

theorem atB_eta (p : SB.Idx) : p = atB (p 0) (p 1) := by
  funext a; match a with
  | 0 => rfl
  | 1 => rfl

/-- Row `r` of `I` names no column twice. -/
def RowInjB (I : Vec F SB .i32) (r : Fin 12288) : Prop :=
  ∀ j k : Fin 2048, (I (atB r j)).toNat = (I (atB r k)).toNat → j = k

/-- In the rows from `lo` up to `hi`, `o` holds each value of `N` where `I` sends it, wherever the row of `I` names no
    column twice. -/
def GoodB {e : EltTy} (I : Vec F SB .i32) (N o : Vec F SB e) (lo hi : Nat) : Prop :=
  ∀ r : Fin 12288, lo ≤ r.val → r.val < hi → RowInjB I r → ∀ (j : Fin 2048) (h : (I (atB r j)).toNat < 2048), o (atB r ⟨(I (atB r j)).toNat, h⟩) = N (atB r j)

theorem goodB_zero {e : EltTy} (I : Vec F SB .i32) (N o : Vec F SB e) (lo : Nat) : GoodB I N o lo lo :=
  fun _ h1 h2 => absurd h2 (Nat.not_lt.mpr h1)

/-- Sixteen more rows: a tile that is the scattered one, put at rows `b … b+15`. -/
theorem goodB_step {e : EltTy} {I : Vec F SB .i32} {N o o' : Vec F SB e} {lo b : Nat} (hb : b + 16 ≤ 12288) (ho : GoodB I N o lo b)
    {Ig : Vec F SG .i32} {Ng g : Vec F SG e} (hg : Good Ig Ng g fun _ => 2048)
    (hI : ∀ (a : Fin 16) j, Ig (at2 a j) = I (atB ⟨b + a.val, by omega⟩ j))
    (hN : ∀ (a : Fin 16) j, Ng (at2 a j) = N (atB ⟨b + a.val, by omega⟩ j))
    (h1 : ∀ (a : Fin 16) j, o' (atB ⟨b + a.val, by omega⟩ j) = g (at2 a j))
    (h2 : ∀ r j, r.val < b → o' (atB r j) = o (atB r j)) : GoodB I N o' lo (b + 16) := by
  intro r hlo hhi hinj j h
  by_cases hr : r.val < b
  · rw [h2 _ _ hr]
    exact ho r hlo hr hinj j h
  · obtain ⟨a, ha⟩ : ∃ a : Fin 16, b + a.val = r.val := ⟨⟨r.val - b, by omega⟩, by show b + (r.val - b) = r.val; omega⟩
    have hlt : ∀ a : Fin 16, b + a.val < 12288 := fun a => by omega
    obtain rfl : r = ⟨b + a.val, hlt a⟩ := Fin.ext ha.symm
    have e := hI a j
    rw [h1]
    have hra : RowInj Ig a := fun x y hxy => hinj x y (by rw [← hI a x, ← hI a y]; exact hxy)
    have := hg a hra j j.isLt (by rw [e]; exact h)
    rw [← hN a j, ← this]
    congr 2
    exact Fin.ext (congrArg BitVec.toNat e.symm)

end Cert.Scat

end
-- ==== Proof.TileKI.lean ====
module

public import proofs.«01_k».proof.Defs
public import proofs.«01_k».proof.Proof.Scat
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal

@[expose] public section

set_option maxRecDepth 16384

noncomputable section

namespace Cert.KernelIdeal.Own

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

local notation "iV" => (Memref.whole Cert.KernelIdeal.main_v2_scv : Memref Cert.KernelIdeal.sig Kind.scVector Space.hbm Cert.KernelIdeal.S12288x2048 EltTy.i32)
local notation "nV" => (Memref.whole Cert.KernelIdeal.main_v3_scv : Memref Cert.KernelIdeal.sig Kind.scVector Space.hbm Cert.KernelIdeal.S12288x2048 EltTy.f32)
local notation "oV" => (Memref.whole Cert.KernelIdeal.main_v4_scv : Memref Cert.KernelIdeal.sig Kind.scVector Space.hbm Cert.KernelIdeal.S12288x2048 EltTy.f32)
local notation "sI" => (Memref.whole Cert.KernelIdeal.cc0_scratch0 : Memref Cert.KernelIdeal.sig Kind.scVector Space.vmem Cert.KernelIdeal.S16x2048 EltTy.i32)
local notation "sN" => (Memref.whole Cert.KernelIdeal.cc0_scratch1 : Memref Cert.KernelIdeal.sig Kind.scVector Space.vmem Cert.KernelIdeal.S16x2048 EltTy.f32)
local notation "sO" => (Memref.whole Cert.KernelIdeal.cc0_scratch2 : Memref Cert.KernelIdeal.sig Kind.scVector Space.vmem Cert.KernelIdeal.S16x2048 EltTy.f32)

variable [FloatOps F]

/-! ## One chunk of sixteen columns -/

section Trip

variable (thr : Thread nD τ)

variable (d : Dev nD) (L : grid0.Coords)

abbrev cV (L : grid0.Coords) : Fin τ.nSC := (L 0).castLE hcore0
abbrev jV (L : grid0.Coords) : Fin τ.nSub := (L 1).castLE hsub0

/-- The thread of the task at grid point `L`. -/
abbrev tV : Thread nD τ := V d (cV L) (jV L)

/-- A loaded window of sixteen columns of one row, read lane by lane. -/
theorem ld_lane {e : EltTy} (m : Memref sig .scVector .vmem SG e) (a : Fin 16) (t : Fin 128) {off : Fin 2 → Nat} (ho : off = ![a.val, 16 * t.val])
    (inb : ∀ x, off x + S1x16.size x ≤ SG.size x) (f : m.view.ty.Contents (Elt F)) (x : Fin 16) :
    shapeCast S16 (m.view.readAt (Elt F) (Rect.unit (s := SG) off S1x16.size inb).toLoadRect f) shapeCasts_S1x16_S16 (lane x)
      = m.view.read (Elt F) f (at2 a ⟨16 * t.val + x.val, by have := t.isLt; have := x.isLt; omega⟩) := by
  subst ho
  rw [shapeCast_apply _ shapeCasts_S1x16_S16 (lane x) (fun | 0 => (0 : Fin 1) | 1 => x : S1x16.Idx) (by
    rw [Shape.rowMajor_val_two, Shape.rowMajor_val_one]
    show 0 * 16 + x.val = x.val
    omega), View.readAt_apply]
  congr 1
  funext b; apply Fin.ext; match b with
  | 0 => rfl
  | 1 => show 16 * t.val + 1 * x.val = 16 * t.val + x.val; omega

/-- The view through which the indexed store goes is the whole output tile. -/
theorem st_pts (f : Vec F SG .f32) :
    ((((sO).access (.whole S16x2048)).loc (tV d L) ↦[((sO).access (.whole S16x2048)).set]{fullShare} f) : sProp 𝕄) = ((sO).view.loc (tV d L) ↦{fullShare} f) :=
  congrArg (fun S => (((sO).view.loc (tV d L) ↦[S]{fullShare} f) : sProp 𝕄)) (Memref.set_access_whole (cc0_scratch2 : Ref sig .scVector))

/-- The task holds its index tile, its value tile, and an output tile whose elements up to the bound are the scattered ones. -/
def tile (I : Vec F SG .i32) (N : Vec F SG .f32) (b : Fin 16 → Nat) : sProp 𝕄 :=
  iprop(((sI).view.loc (tV d L) ↦{fullShare} I) ∗ ((sN).view.loc (tV d L) ↦{fullShare} N)
    ∗ ∃ g : Vec F SG .f32, ⌜Good I N g b⌝ ∗ ((sO).view.loc (tV d L) ↦{fullShare} g))

variable {I : Vec F SG .i32} {N : Vec F SG .f32} (hI : ∀ p, (I p).toNat < 2048)

include hI in
/-- ONE ROW of a chunk: load sixteen targets, load sixteen values, store them at their targets. -/
theorem row (t : Fin 128) (a : Fin 16) {off : Fin 2 → Nat} (ho : off = ![a.val, 16 * t.val]) {α : Type} {Q : α → sProp 𝕄}
    {inb inb' : ∀ x, off x + S1x16.size x ≤ SG.size x} {hl hl'} {rv : Vec F S16 .i32}
    {P : Vec F S1x16 .i32 → Prop} {dec : ∀ v, Decidable (P v)}
    {hs}
    {k : PUnit → Prog (TpuEff nD τ sig (Elt F) Λ₀ (.scVector (cV L) (jV L))) α}
    (hr : ∀ x, (rv x).toNat = a.val)
    (h : ∀ v, P v → ∀ c x, ((![rv, shapeCast S16 v shapeCasts_S1x16_S16] : Fin 2 → Vec F S16 .i32) c x).toNat < SG.size c)
    (hP : ∀ v, (∀ c x, ((![rv, shapeCast S16 v shapeCasts_S1x16_S16] : Fin 2 → Vec F S16 .i32) c x).toNat < SG.size c) → P v)
    (hk : tile d L I N (bnd t (a.val + 1)) ⊢ wp frame (wpE (defs₀ (F := F)) 𝒱₀ (tV d L) none) Set.univ (k ⟨⟩) Q) :
    tile d L I N (bnd t a.val)
      ⊢ wp frame (wpE (defs₀ (F := F)) 𝒱₀ (tV d L) none) Set.univ
          (Prog.lift (.load sI (Rect.unit (s := SG) off S1x16.size inb).toLoadRect hl) >>= fun v =>
            Prog.lift (TpuEff.assume (P v) (dec v)) >>= fun hw =>
            Prog.lift (.load sN (Rect.unit (s := SG) off S1x16.size inb').toLoadRect hl') >>= fun w =>
            SparseCore.vectorStoreIdx sO ![rv, shapeCast S16 v shapeCasts_S1x16_S16] (shapeCast S16 w shapeCasts_S1x16_S16) (fun _ => 1#1) false (h v hw.down) hs >>= k) Q := by
  have hi := fun x => ld_lane (F := F) sI a t ho inb I x
  have hv := fun x => ld_lane (F := F) sN a t ho inb' N x
  unfold tile
  iintro ⟨H1, H2, %g, %hg, H3⟩
  iapply (wp_load 𝒱₀ (tV d L) none Set.univ (m := sI) (S := Finset.univ) (Finset.subset_univ _)) $$ H1
  iintro H1
  set va := (sI).view.readAt (Elt F) (Rect.unit (s := SG) off S1x16.size inb).toLoadRect I with hva
  have hc : ∀ c x, ((![rv, shapeCast S16 va shapeCasts_S1x16_S16] : Fin 2 → Vec F S16 .i32) c x).toNat < SG.size c := by
    intro c x
    match c with
    | 0 => exact (hr x).trans_lt a.isLt
    | 1 =>
      obtain ⟨y, rfl⟩ : ∃ y : Fin 16, x = lane y := ⟨x 0, by funext c; match c with | 0 => rfl⟩
      exact (congrArg BitVec.toNat (hi y)).trans_lt (hI _)
  iapply (wp_assume 𝒱₀ (tV d L) none Set.univ (hP va hc))
  iapply (wp_load 𝒱₀ (tV d L) none Set.univ (m := sN) (S := Finset.univ) (Finset.subset_univ _)) $$ H2
  iintro H2
  set st := storeIdx g ![rv, shapeCast S16 va shapeCasts_S1x16_S16] (shapeCast S16 ((sN).view.readAt (Elt F) (Rect.unit (s := SG) off S1x16.size inb').toLoadRect N) shapeCasts_S1x16_S16) (fun _ => 1#1) false hc with hst
  ihave H3 := (show ((sO).view.loc (tV d L) ↦{fullShare} g)
      ⊢ ((((sO).access (.whole S16x2048)).loc (tV d L) ↦[((sO).access (.whole S16x2048)).set]{fullShare} g) : sProp 𝕄) from
    .of_eq (st_pts (F := F) d L g).symm) $$ H3
  iapply (SparseCore.wp_vectorStoreIdx 𝒱₀ (tV d L) none Set.univ (base := sO)) $$ H3
  iintro H3
  ihave H3 := (show ((((sO).access (.whole S16x2048)).loc (tV d L) ↦[((sO).access (.whole S16x2048)).set]{fullShare}
        (((sO).access (.whole S16x2048)).write (Elt F) g (storeIdx (((sO).access (.whole S16x2048)).read (Elt F) g) ![rv, shapeCast S16 va shapeCasts_S1x16_S16] (shapeCast S16 ((sN).view.readAt (Elt F) (Rect.unit (s := SG) off S1x16.size inb').toLoadRect N) shapeCasts_S1x16_S16) (fun _ => 1#1) false hc) Finset.univ)) : sProp 𝕄)
      ⊢ ((sO).view.loc (tV d L) ↦{fullShare} st) from
    .of_eq ((st_pts (F := F) d L _).trans (congrArg (fun f => ((sO).view.loc (tV d L) ↦{fullShare} f)) ((Memref.write_access_whole_univ (Elt F) (cc0_scratch2 : Ref sig .scVector) g _).trans
      (congrArg (fun f => storeIdx f ![rv, shapeCast S16 va shapeCasts_S1x16_S16] _ (fun _ => 1#1) false hc) (Memref.read_access_whole (Elt F) (cc0_scratch2 : Ref sig .scVector) g)))))) $$ H3
  iapply hk
  unfold tile
  isplitl [H1]; · iexact H1
  isplitl [H2]; · iexact H2
  iexists st
  isplitr
  · ipureintro
    exact good_store t.isLt hg rv _ _ hr hi hv hc
  · iexact H3

/-- The chunk's sixteen rows, as the task runs them. -/
def chunk (t : Fin k0_t2_loop.trips) : Prog (TpuEff nD τ sig (Elt F) Λ₀ (.scVector (cV L) (jV L))) Unit := do
  let p ← k0_part1 L iV (Memref.isWhole_whole _) nV (Memref.isWhole_whole _) oV (Memref.isWhole_whole _) sI (Memref.isWhole_whole _) sN (Memref.isWhole_whole _) sO (Memref.isWhole_whole _)
    cc0_scoped0 cc0_scoped1 cc0_scoped2 (broadcast S16 0#32) (broadcast S16 1#32) (broadcast S16 2#32) (broadcast S16 3#32) 0#32 1#32 t
  let v82 : Vec F S16 .i32 ← k0_part2 L iV (Memref.isWhole_whole _) nV (Memref.isWhole_whole _) oV (Memref.isWhole_whole _) sI (Memref.isWhole_whole _) sN (Memref.isWhole_whole _) sO (Memref.isWhole_whole _)
    cc0_scoped0 cc0_scoped1 cc0_scoped2 (broadcast S16 3#32) (broadcast S16 4#32) (broadcast S16 5#32) (broadcast S16 6#32) t p.1 p.2.1 p.2.2.1 p.2.2.2.1 p.2.2.2.2
  let q ← k0_part3 L iV (Memref.isWhole_whole _) nV (Memref.isWhole_whole _) oV (Memref.isWhole_whole _) sI (Memref.isWhole_whole _) sN (Memref.isWhole_whole _) sO (Memref.isWhole_whole _)
    cc0_scoped0 cc0_scoped1 cc0_scoped2 (broadcast S16 7#32) (broadcast S16 8#32) (broadcast S16 9#32) (broadcast S16 10#32) t p.1 v82
  let r ← k0_part4 L iV (Memref.isWhole_whole _) nV (Memref.isWhole_whole _) oV (Memref.isWhole_whole _) sI (Memref.isWhole_whole _) sN (Memref.isWhole_whole _) sO (Memref.isWhole_whole _)
    cc0_scoped0 cc0_scoped1 cc0_scoped2 (broadcast S16 11#32) (broadcast S16 12#32) (broadcast S16 13#32) (broadcast S16 14#32) t p.1 q.1 q.2
  SparseCore.vectorStoreIdx sO ![(broadcast S16 14#32), r.1] r.2.2 (fun _ => 1#1) false (k0_idx15_inb (broadcast S16 14#32) r.1 r.2.1) (View.stores_vmem_bits_univ h_S16x2048 rfl)
  let v146_ld : Vec F S1x16 .i32 ← Prog.lift (.load sI (Rect.unit (s := S16x2048) (k0_off17 t) S1x16.size (k0_off17_inb t)).toLoadRect (View.loadsAt_vmem h_S1x16))
  have v146 : Vec F S16 .i32 := shapeCast S16 v146_ld shapeCasts_S1x16_S16
  have k0_hw16 : k0_chk16 (broadcast S16 15#32) v146 := (← Prog.lift (TpuEff.assume (k0_chk16 (broadcast S16 15#32) v146) (k0_chk16.dec (broadcast S16 15#32) v146))).down
  let v150_ld : Vec F S1x16 .f32 ← Prog.lift (.load sN (Rect.unit (s := S16x2048) (k0_off17 t) S1x16.size (k0_off17_inb t)).toLoadRect (View.loadsAt_vmem h_S1x16))
  have v150 : Vec F S16 .f32 := shapeCast S16 v150_ld shapeCasts_S1x16_S16
  SparseCore.vectorStoreIdx sO ![(broadcast S16 15#32), v146] v150 (fun _ => 1#1) false (k0_idx16_inb (broadcast S16 15#32) v146 k0_hw16) (View.stores_vmem_bits_univ h_S16x2048 rfl)
  pure ⟨⟩

set_option maxHeartbeats 2000000 in
include hI in
theorem trip (t : Fin k0_t2_loop.trips) :
    tile d L I N (fun _ => 16 * t.val)
      ⊢ wp frame (wpE (defs₀ (F := F)) 𝒱₀ (tV d L) none) Set.univ (chunk L t) fun _ => tile d L I N (fun _ => 16 * (t.val + 1)) := by
  have ht : t.val < 128 := t.isLt
  unfold chunk
  simp only [k0_part1, k0_part2, k0_part3, k0_part4, bind_assoc, pure_bind]
  rw [← bnd_zero t.val, ← bnd_last t.val]
  refine row (rv := broadcast S16 0#32) d L hI ⟨t.val, ht⟩ 0 (k0_off2_eq t) (fun _ => rfl) (fun _ h => h) (fun _ h => h) ?_
  refine row (rv := broadcast S16 1#32) d L hI ⟨t.val, ht⟩ 1 (k0_off3_eq t) (fun _ => rfl) (fun _ h => h) (fun _ h => h) ?_
  refine row (rv := broadcast S16 2#32) d L hI ⟨t.val, ht⟩ 2 (k0_off4_eq t) (fun _ => rfl) (fun _ h => h) (fun _ h => h) ?_
  refine row (rv := broadcast S16 3#32) d L hI ⟨t.val, ht⟩ 3 (k0_off5_eq t) (fun _ => rfl) (fun _ h => h) (fun _ h => h) ?_
  refine row (rv := broadcast S16 4#32) d L hI ⟨t.val, ht⟩ 4 (k0_off6_eq t) (fun _ => rfl) (fun _ h => h) (fun _ h => h) ?_
  refine row (rv := broadcast S16 5#32) d L hI ⟨t.val, ht⟩ 5 (k0_off7_eq t) (fun _ => rfl) (fun _ h => h) (fun _ h => h) ?_
  refine row (rv := broadcast S16 6#32) d L hI ⟨t.val, ht⟩ 6 (k0_off8_eq t) (fun _ => rfl) (fun _ h => h) (fun _ h => h) ?_
  refine row (rv := broadcast S16 7#32) d L hI ⟨t.val, ht⟩ 7 (k0_off9_eq t) (fun _ => rfl) (fun _ h => h) (fun _ h => h) ?_
  refine row (rv := broadcast S16 8#32) d L hI ⟨t.val, ht⟩ 8 (k0_off10_eq t) (fun _ => rfl) (fun _ h => h) (fun _ h => h) ?_
  refine row (rv := broadcast S16 9#32) d L hI ⟨t.val, ht⟩ 9 (k0_off11_eq t) (fun _ => rfl) (fun _ h => h) (fun _ h => h) ?_
  refine row (rv := broadcast S16 10#32) d L hI ⟨t.val, ht⟩ 10 (k0_off12_eq t) (fun _ => rfl) (fun _ h => h) (fun _ h => h) ?_
  refine row (rv := broadcast S16 11#32) d L hI ⟨t.val, ht⟩ 11 (k0_off13_eq t) (fun _ => rfl) (fun _ h => h) (fun _ h => h) ?_
  refine row (rv := broadcast S16 12#32) d L hI ⟨t.val, ht⟩ 12 (k0_off14_eq t) (fun _ => rfl) (fun _ h => h) (fun _ h => h) ?_
  refine row (rv := broadcast S16 13#32) d L hI ⟨t.val, ht⟩ 13 (k0_off15_eq t) (fun _ => rfl) (fun _ h => h) (fun _ h => h) ?_
  refine row (rv := broadcast S16 14#32) d L hI ⟨t.val, ht⟩ 14 (k0_off16_eq t) (fun _ => rfl) (fun _ h => h) (fun _ h => h) ?_
  refine row (rv := broadcast S16 15#32) d L hI ⟨t.val, ht⟩ 15 (k0_off17_eq t) (fun _ => rfl) (fun _ h => h) (fun _ h => h) ?_
  rw [wp_pure]
  iintro H
  imodintro
  iexact H

end Trip

end Cert.KernelIdeal.Own
end
-- ==== Proof.BodyKI.lean ====
module

public import proofs.«01_k».proof.Defs
public import proofs.«01_k».proof.Proof.Scat
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.TileKI

@[expose] public section

set_option maxRecDepth 16384

noncomputable section

namespace Cert.KernelIdeal.Own

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v2_scv : Memref Cert.KernelIdeal.sig Kind.scVector Space.hbm Cert.KernelIdeal.S12288x2048 EltTy.i32)
local notation "nV" => (Memref.whole Cert.KernelIdeal.main_v3_scv : Memref Cert.KernelIdeal.sig Kind.scVector Space.hbm Cert.KernelIdeal.S12288x2048 EltTy.f32)
local notation "oV" => (Memref.whole Cert.KernelIdeal.main_v4_scv : Memref Cert.KernelIdeal.sig Kind.scVector Space.hbm Cert.KernelIdeal.S12288x2048 EltTy.f32)
local notation "sI" => (Memref.whole Cert.KernelIdeal.cc0_scratch0 : Memref Cert.KernelIdeal.sig Kind.scVector Space.vmem Cert.KernelIdeal.S16x2048 EltTy.i32)
local notation "sN" => (Memref.whole Cert.KernelIdeal.cc0_scratch1 : Memref Cert.KernelIdeal.sig Kind.scVector Space.vmem Cert.KernelIdeal.S16x2048 EltTy.f32)
local notation "sO" => (Memref.whole Cert.KernelIdeal.cc0_scratch2 : Memref Cert.KernelIdeal.sig Kind.scVector Space.vmem Cert.KernelIdeal.S16x2048 EltTy.f32)

variable [FloatOps F]

/-! ## The task: twenty-four groups of sixteen rows -/

section Body

variable (d : Dev nD) (L : grid0.Coords)

/-- The rows the task at grid point `L` works on. -/
abbrev wid : Nat := 2 * (L 1).val + (L 0).val
abbrev rowsOf (w : Nat) : Finset S12288x2048.Idx := Finset.univ.filter fun j => (j 0).val / 384 = w

abbrev iSl (t : Fin k0_t1_loop.trips) : Memref sig .scVector .hbm S16x2048 .i32 := (iV).slice (Rect.unit (s := S12288x2048) (k0_off1 L t) S16x2048.size (k0_off1_inb L t)) (fun _ => rfl)
abbrev nSl (t : Fin k0_t1_loop.trips) : Memref sig .scVector .hbm S16x2048 .f32 := (nV).slice (Rect.unit (s := S12288x2048) (k0_off1 L t) S16x2048.size (k0_off1_inb L t)) (fun _ => rfl)
abbrev oSl (t : Fin k0_t1_loop.trips) : Memref sig .scVector .hbm S16x2048 .f32 := (oV).slice (Rect.unit (s := S12288x2048) (k0_off18 L t) S16x2048.size (k0_off18_inb L t)) (fun _ => rfl)

theorem wid_lt : wid L < 32 := by
  have h0 : (L 0).val < 2 := (L 0).isLt
  have h1 : (L 1).val < 16 := (L 1).isLt
  show 2 * (L 1).val + (L 0).val < 32
  omega

theorem row_lt (t : Fin k0_t1_loop.trips) (a : Fin 16) : 384 * wid L + 16 * t.val + a.val < 12288 := by
  have := wid_lt L; have : t.val < 24 := t.isLt; omega

theorem iSl_emb (t : Fin k0_t1_loop.trips) (a : Fin 16) (j : Fin 2048) : (iSl L t).view.emb (at2 a j) = atB ⟨384 * wid L + 16 * t.val + a.val, row_lt L t a⟩ j := by
  funext b; apply Fin.ext
  show k0_off1 L t b + 1 * (at2 a j b).val = _
  rw [k0_off1_eq]
  match b with
  | 0 => show 768 * (L 1).val + 384 * (L 0).val + 16 * t.val + 1 * a.val = 384 * (2 * (L 1).val + (L 0).val) + 16 * t.val + a.val; omega
  | 1 => show 0 + 1 * j.val = j.val; omega

theorem oSl_emb (t : Fin k0_t1_loop.trips) (a : Fin 16) (j : Fin 2048) : (oSl L t).view.emb (at2 a j) = atB ⟨384 * wid L + 16 * t.val + a.val, row_lt L t a⟩ j := by
  funext b; apply Fin.ext
  show k0_off18 L t b + 1 * (at2 a j b).val = _
  rw [k0_off18_eq]
  match b with
  | 0 => show 768 * (L 1).val + 384 * (L 0).val + 16 * t.val + 1 * a.val = 384 * (2 * (L 1).val + (L 0).val) + 16 * t.val + a.val; omega
  | 1 => show 0 + 1 * j.val = j.val; omega

theorem mem_oSl (t : Fin k0_t1_loop.trips) {p : S12288x2048.Idx} (h : p ∈ (oSl L t).view.set) : ∃ a j, p = atB ⟨384 * wid L + 16 * t.val + a.val, row_lt L t a⟩ j := by
  obtain ⟨x, -, rfl⟩ := Finset.mem_map.mp h
  exact ⟨x 0, x 1, by rw [at2_eta x]; exact oSl_emb L t _ _⟩

theorem iSl_sub (t : Fin k0_t1_loop.trips) : (iSl L t).view.set ⊆ rowsOf (wid L) := by
  intro p h
  obtain ⟨x, -, rfl⟩ := Finset.mem_map.mp h
  obtain ⟨a, j, rfl⟩ : ∃ (a : Fin 16) (j : Fin 2048), x = at2 a j := ⟨x 0, x 1, at2_eta x⟩
  rw [iSl_emb]
  refine Finset.mem_filter.mpr ⟨Finset.mem_univ _, ?_⟩
  show (384 * wid L + 16 * t.val + a.val) / 384 = wid L
  have : t.val < 24 := t.isLt; omega

theorem nSl_sub (t : Fin k0_t1_loop.trips) : (nSl L t).view.set ⊆ rowsOf (wid L) := iSl_sub L t

theorem oSl_sub (t : Fin k0_t1_loop.trips) : (oSl L t).view.set ⊆ rowsOf (wid L) := by
  intro p h
  obtain ⟨a, j, rfl⟩ := mem_oSl L t h
  refine Finset.mem_filter.mpr ⟨Finset.mem_univ _, ?_⟩
  show (384 * wid L + 16 * t.val + a.val) / 384 = wid L
  have : t.val < 24 := t.isLt; omega

variable (I : Vec F SB .i32) (N : Vec F SB .f32)

/-- What the write-out of a group leaves in the output array that held `o`. -/
abbrev put (t : Fin k0_t1_loop.trips) (o : Vec F SB .f32) (x : Vec F SG .f32) : Vec F SB .f32 :=
  ((oSl L t).view.slice (Rect.whole S16x2048)).write (Elt F) o x Finset.univ

theorem put_in (t : Fin k0_t1_loop.trips) (o : Vec F SB .f32) (x : Vec F SG .f32) (a : Fin 16) (j : Fin 2048) :
    put L t o x (atB ⟨384 * wid L + 16 * t.val + a.val, row_lt L t a⟩ j) = x (at2 a j) := by
  have e : ((oSl L t).view.slice (Rect.whole S16x2048)).emb (at2 a j) = atB ⟨384 * wid L + 16 * t.val + a.val, row_lt L t a⟩ j :=
    (congrArg (oSl L t).view.emb (Rect.emb_whole_apply _ _)).trans (oSl_emb L t a j)
  show put L t o x _ = _
  rw [← e]
  exact (View.write_emb_of_mem _ _ (Finset.mem_univ _)).trans (cast_eq _ _)

theorem put_out (t : Fin k0_t1_loop.trips) (o : Vec F SB .f32) (x : Vec F SG .f32) {p : S12288x2048.Idx} (h : p ∉ (oSl L t).view.set) :
    put L t o x p = o p :=
  View.write_of_not_mem _ _ _ fun hm => h (View.set_slice_subset _ _ (by rwa [View.setOn_univ] at hm))

/-- A group's tiles put back: the sixteen rows of the output are the scattered ones, the rows before them as they were. -/
theorem group_good (t : Fin k0_t1_loop.trips) {o : Vec F SB .f32} {x : Vec F SG .f32}
    (ho : GoodB I N o (384 * wid L) (384 * wid L + 16 * t.val))
    (hg : Good ((iSl L t).view.read (Elt F) I) ((nSl L t).view.read (Elt F) N) x fun _ => 2048) :
    GoodB I N (put L t o x) (384 * wid L) (384 * wid L + 16 * (t.val + 1)) := by
  have ht : t.val < 24 := t.isLt
  have hw := wid_lt L
  have e : 384 * wid L + 16 * (t.val + 1) = 384 * wid L + 16 * t.val + 16 := by omega
  rw [e]
  refine goodB_step (by omega) ho hg ?_ ?_ (put_in L t o x) ?_
  · intro a j; rw [View.read_apply, iSl_emb]; exact cast_eq _ _
  · intro a j
    rw [View.read_apply, show (nSl L t).view.emb (at2 a j) = _ from iSl_emb L t a j]; exact cast_eq _ _
  · intro r j hr
    refine put_out L t o x fun h => ?_
    obtain ⟨a, k, hp⟩ := mem_oSl L t h
    have : r.val = 384 * wid L + 16 * t.val + a.val := congrArg Fin.val (congrFun hp 0)
    omega

omit [FloatOps F] in
theorem join_i (t : Fin k0_t1_loop.trips) {R : Finset S12288x2048.Idx} (hR : rowsOf (wid L) \ (iSl L t).view.set = R) :
    iprop(((iSl L t).view.loc (tV d L) ↦[(iSl L t).view.set]{fullShare} I) ∗ ((iV).view.loc (tV d L) ↦[R]{fullShare} I))
      ⊢ ((iV).view.loc (tV d L) ↦[rowsOf (wid L)]{fullShare} I : sProp 𝕄) := by
  subst hR
  exact (sep_mono_left (show ((iSl L t).view.loc (tV d L) ↦[(iSl L t).view.set]{fullShare} I : sProp 𝕄)
    ⊢ ((iV).view.loc (tV d L) ↦[(iSl L t).view.set]{fullShare} I) from .rfl)).trans
    (pointsTo_split_subset (ℓ := (iV).view.loc (tV d L)) (q := fullShare) (f := I) (iSl_sub L t)).2

omit [FloatOps F] in
theorem join_n (t : Fin k0_t1_loop.trips) {R : Finset S12288x2048.Idx} (hR : rowsOf (wid L) \ (nSl L t).view.set = R) :
    iprop(((nSl L t).view.loc (tV d L) ↦[(nSl L t).view.set]{fullShare} N) ∗ ((nV).view.loc (tV d L) ↦[R]{fullShare} N))
      ⊢ ((nV).view.loc (tV d L) ↦[rowsOf (wid L)]{fullShare} N : sProp 𝕄) := by
  subst hR
  exact (sep_mono_left (show ((nSl L t).view.loc (tV d L) ↦[(nSl L t).view.set]{fullShare} N : sProp 𝕄)
    ⊢ ((nV).view.loc (tV d L) ↦[(nSl L t).view.set]{fullShare} N) from .rfl)).trans
    (pointsTo_split_subset (ℓ := (nV).view.loc (tV d L)) (q := fullShare) (f := N) (nSl_sub L t)).2

/-- The group's rows, written out, and the task's other rows are the task's rows, with sixteen more of them done. -/
theorem join_o (t : Fin k0_t1_loop.trips) {R : Finset S12288x2048.Idx} (hR : rowsOf (wid L) \ (oSl L t).view.set = R)
    {o : Vec F SB .f32} {x g : Vec F SG .f32} (hx : x = g) (ho : GoodB I N o (384 * wid L) (384 * wid L + 16 * t.val))
    (hg : Good ((iSl L t).view.read (Elt F) I) ((nSl L t).view.read (Elt F) N) g fun _ => 2048) :
    iprop(((oSl L t).view.loc (tV d L) ↦[(oSl L t).view.set]{fullShare} (oSl L t).view.writes (Elt F) o [⟨Rect.whole S16x2048, x⟩])
        ∗ ((oV).view.loc (tV d L) ↦[R]{fullShare} o))
      ⊢ (iprop(∃ o', ⌜GoodB I N o' (384 * wid L) (384 * wid L + 16 * (t.val + 1))⌝ ∗ ((oV).view.loc (tV d L) ↦[rowsOf (wid L)]{fullShare} o')) : sProp 𝕄) := by
  subst hR hx
  have hg' := group_good L I N t ho hg
  have hp : ∀ p ∉ (oSl L t).view.set, put L t o x p = o p := fun p hp => put_out L t o x hp
  have e1 : ((oSl L t).view.loc (tV d L) ↦[(oSl L t).view.set]{fullShare} (oSl L t).view.writes (Elt F) o [⟨Rect.whole S16x2048, x⟩] : sProp 𝕄)
      ⊢ ((oV).view.loc (tV d L) ↦[(oSl L t).view.set]{fullShare} put L t o x) := .rfl
  refine (sep_mono_left e1).trans ?_
  generalize put L t o x = w at hg' hp
  have e : ((oV).view.loc (tV d L) ↦[rowsOf (wid L) \ (oSl L t).view.set]{fullShare} o : sProp 𝕄)
      = ((oV).view.loc (tV d L) ↦[rowsOf (wid L) \ (oSl L t).view.set]{fullShare} w) :=
    pointsTo_congr fun p h => (hp p (Finset.mem_sdiff.mp h).2).symm
  rw [e]
  have e3 : ((oV).view.loc (tV d L) ↦[rowsOf (wid L)]{fullShare} w : sProp 𝕄)
      ⊢ (iprop(∃ o', ⌜GoodB I N o' (384 * wid L) (384 * wid L + 16 * (t.val + 1))⌝ ∗ ((oV).view.loc (tV d L) ↦[rowsOf (wid L)]{fullShare} o')) : sProp 𝕄) := by
    iintro H
    iexists w
    isplitr
    · ipureintro; exact hg'
    · iexact H
  exact BI.Entails.trans (pointsTo_split_subset (ℓ := (oV).view.loc (tV d L)) (q := fullShare) (f := w) (oSl_sub L t)).2 e3

abbrev cell0 : GSem nD τ sig := (tV d L, .dma cc0_scoped0.sem)
abbrev cell1 : GSem nD τ sig := (tV d L, .dma cc0_scoped1.sem)
abbrev cell2 : GSem nD τ sig := (tV d L, .dma cc0_scoped2.sem)

/-- Before group `t`: the rows of the three arrays, the scratch tiles at anything, the counters at zero, the task's debts. -/
def inv (O : CellTallies nD τ sig (HIx 1)) (W : Waits sig (HIx 1)) (t : Nat) (_ : PUnit.{1}) : sProp 𝕄 :=
  iprop(Transfers.MayWaits (tV d L) (default : HIx 1) O
    ∗ ((iV).view.loc (tV d L) ↦[rowsOf (wid L)]{fullShare} I)
    ∗ ((nV).view.loc (tV d L) ↦[rowsOf (wid L)]{fullShare} N)
    ∗ (∃ o, ⌜GoodB I N o (384 * wid L) (384 * wid L + 16 * t)⌝ ∗ ((oV).view.loc (tV d L) ↦[rowsOf (wid L)]{fullShare} o))
    ∗ (∃ f, (sI).view.loc (tV d L) ↦{fullShare} f) ∗ (∃ f, (sN).view.loc (tV d L) ↦{fullShare} f) ∗ (∃ f, (sO).view.loc (tV d L) ↦{fullShare} f)
    ∗ semVal (cell0 d L) 0 ∗ semVal (cell1 d L) 0 ∗ semVal (cell2 d L) 0
    ∗ ∃ W', ⌜∀ p ∈ W', p ∈ W ∨ p.2 = none⌝ ∗ owes (tV d L) O W')

set_option maxHeartbeats 1000000 in
/-- THE TASK, from its rows to its rows: every group is fetched, scattered in the tiles, and written out. -/
theorem task (O : CellTallies nD τ sig (HIx 1)) (W : Waits sig (HIx 1)) (hI : ∀ p, (I p).toNat < 2048) :
    inv d L I N O W 0 ⟨⟩
      ⊢ wp frame (wpE (defs₀ (F := F)) 𝒱₀ (tV d L) none) Set.univ
          (cc0_scatter_kernel L iV (Memref.isWhole_whole _) nV (Memref.isWhole_whole _) oV (Memref.isWhole_whole _)
            sI (Memref.isWhole_whole _) sN (Memref.isWhole_whole _) sO (Memref.isWhole_whole _) cc0_scoped0 cc0_scoped1 cc0_scoped2)
          fun _ => inv d L I N O W 24 ⟨⟩ := by
  unfold cc0_scatter_kernel
  iintro HI
  sl_exec
  sl_for (inv d L I N O W) $$ [HI]
  case region =>
    intro t _
    unfold inv
    iintro ⟨Hmw, Hi, Hn, ⟨%o, %ho, Ho⟩, ⟨%f0, H0⟩, ⟨%f1, H1⟩, ⟨%f2, H2⟩, Hs0, Hs1, Hs2, %W', %hW', HO⟩
    ihave Hi := (pointsTo_split_subset (q := fullShare) (f := I) (iSl_sub L t)).1 $$ Hi
    icases Hi with ⟨Hi, Hir⟩
    ihave Hi := (show ((iV).view.loc (tV d L) ↦[(iSl L t).view.set]{fullShare} I : sProp 𝕄) ⊢ ((iSl L t).view.loc (tV d L) ↦[(iSl L t).view.set]{fullShare} I) from .rfl) $$ Hi
    ihave Hn := (pointsTo_split_subset (q := fullShare) (f := N) (nSl_sub L t)).1 $$ Hn
    icases Hn with ⟨Hn, Hnr⟩
    ihave Hn := (show ((nV).view.loc (tV d L) ↦[(nSl L t).view.set]{fullShare} N : sProp 𝕄) ⊢ ((nSl L t).view.loc (tV d L) ↦[(nSl L t).view.set]{fullShare} N) from .rfl) $$ Hn
    ihave Ho := (pointsTo_split_subset (q := fullShare) (f := o) (oSl_sub L t)).1 $$ Ho
    icases Ho with ⟨Ho, Hor⟩
    ihave Ho := (show ((oV).view.loc (tV d L) ↦[(oSl L t).view.set]{fullShare} o : sProp 𝕄) ⊢ ((oSl L t).view.loc (tV d L) ↦[(oSl L t).view.set]{fullShare} o) from .rfl) $$ Ho
    generalize hRi : rowsOf (wid L) \ (iSl L t).view.set = Ri
    generalize hRn : rowsOf (wid L) \ (nSl L t).view.set = Rn
    generalize hRo : rowsOf (wid L) \ (oSl L t).view.set = Ro
    sl_exec (disch := exact View.amount_pos _ _ (show 0 < S16x2048.numel by decide))
    ihave H0 := (show ((sI).view.loc (tV d L) ↦{fullShare} View.write (Elt F) (sI).view f0 (task.sl.dma0 L I t) Finset.univ : sProp 𝕄)
        ⊢ ((sI).view.loc (tV d L) ↦{fullShare} (iSl L t).view.read (Elt F) I) from
      .of_eq (congrArg (fun f => ((sI).view.loc (tV d L) ↦{fullShare} f : sProp 𝕄)) (View.write_whole_univ _ _ _))) $$ H0
    ihave H1 := (show ((sN).view.loc (tV d L) ↦{fullShare} View.write (Elt F) (sN).view f1 (task.sl.dma0_1 L N t) Finset.univ : sProp 𝕄)
        ⊢ ((sN).view.loc (tV d L) ↦{fullShare} (nSl L t).view.read (Elt F) N) from
      .of_eq (congrArg (fun f => ((sN).view.loc (tV d L) ↦{fullShare} f : sProp 𝕄)) (View.write_whole_univ _ _ _))) $$ H1
    sl_for (fun k _ => tile d L ((iSl L t).view.read (Elt F) I) ((nSl L t).view.read (Elt F) N) fun _ => 16 * k) $$ [H0 H1 H2]
    case region =>
      intro k _
      exact trip d L (fun p => by rw [View.read_apply]; exact hI _) k
    · unfold tile
      isplitl [H0]; · iexact H0
      isplitl [H1]; · iexact H1
      iexists f2
      isplitr
      · ipureintro; exact good_zero _ _ _
      · iexact H2
    iintro %_ HT
    unfold tile
    icases HT with ⟨H0, H1, %g, %hg, H2⟩
    sl_exec (disch := exact View.amount_pos _ _ (show 0 < S16x2048.numel by decide))
    ihave Ho := (join_o d L I N t hRo (x := task.sl.dma0_2 g) (g := g) rfl ho hg) $$ [Ho Hor]
    · isplitl [Ho]; · iexact Ho
      iexact Hor
    ihave Hi := (join_i d L I t hRi) $$ [Hi Hir]
    · isplitl [Hi]; · iexact Hi
      iexact Hir
    ihave Hn := (join_n d L N t hRn) $$ [Hn Hnr]
    · isplitl [Hn]; · iexact Hn
      iexact Hnr
    sl_step
    isplitl [Hmw]; · iexact Hmw
    isplitl [Hi]; · iexact Hi
    isplitl [Hn]; · iexact Hn
    isplitl [Ho]; · iexact Ho
    isplitl [H0]; · iexists _; iexact H0
    isplitl [H1]; · iexists _; iexact H1
    isplitl [H2]; · iexists _; iexact H2
    isplitl [Hs0]; · iexact Hs0
    isplitl [Hs1]; · iexact Hs1
    isplitl [Hs2]; · iexact Hs2
    iexists (insert (SemLoc.dma cc0_scoped2.sem, (default : HIx 1)) (insert (SemLoc.dma cc0_scoped1.sem, (default : HIx 1)) (insert (SemLoc.dma cc0_scoped0.sem, (default : HIx 1)) W')))
    isplitr
    · ipureintro; intro p hp
      simp only [Finset.mem_insert] at hp
      rcases hp with rfl | rfl | rfl | hp
      · exact .inr rfl
      · exact .inr rfl
      · exact .inr rfl
      · exact hW' p hp
    · iexact HO
  · iexact HI
  iintro %_ HI
  sl_exec
  sl_step
  iexact HI

end Body

end Cert.KernelIdeal.Own
end
-- ==== Proof.TaskKI.lean ====
module

public import proofs.«01_k».proof.Defs
public import proofs.«01_k».proof.Proof.Scat
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.BodyKI

@[expose] public section

set_option maxRecDepth 16384

noncomputable section

namespace Cert.KernelIdeal.Own

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v2_scv : Memref Cert.KernelIdeal.sig Kind.scVector Space.hbm Cert.KernelIdeal.S12288x2048 EltTy.i32)
local notation "nV" => (Memref.whole Cert.KernelIdeal.main_v3_scv : Memref Cert.KernelIdeal.sig Kind.scVector Space.hbm Cert.KernelIdeal.S12288x2048 EltTy.f32)
local notation "oV" => (Memref.whole Cert.KernelIdeal.main_v4_scv : Memref Cert.KernelIdeal.sig Kind.scVector Space.hbm Cert.KernelIdeal.S12288x2048 EltTy.f32)
local notation "sI" => (Memref.whole Cert.KernelIdeal.cc0_scratch0 : Memref Cert.KernelIdeal.sig Kind.scVector Space.vmem Cert.KernelIdeal.S16x2048 EltTy.i32)
local notation "sN" => (Memref.whole Cert.KernelIdeal.cc0_scratch1 : Memref Cert.KernelIdeal.sig Kind.scVector Space.vmem Cert.KernelIdeal.S16x2048 EltTy.f32)
local notation "sO" => (Memref.whole Cert.KernelIdeal.cc0_scratch2 : Memref Cert.KernelIdeal.sig Kind.scVector Space.vmem Cert.KernelIdeal.S16x2048 EltTy.f32)

variable [FloatOps F]

/-! ## The task: twenty-four groups of sixteen rows -/

section Task

/-! ## What the call hands its cores and its tasks, and what they hand back -/

abbrev iLoc (d : Dev nD) : Loc nD τ sig := (SparseCore.T d).loc main_v2
abbrev nLoc (d : Dev nD) : Loc nD τ sig := (SparseCore.T d).loc main_v3
abbrev oLoc (d : Dev nD) : Loc nD τ sig := (SparseCore.T d).loc main_v4

variable (I : Dev nD → Vec F SB .i32) (N : Dev nD → Vec F SB .f32)

/-- The rows of core `c`: those of its sixteen tasks. -/
def rowsC (c : Nat) : Finset S12288x2048.Idx := Finset.univ.biUnion fun i : Fin 16 => rowsOf (2 * i.val + c)

/-- On the positions of `S`, `o` holds what the rows of `I` that name no column twice send there. -/
def Done (I : Vec F SB .i32) (N o : Vec F SB .f32) (S : Finset S12288x2048.Idx) : Prop :=
  ∀ r, RowInjB I r → ∀ (j : Fin 2048) (h : (I (atB r j)).toNat < 2048), atB r ⟨(I (atB r j)).toNat, h⟩ ∈ S → o (atB r ⟨(I (atB r j)).toNat, h⟩) = N (atB r j)

theorem done_of_good {I : Vec F SB .i32} {N o : Vec F SB .f32} {w : Nat} (h : GoodB I N o (384 * w) (384 * w + 16 * 24)) : Done I N o (rowsOf w) := by
  intro r hr j hj hm
  have e : r.val / 384 = w := (Finset.mem_filter.mp hm).2
  exact h r (by omega) (by omega) hr j hj

theorem done_join {T : Type} {I : Vec F SB .i32} {N : Vec F SB .f32} [Fintype T] {sets : T → Finset S12288x2048.Idx} {fs : T → Vec F SB .f32} {g : Vec F SB .f32}
    (h : ∀ t, Done I N (fs t) (sets t)) (hg : ∀ t, ∀ i ∈ sets t, g i = fs t i) : Done I N g (Finset.univ.biUnion sets) := by
  intro r hr j hj hm
  obtain ⟨t, -, ht⟩ := Finset.mem_biUnion.mp hm
  rw [hg t _ ht]; exact h t r hr j hj ht

def P : (K (F := F)).Pay (nD := nD) (Val := Elt F) (Name := ℕ) (U := UU) where
  st := fun q d c => match q with
    | 0 => iprop((iLoc d ↦[rowsC c.val]{fullShare} I d) ∗ (nLoc d ↦[rowsC c.val]{fullShare} N d) ∗ ∃ o, oLoc d ↦[rowsC c.val]{fullShare} o)
  dn := fun q d c => match q with
    | 0 => iprop((iLoc d ↦[rowsC c.val]{fullShare} I d) ∗ (nLoc d ↦[rowsC c.val]{fullShare} N d)
        ∗ ∃ o, ⌜Done (I d) (N d) o (rowsC c.val)⌝ ∗ oLoc d ↦[rowsC c.val]{fullShare} o)
  go := fun q d c i => match q with
    | 0 => iprop((iLoc d ↦[rowsOf (2 * i.val + c.val)]{fullShare} I d) ∗ (nLoc d ↦[rowsOf (2 * i.val + c.val)]{fullShare} N d)
        ∗ ∃ o, oLoc d ↦[rowsOf (2 * i.val + c.val)]{fullShare} o)
  td := fun q d c i => match q with
    | 0 => iprop((iLoc d ↦[rowsOf (2 * i.val + c.val)]{fullShare} I d) ∗ (nLoc d ↦[rowsOf (2 * i.val + c.val)]{fullShare} N d)
        ∗ ∃ o, ⌜Done (I d) (N d) o (rowsOf (2 * i.val + c.val))⌝ ∗ oLoc d ↦[rowsOf (2 * i.val + c.val)]{fullShare} o)
  x := fun _ _ => iprop(emp)

instance P_storable : (P I N).IsStorable where
  st := fun q d c => match q with | 0 => (inferInstance : BI.Storable (upEmb : UEmb _ 𝕄)
    iprop((iLoc d ↦[rowsC c.val]{fullShare} I d) ∗ (nLoc d ↦[rowsC c.val]{fullShare} N d) ∗ ∃ o, oLoc d ↦[rowsC c.val]{fullShare} o))
  dn := fun q d c => match q with | 0 => (inferInstance : BI.Storable (upEmb : UEmb _ 𝕄)
    iprop((iLoc d ↦[rowsC c.val]{fullShare} I d) ∗ (nLoc d ↦[rowsC c.val]{fullShare} N d)
        ∗ ∃ o, ⌜Done (I d) (N d) o (rowsC c.val)⌝ ∗ oLoc d ↦[rowsC c.val]{fullShare} o))
  go := fun q d c i => match q with | 0 => (inferInstance : BI.Storable (upEmb : UEmb _ 𝕄)
    iprop((iLoc d ↦[rowsOf (2 * i.val + c.val)]{fullShare} I d) ∗ (nLoc d ↦[rowsOf (2 * i.val + c.val)]{fullShare} N d)
        ∗ ∃ o, oLoc d ↦[rowsOf (2 * i.val + c.val)]{fullShare} o))
  td := fun q d c i => match q with | 0 => (inferInstance : BI.Storable (upEmb : UEmb _ 𝕄)
    iprop((iLoc d ↦[rowsOf (2 * i.val + c.val)]{fullShare} I d) ∗ (nLoc d ↦[rowsOf (2 * i.val + c.val)]{fullShare} N d)
        ∗ ∃ o, ⌜Done (I d) (N d) o (rowsOf (2 * i.val + c.val))⌝ ∗ oLoc d ↦[rowsOf (2 * i.val + c.val)]{fullShare} o))

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## One task, as the launch runs it -/

section Tile

variable (d : Dev nD) (L : grid0.Coords)

omit [FloatOps F] in
theorem ownSems0_V :
    (ownSems0 (V d (cV L) (jV L)) : sProp 𝕄)
      = iprop(semVal (cell0 d L) 0 ∗ semVal (cell1 d L) 0 ∗ semVal (cell2 d L) 0
          ∗ bigSep ((((ownCells (V d (cV L) (jV L))).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

omit [FloatOps F] in
/-- The three scratch tiles are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

theorem tile_body (hI : ∀ d p, (I d p).toNat < 2048) (hF : (K (F := F)).Facts) (O : CellTallies nD τ sig (HIx 1)) (W : Waits sig (HIx 1)) (hO : ∀ g, O g none = 0) :
    (iprop(levAts (K (F := F)).L (K (F := F)).lev ∗ emp
        ∗ ((iLoc d ↦[rowsOf (wid L)]{fullShare} I d) ∗ (nLoc d ↦[rowsOf (wid L)]{fullShare} N d) ∗ ∃ o, oLoc d ↦[rowsOf (wid L)]{fullShare} o)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_scatter_kernel L iV (Memref.isWhole_whole _) nV (Memref.isWhole_whole _) oV (Memref.isWhole_whole _)
            sI (Memref.isWhole_whole _) sN (Memref.isWhole_whole _) sO (Memref.isWhole_whole _) cc0_scoped0 cc0_scoped1 cc0_scoped2)
          fun _ => iprop(((iLoc d ↦[rowsOf (wid L)]{fullShare} I d) ∗ (nLoc d ↦[rowsOf (wid L)]{fullShare} N d)
              ∗ ∃ o, ⌜Done (I d) (N d) o (rowsOf (wid L))⌝ ∗ oLoc d ↦[rowsOf (wid L)]{fullShare} o)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hi, Hn, %o, Ho⟩, ⟨⟨%f0, H0⟩, ⟨%f1, H1⟩, ⟨%f2, H2⟩, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r Idealize.ShloMosaic.frame (wpE (defs₀ (F := F)) 𝒱₀ (V d (cV L) (jV L)) none) Set.univ)
  isplitl [Hmw Hi Hn Ho H0 H1 H2 Hs0 Hs1 Hs2 HO]
  · iapply (task d L (I d) (N d) O W (hI d))
    unfold inv
    isplitl [Hmw]; · iexact Hmw
    isplitl [Hi]; · iexact Hi
    isplitl [Hn]; · iexact Hn
    isplitl [Ho]
    · iexists o
      isplitr
      · ipureintro; exact goodB_zero _ _ _ _
      · iexact Ho
    isplitl [H0]; · iexists f0; iexact H0
    isplitl [H1]; · iexists f1; iexact H1
    isplitl [H2]; · iexists f2; iexact H2
    isplitl [Hs0]; · iexact Hs0
    isplitl [Hs1]; · iexact Hs1
    isplitl [Hs2]; · iexact Hs2
    iexists W
    isplitr
    · ipureintro; exact fun p hp => .inl hp
    · iexact HO
  iintro %_ HI
  unfold inv
  icases HI with ⟨-, Hi, Hn, ⟨%o', %ho', Ho⟩, ⟨%g0, H0⟩, ⟨%g1, H1⟩, ⟨%g2, H2⟩, Hs0, Hs1, Hs2, HO⟩
  isplitl [Hi Hn Ho]
  · isplitl [Hi]; · iexact Hi
    isplitl [Hn]; · iexact Hn
    iexists o'
    isplitr
    · ipureintro; exact done_of_good ho'
    · iexact Ho
  isplitl [H0 H1 H2 Hbufs]
  · isplitl [H0]; · iexists g0; iexact H0
    isplitl [H1]; · iexists g1; iexact H1
    isplitl [H2]; · iexists g2; iexact H2
    iexact Hbufs
  isplitl [Hs0 Hs1 Hs2 Hsems]
  · isplitl [Hs0]; · iexact Hs0
    isplitl [Hs1]; · iexact Hs1
    isplitl [Hs2]; · iexact Hs2
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_scatter_kernel (coordsV c s) iV (Memref.isWhole_whole _) nV (Memref.isWhole_whole _) oV (Memref.isWhole_whole _)
            sI (Memref.isWhole_whole _) sN (Memref.isWhole_whole _) sO (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hI : ∀ d p, (I d p).toNat < 2048) (hF : (K (F := F)).Facts) : (K (F := F)).TileObl (D (F := F)) 𝒱 (P I N) v₀ 0 := by
  intro d c i O W hO _ _
  simp only [show (P I N).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I N d (coordsV ⟨_, hci.1⟩ ⟨_, hci.2⟩) hI hF O W hO).trans (wp_mono frame _ _ fun _ => obl_post)

end Tile

/-! ## The rows split among the tasks, and join -/

omit [FloatOps F] in
theorem rowsOf_disjoint {v w : Nat} (h : v ≠ w) : Disjoint (rowsOf v) (rowsOf w) :=
  Finset.disjoint_left.mpr fun _ hv hw => h ((Finset.mem_filter.mp hv).2.symm.trans (Finset.mem_filter.mp hw).2)

omit [FloatOps F] in
theorem tasks_disjoint (c : Nat) : ∀ i ∈ (Finset.univ : Finset (Fin 16)), ∀ j ∈ (Finset.univ : Finset (Fin 16)), i ≠ j →
    Disjoint (rowsOf (2 * i.val + c)) (rowsOf (2 * j.val + c)) :=
  fun i _ j _ h => rowsOf_disjoint fun e => h (Fin.ext (by omega))

omit [FloatOps F] in
theorem mem_rowsC {c : Nat} {p : S12288x2048.Idx} (h : p ∈ rowsC c) : ∃ i : Fin 16, (p 0).val / 384 = 2 * i.val + c := by
  obtain ⟨i, -, hi⟩ := Finset.mem_biUnion.mp h
  exact ⟨i, (Finset.mem_filter.mp hi).2⟩

omit [FloatOps F] in
theorem cores_disjoint : ∀ i ∈ (Finset.univ : Finset (Fin 2)), ∀ j ∈ (Finset.univ : Finset (Fin 2)), i ≠ j → Disjoint (rowsC i.val) (rowsC j.val) :=
  fun i _ j _ h => Finset.disjoint_left.mpr fun p hi hj => h (by
    obtain ⟨a, ha⟩ := mem_rowsC hi
    obtain ⟨b, hb⟩ := mem_rowsC hj
    exact Fin.ext (by have := i.isLt; have := j.isLt; omega))

omit [FloatOps F] in
theorem cores_cover : (Finset.univ : Finset (Fin 2)).biUnion (fun c => rowsC c.val) = Finset.univ := by
  refine Finset.eq_univ_iff_forall.mpr fun p => ?_
  have hp : (p 0).val < 12288 := (p 0).isLt
  refine Finset.mem_biUnion.mpr ⟨⟨(p 0).val / 384 % 2, by omega⟩, Finset.mem_univ _, ?_⟩
  refine Finset.mem_biUnion.mpr ⟨⟨(p 0).val / 384 / 2, by omega⟩, Finset.mem_univ _, ?_⟩
  refine Finset.mem_filter.mpr ⟨Finset.mem_univ _, ?_⟩
  show (p 0).val / 384 = 2 * ((p 0).val / 384 / 2) + (p 0).val / 384 % 2
  omega

omit [FloatOps F] in
/-- Parts of one buffer, each at contents of which `φ` holds, are their union at contents that agree with each. -/
theorem join_parts {n : Nat} {ℓ : Loc nD τ sig} (f₀ : Buf (Elt F) ℓ) (sets : Fin n → Finset (Idx ℓ)) (φ : Fin n → Buf (Elt F) ℓ → Prop) (Φ : Buf (Elt F) ℓ → Prop)
    (hd : ∀ i ∈ (Finset.univ : Finset (Fin n)), ∀ j ∈ (Finset.univ : Finset (Fin n)), i ≠ j → Disjoint (sets i) (sets j))
    (h : ∀ (fs : Fin n → Buf (Elt F) ℓ) g, (∀ t, φ t (fs t)) → (∀ t, ∀ i ∈ sets t, g i = fs t i) → Φ g) :
    (bigSep Finset.univ fun t : Fin n => iprop(∃ f, ⌜φ t f⌝ ∗ ℓ ↦[sets t]{fullShare} f))
      ⊢ (iprop(∃ g, ⌜Φ g⌝ ∗ ℓ ↦[Finset.univ.biUnion sets]{fullShare} g) : sProp 𝕄) := by
  have : Nonempty (Buf (Elt F) ℓ) := ⟨f₀⟩
  refine (bigSep_exists_pi Finset.univ (fun t (f : Buf (Elt F) ℓ) => iprop(⌜φ t f⌝ ∗ ℓ ↦[sets t]{fullShare} f))).trans ?_
  iintro ⟨%fs, H⟩
  ihave H := (bigSep_pure_sep Finset.univ (fun t => φ t (fs t)) (fun t => (ℓ ↦[sets t]{fullShare} fs t : sProp 𝕄))) $$ H
  icases H with ⟨%hφ, H⟩
  ihave H' := (pointsTo_biUnion_join (ℓ := ℓ) (q := fullShare) (Val := Elt F) Finset.univ sets fs f₀ hd) $$ H
  icases H' with ⟨%g, %hg, Hg⟩
  iexists g
  isplitr
  · ipureintro; exact h fs g (fun t => hφ t (Finset.mem_univ t)) fun t i hi => hg t (Finset.mem_univ t) i hi
  · iexact Hg

omit [FloatOps F] in
/-- One buffer at one contents, in parts. -/
theorem split_parts {n : Nat} {ℓ : Loc nD τ sig} (sets : Fin n → Finset (Idx ℓ)) (f : Buf (Elt F) ℓ)
    (hd : ∀ i ∈ (Finset.univ : Finset (Fin n)), ∀ j ∈ (Finset.univ : Finset (Fin n)), i ≠ j → Disjoint (sets i) (sets j)) :
    (ℓ ↦[Finset.univ.biUnion sets]{fullShare} f : sProp 𝕄) = bigSep Finset.univ fun t => ℓ ↦[sets t]{fullShare} f :=
  pointsTo_biUnion Finset.univ (ℓ := ℓ) sets hd

omit [FloatOps F] in
theorem ex_parts {n : Nat} {ℓ : Loc nD τ sig} (sets : Fin n → Finset (Idx ℓ)) (f : Buf (Elt F) ℓ) :
    (bigSep Finset.univ fun t => ℓ ↦[sets t]{fullShare} f) ⊢ (bigSep Finset.univ fun t => iprop(∃ f, ℓ ↦[sets t]{fullShare} f) : sProp 𝕄) :=
  bigSep_mono fun t _ => show (ℓ ↦[sets t]{fullShare} f : sProp 𝕄) ⊢ (iprop(∃ f, ℓ ↦[sets t]{fullShare} f) : sProp 𝕄) by
    iintro H; iexists f; iexact H

theorem vecSplit : (K (F := F)).VecSplit' (P I N) 0 := by
  intro d c
  show iprop((iLoc d ↦[rowsC c.val]{fullShare} I d) ∗ (nLoc d ↦[rowsC c.val]{fullShare} N d) ∗ ∃ o, oLoc d ↦[rowsC c.val]{fullShare} o) ⊢ |={Set.univ}=> iprop(
      (bigSep Finset.univ fun i : Fin 16 =>
        iprop((iLoc d ↦[rowsOf (2 * i.val + c.val)]{fullShare} I d) ∗ (nLoc d ↦[rowsOf (2 * i.val + c.val)]{fullShare} N d)
          ∗ ∃ o, oLoc d ↦[rowsOf (2 * i.val + c.val)]{fullShare} o))
      ∗ ((bigSep Finset.univ fun i : Fin 16 =>
        iprop((iLoc d ↦[rowsOf (2 * i.val + c.val)]{fullShare} I d) ∗ (nLoc d ↦[rowsOf (2 * i.val + c.val)]{fullShare} N d)
          ∗ ∃ o, ⌜Done (I d) (N d) o (rowsOf (2 * i.val + c.val))⌝ ∗ oLoc d ↦[rowsOf (2 * i.val + c.val)]{fullShare} o))
          -∗ iprop((iLoc d ↦[rowsC c.val]{fullShare} I d) ∗ (nLoc d ↦[rowsC c.val]{fullShare} N d)
            ∗ ∃ o, ⌜Done (I d) (N d) o (rowsC c.val)⌝ ∗ oLoc d ↦[rowsC c.val]{fullShare} o)))
  rw [bigSep_sep', bigSep_sep', bigSep_sep', bigSep_sep']
  have hi : (iLoc d ↦[rowsC c.val]{fullShare} I d : sProp 𝕄) = bigSep Finset.univ fun i : Fin 16 => iLoc d ↦[rowsOf (2 * i.val + c.val)]{fullShare} I d :=
    split_parts (ℓ := iLoc d) _ _ (tasks_disjoint c.val)
  have hn : (nLoc d ↦[rowsC c.val]{fullShare} N d : sProp 𝕄) = bigSep Finset.univ fun i : Fin 16 => nLoc d ↦[rowsOf (2 * i.val + c.val)]{fullShare} N d :=
    split_parts (ℓ := nLoc d) _ _ (tasks_disjoint c.val)
  rw [hi, hn]
  iintro ⟨Hi, Hn, %o, Ho⟩
  imodintro
  isplitl [Hi Hn Ho]
  · isplitl [Hi]; · iexact Hi
    isplitl [Hn]; · iexact Hn
    iapply (ex_parts (ℓ := oLoc d) (fun i : Fin 16 => rowsOf (2 * i.val + c.val)) o)
    iapply (Entails.of_eq (split_parts (ℓ := oLoc d) (fun i : Fin 16 => rowsOf (2 * i.val + c.val)) o (tasks_disjoint c.val)))
    iexact Ho
  iintro ⟨Hi, Hn, Ho⟩
  isplitl [Hi]; · iexact Hi
  isplitl [Hn]; · iexact Hn
  iapply (join_parts (ℓ := oLoc d) (N d) (fun i : Fin 16 => rowsOf (2 * i.val + c.val)) (fun i f => Done (I d) (N d) f (rowsOf (2 * i.val + c.val)))
    (fun f => Done (I d) (N d) f (rowsC c.val)) (tasks_disjoint c.val) fun fs g h hg => done_join h hg)
  iexact Ho

/-! ## The launch element of the ghost state -/

def u₀ : UU := (initOf (K (F := F)).hsCells (K (F := F)).hsToks, 1)

omit [FloatOps F] in
theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I N).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) I N).x q thr) = bigSep Finset.univ fun _ => iprop(emp) from
    bigSep_congr fun _ _ => bigSep_univ_of_subsingleton (0 : Fin 1), bigSep_emp']
  iempintro

end Task

end Cert.KernelIdeal.Own
end
-- ==== Proof.RunKI.lean ====
module

public import proofs.«01_k».proof.Defs
public import proofs.«01_k».proof.Proof.Scat
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.TaskKI
public import Idealize.ShloMosaic.Lib.Pipeline.FrameTail

@[expose] public section

set_option maxRecDepth 16384

noncomputable section

namespace Cert.KernelIdeal.Own

open Cert.KernelIdeal Cert.KernelIdeal.Gen Cert.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type}

local notation "𝕄" => MT nD τ sig (HIx 1) (Elt F) ℕ UU ℕ

variable [FloatOps F]

/-! ## The host's operations, before the call and after it -/

section Run

variable (m : (ℓ : Loc nD τ sig) → Buf (Elt F) ℓ) (ρ : Dev nD → PrngReg)

abbrev op1 : HloOp τ sig (Elt F) := StableHlo.reshape main_arg0 main_v0 (rfl : (.f32 : EltTy) = .f32) shapeCasts_S48x256x32x64_S48x256x2048
abbrev op2 : HloOp τ sig (Elt F) := TRef.nullary main_call0.v0 (iotaInDim S48x256x2048 32 2)
abbrev op3 : HloOp τ sig (Elt F) := TRef.binary (.of main_v0) main_call0.v0 main_call0.v1_0 (fun x y => (Host.sort2 S48x256x2048 2 comparator_f32_i32_d2 x y).1)
abbrev op4 : HloOp τ sig (Elt F) := TRef.binary (.of main_v0) main_call0.v0 main_call0.v1_1 (fun x y => (Host.sort2 S48x256x2048 2 comparator_f32_i32_d2 x y).2)
abbrev op5 : HloOp τ sig (Elt F) := StableHlo.reshape main_v1 main_v2 (rfl : (.i32 : EltTy) = .i32) shapeCasts_S48x256x2048_S12288x2048
abbrev op6 : HloOp τ sig (Elt F) := StableHlo.reshape main_arg1 main_v3 (rfl : (.f32 : EltTy) = .f32) shapeCasts_S48x256x2048_S12288x2048
abbrev op7 : HloOp τ sig (Elt F) := StableHlo.reshape main_v4 main_v5 (rfl : (.f32 : EltTy) = .f32) shapeCasts_S12288x2048_S48x256x32x64

/-- The words of row `r`: the stable order of the row of the reshaped content. -/
def Iof (a : FVec F S48x256x32x64 .f32) : Vec F SB .i32 :=
  shapeCast SB (Host.sort2 S48x256x2048 2 (comparator_f32_i32_d2 (F := F)) (shapeCast S48x256x2048 a shapeCasts_S48x256x32x64_S48x256x2048) (iotaInDim S48x256x2048 32 2)).2
    shapeCasts_S48x256x2048_S12288x2048
def Nof (b : FVec F S48x256x2048 .f32) : Vec F SB .f32 := shapeCast SB b shapeCasts_S48x256x2048_S12288x2048

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v5

abbrev Id (d : Dev nD) : Vec F SB .i32 := Iof (m (aLoc d))
abbrev Nd (d : Dev nD) : Vec F SB .f32 := Nof (m (bLoc d))

abbrev a' : DevRef τ sig := Proc.devRef .tc (main_arg0 : Ref sig .tc)
abbrev b' : DevRef τ sig := Proc.devRef .tc (main_arg1 : Ref sig .tc)
abbrev i' : DevRef τ sig := Proc.devRef .tc (main_v2 : Ref sig .tc)
abbrev n' : DevRef τ sig := Proc.devRef .tc (main_v3 : Ref sig .tc)
abbrev o' : DevRef τ sig := Proc.devRef .tc (main_v4 : Ref sig .tc)
abbrev r' : DevRef τ sig := Proc.devRef .tc (main_v5 : Ref sig .tc)

/-- The TensorCore's arrays. -/
abbrev SA : Finset (DevRef τ sig) := Pipeline.ucRefs τ sig
abbrev S3 : Finset (DevRef τ sig) := {i', n', o'}
abbrev S4 : Finset (DevRef τ sig) := {a', b', r'}

def V0 (d : Dev nD) : Valuation τ sig (Elt F) := fun b => m (d, b)
def V6 (d : Dev nD) : Valuation τ sig (Elt F) := after [op1, op2, op3, op4, op5, op6] (V0 m d)
def V7 (d : Dev nD) (o : Buf (Elt F) (oLoc d)) : Valuation τ sig (Elt F) := Function.update (V6 m d) o' o
def V8 (d : Dev nD) (o : Buf (Elt F) (oLoc d)) : Valuation τ sig (Elt F) := (op7 (F := F)).result (V7 m d o)

omit [FloatOps F] in
theorem unscoped_held (d : Dev nD) : (unscopedBufs d (fun b => m ((SparseCore.T d).loc b)) : sProp 𝕄) = held (T d) SA (V0 m d) :=
  Pipeline.unscopedBufs_held d (V0 m d)

theorem V6_i (d : Dev nD) : V6 m d i' = Id m d := by
  unfold V6 i'; after_results_simp; rfl
theorem V6_n (d : Dev nD) : V6 m d n' = Nd m d := by
  unfold V6 n'; after_results_simp; rfl
theorem V6_a (d : Dev nD) : V6 m d a' = m (aLoc d) := by
  unfold V6 a'; after_results_simp; rfl
theorem V6_b (d : Dev nD) : V6 m d b' = m (bLoc d) := by
  unfold V6 b'; after_results_simp; rfl

theorem V7_a (d : Dev nD) (o : Buf (Elt F) (oLoc d)) : V7 m d o a' = m (aLoc d) := (Function.update_of_ne (show a' ≠ o' by decide) _ _).trans (V6_a m d)
theorem V7_b (d : Dev nD) (o : Buf (Elt F) (oLoc d)) : V7 m d o b' = m (bLoc d) := (Function.update_of_ne (show b' ≠ o' by decide) _ _).trans (V6_b m d)
theorem V7_i (d : Dev nD) (o : Buf (Elt F) (oLoc d)) : V7 m d o i' = Id m d := (Function.update_of_ne (show i' ≠ o' by decide) _ _).trans (V6_i m d)
theorem V7_n (d : Dev nD) (o : Buf (Elt F) (oLoc d)) : V7 m d o n' = Nd m d := (Function.update_of_ne (show n' ≠ o' by decide) _ _).trans (V6_n m d)
theorem V7_o (d : Dev nD) (o : Buf (Elt F) (oLoc d)) : V7 m d o o' = o := Function.update_self _ _ _

theorem V8_a (d : Dev nD) (o : Buf (Elt F) (oLoc d)) : V8 m d o a' = m (aLoc d) :=
  ((op7 (F := F)).result_of_not_mem (V7 m d o) (b := a') (show a' ∉ ({r'} : Finset (DevRef τ sig)) by decide)).trans (V7_a m d o)
theorem V8_b (d : Dev nD) (o : Buf (Elt F) (oLoc d)) : V8 m d o b' = m (bLoc d) :=
  ((op7 (F := F)).result_of_not_mem (V7 m d o) (b := b') (show b' ∉ ({r'} : Finset (DevRef τ sig)) by decide)).trans (V7_b m d o)
theorem V8_r (d : Dev nD) (o : Buf (Elt F) (oLoc d)) : V8 m d o r' = shapeCast S48x256x32x64 (o : Vec F SB .f32) shapeCasts_S12288x2048_S48x256x32x64 := by
  refine (reshape_result main_v4 main_v5 _ _ _ _ _).trans ?_
  rw [show V7 m d o (Proc.devRef .tc (main_v4 : Ref sig .tc)) = o from V7_o m d o]
  rfl

omit [FloatOps F] in
theorem held_S3 (d : Dev nD) (W : Valuation τ sig (Elt F)) :
    (held (T d) S3 W : sProp 𝕄) = iprop((iLoc d ↦{fullShare} W i') ∗ (nLoc d ↦{fullShare} W n') ∗ oLoc d ↦{fullShare} W o') := by
  unfold held S3
  rw [SparseCore.bigSep_insert' (by decide), SparseCore.bigSep_insert' (by decide), bigSep_singleton]
omit [FloatOps F] in
theorem held_S4 (d : Dev nD) (W : Valuation τ sig (Elt F)) :
    (held (T d) S4 W : sProp 𝕄) = iprop((aLoc d ↦{fullShare} W a') ∗ (bLoc d ↦{fullShare} W b') ∗ rLoc d ↦{fullShare} W r') := by
  unfold held S4
  rw [SparseCore.bigSep_insert' (by decide), SparseCore.bigSep_insert' (by decide), bigSep_singleton]

omit [FloatOps F] in
theorem mem_SA (r : Ref sig .tc) (h : r.isScoped = false) : Proc.devRef .tc r ∈ (SA : Finset (DevRef τ sig)) := Pipeline.devRef_mem_ucRefs h

omit [FloatOps F] in
theorem S3_sub : S3 ⊆ SA := by
  intro b hb
  simp only [S3, Finset.mem_insert, Finset.mem_singleton] at hb
  rcases hb with rfl | rfl | rfl <;> exact mem_SA _ rfl
omit [FloatOps F] in
theorem S4_sub : S4 ⊆ SA := by
  intro b hb
  simp only [S4, Finset.mem_insert, Finset.mem_singleton] at hb
  rcases hb with rfl | rfl | rfl <;> exact mem_SA _ rfl

/-- The arrays before the call: the three of the call, and the rest. -/
theorem held6 (d : Dev nD) : (held (T d) SA (V6 m d) : sProp 𝕄)
    = iprop(((iLoc d ↦{fullShare} Id m d) ∗ (nLoc d ↦{fullShare} Nd m d) ∗ oLoc d ↦{fullShare} V6 m d o') ∗ held (T d) (SA \ S3) (V6 m d)) := by
  rw [held_sub_split (T d) S3_sub (V6 m d), held_S3, V6_i, V6_n]
theorem held6' (d : Dev nD) : (held (T d) SA ((op6 (F := F)).result ((op5 (F := F)).result ((op4 (F := F)).result ((op3 (F := F)).result ((op2 (F := F)).result ((op1 (F := F)).result (V0 m d))))))) : sProp 𝕄)
    = iprop(((iLoc d ↦{fullShare} Id m d) ∗ (nLoc d ↦{fullShare} Nd m d) ∗ oLoc d ↦{fullShare} V6 m d o') ∗ held (T d) (SA \ S3) (V6 m d)) := held6 m d
/-- And after it, the result's at what the call left. -/
theorem held7 (d : Dev nD) (o : Buf (Elt F) (oLoc d)) : (held (T d) SA (V7 m d o) : sProp 𝕄)
    = iprop(((iLoc d ↦{fullShare} Id m d) ∗ (nLoc d ↦{fullShare} Nd m d) ∗ oLoc d ↦{fullShare} o) ∗ held (T d) (SA \ S3) (V6 m d)) := by
  rw [held_sub_split (T d) S3_sub (V7 m d o), held_S3, V7_i, V7_n, V7_o]
  rw [held_congr (T d) (S := SA \ S3) (V := V7 m d o) (V' := V6 m d) fun b hb => Function.update_of_ne (fun e => (Finset.mem_sdiff.mp hb).2 (by rw [e]; decide)) _ _]
theorem held8 (d : Dev nD) (o : Buf (Elt F) (oLoc d)) : (held (T d) SA (V8 m d o) : sProp 𝕄)
    = iprop(((aLoc d ↦{fullShare} m (aLoc d)) ∗ (bLoc d ↦{fullShare} m (bLoc d))
        ∗ rLoc d ↦{fullShare} shapeCast S48x256x32x64 (o : Vec F SB .f32) shapeCasts_S12288x2048_S48x256x32x64) ∗ held (T d) (SA \ S4) (V8 m d o)) := by
  rw [held_sub_split (T d) S4_sub (V8 m d o), held_S4, V8_a, V8_b, V8_r]

theorem held8' (d : Dev nD) (o : Buf (Elt F) (oLoc d)) : (held (T d) SA ((op7 (F := F)).result (V7 m d o)) : sProp 𝕄)
    = iprop(((aLoc d ↦{fullShare} m (aLoc d)) ∗ (bLoc d ↦{fullShare} m (bLoc d))
        ∗ rLoc d ↦{fullShare} shapeCast S48x256x32x64 (o : Vec F SB .f32) shapeCasts_S12288x2048_S48x256x32x64) ∗ held (T d) (SA \ S4) (V8 m d o)) := held8 m d o

/-! ## What the call takes and hands back, over its two cores -/

omit [FloatOps F] in
theorem whole_cores {ℓ : Loc nD τ sig} (sets : Fin 2 → Finset (Idx ℓ)) (hc : Finset.univ.biUnion sets = Finset.univ) (f : Buf (Elt F) ℓ)
    (hd : ∀ i ∈ (Finset.univ : Finset (Fin 2)), ∀ j ∈ (Finset.univ : Finset (Fin 2)), i ≠ j → Disjoint (sets i) (sets j)) :
    (ℓ ↦{fullShare} f : sProp 𝕄) = bigSep Finset.univ fun t => ℓ ↦[sets t]{fullShare} f := by
  rw [← split_parts sets f hd, hc]

theorem st0 (d : Dev nD) (o : Buf (Elt F) (oLoc d)) :
    (iprop((iLoc d ↦{fullShare} Id m d) ∗ (nLoc d ↦{fullShare} Nd m d) ∗ oLoc d ↦{fullShare} o) : sProp 𝕄)
      ⊢ bigSep Finset.univ fun c : Fin ((K (F := F)).nCore 0) => (P (Id m) (Nd m)).st 0 d c := by
  show _ ⊢ bigSep (Finset.univ : Finset (Fin 2)) fun c => iprop((iLoc d ↦[rowsC c.val]{fullShare} Id m d) ∗ (nLoc d ↦[rowsC c.val]{fullShare} Nd m d) ∗ ∃ o, oLoc d ↦[rowsC c.val]{fullShare} o)
  rw [bigSep_sep', bigSep_sep', whole_cores (ℓ := iLoc d) (fun c => rowsC c.val) cores_cover _ cores_disjoint,
    whole_cores (ℓ := nLoc d) (fun c => rowsC c.val) cores_cover _ cores_disjoint, whole_cores (ℓ := oLoc d) (fun c => rowsC c.val) cores_cover _ cores_disjoint]
  iintro ⟨Hi, Hn, Ho⟩
  isplitl [Hi]; · iexact Hi
  isplitl [Hn]; · iexact Hn
  iapply (ex_parts (ℓ := oLoc d) (fun c : Fin 2 => rowsC c.val) o)
  iexact Ho

theorem dn0 (d : Dev nD) :
    (bigSep Finset.univ fun c : Fin ((K (F := F)).nCore 0) => (P (Id m) (Nd m)).dn 0 d c)
      ⊢ (iprop((iLoc d ↦{fullShare} Id m d) ∗ (nLoc d ↦{fullShare} Nd m d) ∗ ∃ o, ⌜Done (Id m d) (Nd m d) o Finset.univ⌝ ∗ oLoc d ↦{fullShare} o) : sProp 𝕄) := by
  show (bigSep (Finset.univ : Finset (Fin 2)) fun c => iprop((iLoc d ↦[rowsC c.val]{fullShare} Id m d) ∗ (nLoc d ↦[rowsC c.val]{fullShare} Nd m d)
        ∗ ∃ o, ⌜Done (Id m d) (Nd m d) o (rowsC c.val)⌝ ∗ oLoc d ↦[rowsC c.val]{fullShare} o)) ⊢ _
  rw [bigSep_sep', bigSep_sep', whole_cores (ℓ := iLoc d) (fun c => rowsC c.val) cores_cover _ cores_disjoint,
    whole_cores (ℓ := nLoc d) (fun c => rowsC c.val) cores_cover _ cores_disjoint]
  iintro ⟨Hi, Hn, Ho⟩
  isplitl [Hi]; · iexact Hi
  isplitl [Hn]; · iexact Hn
  ihave H := (join_parts (ℓ := oLoc d) (Nd m d) (fun c : Fin 2 => rowsC c.val) (fun c f => Done (Id m d) (Nd m d) f (rowsC c.val))
    (fun f => Done (Id m d) (Nd m d) f (Finset.univ.biUnion fun c : Fin 2 => rowsC c.val)) cores_disjoint fun fs g h hg => done_join h hg) $$ Ho
  rw [cores_cover]
  iexact H

/-! ## @main on the TensorCore -/

abbrev FIN (d : Dev nD) : sProp 𝕄 := iprop((aLoc d ↦{fullShare} m (aLoc d)) ∗ (bLoc d ↦{fullShare} m (bLoc d))
  ∗ ∃ o : Vec F SB .f32, ⌜Done (Id m d) (Nd m d) o Finset.univ⌝ ∗ rLoc d ↦{fullShare} shapeCast S48x256x32x64 o shapeCasts_S12288x2048_S48x256x32x64)

theorem h1 : (op1 (F := F)).bufs ⊆ SA := Pipeline.sub_ucRefs _ (by simp)
theorem h2 : (op2 (F := F)).bufs ⊆ SA := Pipeline.sub_ucRefs _ (by simp)
theorem h3 : (op3 (F := F)).bufs ⊆ SA := Pipeline.sub_ucRefs _ (by simp)
theorem h4 : (op4 (F := F)).bufs ⊆ SA := Pipeline.sub_ucRefs _ (by simp)
theorem h5 : (op5 (F := F)).bufs ⊆ SA := Pipeline.sub_ucRefs _ (by simp)
theorem h6 : (op6 (F := F)).bufs ⊆ SA := Pipeline.sub_ucRefs _ (by simp)
theorem h7 : (op7 (F := F)).bufs ⊆ SA := Pipeline.sub_ucRefs _ (by simp)

theorem hmain (κ : GSem nD τ sig → ℕ) (d : Dev nD) :
    iprop((K (F := F)).ctx EH (P (Id m) (Nd m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_argsort.body, wp_bind, wp_pure]
  iintro ⟨#Hctx, Hst, ⟨Hb, Hheld, Hts, -⟩, -⟩
  iapply (wp_hlo_within 𝒱 (SparseCore.T d) none Set.univ (op := op1) (S := SA) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := SA) h2 (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := SA) h3 (V := (op2 (F := F)).result ((op1 (F := F)).result (V0 m d)))) $$ [Hb Hheld]
  · isplitl [Hb] <;> iassumption
  iintro ⟨Hb, Hheld⟩
  rw [wp_ret]; imodintro
  iapply (wp_hlo_within 𝒱 (SparseCore.T d) none Set.univ (op := op4) (S := SA) h4 (V := (op3 (F := F)).result ((op2 (F := F)).result ((op1 (F := F)).result (V0 m d))))) $$ [Hb Hheld]
  · isplitl [Hb] <;> iassumption
  iintro ⟨Hb, Hheld⟩
  rw [wp_ret]; imodintro; imodintro
  iapply (wp_hlo_within 𝒱 (SparseCore.T d) none Set.univ (op := op5) (S := SA) h5 (V := (op4 (F := F)).result ((op3 (F := F)).result ((op2 (F := F)).result ((op1 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op6) (S := SA) h6 (V := (op5 (F := F)).result ((op4 (F := F)).result ((op3 (F := F)).result ((op2 (F := F)).result ((op1 (F := F)).result (V0 m d))))))) $$ [Hb Hheld]
  · isplitl [Hb] <;> iassumption
  iintro ⟨Hb, Hheld⟩
  rw [wp_ret]; imodintro
  ihave Hh := (Entails.of_eq (held6' m d)) $$ Hheld
  icases Hh with ⟨H3, Hrest⟩
  iapply ((K (F := F)).wp_run (D (F := F)) 𝒱 (EH := EH) (P := P (Id m) (Nd m)) κ d 0) $$ [Hst H3 Hrest Hb Hts]
  isplitr; · iexact Hctx
  isplitl [Hst]; · iexact Hst
  isplitl [H3]
  · iapply (st0 m d (V6 m d o')); iexact H3
  iintro ⟨Hst, Hdn⟩
  ihave Hdn' := (dn0 m d) $$ Hdn
  icases Hdn' with ⟨Hi, Hn, %o, %ho, Ho⟩
  iapply (wp_hlo_within 𝒱 (SparseCore.T d) none Set.univ (op := op7) (S := SA) h7 (V := V7 m d o)) $$ [Hb Hi Hn Ho Hrest]
  · isplitl [Hb]; · iexact Hb
    rw [held7]
    isplitl [Hi Hn Ho]
    · isplitl [Hi]; · iexact Hi
      isplitl [Hn]; · iexact Hn
      iexact Ho
    iexact Hrest
  iintro ⟨Hb, Hheld⟩
  ihave Hh := (Entails.of_eq (held8' m d o)) $$ Hheld
  icases Hh with ⟨⟨Ha, Hb', Hr⟩, -⟩
  rw [wp_ret]; imodintro; imodintro
  isplitl [Hst]; · iexact Hst
  isplitr [Hb Hts]
  · isplitl [Ha]; · iexact Ha
    isplitl [Hb']; · iexact Hb'
    iexists o
    isplitr
    · ipureintro; exact ho
    · iexact Hr
  isplitl [Hb] <;> iassumption

def fq (d : Dev nD) (s' : Phys nD τ sig (Elt F)) : Prop :=
  (∃ o : Vec F SB .f32, Done (Id m d) (Nd m d) o Finset.univ ∧ s'.mem.mem (rLoc d) = shapeCast S48x256x32x64 o shapeCasts_S12288x2048_S48x256x32x64)
    ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hb, %o, %ho, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare)
    (f := shapeCast S48x256x32x64 o shapeCasts_S12288x2048_S48x256x32x64)) $$ [HSI Hr]
  · isplitl [HSI] <;> iassumption
  icases H with %h3
  ipureintro
  exact ⟨⟨o, ho, funext fun i => h3 i (Finset.mem_univ i)⟩, funext fun i => h1 i (Finset.mem_univ i), funext fun i => h2 i (Finset.mem_univ i)⟩

/-! ## The run -/

def QC : PUnit × MemSt nD τ sig (Elt F) → Prop := fun r =>
  (∀ d : Dev nD, (∃ o : Vec F SB .f32, Done (Id m d) (Nd m d) o Finset.univ ∧ r.2.mem (rLoc d) = shapeCast S48x256x32x64 o shapeCasts_S12288x2048_S48x256x32x64)
    ∧ r.2.mem (aLoc d) = m (aLoc d) ∧ r.2.mem (bLoc d) = m (bLoc d)) ∧ r.2.sem = fun _ => 0

theorem run_main [∀ e, Nonempty (Elt F e)] (hI : ∀ (a : FVec F S48x256x32x64 .f32) p, (Iof a p).toNat < 2048) :
    θ_run (defs (F := F)) (threads (F := F)) ⟨m, fun _ => 0, ρ⟩ (QC m) :=
  SparseCore.Cfg.θ_run_sc_quiescent (K := K (F := F)) (D := D (F := F)) (𝒱 := 𝒱) (EH := EH) (P := P (Id m) (Nd m)) (A := ∅) facts v₀
    (fun q hq => match q with | 0 => nomatch hq)
    (fun q _ => match q with | 0 => tileObl (Id m) (Nd m) (fun d => hI (m (aLoc d))) facts)
    (fun q _ => match q with | 0 => SparseCore.Cfg.VecSplit.of_plain (vecSplit (Id m) (Nd m)))
    m ρ main (fun _ => iprop(emp)) (FIN m) (u₀ (F := F)) (sep_elim_left.trans (hu₀ (Id m) (Nd m))) (hmain m ρ) (fq m) (hfin m) (QC m) (fun _ h hz => ⟨h, hz⟩)

end Run

end Cert.KernelIdeal.Own
end
-- ==== Proof.Sorts.lean ====
/-
  Stable sorts of rows of 2048 that carry their positions. `ord` is the order a row comes in: a permutation of its
  positions. Sorting the order's words, as numbers, comes in the order that undoes it. `scattered` says what a
  scatter by an order leaves: element `k` is the value the undoing order names.
-/
module

public import Idealize.ShloMosaic.Lib.SortFacts
public import Idealize.ShloMosaic.Lib.Pipeline.Value
public import Idealize.ShloMosaic.Lib.Pointwise.Reshape
public import proofs.«01_k».proof.Proof.Scat

@[expose] public section

set_option maxRecDepth 16384

noncomputable section

namespace Cert.Scat

open Idealize.ShloMosaic

abbrev SC : Shape := ⟨3, ![48, 256, 2048]⟩
abbrev SX : Shape := ⟨4, ![48, 256, 32, 64]⟩
def at3 (b : Fin 48) (c : Fin 256) (j : Fin 2048) : SC.Idx := fun | 0 => b | 1 => c | 2 => j

theorem at3_eta (p : SC.Idx) : p = at3 (p 0) (p 1) (p 2) := by
  funext a; match a with
  | 0 => rfl
  | 1 => rfl
  | 2 => rfl

theorem along_at3 (b : Fin 48) (c : Fin 256) (j k : Fin 2048) : (at3 b c j).along (2 : Fin 3) k = at3 b c k := by
  funext a; match a with
  | 0 => rfl
  | 1 => rfl
  | 2 => rfl

variable {F : FTy → Type} {α : Type}

/-- The order the row `b, c` of `x` comes in under `cmp`. -/
def ord (cmp : α × BitVec 32 → α × BitVec 32 → BitVec 1) (x : SC.Idx → α) (b : Fin 48) (c : Fin 256) : Fin 2048 → Fin 2048 :=
  sortedFrom fun k k' => cmp (x (at3 b c k), BitVec.ofNat 32 k.val) (x (at3 b c k'), BitVec.ofNat 32 k'.val) == 1#1

theorem ord_injective (cmp : α × BitVec 32 → α × BitVec 32 → BitVec 1) (x : SC.Idx → α) (b : Fin 48) (c : Fin 256) :
    Function.Injective (ord cmp x b c) := sortedFrom_injective _

theorem sort2_snd {s : Shape} {d n : Nat} {β : Type} (hd : d < s.rank) (hn : s.size ⟨d, hd⟩ = n) (cmp : α × β → α × β → BitVec 1)
    (x : s.Idx → α) (y : s.Idx → β) (j : s.Idx) (f : Fin n → s.Idx) (hf : ∀ k, j.along ⟨d, hd⟩ k = f (Fin.cast hn k))
    (i : Fin n) (hi : Fin.cast hn (j ⟨d, hd⟩) = i) (w : Fin n → β) (hw : ∀ k, y (f k) = w k) :
    (Host.sort2 s d cmp x y).2 j = w (sortedFrom (fun k k' => cmp (x (f k), w k) (x (f k'), w k') == 1#1) i) := by
  subst hn hi
  unfold Host.sort2
  rw [dif_pos hd]
  simp only [hf, Fin.cast_eq_self, hw]

/-- The positions a sort carries along come out as the order. -/
theorem sort2_words (cmp : α × BitVec 32 → α × BitVec 32 → BitVec 1) (x : SC.Idx → α) (b : Fin 48) (c : Fin 256) (j : Fin 2048) :
    (Host.sort2 SC 2 cmp x (iotaInDim SC 32 2)).2 (at3 b c j) = BitVec.ofNat 32 (ord cmp x b c j).val := by
  unfold ord
  have hd : 2 < SC.rank := by decide
  have hn : SC.size ⟨2, hd⟩ = 2048 := rfl
  exact sort2_snd hd hn cmp x (iotaInDim SC 32 2) (at3 b c j) (at3 b c) (fun k => along_at3 b c j (Fin.cast hn k)) j (Fin.ext rfl)
    (fun k => BitVec.ofNat 32 k.val) (fun k => rfl)

/-- The order of numbers below 2048, as signed words. -/
abbrev below (l r : BitVec 32 × BitVec 32) : BitVec 1 := IntOp.cmpi .slt l.1 r.1

theorem slt_ofNat {a b : Nat} (ha : a < 2048) (hb : b < 2048) : IntOp.cmpi .slt (BitVec.ofNat 32 a) (BitVec.ofNat 32 b) = BitVec.ofBool (decide (a < b)) := by
  simp only [IntOp.cmpi, BitVec.slt_eq_decide, BitVec.toInt_eq_toNat_cond, BitVec.toNat_ofNat]
  congr 1
  rw [decide_eq_decide]
  omega

/-- Sorting an order's values undoes the order. -/
theorem sorted_undoes {n : Nat} (π : Fin n → Fin n) (hπ : Function.Injective π) (k : Fin n) :
    π (sortedFrom (fun k k' => decide (π k < π k')) k) = k := by
  have hm : StrictMono fun k => π (sortedFrom (fun k k' => decide (π k < π k')) k) := by
    intro i j hij
    have h := sortedFrom_noInversion (fun k k' => decide (π k < π k')) (fun k k' => decide (π k < π k'))
      (fun a b h => by simp only [decide_eq_true_eq, decide_eq_false_iff_not] at h ⊢; omega) (fun _ _ h => h)
      (fun a b c h h' => by simp only [decide_eq_false_iff_not] at h h' ⊢; omega) i j hij
    have hne : π (sortedFrom (fun k k' => decide (π k < π k')) i) ≠ π (sortedFrom (fun k k' => decide (π k < π k')) j) :=
      fun e => absurd (sortedFrom_injective _ (hπ e)) (ne_of_lt hij)
    exact lt_of_le_of_ne (not_lt.mp (of_decide_eq_false h)) hne
  have hs : Function.Surjective fun k => π (sortedFrom (fun k k' => decide (π k < π k')) k) := Finite.injective_iff_surjective.mp hm.injective
  exact congrFun ((hm.range_inj strictMono_id).mp (by rw [hs.range_eq, Set.range_id])) k

theorem ord_undoes (W : SC.Idx → BitVec 32) (b : Fin 48) (c : Fin 256) (π : Fin 2048 → Fin 2048) (hπ : Function.Injective π)
    (hW : ∀ j, W (at3 b c j) = BitVec.ofNat 32 (π j).val) (k : Fin 2048) : π (ord below W b c k) = k := by
  have hc : ∀ k k' : Fin 2048, (below (W (at3 b c k), BitVec.ofNat 32 k.val) (W (at3 b c k'), BitVec.ofNat 32 k'.val) == 1#1) = decide (π k < π k') := by
    intro k k'
    show (IntOp.cmpi .slt (W (at3 b c k)) (W (at3 b c k')) == 1#1) = _
    rw [hW, hW, slt_ofNat (π k).isLt (π k').isLt]
    show _ = decide ((π k).val < (π k').val)
    cases decide ((π k).val < (π k').val) <;> rfl
  unfold ord
  simp only [hc]
  exact sorted_undoes π hπ k

/-! ## Rows of the arrays -/

theorem cast_CB (h : SC.ShapeCasts SB) (x : SC.Idx → α) (r : Fin 12288) (j : Fin 2048) :
    shapeCast SB x h (atB r j) = x (at3 ⟨r.val / 256, by omega⟩ ⟨r.val % 256, by omega⟩ j) := by
  refine shapeCast_apply x h _ _ ?_
  rw [Shape.rowMajor_val_three, Shape.rowMajor_val_two]
  show (r.val / 256 * 256 + r.val % 256) * 2048 + j.val = r.val * 2048 + j.val
  omega

/-- The words of an order, laid out as rows: below 2048, and no row names a column twice. -/
theorem words_at (hCB : SC.ShapeCasts SB) (cmp : α × BitVec 32 → α × BitVec 32 → BitVec 1) (x : SC.Idx → α) (r : Fin 12288) (j : Fin 2048) :
    (shapeCast SB (Host.sort2 SC 2 cmp x (iotaInDim SC 32 2)).2 hCB (atB r j)).toNat = (ord cmp x ⟨r.val / 256, by omega⟩ ⟨r.val % 256, by omega⟩ j).val := by
  rw [cast_CB, sort2_words, BitVec.toNat_ofNat]
  exact Nat.mod_eq_of_lt (lt_trans (Fin.isLt _) (by decide))

theorem words_lt (hCB : SC.ShapeCasts SB) (cmp : α × BitVec 32 → α × BitVec 32 → BitVec 1) (x : SC.Idx → α) (p : SB.Idx) :
    (shapeCast SB (Host.sort2 SC 2 cmp x (iotaInDim SC 32 2)).2 hCB p).toNat < 2048 := by
  obtain ⟨r, j, rfl⟩ : ∃ r j, p = atB r j := ⟨_, _, atB_eta p⟩
  rw [words_at]
  exact Fin.isLt _

theorem words_inj (hCB : SC.ShapeCasts SB) (cmp : α × BitVec 32 → α × BitVec 32 → BitVec 1) (x : SC.Idx → α) (r : Fin 12288) :
    RowInjB (F := F) (shapeCast SB (Host.sort2 SC 2 cmp x (iotaInDim SC 32 2)).2 hCB) r := by
  intro j k h
  rw [words_at, words_at] at h
  exact ord_injective cmp x _ _ (Fin.ext h)

/-- What a scatter by the order `π` leaves, given as rows: element `k` is the value at the position that undoes it. -/
theorem scattered (hCB : SC.ShapeCasts SB) (hCX : SC.ShapeCasts SX) (hBX : SB.ShapeCasts SX)
    (W : SC.Idx → BitVec 32) (n R : SC.Idx → α) (o : SB.Idx → α) (π ρ : Fin 48 → Fin 256 → Fin 2048 → Fin 2048)
    (hW : ∀ b c j, W (at3 b c j) = BitVec.ofNat 32 (π b c j).val) (hρ : ∀ b c k, π b c (ρ b c k) = k)
    (hR : ∀ b c k, R (at3 b c k) = n (at3 b c (ρ b c k)))
    (ho : ∀ r j (h : (shapeCast SB W hCB (atB r j)).toNat < 2048), o (atB r ⟨(shapeCast SB W hCB (atB r j)).toNat, h⟩) = shapeCast SB n hCB (atB r j)) :
    shapeCast SX o hBX = shapeCast SX R hCX := by
  have key : ∀ (r : Fin 12288) (k : Fin 2048), o (atB r k) = shapeCast SB R hCB (atB r k) := by
    intro r k
    have hb : r.val / 256 < 48 := by omega
    have hc : r.val % 256 < 256 := by omega
    have hv : (shapeCast SB W hCB (atB r (ρ ⟨r.val / 256, hb⟩ ⟨r.val % 256, hc⟩ k))).toNat = k.val := by
      rw [cast_CB, hW, hρ, BitVec.toNat_ofNat]; omega
    have h := ho r (ρ ⟨r.val / 256, hb⟩ ⟨r.val % 256, hc⟩ k) (by rw [hv]; exact k.isLt)
    rw [cast_CB, hR, ← cast_CB hCB n r, ← h]
    congr 2
    exact Fin.ext hv.symm
  have e : o = shapeCast SB R hCB := by
    funext p
    rw [atB_eta p]
    exact key _ _
  rw [e, shapeCast_comp]

end Cert.Scat

end
-- ==== Proof.Take.lean ====
/-
  The take along the last axis, as the reference prints it: positions below zero wrapped, a column of start indices,
  a gather batched over the two leading axes, and a mask for positions past the end. With every position below the
  row's length (`taken_at`) it reads the row at the position and nothing else of the text matters.
-/
module

public import Idealize.ShloMosaic.Lib.Pipeline.Value
public import Idealize.ShloMosaic.Lib.Pointwise.Reshape
public import proofs.«01_k».proof.Proof.Sorts

@[expose] public section

set_option maxRecDepth 16384

noncomputable section

namespace Cert.Scat

open Idealize.ShloMosaic

variable {α : Type}

abbrev S3 (A B N : Nat) : Shape := ⟨3, ![A, B, N]⟩
abbrev S4 (A B N : Nat) : Shape := ⟨4, ![A, B, N, 1]⟩
def g3 {A B N : Nat} (p : Fin A) (q : Fin B) (k : Fin N) : (S3 A B N).Idx := fun | 0 => p | 1 => q | 2 => k
def g4 {A B N : Nat} (p : Fin A) (q : Fin B) (k : Fin N) : (S4 A B N).Idx := fun | 0 => p | 1 => q | 2 => k | 3 => (0 : Fin 1)

/-- The take's gather: two batching axes, the last collapsed and start-indexed. -/
def along (A B N : Nat) (wf : GatherDims.WF (S3 A B N) (S4 A B N) (S3 A B N) [] [2] [0, 1] [2] [0, 1] 3 ![1, 1, 1]) :
    GatherDims (S3 A B N) (S4 A B N) (S3 A B N) where
  offsetDims := []
  collapsedSliceDims := [2]
  operandBatchingDims := [0, 1]
  startIndicesBatchingDims := [0, 1]
  startIndexMap := [2]
  indexVectorDim := 3
  sliceSizes := ![1, 1, 1]
  wf := wf

theorem gather_along {A B N : Nat} (wf) (x : (S3 A B N).Idx → α) (idx : IVec (S4 A B N) 32) (p : Fin A) (q : Fin B) (k : Fin N) (hN : 0 < N) :
    Host.gather (along A B N wf) x idx (g3 p q k) = x (g3 p q ⟨min (idx (g4 p q k)).toInt.toNat (N - 1), by omega⟩) := by
  unfold Host.gather
  congr 1
  have hs : (along A B N wf).siIdx (g3 p q k) ⟨0, Nat.zero_lt_one⟩ = g4 p q k := by
    funext b; match b with
    | 0 => rfl
    | 1 => rfl
    | 2 => rfl
    | 3 => rfl
  funext a
  match a with
  | 0 =>
    apply Fin.ext
    show 0 + p.val + 0 = p.val
    omega
  | 1 =>
    apply Fin.ext
    show 0 + q.val + 0 = q.val
    omega
  | 2 =>
    apply Fin.ext
    show min (idx ((along A B N wf).siIdx (g3 p q k) ⟨0, Nat.zero_lt_one⟩)).toInt.toNat (N - 1) + 0 + 0 = min (idx (g4 p q k)).toInt.toNat (N - 1)
    rw [hs]
    rfl

theorem at3_g3 (b : Fin 48) (c : Fin 256) (k : Fin 2048) : at3 b c k = g3 b c k := by
  funext a; match a with
  | 0 => rfl
  | 1 => rfl
  | 2 => rfl

/-- An `and` of ones is one. -/
theorem reduce_ones {s t u : Shape} {axes : List (Fin s.rank)} (x : s.Idx → BitVec 1) (init : u.Idx → BitVec 1) (h : s.ReducesTo axes t)
    (hu : 0 < u.numel) (hx : ∀ i, x i = 1#1) (hi : ∀ i, init i = 1#1) (j : t.Idx) : Host.reduce IntOp.andi x init h hu j = 1#1 := by
  unfold Host.reduce
  rw [hi]
  generalize (List.finRange s.numel).filter _ = l
  induction l with
  | nil => rfl
  | cons n l ih =>
    rw [List.foldl_cons, hx]
    exact ih

/-- The reference's take, the shapes' facts its arguments. -/
def taken {F : FTy → Type} [FloatOps F] (b0 : (⟨0, ![]⟩ : Shape).BroadcastsInDim SC ![]) (hc : SC.ShapeCasts (S4 48 256 2048))
    (b1 : (⟨0, ![]⟩ : Shape).BroadcastsInDim (S4 48 256 2048) ![]) (b2 : (⟨1, ![1]⟩ : Shape).BroadcastsInDim ⟨4, ![1, 1, 1, 1]⟩ ![3])
    (b3 : (⟨4, ![1, 1, 1, 1]⟩ : Shape).BroadcastsInDim (S4 48 256 2048) ![0, 1, 2, 3]) (hr : (S4 48 256 2048).ReducesTo [3] SC) (h0 : 0 < (⟨0, ![]⟩ : Shape).numel)
    (wf : GatherDims.WF SC (S4 48 256 2048) SC [] [2] [0, 1] [2] [0, 1] 3 ![1, 1, 1])
    (n : Vec F SC .f32) (U : IVec SC 32) : Vec F SC .f32 :=
  let V := shapeCast (S4 48 256 2048) (select (cmpi .slt U (broadcastInDim SC ![] b0 (constantI ⟨0, ![]⟩ 32 0#32)))
    (addi U (broadcastInDim SC ![] b0 (constantI ⟨0, ![]⟩ 32 2048#32))) U) hc
  select (Host.reduce IntOp.andi (andi (cmpi .sge V (broadcastInDim (S4 48 256 2048) ![] b1 (constantI ⟨0, ![]⟩ 32 0#32)))
      (cmpi .sle V (broadcastInDim (S4 48 256 2048) ![0, 1, 2, 3] b3 (broadcastInDim ⟨4, ![1, 1, 1, 1]⟩ ![3] b2 (constantI ⟨1, ![1]⟩ 32 2047#32)))))
      (constantI ⟨0, ![]⟩ 1 1#1) hr h0)
    (Host.gather (along 48 256 2048 wf) n V) (broadcastInDim SC ![] b0 (constant ⟨0, ![]⟩ .f32 0x7FC00000#32))

theorem toInt_low {v : BitVec 32} (h : v.toNat < 2048) : v.toInt = v.toNat := by
  rw [BitVec.toInt_eq_toNat_cond]; omega

theorem select_one {s : Shape} {c : s.Idx → BitVec 1} {x y : s.Idx → α} {i : s.Idx} (h : c i = 1#1) : select c x y i = x i := if_pos h

theorem wrapped (U V W : IVec SC 32) (hU : ∀ i, (U i).toNat < 2048) (hV : ∀ i, V i = 0#32) : select (cmpi .slt U V) W U = U := by
  funext i
  show (if IntOp.cmpi .slt (U i) (V i) = 1 then W i else U i) = U i
  rw [hV, if_neg]
  have : (U i).slt 0#32 = false := by
    rw [BitVec.slt_eq_decide, toInt_low (hU i)]; simp
  simp [IntOp.cmpi, this]

theorem taken_at {F : FTy → Type} [FloatOps F] (b0 hc b1 b2 b3 hr h0 wf) (n : Vec F SC .f32) (U : IVec SC 32) (hU : ∀ i, (U i).toNat < 2048)
    (b : Fin 48) (c : Fin 256) (k : Fin 2048) :
    taken b0 hc b1 b2 b3 hr h0 wf n U (at3 b c k) = n (at3 b c ⟨(U (at3 b c k)).toNat, hU _⟩) := by
  unfold taken
  rw [wrapped U (broadcastInDim SC ![] b0 (constantI ⟨0, ![]⟩ 32 0#32)) _ hU (fun _ => rfl)]
  have hones : ∀ i, (andi (cmpi .sge (shapeCast (S4 48 256 2048) U hc) (broadcastInDim (S4 48 256 2048) ![] b1 (constantI ⟨0, ![]⟩ 32 0#32)))
      (cmpi .sle (shapeCast (S4 48 256 2048) U hc) (broadcastInDim (S4 48 256 2048) ![0, 1, 2, 3] b3 (broadcastInDim ⟨4, ![1, 1, 1, 1]⟩ ![3] b2 (constantI ⟨1, ![1]⟩ 32 2047#32))))) i = 1#1 := by
    intro i
    show IntOp.andi (IntOp.cmpi .sge (U (Shape.reshapeEquiv hc i)) 0#32) (IntOp.cmpi .sle (U (Shape.reshapeEquiv hc i)) 2047#32) = 1#1
    have h := hU (Shape.reshapeEquiv hc i)
    generalize U (Shape.reshapeEquiv hc i) = u at h
    have h1 : (0#32).sle u = true := by
      rw [BitVec.sle_eq_decide, toInt_low h]; simp
    have h2 : u.sle 2047#32 = true := by
      rw [BitVec.sle_eq_decide, toInt_low h, toInt_low (by decide)]; simp; omega
    simp [IntOp.cmpi, IntOp.andi, h1, h2]
  refine (select_one (reduce_ones _ _ hr h0 hones (fun _ => rfl) (at3 b c k))).trans ?_
  refine (congrArg (Host.gather (along 48 256 2048 wf) n (shapeCast (S4 48 256 2048) U hc)) (at3_g3 b c k)).trans ?_
  refine (gather_along wf n _ b c k (Nat.succ_pos _)).trans ?_
  refine (congrArg n (at3_g3 b c _).symm).trans ?_
  have e : shapeCast (S4 48 256 2048) U hc (g4 b c k) = U (at3 b c k) := by
    refine shapeCast_apply U hc _ _ ?_
    rw [Shape.rowMajor_val_three, Shape.rowMajor_val_four]
    show (b.val * 256 + c.val) * 2048 + k.val = ((b.val * 256 + c.val) * 2048 + k.val) * 1 + 0
    omega
  have h := hU (at3 b c k)
  refine congrArg n (congrArg (at3 b c) ?_)
  apply Fin.ext
  show min (shapeCast (S4 48 256 2048) U hc (g4 b c k)).toInt.toNat 2047 = (U (at3 b c k)).toNat
  rw [e, toInt_low h]
  omega

end Cert.Scat

end
-- ==== Proof.RefI.lean ====
/-
  The reference's run: its result is the take of the new values by the order of the order of the content
  (`R`), read at an index by `R_at`; the arguments end unchanged and no semaphore is ever up (`frame_r`).
-/
module

public import proofs.«01_k».proof.Defs
public import proofs.«01_k».proof.Proof.Gen.ReferenceIdeal.Run
public import proofs.«01_k».proof.Proof.Take
public import Idealize.ShloMosaic.Lib.SparseCore.Quiescent
public import Idealize.ShloMosaic.Lib.Pipeline.FrameTail
public import Idealize.ShloMosaic.Lib.Pipeline.Kit

@[expose] public section

set_option maxRecDepth 16384

noncomputable section

namespace Cert.ReferenceIdeal.Own

open Cert.ReferenceIdeal Cert.ReferenceIdeal.Gen Cert.Scat
open Idealize.ShloMosaic Idealize.SL.Sem

variable {F : FTy → Type} [FloatOps F]

/-- The order of the content's rows, and the order of that order's words. -/
def Wof (a : FVec F S48x256x32x64 .f32) : IVec SC 32 :=
  (Host.sort2 S48x256x2048 2 (comparator_f32_i32_d2 (F := F)) (shapeCast S48x256x2048 a shapeCasts_S48x256x32x64_S48x256x2048) (iotaInDim S48x256x2048 32 2)).2
def Uof (a : FVec F S48x256x32x64 .f32) : IVec SC 32 :=
  (Host.sort2 S48x256x2048 2 comparator_i32_i32_d2 (Wof a) (iotaInDim S48x256x2048 32 2)).2

/-- What the reference takes. -/
def R (a : FVec F S48x256x32x64 .f32) (n : FVec F S48x256x2048 .f32) : Vec F SC .f32 :=
  taken bcast_S_S48x256x2048 shapeCasts_S48x256x2048_S48x256x2048x1 bcast_S_S48x256x2048x1 bcast_S1_S1x1x1x1_3 bcast_S1x1x1x1_S48x256x2048x1_0_1_2_3
    reducesTo_S48x256x2048x1_S48x256x2048_d3 h_S_ gather_S48x256x2048_S48x256x2048x1_S48x256x2048_n_2_01_01_2_3_111_wf n (Uof a)

abbrev πof (a : FVec F S48x256x32x64 .f32) : Fin 48 → Fin 256 → Fin 2048 → Fin 2048 :=
  ord (comparator_f32_i32_d2 (F := F)) (shapeCast S48x256x2048 a shapeCasts_S48x256x32x64_S48x256x2048)
abbrev ρof (a : FVec F S48x256x32x64 .f32) : Fin 48 → Fin 256 → Fin 2048 → Fin 2048 := ord below (Wof a)

theorem W_at (a : FVec F S48x256x32x64 .f32) (b : Fin 48) (c : Fin 256) (j : Fin 2048) : Wof a (at3 b c j) = BitVec.ofNat 32 (πof a b c j).val :=
  sort2_words _ _ b c j

theorem U_at (a : FVec F S48x256x32x64 .f32) (b : Fin 48) (c : Fin 256) (k : Fin 2048) : Uof a (at3 b c k) = BitVec.ofNat 32 (ρof a b c k).val :=
  sort2_words below (Wof a) b c k

theorem U_toNat (a : FVec F S48x256x32x64 .f32) (b : Fin 48) (c : Fin 256) (k : Fin 2048) : (Uof a (at3 b c k)).toNat = (ρof a b c k).val := by
  rw [U_at, BitVec.toNat_ofNat]
  exact Nat.mod_eq_of_lt (lt_trans (Fin.isLt _) (by decide))

theorem U_lt (a : FVec F S48x256x32x64 .f32) (i : SC.Idx) : (Uof a i).toNat < 2048 := by
  obtain ⟨b, c, k, rfl⟩ : ∃ b c k, i = at3 b c k := ⟨_, _, _, at3_eta i⟩
  rw [U_toNat]
  exact Fin.isLt _

/-- The order of the order undoes the order. -/
theorem undoes (a : FVec F S48x256x32x64 .f32) (b : Fin 48) (c : Fin 256) (k : Fin 2048) : πof a b c (ρof a b c k) = k :=
  ord_undoes (Wof a) b c (πof a b c) (ord_injective _ _ b c) (W_at a b c) k

theorem R_at (a : FVec F S48x256x32x64 .f32) (n : FVec F S48x256x2048 .f32) (b : Fin 48) (c : Fin 256) (k : Fin 2048) :
    R a n (at3 b c k) = n (at3 b c (ρof a b c k)) := by
  unfold R
  refine (taken_at _ _ _ _ _ _ _ _ n (Uof a) (U_lt a) b c k).trans ?_
  exact congrArg n (congrArg (at3 b c) (Fin.ext (U_toNat a b c k)))

variable (m : (ℓ : Loc nD τ sig) → Buf (Elt F) ℓ) (ρ : Dev nD → PrngReg)

theorem run_main : θ_run defs (onTc (τ := τ) (main (F := F))) ⟨m, fun _ => 0, ρ⟩ fun r => (∀ c : Dev nD,
    r.2.mem ((c.tc : Thread nD τ).loc main_v4) = shapeCast S48x256x32x64 (R (m ((c.tc : Thread nD τ).loc main_arg0)) (m ((c.tc : Thread nD τ).loc main_arg1))) shapeCasts_S48x256x2048_S48x256x32x64
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run defs _ _).mono (fun r h => ⟨h, Idealize.ShloMosaic.sem_eq_zero_of_no_sems (by decide) r.2⟩) (Value.run m ρ)

end Cert.ReferenceIdeal.Own

end
-- ==== Proof.Equal.lean ====
/-
  The two results are equal: what the tiles leave, row by row, is what the reference takes.
-/
module

public import proofs.«01_k».proof.Proof.RunKI
public import proofs.«01_k».proof.Proof.RefI

@[expose] public section

set_option maxRecDepth 16384

noncomputable section

namespace Cert.Equal

open Cert.Scat Idealize.ShloMosaic Idealize.SL.Sem

variable {F : FTy → Type} [FloatOps F]

theorem result_eq (a : FVec F SX .f32) (n : FVec F SC .f32) (o : Vec F SB .f32)
    (ho : Cert.KernelIdeal.Own.Done (Cert.KernelIdeal.Own.Iof a) (Cert.KernelIdeal.Own.Nof n) o Finset.univ) :
    shapeCast SX o Cert.KernelIdeal.Gen.shapeCasts_S12288x2048_S48x256x32x64
      = shapeCast SX (Cert.ReferenceIdeal.Own.R a n) Cert.ReferenceIdeal.Gen.shapeCasts_S48x256x2048_S48x256x32x64 :=
  scattered Cert.KernelIdeal.Gen.shapeCasts_S48x256x2048_S12288x2048 _ _ (Cert.ReferenceIdeal.Own.Wof a) n (Cert.ReferenceIdeal.Own.R a n) o
    (Cert.ReferenceIdeal.Own.πof a) (Cert.ReferenceIdeal.Own.ρof a) (Cert.ReferenceIdeal.Own.W_at a) (Cert.ReferenceIdeal.Own.undoes a)
    (Cert.ReferenceIdeal.Own.R_at a n)
    (fun r j h => ho r (words_inj _ _ _ r) j h (Finset.mem_univ _))

end Cert.Equal

end
-- ==== Proof.Stages.lean ====
module

public import Idealize.ShloMosaic.Lib.StableHlo.Run
public import Idealize.ShloMosaic.Lib.Pipeline.Kit
public import Idealize.ShloMosaic.Lib.Tactic
public import Idealize.ShloMosaic.Lib.VecWindow

@[expose] public section

noncomputable section

namespace Cert.Stages

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)

local notation "𝕄" => MT nD τ sig Ix Val Name U Lvl

variable {α : Type} {cs : CoreSpace} {s : Shape} {e e' : EltTy}

/-- A load of all of a memref reads what it holds. -/
theorem load_full {m : Memref sig c.2.kind cs s e} {off : Fin s.rank → ℕ} {inb : ∀ a, off a + s.size a ≤ s.size a}
    {hl : m.view.LoadsAt (Rect.unit off s.size inb).toLoadRect} {k : (s.Idx → Val e) → Prog (TpuEff nD τ sig Val Λ c.2) α}
    {Q : α → sProp 𝕄} {q : PosShare TreeShare} {X : s.Idx → Val e} :
    (owns c m q X : sProp 𝕄) ⊢ iprop((owns c m q X -∗ wp frame (wpE defs 𝒱 c bd) E (k X) Q)
      -∗ wp frame (wpE defs 𝒱 c bd) E ((Prog.lift (.load m (Rect.unit off s.size inb).toLoadRect hl)) >>= k) Q) := by
  unfold owns
  iintro ⟨%f, %hf, H⟩ Hk
  have h := fun Γ => wp_load (Γ := Γ) (defs := defs) 𝒱 c bd E (Q := Q) (m := m) (r := (Rect.unit off s.size inb).toLoadRect) (hl := hl) (k := k)
    (S := m.view.set) (q := q) (f := f) (View.setOn_subset_set _ _)
  simp only [View.readAt_full, hf] at h
  iapply (h _) $$ H
  iintro H
  iapply Hk
  iexists f
  isplitr; · ipureintro; exact hf
  iexact H

/-- A store of all of a memref leaves what is stored. -/
theorem store_full {m : Memref sig c.2.kind cs s e} {off : Fin s.rank → ℕ} {inb : ∀ a, off a + s.size a ≤ s.size a}
    {w : s.Idx → Val e} {hx : (m.access (Rect.unit off s.size inb)).Stores Finset.univ} {hm} {k : PUnit → Prog (TpuEff nD τ sig Val Λ c.2) α}
    {Q : α → sProp 𝕄} {X : s.Idx → Val e} :
    (owns c m fullShare X : sProp 𝕄) ⊢ iprop((owns c m fullShare w -∗ wp frame (wpE defs 𝒱 c bd) E (k ⟨⟩) Q)
      -∗ wp frame (wpE defs 𝒱 c bd) E ((Prog.lift (.store m (Rect.unit off s.size inb) w Finset.univ hx hm)) >>= k) Q) := by
  unfold owns
  iintro ⟨%f, -, H⟩ Hk
  have h := fun Γ => wp_store (Γ := Γ) (defs := defs) 𝒱 c bd E (Q := Q) (m := m) (r := Rect.unit off s.size inb) (w := w) (Mk := Finset.univ) (hx := hx) (hm := hm) (k := k)
    (S := m.view.set) (f := f) (View.set_slice_subset _ _)
  iapply (h _) $$ H
  iintro H
  iapply Hk
  iexists _
  isplitr; swap; · iexact H
  ipureintro
  exact View.read_writes_full m.view f inb w []

/-- A program that is at its end. -/
theorem done {a : α} {Q : α → sProp 𝕄} : (Q a : sProp 𝕄) ⊢ wp frame (wpE defs 𝒱 c bd) E (pure a) Q := by
  iintro H
  sl_step
  iexact H

/-- Both of two buffers stored anew from the two, if the condition holds. -/
def onBoth {X Y : Type} (b : BitVec 1) (f : X → Y → X) (g : X → Y → Y) (S : X × Y) : X × Y := if b = 1#1 then (f S.1 S.2, g S.1 S.2) else S

/-- One conditional stage on two scratch buffers: both loaded, and each stored anew from the two. -/
theorem stage {A : Memref sig c.2.kind cs s e} {B : Memref sig c.2.kind cs s e'} {off : Fin s.rank → ℕ} {inb : ∀ a, off a + s.size a ≤ s.size a}
    {la : A.view.LoadsAt (Rect.unit off s.size inb).toLoadRect} {lb : B.view.LoadsAt (Rect.unit off s.size inb).toLoadRect}
    {f : (s.Idx → Val e) → (s.Idx → Val e') → s.Idx → Val e} {g : (s.Idx → Val e) → (s.Idx → Val e') → s.Idx → Val e'}
    {xa : (A.access (Rect.unit off s.size inb)).Stores Finset.univ} {xb : (B.access (Rect.unit off s.size inb)).Stores Finset.univ} {ma mb}
    {b : BitVec 1} {k : Prog (TpuEff nD τ sig Val Λ c.2) α} {Q : α → sProp 𝕄} {S : (s.Idx → Val e) × (s.Idx → Val e')} :
    (iprop(owns c A fullShare S.1 ∗ owns c B fullShare S.2) : sProp 𝕄)
      ⊢ iprop((iprop(owns c A fullShare (onBoth b f g S).1 ∗ owns c B fullShare (onBoth b f g S).2)
          -∗ wp frame (wpE defs 𝒱 c bd) E k Q)
        -∗ wp frame (wpE defs 𝒱 c bd) E (if _h : b = 1#1 then
            (Prog.lift (.load A (Rect.unit off s.size inb).toLoadRect la) >>= fun v =>
            Prog.lift (.load B (Rect.unit off s.size inb).toLoadRect lb) >>= fun w =>
            Prog.lift (.load A (Rect.unit off s.size inb).toLoadRect la) >>= fun _ =>
            Prog.lift (.store A (Rect.unit off s.size inb) (f v w) Finset.univ xa ma) >>= fun _ =>
            Prog.lift (.load B (Rect.unit off s.size inb).toLoadRect lb) >>= fun _ =>
            Prog.lift (.store B (Rect.unit off s.size inb) (g v w) Finset.univ xb mb) >>= fun _ => k)
          else k) Q) := by
  by_cases h : b = 1#1
  · rw [dif_pos h]
    unfold onBoth
    rw [if_pos h]
    iintro ⟨HA, HB⟩ Hk
    iapply (load_full 𝒱 c bd E) $$ HA
    iintro HA
    iapply (load_full 𝒱 c bd E) $$ HB
    iintro HB
    iapply (load_full 𝒱 c bd E) $$ HA
    iintro HA
    iapply (store_full 𝒱 c bd E) $$ HA
    iintro HA
    iapply (load_full 𝒱 c bd E) $$ HB
    iintro HB
    iapply (store_full 𝒱 c bd E) $$ HB
    iintro HB
    iapply Hk
    isplitl [HA] <;> iassumption
  · rw [dif_neg h]
    unfold onBoth
    rw [if_neg h]
    iintro ⟨HA, HB⟩ Hk
    iapply Hk
    isplitl [HA] <;> iassumption

end Cert.Stages

end
-- ==== Proof.BodySI.lean ====
/-
  The body of the TensorCore kernel at one grid point. The two scratch buffers go through eleven phases of up to eleven
  conditional stages each (`trip`), from the transposed block of inputs and the row numbers; the ids are then written to
  the first result's block, and the blend of the second input with the values to the second's.
-/
module

public import proofs.«01_k».proof.Proof.Gen.SortIdeal.Loops
public import proofs.«01_k».proof.Proof.Stages

@[expose] public section

set_option maxRecDepth 8192

noncomputable section

namespace Cert.Proof.SortIdeal

open Cert.SortIdeal Cert.SortIdeal.Gen Cert.Stages

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's, beside the counters of the transfers' invariants. -/
abbrev UU : Type := UR sig nD τ × Counters

local notation "𝕄" => MT nD τ sig Unit (Elt F) ℕ UU ℕ

/-- The two scratch buffers' contents. -/
abbrev Both (F : FTy → Type) : Type := Vec F S2048x256 .f32 × Vec F S2048x256 .i32

/-- The positions along the sorted axis. -/
def pos : IVec S2048x1 32 := iota .tc S2048x1 32 [0] iota_S2048x1_d0_w32

/-- Is the phase's number above `q`? -/
def above (t : Fin k0_t1_loop.trips) (q : BitVec 32) : BitVec 1 := Scalar.cmpi .ne (Scalar.extui (Scalar.cmpi .sgt (Scf.iv 1#32 1#32 t) q)) 0#32

/-- The descending positions of phase `t`. -/
def down (t : Fin k0_t1_loop.trips) : IVec S2048x1 1 := k0_pay2 pos 1#32 1#32 t

/-- One phase on the two scratch buffers. -/
def trip (t : Fin k0_t1_loop.trips) (S : Both F) : Both F :=
  let S := onBoth (above t 10#32) (k0_pay6 pos 1#32 1#32 t) (k0_pay7 pos 1#32 1#32 t) S
  let S := onBoth (above t 9#32) (k0_pay11 pos 1#32 1#32 t) (k0_pay12 pos 1#32 1#32 t) S
  let S := onBoth (above t 8#32) (k0_pay16 pos 1#32 1#32 t) (k0_pay17 pos 1#32 1#32 t) S
  let S := onBoth (above t 7#32) (k0_pay21 pos 1#32 1#32 t) (k0_pay22 pos 1#32 1#32 t) S
  let S := onBoth (above t 6#32) (k0_pay26 pos 1#32 1#32 t) (k0_pay27 pos 1#32 1#32 t) S
  let S := onBoth (above t 5#32) (k0_pay31 pos 1#32 1#32 t) (k0_pay32 pos 1#32 1#32 t) S
  let S := onBoth (above t 4#32) (k0_pay36 pos 1#32 1#32 t) (k0_pay37 pos 1#32 1#32 t) S
  let S := onBoth (above t 3#32) (k0_pay41 pos 1#32 1#32 t) (k0_pay42 pos 1#32 1#32 t) S
  let S := onBoth (above t 2#32) (k0_pay48 (down t)) (k0_pay49 (down t)) S
  let S := onBoth (above t 1#32) (k0_pay53 (down t)) (k0_pay54 (down t)) S
  let S := onBoth (above t 0#32) (k0_pay58 (down t)) (k0_pay59 (down t)) S
  S

/-- The phases before the `k`-th, in turn. -/
def trips : ℕ → Both F → Both F
  | 0, S => S
  | k + 1, S => if h : k < k0_t1_loop.trips then trip ⟨k, h⟩ (trips k S) else trips k S

theorem trips_succ (k : Fin k0_t1_loop.trips) (S : Both F) : trips (k.val + 1) S = trip k (trips k.val S) := by
  rw [trips, dif_pos k.isLt]

/-- What the scratch buffers hold after all phases. -/
def out (x : Vec F S1x256x2048 .f32) : Both F := trips k0_t1_loop.trips (k0_pay43 x, k0_pay44)

variable (𝒱 : Variants) (c : Dev nD) (bd : Option 𝒱.V) (E : Set ℕ)
variable (i : grid0.Coords) (arg2 : Memref sig .tc .smem S48 .i32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .i32) (harg5 : arg5.IsWhole) (arg6 : Memref sig .tc .vmem S1x256x2048 .f32) (harg6 : arg6.IsWhole) (arg7 : Memref sig .tc .vmem S2048x256 .f32) (harg7 : arg7.IsWhole) (arg8 : Memref sig .tc .vmem S2048x256 .i32) (harg8 : arg8.IsWhole)

/-- The first eight stages of a phase. -/
def trip8 (t : Fin k0_t1_loop.trips) (S : Both F) : Both F :=
  let S := onBoth (above t 10#32) (k0_pay6 pos 1#32 1#32 t) (k0_pay7 pos 1#32 1#32 t) S
  let S := onBoth (above t 9#32) (k0_pay11 pos 1#32 1#32 t) (k0_pay12 pos 1#32 1#32 t) S
  let S := onBoth (above t 8#32) (k0_pay16 pos 1#32 1#32 t) (k0_pay17 pos 1#32 1#32 t) S
  let S := onBoth (above t 7#32) (k0_pay21 pos 1#32 1#32 t) (k0_pay22 pos 1#32 1#32 t) S
  let S := onBoth (above t 6#32) (k0_pay26 pos 1#32 1#32 t) (k0_pay27 pos 1#32 1#32 t) S
  let S := onBoth (above t 5#32) (k0_pay31 pos 1#32 1#32 t) (k0_pay32 pos 1#32 1#32 t) S
  let S := onBoth (above t 4#32) (k0_pay36 pos 1#32 1#32 t) (k0_pay37 pos 1#32 1#32 t) S
  let S := onBoth (above t 3#32) (k0_pay41 pos 1#32 1#32 t) (k0_pay42 pos 1#32 1#32 t) S
  S

theorem trip_eq (t : Fin k0_t1_loop.trips) (S : Both F) : trip t S =
  let S := trip8 t S
  let S := onBoth (above t 2#32) (k0_pay48 (down t)) (k0_pay49 (down t)) S
  let S := onBoth (above t 1#32) (k0_pay53 (down t)) (k0_pay54 (down t)) S
  let S := onBoth (above t 0#32) (k0_pay58 (down t)) (k0_pay59 (down t)) S
  S  := rfl

/-- The first eight stages take the buffers on by `trip8`. -/
theorem wp_part1 (t : Fin k0_t1_loop.trips) (S : Both F) {α : Type} {kk : (Σ' (_ : BitVec 32) (_ : IVec S2048x1 1) (_ : BitVec 32), BitVec 32) → Prog (TpuEff nD τ sig (Elt F) Λ₀ .tc) α} {Q : α → sProp 𝕄} :
    (iprop(owns (c : Thread nD τ) arg7 fullShare S.1 ∗ owns (c : Thread nD τ) arg8 fullShare S.2) : sProp 𝕄)
      ⊢ iprop((iprop(owns (c : Thread nD τ) arg7 fullShare (trip8 t S).1 ∗ owns (c : Thread nD τ) arg8 fullShare (trip8 t S).2)
          -∗ wp frame (wpE (defs₀ (F := F)) 𝒱 (c : Thread nD τ) bd) E (kk ⟨Scf.iv 1#32 1#32 t, down t, Scalar.extui (Scalar.cmpi .sgt (Scf.iv 1#32 1#32 t) 2#32), 0#32⟩) Q)
        -∗ wp frame (wpE (defs₀ (F := F)) 𝒱 (c : Thread nD τ) bd) E (k0_part1 i arg2 harg2 arg3 harg3 arg4 harg4 arg5 harg5 arg6 harg6 arg7 harg7 arg8 harg8 pos 1#32 1#32 t >>= kk) Q) := by
  rw [k0_part1_eq_skeleton]
  unfold k0_part1_skel
  rw [wp_bind]
  iintro H Hk
  iapply (stage 𝒱 (c : Thread nD τ) bd E) $$ H
  iintro H
  iapply (stage 𝒱 (c : Thread nD τ) bd E) $$ H
  iintro H
  iapply (stage 𝒱 (c : Thread nD τ) bd E) $$ H
  iintro H
  iapply (stage 𝒱 (c : Thread nD τ) bd E) $$ H
  iintro H
  iapply (stage 𝒱 (c : Thread nD τ) bd E) $$ H
  iintro H
  iapply (stage 𝒱 (c : Thread nD τ) bd E) $$ H
  iintro H
  iapply (stage 𝒱 (c : Thread nD τ) bd E) $$ H
  iintro H
  iapply (stage 𝒱 (c : Thread nD τ) bd E) $$ H
  iintro H
  iapply (done 𝒱 (c : Thread nD τ) bd E)
  iapply Hk
  iexact H

/-- One phase takes the buffers on by `trip`. -/
theorem wp_trip (t : Fin k0_t1_loop.trips) (S : Both F) :
    (iprop(owns (c : Thread nD τ) arg7 fullShare S.1 ∗ owns (c : Thread nD τ) arg8 fullShare S.2) : sProp 𝕄)
      ⊢ wp frame (wpE (defs₀ (F := F)) 𝒱 (c : Thread nD τ) bd) E (k0_t1_body i arg2 harg2 arg3 harg3 arg4 harg4 arg5 harg5 arg6 harg6 arg7 harg7 arg8 harg8 pos t ())
          (fun _ => iprop(owns (c : Thread nD τ) arg7 fullShare (trip t S).1 ∗ owns (c : Thread nD τ) arg8 fullShare (trip t S).2)) := by
  unfold k0_t1_body
  iintro H
  iapply (wp_part1 𝒱 c bd E i arg2 harg2 arg3 harg3 arg4 harg4 arg5 harg5 arg6 harg6 arg7 harg7 arg8 harg8 t S) $$ H
  iintro H
  iapply (stage 𝒱 (c : Thread nD τ) bd E) $$ H
  iintro H
  iapply (stage 𝒱 (c : Thread nD τ) bd E) $$ H
  iintro H
  iapply (stage 𝒱 (c : Thread nD τ) bd E) $$ H
  iintro H
  iapply (done 𝒱 (c : Thread nD τ) bd E)
  iexact H

/-- The loop of phases. -/
@[instance_reducible] def loop (S : Both F) : LoopInvTy_k0_t1 (F := F) Unit ℕ UU ℕ 𝒱 c bd E i arg2 harg2 arg3 harg3 arg4 harg4 arg5 harg5 arg6 harg6 arg7 harg7 arg8 harg8 pos :=
  ⟨fun k _ => iprop(owns (c : Thread nD τ) arg7 fullShare (trips k S).1 ∗ owns (c : Thread nD τ) arg8 fullShare (trips k S).2),
    fun k _ => by
      rw [trips_succ]
      exact wp_trip 𝒱 c bd E i arg2 harg2 arg3 harg3 arg4 harg4 arg5 harg5 arg6 harg6 arg7 harg7 arg8 harg8 k _⟩

/-- All phases. -/
theorem wp_trips (S : Both F) {α : Type} {kk : Unit → Prog (TpuEff nD τ sig (Elt F) Λ₀ .tc) α} {Q : α → sProp 𝕄} :
    (iprop(owns (c : Thread nD τ) arg7 fullShare S.1 ∗ owns (c : Thread nD τ) arg8 fullShare S.2) : sProp 𝕄)
      ⊢ iprop((∀ acc, iprop(owns (c : Thread nD τ) arg7 fullShare (trips k0_t1_loop.trips S).1 ∗ owns (c : Thread nD τ) arg8 fullShare (trips k0_t1_loop.trips S).2)
          -∗ wp frame (wpE (defs₀ (F := F)) 𝒱 (c : Thread nD τ) bd) E (kk acc) Q)
        -∗ wp frame (wpE (defs₀ (F := F)) 𝒱 (c : Thread nD τ) bd) E
            (Scf.Loop.for k0_t1_loop k0_t1_ok ⟨⟩ (k0_t1_body i arg2 harg2 arg3 harg3 arg4 harg4 arg5 harg5 arg6 harg6 arg7 harg7 arg8 harg8 pos) >>= kk) Q) :=
  exec_loop _ _ _ _ _ _ _ _ _ (loop 𝒱 c bd E i arg2 harg2 arg3 harg3 arg4 harg4 arg5 harg5 arg6 harg6 arg7 harg7 arg8 harg8 S)

set_option maxHeartbeats 4000000 in
/-- The whole body. -/
theorem wp_body (x b : Vec F S1x256x2048 .f32) (X5 : Vec F S1x256x2048 .i32) (X6 : Vec F S1x256x2048 .f32) (X7 : Vec F S2048x256 .f32) (X8 : Vec F S2048x256 .i32) :
    (iprop(owns (c : Thread nD τ) arg3 fullShare x ∗ owns (c : Thread nD τ) arg4 fullShare b ∗ owns (c : Thread nD τ) arg5 fullShare X5
        ∗ owns (c : Thread nD τ) arg6 fullShare X6 ∗ owns (c : Thread nD τ) arg7 fullShare X7 ∗ owns (c : Thread nD τ) arg8 fullShare X8) : sProp 𝕄)
      ⊢ wp frame (wpE (defs₀ (F := F)) 𝒱 (c : Thread nD τ) bd) E (cc0__sort_kernel_body i arg2 harg2 arg3 harg3 arg4 harg4 arg5 harg5 arg6 harg6 arg7 harg7 arg8 harg8)
          (fun _ => iprop(owns (c : Thread nD τ) arg3 fullShare x ∗ owns (c : Thread nD τ) arg4 fullShare b
            ∗ owns (c : Thread nD τ) arg5 fullShare (k0_pay60 (out x).2) ∗ owns (c : Thread nD τ) arg6 fullShare (k0_pay1 (k0_pay61 b (out x).1))
            ∗ owns (c : Thread nD τ) arg7 fullShare (out x).1 ∗ owns (c : Thread nD τ) arg8 fullShare (out x).2)) := by
  rw [cc0__sort_kernel_body_eq_skeleton]
  unfold cc0__sort_kernel_body_skel
  rw [k0_part2_eq_skeleton]
  unfold k0_part2_skel
  simp only [bind_assoc, pure_bind]
  iintro ⟨H3, H4, H5, H6, H7, H8⟩
  iapply (load_full 𝒱 (c : Thread nD τ) bd E) $$ H3
  iintro H3
  iapply (load_full 𝒱 (c : Thread nD τ) bd E) $$ H7
  iintro H7
  iapply (store_full 𝒱 (c : Thread nD τ) bd E) $$ H7
  iintro H7
  iapply (load_full 𝒱 (c : Thread nD τ) bd E) $$ H8
  iintro H8
  iapply (store_full 𝒱 (c : Thread nD τ) bd E) $$ H8
  iintro H8
  iapply (wp_trips 𝒱 c bd E i arg2 harg2 arg3 harg3 arg4 harg4 arg5 harg5 arg6 harg6 arg7 harg7 arg8 harg8 (k0_pay43 x, k0_pay44)) $$ [H7 H8]
  · isplitl [H7]; · iexact H7
    iexact H8
  iintro %_ ⟨H7, H8⟩
  iapply (load_full 𝒱 (c : Thread nD τ) bd E) $$ H8
  iintro H8
  iapply (load_full 𝒱 (c : Thread nD τ) bd E) $$ H5
  iintro H5
  iapply (store_full 𝒱 (c : Thread nD τ) bd E) $$ H5
  iintro H5
  iapply (load_full 𝒱 (c : Thread nD τ) bd E) $$ H4
  iintro H4
  iapply (load_full 𝒱 (c : Thread nD τ) bd E) $$ H7
  iintro H7
  iapply (load_full 𝒱 (c : Thread nD τ) bd E) $$ H6
  iintro H6
  iapply (store_full 𝒱 (c : Thread nD τ) bd E) $$ H6
  iintro H6
  iapply (done 𝒱 (c : Thread nD τ) bd E)
  isplitl [H3]; · iexact H3
  isplitl [H4]; · iexact H4
  isplitl [H5]; · iexact H5
  isplitl [H6]; · iexact H6
  isplitl [H7]; · iexact H7
  iexact H8

end Cert.Proof.SortIdeal

end
-- ==== Proof.TabSI.lean ====
/-
  The table the TensorCore kernel's windows 1 and 3 read: the positions of an order of the 48 batches. Each entry is below
  48, and no two are equal.
-/
module

public import proofs.«01_k».proof.Proof.Gen.SortIdeal.Launch
public import proofs.«01_k».proof.Proof.Sorts

@[expose] public section

set_option maxRecDepth 8192

noncomputable section

namespace Cert.Proof.SortIdeal

open Cert.SortIdeal Cert.SortIdeal.Gen

open Idealize.ShloMosaic
open Idealize.ShloMosaic.TcCoe

variable {F : FTy → Type} [FloatOps F]

/-- Row `c` of a block, position `n`. -/
def in1 (c : Fin 256) (n : Fin 2048) : S1x256x2048.Idx := fun | 0 => ⟨0, Nat.one_pos⟩ | 1 => c | 2 => n

theorem in1_eta (y : S1x256x2048.Idx) : y = in1 (y 1) (y 2) := by
  funext a; match a with
  | 0 => exact Fin.ext (Nat.lt_one_iff.mp (y 0).isLt)
  | 1 => rfl
  | 2 => rfl

/-- Batch `b` as a multi-index of the table. -/
def bat (b : Fin 48) : S48.Idx := fun | 0 => b

theorem bat_eta (j : S48.Idx) : j = bat (j 0) := funext fun a => by obtain rfl : a = 0 := Subsingleton.elim _ _; rfl

/-- Entry `b` of the table. -/
def entry (T : S48.Idx → BitVec 32) (b : Fin 48) : BitVec 32 := T (bat b)

/-- The block index of windows 1 and 3 at a point. -/
theorem transform_1 (pf : pre0.Contents (Elt F)) (i : grid0.Coords) :
    cc0_transform_1 k0_off1_inb numel1_S1 pf i = ![(entry (pf 0) (i 0)).toNat, (i 1).val, 0] := by
  have h0 : (BitVec.ofNat 32 (i 0).val).toNat = (i 0).val := by
    have h : (i 0).val < 48 := (i 0).isLt
    rw [BitVec.toNat_ofNat]; omega
  have h1 : (BitVec.ofNat 32 (i 1).val).toNat = (i 1).val := by
    have h : (i 1).val < 1 := (i 1).isLt
    rw [BitVec.toNat_ofNat]; omega
  unfold cc0_transform_1
  dsimp only
  rw [h1]
  have e : ∀ j : S48.Idx, (j 0).val = (i 0).val → (pf 0 j : BitVec 32) = entry (pf 0) (i 0) := fun j hj =>
    congrArg (pf 0) ((bat_eta j).trans (congrArg bat (Fin.ext hj)))
  refine congrArg (fun n => (![n, (i 1).val, 0] : Fin 3 → Nat)) (congrArg BitVec.toNat (e _ ?_))
  show (Scalar.indexCast (BitVec.ofNat 32 (i 0).val)).toNat + 0 * 1 = (i 0).val
  exact h0

theorem transform_3 (pf : pre0.Contents (Elt F)) (i : grid0.Coords) :
    cc0_transform_3 k0_off1_inb numel1_S1 pf i = ![(entry (pf 0) (i 0)).toNat, (i 1).val, 0] := transform_1 pf i

/-- Windows 1 and 3 stay inside their arrays. -/
theorem ok_of_lt (pf : pre0.Contents (Elt F)) (h : ∀ b, (entry (pf 0) b).toNat < 48) : ok0 pf := by
  have hin : ∀ i : grid0.Coords, ∀ a, (cc0_transform_1 k0_off1_inb numel1_S1 pf i a + 1) * S1x256x2048.size a ≤ S48x256x2048.size a := by
    intro i a
    rw [transform_1]
    have hb := h (i 0)
    have h1 : (i 1).val < 1 := (i 1).isLt
    fin_cases a
    · show ((entry (pf 0) (i 0)).toNat + 1) * 1 ≤ 48; omega
    · show ((i 1).val + 1) * 256 ≤ 256; omega
    · show (0 + 1) * 2048 ≤ 2048; omega
  exact ⟨fun i => ⟨hin i, .inl rfl⟩, fun i => ⟨hin i, .inl rfl⟩⟩

/-- The order of the batches a sort under `cmp` brings them in. -/
def border (cmp : BitVec 32 × BitVec 32 → BitVec 32 × BitVec 32 → BitVec 1) (x : S48.Idx → BitVec 32) : Fin 48 → Fin 48 :=
  sortedFrom fun k k' => cmp (x (bat k), BitVec.ofNat 32 k.val) (x (bat k'), BitVec.ofNat 32 k'.val) == 1#1

theorem border_injective (cmp : BitVec 32 × BitVec 32 → BitVec 32 × BitVec 32 → BitVec 1) (x : S48.Idx → BitVec 32) :
    Function.Injective (border cmp x) := sortedFrom_injective _

/-- The positions a sort of the batches carries along come out as that order. -/
theorem entry_sort (cmp : BitVec 32 × BitVec 32 → BitVec 32 × BitVec 32 → BitVec 1) (x : S48.Idx → BitVec 32) (b : Fin 48) :
    entry (Host.sort2 S48 0 cmp x (iotaInDim S48 32 0)).2 b = BitVec.ofNat 32 (border cmp x b).val := by
  unfold entry border
  have hd : 0 < S48.rank := by decide
  have hn : S48.size ⟨0, hd⟩ = 48 := rfl
  exact Cert.Scat.sort2_snd hd hn cmp x (iotaInDim S48 32 0) (bat b) bat
    (fun k => funext fun a => by obtain rfl : a = 0 := Subsingleton.elim _ _; rfl) b (Fin.ext rfl)
    (fun k => BitVec.ofNat 32 k.val) (fun k => rfl)

theorem entry_sort_toNat (cmp : BitVec 32 × BitVec 32 → BitVec 32 × BitVec 32 → BitVec 1) (x : S48.Idx → BitVec 32) (b : Fin 48) :
    (entry (Host.sort2 S48 0 cmp x (iotaInDim S48 32 0)).2 b).toNat = (border cmp x b).val := by
  rw [entry_sort, BitVec.toNat_ofNat]
  have := (border cmp x b).isLt
  omega

end Cert.Proof.SortIdeal

end
-- ==== Proof.HostSI.lean ====
/-
  The host operations ahead of the kernel: the contents of every buffer at each stage, the table they make, and that they
  leave the arguments alone.
-/
module

public import proofs.«01_k».proof.Proof.TabSI
public import Idealize.ShloMosaic.Lib.StableHlo.Run

@[expose] public section

set_option maxRecDepth 8192

noncomputable section

namespace Cert.Proof.SortIdeal

open Cert.SortIdeal Cert.SortIdeal.Gen

open Idealize.ShloMosaic
open Idealize.ShloMosaic.TcCoe

variable {F : FTy → Type} [FloatOps F]
variable (m : (ℓ : Loc nD τ sig) → Buf (Elt F) ℓ)

/-- Core `c`'s buffers at launch, after the first stretch, after the shuffle, and at the kernel. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := StableHlo.after hostOps0_1 (V₁ m c)
def V₃ (c : Dev nD) : Valuation τ sig (Elt F) := StableHlo.after hostOps0_2 (V₂ m c)

/-- No operation of a line writes `b`, by one check of the line. -/
theorem after_kept {b : DevRef τ sig} (ops : List (HloOp τ sig (Elt F))) (h : (ops.all fun op => decide (b ∉ op.writes)) = true)
    (V : Valuation τ sig (Elt F)) : StableHlo.after ops V b = V b :=
  StableHlo.after_of_forall_not_mem ops V fun op hop => of_decide_eq_true (List.all_eq_true.mp h op hop)

theorem V₁_arg0 (c : Dev nD) : V₁ m c (Proc.devRef .tc main_arg0) = m ((c : Thread nD τ).loc main_arg0) := after_kept hostOps0 rfl _
theorem V₁_arg1 (c : Dev nD) : V₁ m c (Proc.devRef .tc main_arg1) = m ((c : Thread nD τ).loc main_arg1) := after_kept hostOps0 rfl _
theorem V₂_arg0 (c : Dev nD) : V₂ m c (Proc.devRef .tc main_arg0) = m ((c : Thread nD τ).loc main_arg0) :=
  (after_kept hostOps0_1 rfl _).trans (V₁_arg0 m c)
theorem V₂_arg1 (c : Dev nD) : V₂ m c (Proc.devRef .tc main_arg1) = m ((c : Thread nD τ).loc main_arg1) :=
  (after_kept hostOps0_1 rfl _).trans (V₁_arg1 m c)
theorem V₃_arg0 (c : Dev nD) : V₃ m c (Proc.devRef .tc main_arg0) = m ((c : Thread nD τ).loc main_arg0) :=
  (after_kept hostOps0_2 rfl _).trans (V₂_arg0 m c)
theorem V₃_arg1 (c : Dev nD) : V₃ m c (Proc.devRef .tc main_arg1) = m ((c : Thread nD τ).loc main_arg1) :=
  (after_kept hostOps0_2 rfl _).trans (V₂_arg1 m c)

/-- The permutation the batches are shuffled by, and the table: where each batch of it lies. -/
def shuf (c : Dev nD) : S48.Idx → BitVec 32 := V₂ m c (Proc.devRef .tc main_v9)
def tab (c : Dev nD) : S48.Idx → BitVec 32 := V₃ m c (Proc.devRef .tc main_v10)

theorem tab_eq (c : Dev nD) : tab m c = (Host.sort2 S48 0 comparator_i32_i32_d0_2 (shuf m c) (iotaInDim S48 32 0)).2 := rfl

end Cert.Proof.SortIdeal

end
-- ==== Proof.RunSI.lean ====
/-
  The run of the program that makes the TensorCore call: three stretches of host operations, then the kernel's region over
  its 48 grid points.
-/
module

public import proofs.«01_k».proof.Proof.BodySI
public import proofs.«01_k».proof.Proof.HostSI
public import Idealize.ShloMosaic.Lib.Pipeline.RegionArraysTS
public import Idealize.ShloMosaic.Lib.Pipeline.FrameBody
public import Idealize.ShloMosaic.Lib.Pipeline.Regions

@[expose] public section

set_option maxRecDepth 8192

noncomputable section

namespace Cert.Proof.SortIdeal

open Cert.SortIdeal Cert.SortIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion)

variable {F : FTy → Type} [FloatOps F]

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ) (ρ : Dev nD → PrngReg)

/-- The tables as the region reads them. -/
def pf : pre0.Contents (Elt F) := fun k => V₃ m 0 (Proc.devRef .tc (pre0.ref k))

theorem entry_pf (b : Fin 48) : (entry (pf m 0) b).toNat = (border comparator_i32_i32_d0_2 (shuf m 0) b).val := by
  rw [show pf m 0 = tab m 0 from rfl, tab_eq]
  exact entry_sort_toNat _ _ b

theorem ok_pf : ok0 (pf m) := ok_of_lt _ fun b => by rw [entry_pf]; exact (border _ _ b).isLt

abbrev adm : (p : Fin 1) → (pcfgs (F := F) p).Adm := fun _ => ⟨pf m, ok_pf m⟩

/-- The kernel's pipeline at that table. -/
abbrev cfg : Pipeline.Cfg sig Λ₀ := cfg0 (adm m 0)

/-- The block of window `w`'s array at a point, at the region's entry. -/
def rd (c : Dev nD) (w : Fin (cfg m).W) (t : Fin (cfg m).N) : (((cfg m).win w).xblock ((cfg m).grid.coords t)).Idx → Elt F ((cfg m).win w).elt :=
  (((cfg m).win w).blk t).view.read (Elt F) (V₃ m c (Proc.devRef .tc (Pipeline.arrRef spec0 w)))

/-- What rides through the grid: the scratch buffers at something, and the table. -/
def Φc (c : Dev nD) : sProp 𝕄 :=
  iprop(Pipeline.scopedRest (Ix := Unit) (Name := ℕ) (U := UU) (Lvl := ℕ) (Val := Elt F) spec0 c ∗ Pipeline.tablesAt (pcfgs (F := F)) (adm m) 0 c)

/-- What the body leaves in each window at a point. -/
def left (c : Dev nD) (t : Fin (cfg m).N) : (w : Fin (cfg m).W) → ((cfg m).win w).block.Idx → Elt F ((cfg m).win w).elt
  | ⟨0, _⟩ => rd m c 0 t
  | ⟨1, _⟩ => rd m c 1 t
  | ⟨2, _⟩ => k0_pay60 (out (rd m c 0 t)).2
  | ⟨3, _⟩ => k0_pay1 (k0_pay61 (rd m c 1 t) (out (rd m c 0 t)).1)
  | ⟨_ + 4, h⟩ => absurd h (Nat.not_lt.2 (Nat.le_add_left _ _))

def dats (_ : Fin 1) (c : Dev nD) : Dat τ (Elt F) Unit ℕ UU ℕ (cfg m) c where
  A w := V₃ m c (Proc.devRef .tc (Pipeline.arrRef spec0 w))
  after w t := left m c t w
  Φ _ := Φc m c
  q _ := fullShare
  owed _ := 0

abbrev 𝒱₀ : Variants := Variants.none

attribute [local irreducible] V₀ V₁ V₂ V₃ out

theorem before_0 (c : Dev nD) (t : Fin (cfg m).N) (d) : (dats m 0 c).before (0 : Fin 4) t d = rd m c 0 t := by
  refine ((dats m 0 c).before_in_eq_fetched (0 : Fin 4) rfl (fun _ => rfl) (fun _ _ _ => rfl) (fun t => ?_) t d).trans ?_
  · rw [show (dats m 0 c).after (0 : Fin 4) t = rd m c 0 t from rfl]
    unfold Dat.blockOf rd
    dsimp only [dats]
    rfl
  · unfold Dat.fetched Dat.blockOf rd
    dsimp only [dats]
    rfl

theorem before_1 (c : Dev nD) (t : Fin (cfg m).N) (d) : (dats m 0 c).before (1 : Fin 4) t d = rd m c 1 t := by
  refine ((dats m 0 c).before_in_eq_fetched (1 : Fin 4) rfl (fun _ => rfl) (fun _ _ _ => rfl) (fun t => ?_) t d).trans ?_
  · rw [show (dats m 0 c).after (1 : Fin 4) t = rd m c 1 t from rfl]
    unfold Dat.blockOf rd
    dsimp only [dats]
    rfl
  · unfold Dat.fetched Dat.blockOf rd
    dsimp only [dats]
    rfl

theorem body_obligation (c : Dev nD) : BodyObligation (dats m 0 c) (defs₀ (F := F)) 𝒱₀ () Set.univ := fun t => by
  rw [bigSep_W0, bigSep_W0]
  rw [show (dats m 0 c).Φ t.castSucc = Φc m c from rfl, show (dats m 0 c).Φ t.succ = Φc m c from rfl]
  unfold Φc
  rw [scopedRest0_eq]
  rw [show (dats m 0 c).owesAt () t.succ = (dats m 0 c).owesAt () t.castSucc from rfl]
  iintro ⟨⟨⟨⟨%f7, H7⟩, ⟨%f8, H8⟩⟩, HT⟩, HO, ⟨%d0, H0⟩, ⟨%d1, H1⟩, ⟨%d2, H2⟩, ⟨%d3, H3⟩⟩
  rw [before_0, before_1]
  have hb := fun arg2 harg2 arg3 harg3 arg4 harg4 arg5 harg5 arg6 harg6 harg7 harg8 b X5 X6 =>
    wp_body (F := F) 𝒱₀ c none Set.univ ((cfg m).grid.coords t) arg2 harg2 arg3 harg3 arg4 harg4 arg5 harg5 arg6 harg6
      (Memref.whole cc0_scratch0) harg7 (Memref.whole cc0_scratch1) harg8 (rd m c 0 t) b X5 X6 f7 f8
  rw [owns_whole (c : Thread nD τ) cc0_scratch0, owns_whole (c : Thread nD τ) cc0_scratch1] at hb
  iapply (wp_wand_r frame _ _)
  isplitl [H0 H1 H2 H3 H7 H8]
  · iapply (hb _ _ _ _ _ _ _ _ _ _ _ _ _ _ _)
    isplitl [H0]; · iexact H0
    isplitl [H1]; · iexact H1
    isplitl [H2]; · iexact H2
    isplitl [H3]; · iexact H3
    isplitl [H7]; · iexact H7
    iexact H8
  rw [owns_whole (c : Thread nD τ) cc0_scratch0, owns_whole (c : Thread nD τ) cc0_scratch1]
  iintro %_ ⟨H0, H1, H2, H3, H7, H8⟩
  isplitl [H7 H8 HT]
  · isplitl [H7 H8]
    · isplitl [H7]; · iexists _; iexact H7
      iexists _; iexact H8
    iexact HT
  isplitl [HO]; · iexact HO
  isplitl [H0]; · iexact H0
  isplitl [H1]; · iexact H1
  isplitl [H2]; · iexact H2
  iexact H3

/-! ## The launch -/

abbrev L : GSem nD τ sig → Finset Unit := fun g => if g.1.2 = .tc then {()} else ∅
abbrev lv : GSem nD τ sig → Unit → ℕ := fun _ _ => 0

def u₀ : UU := (initOf (Pipeline.cells (Pipeline.pin (pcfgs (F := F)) (adm m)) (cellOf_inj _)) (Pipeline.launchToks (Pipeline.pin (pcfgs (F := F)) (adm m)) (cellOf_inj _)), 1)

/-- What rides beside the buffers: what the core owes. -/
abbrev R (c : Dev nD) : sProp 𝕄 := iprop(∃ W, owes (c : Thread nD τ) (0 : CellTallies nD τ sig Unit) W)

def seg0 : Pipeline.HostSeg (Name := ℕ) (U := UU) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (List.forall_iff_forall_mem.mp (StableHlo.forall_fresh_of_map rfl)) (V₀ m) R
def seg1 : Pipeline.HostSeg (Name := ℕ) (U := UU) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    (List.forall_iff_forall_mem.mp (StableHlo.forall_fresh_of_map rfl)) (V₁ m) R
def seg2 : Pipeline.HostSeg (Name := ℕ) (U := UU) (pcfgs (F := F)) defs₀ 𝒱₀ L lv :=
  Pipeline.HostSeg.ofOps _ _ _ _ _ (Pipeline.ucRefs τ sig) hostOps0_2 (fun op h => Pipeline.sub_ucRefs op ((List.forall_iff_forall_mem.mp hostOps0_2_sub) op h))
    (List.forall_iff_forall_mem.mp (StableHlo.forall_fresh_of_map rfl)) (V₂ m) R

theorem arr_sub : Pipeline.arrRefs (τ := τ) spec0 ⊆ Pipeline.ucRefs τ sig := Pipeline.arrRefs_sub_ucRefs spec0 (by decide)
theorem tbl_sub : Pipeline.tblRefs (τ := τ) pre0 ⊆ Pipeline.ucRefs τ sig := Pipeline.tblRefs_sub_ucRefs pre0 preFacts0.unscoped

set_option backward.isDefEq.respectTransparency.types false in
def reg0 : Pipeline.RegionSeg (pcfgs (F := F)) (adm m) (dats m) () defs₀ 𝒱₀ L lv 0 :=
  Pipeline.RegionSeg.ofHeldInT (pcfgs (F := F)) (adm m) (dats m) () defs₀ 𝒱₀ L lv 0 (fun _ => 0) (Pipeline.ucRefs τ sig)
    (fun _ => iprop(emp)) (fun _ => iprop(emp)) launch0 (fun c => (body_obligation m c).loose) (fun _ _ => rfl) (fun _ => rfl)
    (fun c => (dats m 0 c).share_full fun _ => rfl)
    (fun c => by
      rw [show (dats m 0 c).Φ 0 = Φc m c from rfl]; unfold Φc
      iintro ⟨⟨Hr, -⟩, HT⟩
      isplitl [Hr]; · iexact Hr
      iexact HT)
    (fun c => by
      rw [show (dats m 0 c).Φ (Fin.last (cfg m).N) = Φc m c from rfl]; unfold Φc
      iintro ⟨Hr, HT⟩
      isplitr [HT]
      · isplitl [Hr]; · iexact Hr
        iempintro
      iexact HT)
    (fun _ => 0) ⟨fun _ _ _ => Finset.mem_singleton_self _, fun _ _ _ => le_rfl, fun _ _ _ h => absurd h (lt_irrefl 0)⟩ (fun _ => iprop(emp)) (V₃ m) (fun _ _ => rfl)
    (fun c k => by obtain rfl : c = 0 := Subsingleton.elim _ _; rfl)

abbrev segs : List (Pipeline.Seg (pcfgs (F := F)) (adm m) (dats m) () defs₀ 𝒱₀ L lv) := [.host (seg0 m), .host (seg1 m), .host (seg2 m), .region (reg0 m)]

/-- Every buffer of the core after the run. -/
def Vₙ (c : Dev nD) : Valuation τ sig (Elt F) := afterRegion (dats m 0 c) (V₃ m c)

abbrev Tₙ (c : Dev nD) : sProp 𝕄 := StableHlo.held (c : Thread nD τ) (Pipeline.ucRefs τ sig) (Vₙ m c)

theorem seg2_reg0 (c : Dev nD) : (seg2 m).post c ⊢ (reg0 m).pre c := by
  unfold reg0
  refine BIBase.Entails.trans ?_ (Pipeline.RegionSeg.ofHeldInT_pre (pcs := pcfgs (F := F)) (a := adm m) (pdats := dats m) (ι := ()) (p := 0) arr_sub tbl_sub c)
  unfold seg2 Pipeline.HostSeg.ofOps
  dsimp only
  rw [← V₃]
  iintro ⟨Hh, HO⟩
  isplitl [Hh]; · iexact Hh
  isplitl [HO]; · iexact HO
  isplitr; · iempintro
  iempintro

theorem reg0_end (c : Dev nD) : (reg0 m).post c ⊢ iprop(Tₙ m c ∗ R c) := by
  unfold reg0
  refine (Pipeline.RegionSeg.ofHeldInT_post (pcs := pcfgs (F := F)) (a := adm m) (pdats := dats m) (ι := ()) (p := 0) arr_sub tbl_sub c).trans ?_
  iintro ⟨Hh, HO, -, -⟩
  isplitl [Hh]; · iexact Hh
  iexact HO

theorem main_run (c : Dev nD) : main (F := F) c = Pipeline.Seg.run (segs m) := by
  rw [main_chain, Pipeline.Seg.run_eq_chain]
  rfl

theorem segs_nodup : (Pipeline.Seg.pipes (segs m)).Nodup := by
  simp only [Pipeline.Seg.pipes_host, Pipeline.Seg.pipes_region, Pipeline.Seg.pipes_nil]; decide

theorem seg0_seg1 (c : Dev nD) : (seg0 m).post c ⊢ (seg1 m).pre c := by
  unfold seg0 seg1 Pipeline.HostSeg.ofOps
  dsimp only
  rw [← V₁]

theorem seg1_seg2 (c : Dev nD) : (seg1 m).post c ⊢ (seg2 m).pre c := by
  unfold seg1 seg2 Pipeline.HostSeg.ofOps
  dsimp only
  rw [← V₂]

theorem segs_chain : Pipeline.Seg.Chains (fun c => iprop(StableHlo.held (c : Thread nD τ) (Pipeline.ucRefs τ sig) (V₀ m c) ∗ R c)) (segs m)
    fun c => iprop(Tₙ m c ∗ R c) :=
  ⟨fun _ => .rfl, seg0_seg1 m, seg1_seg2 m, seg2_reg0 m, reg0_end m⟩

theorem dealt : (ownU (u₀ m) : sProp 𝕄)
    ⊢ |={Set.univ}=> iprop(BI.own (EP (initOf (Pipeline.cells (Pipeline.pin (pcfgs (F := F)) (adm m)) (cellOf_inj _))
        (Pipeline.launchToks (Pipeline.pin (pcfgs (F := F)) (adm m)) (cellOf_inj _)))) ∗ bigSep Finset.univ fun _ : Dev nD => iprop(emp)) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem ended (c : Dev nD) (s' : Phys nD τ sig (Elt F)) :
    iprop(Tₙ m c ∗ SI s') ⊢ |={Set.univ}=> iprop(⌜∀ b ∈ Pipeline.ucRefs τ sig, s'.mem.mem (c, b) = Vₙ m c b⌝ ∗ SI s') := by
  dsimp only [Tₙ]; unfold StableHlo.held
  iintro ⟨Hh, HSI⟩
  ihave %h := (SI_pointsTo_bufs_agree (qs := fun _ => fullShare) (Pipeline.ucRefs τ sig)) $$ [HSI Hh]
  · isplitl [HSI]; · iexact HSI
    iexact Hh
  imodintro
  isplitr; · ipureintro; exact h
  iexact HSI

set_option backward.isDefEq.respectTransparency.types false in
theorem run_main : θ_run defs (onTc (τ := τ) (main (F := F))) ⟨m, fun _ => 0, ρ⟩
    (fun r => (∀ (c : Dev nD) (b : DevRef τ sig), b ∈ Pipeline.ucRefs τ sig → r.2.mem (c, b) = Vₙ m c b) ∧ r.2.sem = fun _ => 0) :=
  Pipeline.θ_run_regions_kit_sems (pcfgs (F := F)) (adm m) (dats m) () (cellOf_inj _) EP defs₀ 𝒱₀ L lv m ρ main (segs m)
    (fun c Q => by rw [main_run m c]) (segs_nodup m) (O₀ := 0) (hL := fun _ h => if_neg h)
    (G := fun _ => iprop(emp)) (u₀ := u₀ m) (hu₀ := dealt m)
    (T₀ := fun c => iprop(StableHlo.held (c : Thread nD τ) (Pipeline.ucRefs τ sig) (V₀ m c) ∗ R c)) (Tₙ := Tₙ m)
    (hch := segs_chain m)
    (hinit := by
      refine Pipeline.initEach L lv fun c => ?_
      rw [show unscopedBufs c (fun b => m ((c : Thread nD τ).loc b)) = StableHlo.held (c : Thread nD τ) (Pipeline.ucRefs τ sig) (V₀ m c) from by
        unfold V₀; exact Pipeline.unscopedBufs_held c (fun b => m (c, b))]
      iintro ⟨⟨Hh, -, HO, -, -, -⟩, -⟩
      imodintro
      isplitl [Hh]; · iexact Hh
      iexists ∅; iexact HO)
    (QY := fun c s => ∀ b ∈ Pipeline.ucRefs τ sig, s.mem (c, b) = Vₙ m c b) (hfin := ended m)
    (hQ := fun _ h hz => ⟨h, funext fun g => hz g (.inr (by revert g; decide))⟩)

end Cert.Proof.SortIdeal

end
-- ==== Proof.FrameSI.lean ====
/-
  The arguments end unchanged.
-/
module

public import proofs.«01_k».proof.Proof.RunSI

@[expose] public section

set_option maxRecDepth 8192

noncomputable section

namespace Cert.Proof.SortIdeal

open Cert.SortIdeal Cert.SortIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

attribute [local irreducible] V₀ V₁ V₂ V₃ out

theorem arr_inj : Function.Injective (Pipeline.arrRef spec0) := by decide

theorem Vₙ_arg1 (c : Dev nD) : Vₙ m c (Proc.devRef .tc main_arg1) = m (c, Proc.devRef .tc main_arg1) := by
  unfold Vₙ
  refine (Pipeline.afterRegion_arr (dats m 0 c) (V₃ m c) arr_inj (1 : Fin 4)).trans (((dats m 0 c).arrAt_in (1 : Fin 4) rfl _).trans ?_)
  exact V₃_arg1 m c

theorem arg0_not : ∀ w : Fin 4, main_arg0 ≠ Pipeline.arrRef spec0 w := by decide

theorem Vₙ_arg0 (c : Dev nD) : Vₙ m c (Proc.devRef .tc main_arg0) = m (c, Proc.devRef .tc main_arg0) := by
  unfold Vₙ
  exact (Pipeline.afterRegion_of_not_arr (dats m 0 c) (V₃ m c) (b := main_arg0) arg0_not).trans (V₃_arg0 m c)

theorem run_args : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 :=
  (θ_run defs _ _).mono (fun r h => ⟨fun c => ⟨(h.1 c _ (Pipeline.devRef_mem_ucRefs rfl)).trans (Vₙ_arg0 m c), (h.1 c _ (Pipeline.devRef_mem_ucRefs rfl)).trans (Vₙ_arg1 m c)⟩, h.2⟩) (run_main m ρ)

end Cert.Proof.SortIdeal
-- ==== Proof.OpsP.lean ====
/-
  The host operations of the plain program in order: the key's, the shuffle's (its order is the batches' order), and the sorts
  and the blend. The program is the line of them.
-/
module

public import proofs.«01_k».proof.Proof.Gen.PlainIdeal
public import Idealize.ShloMosaic.Lib.StableHlo.Run
public import Idealize.ShloMosaic.Lib.Pipeline.Regions

@[expose] public section

set_option maxRecDepth 8192

noncomputable section

namespace Cert.PlainIdeal.Own

open Cert.PlainIdeal Cert.PlainIdeal.Gen
open Idealize.ShloMosaic Idealize.ShloMosaic.TcCoe Idealize.SL.Sem Idealize.ShloMosaic.StableHlo

variable {F : FTy → Type} [FloatOps F]

/-- The key. -/
abbrev ops₁ : List (HloOp τ sig (Elt F)) :=
  [ reshape main_arg0 main_v0 (rfl : (.f32 : EltTy) = .f32) shapeCasts_S48x256x32x64_S48x256x2048,
    nullary main_c (constantI S_ 32 42#32),
    nullary main_c_0 (constantI S_ 32 32#32),
    binary main_c main_c_0 main_v1 (Host.shrui : (⟨S_, .i32⟩ : BufTy).Contents (Elt F) → (⟨S_, .i32⟩ : BufTy).Contents (Elt F) → (⟨S_, .i32⟩ : BufTy).Contents (Elt F)),
    unary main_v1 main_v2 (id : (⟨S_, .i32⟩ : BufTy).Contents (Elt F) → (⟨S_, .i32⟩ : BufTy).Contents (Elt F)),
    unary main_v2 main_v3 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v4 (andi : (⟨S_, .i32⟩ : BufTy).Contents (Elt F) → (⟨S_, .i32⟩ : BufTy).Contents (Elt F) → (⟨S_, .i32⟩ : BufTy).Contents (Elt F)),
    unary main_v4 main_v5 (id : (⟨S_, .i32⟩ : BufTy).Contents (Elt F) → (⟨S_, .i32⟩ : BufTy).Contents (Elt F)),
    unary main_v5 main_v6 (broadcastInDim S1 ![] bcast_S_S1 : (⟨S_, .i32⟩ : BufTy).Contents (Elt F) → (⟨S1, .i32⟩ : BufTy).Contents (Elt F)),
    binary main_v3 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_v8 (iotaInDim S48 32 0) ]

set_option maxHeartbeats 40000000 in
/-- The shuffle. -/
abbrev ops₂ : List (HloOp τ sig (Elt F)) :=
  ( TRef.unary (.of main_v7 : TRef sig ⟨S2, .i32⟩) (.of main_call0_call0_v0 : TRef sig ⟨S1, .i32⟩) (extractStridedSlice S1 ![0] · slices_S2_S1_0)
  :: TRef.reshape (.of main_call0_call0_v0 : TRef sig ⟨S1, .i32⟩) (.of main_call0_call0_v1 : TRef sig ⟨S_, .i32⟩) (rfl : (.i32 : EltTy) = .i32) shapeCasts_S1_S_
  :: TRef.unary (.of main_v7 : TRef sig ⟨S2, .i32⟩) (.of main_call0_call0_v2 : TRef sig ⟨S1, .i32⟩) (extractStridedSlice S1 ![1] · slices_S2_S1_1)
  :: TRef.reshape (.of main_call0_call0_v2 : TRef sig ⟨S1, .i32⟩) (.of main_call0_call0_v3 : TRef sig ⟨S_, .i32⟩) (rfl : (.i32 : EltTy) = .i32) shapeCasts_S1_S_
  :: TRef.nullary (.of main_call0_call0_v4 : TRef sig ⟨S2, .i64⟩) (iotaInDim S2 64 0)
  :: TRef.nullary (.of main_call0_call0_c : TRef sig ⟨S_, .i64⟩) (constantI S_ 64 1#64)
  :: TRef.unary (.of main_call0_call0_c : TRef sig ⟨S_, .i64⟩) (.of main_call0_call0_v5 : TRef sig ⟨S2, .i64⟩) (broadcastInDim S2 ![] bcast_S_S2)
  :: TRef.binary (.of main_call0_call0_v5 : TRef sig ⟨S2, .i64⟩) (.of main_call0_call0_v4 : TRef sig ⟨S2, .i64⟩) (.of main_call0_call0_v6 : TRef sig ⟨S2, .i64⟩) muli
  :: TRef.nullary (.of main_call0_call0_c_0 : TRef sig ⟨S_, .i64⟩) (constantI S_ 64 32#64)
  :: TRef.unary (.of main_call0_call0_c_0 : TRef sig ⟨S_, .i64⟩) (.of main_call0_call0_v7 : TRef sig ⟨S2, .i64⟩) (broadcastInDim S2 ![] bcast_S_S2)
  :: TRef.binary (.of main_call0_call0_v6 : TRef sig ⟨S2, .i64⟩) (.of main_call0_call0_v7 : TRef sig ⟨S2, .i64⟩) (.of main_call0_call0_v8 : TRef sig ⟨S2, .i64⟩) Host.shrui
  :: TRef.unary (.of main_call0_call0_v6 : TRef sig ⟨S2, .i64⟩) (.of main_call0_call0_v9 : TRef sig ⟨S2, .i32⟩) (trunci 32 · natLt_32_64)
  :: TRef.unary (.of main_call0_call0_v8 : TRef sig ⟨S2, .i64⟩) (.of main_call0_call0_v10 : TRef sig ⟨S2, .i32⟩) (trunci 32 · natLt_32_64)
  :: TRef.binary (.of main_call0_call0_v1 : TRef sig ⟨S_, .i32⟩) (.of main_call0_call0_v3 : TRef sig ⟨S_, .i32⟩) (.of main_call0_call0_call0_v0 : TRef sig ⟨S_, .i32⟩) xori
  :: TRef.nullary (.of main_call0_call0_call0_c : TRef sig ⟨S_, .i32⟩) (constantI S_ 32 466688986#32)
  :: TRef.binary (.of main_call0_call0_call0_v0 : TRef sig ⟨S_, .i32⟩) (.of main_call0_call0_call0_c : TRef sig ⟨S_, .i32⟩) (.of main_call0_call0_call0_v1 : TRef sig ⟨S_, .i32⟩) xori
  :: TRef.unary (.of main_call0_call0_v1 : TRef sig ⟨S_, .i32⟩) (.of main_call0_call0_call0_v2 : TRef sig ⟨S2, .i32⟩) (broadcastInDim S2 ![] bcast_S_S2)
  :: TRef.binary (.of main_call0_call0_v10 : TRef sig ⟨S2, .i32⟩) (.of main_call0_call0_call0_v2 : TRef sig ⟨S2, .i32⟩) (.of main_call0_call0_call0_v3 : TRef sig ⟨S2, .i32⟩) addi
  :: TRef.unary (.of main_call0_call0_v3 : TRef sig ⟨S_, .i32⟩) (.of main_call0_call0_call0_v4 : TRef sig ⟨S2, .i32⟩) (broadcastInDim S2 ![] bcast_S_S2)
  :: TRef.binary (.of main_call0_call0_v9 : TRef sig ⟨S2, .i32⟩) (.of main_call0_call0_call0_v4 : TRef sig ⟨S2, .i32⟩) (.of main_call0_call0_call0_v5 : TRef sig ⟨S2, .i32⟩) addi
  :: TRef.binary (.of main_call0_call0_call0_v3 : TRef sig ⟨S2, .i32⟩) (.of main_call0_call0_call0_v5 : TRef sig ⟨S2, .i32⟩) (.of main_call0_call0_call0_v6 : TRef sig ⟨S2, .i32⟩) addi
  :: TRef.nullary (.of main_call0_call0_call0_c_0 : TRef sig ⟨S_, .i32⟩) (constantI S_ 32 13#32)
  :: TRef.unary (.of main_call0_call0_call0_c_0 : TRef sig ⟨S_, .i32⟩) (.of main_call0_call0_call0_v7 : TRef sig ⟨S2, .i32⟩) (broadcastInDim S2 ![] bcast_S_S2)
  :: TRef.binary (.of main_call0_call0_call0_v5 : TRef sig ⟨S2, .i32⟩) (.of main_call0_call0_call0_v7 : TRef sig ⟨S2, .i32⟩) (.of main_call0_call0_call0_v8 : TRef sig ⟨S2, .i32⟩) Host.shli
  :: TRef.nullary (.of main_call0_call0_call0_c_1 : TRef sig ⟨S_, .i32⟩) (constantI S_ 32 19#32)
  :: TRef.unary (.of main_call0_call0_call0_c_1 : TRef sig ⟨S_, .i32⟩) (.of main_call0_call0_call0_v9 : TRef sig ⟨S2, .i32⟩) (broadcastInDim S2 ![] bcast_S_S2)
  :: TRef.binary (.of main_call0_call0_call0_v5 : TRef sig ⟨S2, .i32⟩) (.of main_call0_call0_call0_v9 : TRef sig ⟨S2, .i32⟩) (.of main_call0_call0_call0_v10 : TRef sig ⟨S2, .i32⟩) Host.shrui
  :: TRef.binary (.of main_call0_call0_call0_v8 : TRef sig ⟨S2, .i32⟩) (.of main_call0_call0_call0_v10 : TRef sig ⟨S2, .i32⟩) (.of main_call0_call0_call0_v11 : TRef sig ⟨S2, .i32⟩) ori
  :: TRef.binary (.of main_call0_call0_call0_v6 : TRef sig ⟨S2, .i32⟩) (.of main_call0_call0_call0_v11 : TRef sig ⟨S2, .i32⟩) (.of main_call0_call0_call0_v12 : TRef sig ⟨S2, .i32⟩) xori
  :: TRef.binary (.of main_call0_call0_call0_v6 : TRef sig ⟨S2, .i32⟩) (.of main_call0_call0_call0_v12 : TRef sig ⟨S2, .i32⟩) (.of main_call0_call0_call0_v13 : TRef sig ⟨S2, .i32⟩) addi
  :: TRef.nullary (.of main_call0_call0_call0_c_2 : TRef sig ⟨S_, .i32⟩) (constantI S_ 32 15#32)
  :: TRef.unary (.of main_call0_call0_call0_c_2 : TRef sig ⟨S_, .i32⟩) (.of main_call0_call0_call0_v14 : TRef sig ⟨S2, .i32⟩) (broadcastInDim S2 ![] bcast_S_S2)
  :: TRef.binary (.of main_call0_call0_call0_v12 : TRef sig ⟨S2, .i32⟩) (.of main_call0_call0_call0_v14 : TRef sig ⟨S2, .i32⟩) (.of main_call0_call0_call0_v15 : TRef sig ⟨S2, .i32⟩) Host.shli
  :: TRef.nullary (.of main_call0_call0_call0_c_3 : TRef sig ⟨S_, .i32⟩) (constantI S_ 32 17#32)
  :: TRef.unary (.of main_call0_call0_call0_c_3 : TRef sig ⟨S_, .i32⟩) (.of main_call0_call0_call0_v16 : TRef sig ⟨S2, .i32⟩) (broadcastInDim S2 ![] bcast_S_S2)
  :: TRef.binary (.of main_call0_call0_call0_v12 : TRef sig ⟨S2, .i32⟩) (.of main_call0_call0_call0_v16 : TRef sig ⟨S2, .i32⟩) (.of main_call0_call0_call0_v17 : TRef sig ⟨S2, .i32⟩) Host.shrui
  :: TRef.binary (.of main_call0_call0_call0_v15 : TRef sig ⟨S2, .i32⟩) (.of main_call0_call0_call0_v17 : TRef sig ⟨S2, .i32⟩) (.of main_call0_call0_call0_v18 : TRef sig ⟨S2, .i32⟩) ori
  :: TRef.binary (.of main_call0_call0_call0_v13 : TRef sig ⟨S2, .i32⟩) (.of main_call0_call0_call0_v18 : TRef sig ⟨S2, .i32⟩) (.of main_call0_call0_call0_v19 : TRef sig ⟨S2, .i32⟩) xori
  :: TRef.binary (.of main_call0_call0_call0_v13 : TRef sig ⟨S2, .i32⟩) (.of main_call0_call0_call0_v19 : TRef sig ⟨S2, .i32⟩) (.of main_call0_call0_call0_v20 : TRef sig ⟨S2, .i32⟩) addi
  :: TRef.nullary (.of main_call0_call0_call0_c_4 : TRef sig ⟨S_, .i32⟩) (constantI S_ 32 26#32)
  :: TRef.unary (.of main_call0_call0_call0_c_4 : TRef sig ⟨S_, .i32⟩) (.of main_call0_call0_call0_v21 : TRef sig ⟨S2, .i32⟩) (broadcastInDim S2 ![] bcast_S_S2)
  :: TRef.binary (.of main_call0_call0_call0_v19 : TRef sig ⟨S2, .i32⟩) (.of main_call0_call0_call0_v21 : TRef sig ⟨S2, .i32⟩) (.of main_call0_call0_call0_v22 : TRef sig ⟨S2, .i32⟩) Host.shli
  :: TRef.nullary (.of main_call0_call0_call0_c_5 : TRef sig ⟨S_, .i32⟩) (constantI S_ 32 6#32)
  :: TRef.unary (.of main_call0_call0_call0_c_5 : TRef sig ⟨S_, .i32⟩) (.of main_call0_call0_call0_v23 : TRef sig ⟨S2, .i32⟩) (broadcastInDim S2 ![] bcast_S_S2)
  :: TRef.binary (.of main_call0_call0_call0_v19 : TRef sig ⟨S2, .i32⟩) (.of main_call0_call0_call0_v23 : TRef sig ⟨S2, .i32⟩) (.of main_call0_call0_call0_v24 : TRef sig ⟨S2, .i32⟩) Host.shrui
  :: TRef.binary (.of main_call0_call0_call0_v22 : TRef sig ⟨S2, .i32⟩) (.of main_call0_call0_call0_v24 : TRef sig ⟨S2, .i32⟩) (.of main_call0_call0_call0_v25 : TRef sig ⟨S2, .i32⟩) ori
  :: TRef.binary (.of main_call0_call0_call0_v20 : TRef sig ⟨S2, .i32⟩) (.of main_call0_call0_call0_v25 : TRef sig ⟨S2, .i32⟩) (.of main_call0_call0_call0_v26 : TRef sig ⟨S2, .i32⟩) xori
  :: TRef.binary (.of main_call0_call0_call0_v20 : TRef sig ⟨S2, .i32⟩) (.of main_call0_call0_call0_v26 : TRef sig ⟨S2, .i32⟩) (.of main_call0_call0_call0_v27 : TRef sig ⟨S2, .i32⟩) addi
  :: TRef.nullary (.of main_call0_call0_call0_c_6 : TRef sig ⟨S_, .i32⟩) (constantI S_ 32 6#32)
  :: TRef.unary (.of main_call0_call0_call0_c_6 : TRef sig ⟨S_, .i32⟩) (.of main_call0_call0_call0_v28 : TRef sig ⟨S2, .i32⟩) (broadcastInDim S2 ![] bcast_S_S2)
  :: TRef.binary (.of main_call0_call0_call0_v26 : TRef sig ⟨S2, .i32⟩) (.of main_call0_call0_call0_v28 : TRef sig ⟨S2, .i32⟩) (.of main_call0_call0_call0_v29 : TRef sig ⟨S2, .i32⟩) Host.shli
  :: TRef.nullary (.of main_call0_call0_call0_c_7 : TRef sig ⟨S_, .i32⟩) (constantI S_ 32 26#32)
  :: TRef.unary (.of main_call0_call0_call0_c_7 : TRef sig ⟨S_, .i32⟩) (.of main_call0_call0_call0_v30 : TRef sig ⟨S2, .i32⟩) (broadcastInDim S2 ![] bcast_S_S2)
  :: TRef.binary (.of main_call0_call0_call0_v26 : TRef sig ⟨S2, .i32⟩) (.of main_call0_call0_call0_v30 : TRef sig ⟨S2, .i32⟩) (.of main_call0_call0_call0_v31 : TRef sig ⟨S2, .i32⟩) Host.shrui
  :: TRef.binary (.of main_call0_call0_call0_v29 : TRef sig ⟨S2, .i32⟩) (.of main_call0_call0_call0_v31 : TRef sig ⟨S2, .i32⟩) (.of main_call0_call0_call0_v32 : TRef sig ⟨S2, .i32⟩) ori
  :: TRef.binary (.of main_call0_call0_call0_v27 : TRef sig ⟨S2, .i32⟩) (.of main_call0_call0_call0_v32 : TRef sig ⟨S2, .i32⟩) (.of main_call0_call0_call0_v33 : TRef sig ⟨S2, .i32⟩) xori
  :: TRef.unary (.of main_call0_call0_v3 : TRef sig ⟨S_, .i32⟩) (.of main_call0_call0_call0_v34 : TRef sig ⟨S2, .i32⟩) (broadcastInDim S2 ![] bcast_S_S2)
  :: TRef.binary (.of main_call0_call0_call0_v27 : TRef sig ⟨S2, .i32⟩) (.of main_call0_call0_call0_v34 : TRef sig ⟨S2, .i32⟩) (.of main_call0_call0_call0_v35 : TRef sig ⟨S2, .i32⟩) addi
  :: TRef.unary (.of main_call0_call0_call0_v1 : TRef sig ⟨S_, .i32⟩) (.of main_call0_call0_call0_v36 : TRef sig ⟨S2, .i32⟩) (broadcastInDim S2 ![] bcast_S_S2)
  :: TRef.binary (.of main_call0_call0_call0_v33 : TRef sig ⟨S2, .i32⟩) (.of main_call0_call0_call0_v36 : TRef sig ⟨S2, .i32⟩) (.of main_call0_call0_call0_v37 : TRef sig ⟨S2, .i32⟩) addi
  :: TRef.nullary (.of main_call0_call0_call0_c_8 : TRef sig ⟨S_, .i32⟩) (constantI S_ 32 1#32)
  :: TRef.unary (.of main_call0_call0_call0_c_8 : TRef sig ⟨S_, .i32⟩) (.of main_call0_call0_call0_v38 : TRef sig ⟨S2, .i32⟩) (broadcastInDim S2 ![] bcast_S_S2)
  :: TRef.binary (.of main_call0_call0_call0_v37 : TRef sig ⟨S2, .i32⟩) (.of main_call0_call0_call0_v38 : TRef sig ⟨S2, .i32⟩) (.of main_call0_call0_call0_v39 : TRef sig ⟨S2, .i32⟩) addi
  :: TRef.binary (.of main_call0_call0_call0_v35 : TRef sig ⟨S2, .i32⟩) (.of main_call0_call0_call0_v39 : TRef sig ⟨S2, .i32⟩) (.of main_call0_call0_call0_v40 : TRef sig ⟨S2, .i32⟩) addi
  :: TRef.nullary (.of main_call0_call0_call0_c_9 : TRef sig ⟨S_, .i32⟩) (constantI S_ 32 17#32)
  :: TRef.unary (.of main_call0_call0_call0_c_9 : TRef sig ⟨S_, .i32⟩) (.of main_call0_call0_call0_v41 : TRef sig ⟨S2, .i32⟩) (broadcastInDim S2 ![] bcast_S_S2)
  :: TRef.binary (.of main_call0_call0_call0_v39 : TRef sig ⟨S2, .i32⟩) (.of main_call0_call0_call0_v41 : TRef sig ⟨S2, .i32⟩) (.of main_call0_call0_call0_v42 : TRef sig ⟨S2, .i32⟩) Host.shli
  :: TRef.nullary (.of main_call0_call0_call0_c_10 : TRef sig ⟨S_, .i32⟩) (constantI S_ 32 15#32)
  :: TRef.unary (.of main_call0_call0_call0_c_10 : TRef sig ⟨S_, .i32⟩) (.of main_call0_call0_call0_v43 : TRef sig ⟨S2, .i32⟩) (broadcastInDim S2 ![] bcast_S_S2)
  :: TRef.binary (.of main_call0_call0_call0_v39 : TRef sig ⟨S2, .i32⟩) (.of main_call0_call0_call0_v43 : TRef sig ⟨S2, .i32⟩) (.of main_call0_call0_call0_v44 : TRef sig ⟨S2, .i32⟩) Host.shrui
  :: TRef.binary (.of main_call0_call0_call0_v42 : TRef sig ⟨S2, .i32⟩) (.of main_call0_call0_call0_v44 : TRef sig ⟨S2, .i32⟩) (.of main_call0_call0_call0_v45 : TRef sig ⟨S2, .i32⟩) ori
  :: TRef.binary (.of main_call0_call0_call0_v40 : TRef sig ⟨S2, .i32⟩) (.of main_call0_call0_call0_v45 : TRef sig ⟨S2, .i32⟩) (.of main_call0_call0_call0_v46 : TRef sig ⟨S2, .i32⟩) xori
  :: TRef.binary (.of main_call0_call0_call0_v40 : TRef sig ⟨S2, .i32⟩) (.of main_call0_call0_call0_v46 : TRef sig ⟨S2, .i32⟩) (.of main_call0_call0_call0_v47 : TRef sig ⟨S2, .i32⟩) addi
  :: TRef.nullary (.of main_call0_call0_call0_c_11 : TRef sig ⟨S_, .i32⟩) (constantI S_ 32 29#32)
  :: TRef.unary (.of main_call0_call0_call0_c_11 : TRef sig ⟨S_, .i32⟩) (.of main_call0_call0_call0_v48 : TRef sig ⟨S2, .i32⟩) (broadcastInDim S2 ![] bcast_S_S2)
  :: TRef.binary (.of main_call0_call0_call0_v46 : TRef sig ⟨S2, .i32⟩) (.of main_call0_call0_call0_v48 : TRef sig ⟨S2, .i32⟩) (.of main_call0_call0_call0_v49 : TRef sig ⟨S2, .i32⟩) Host.shli
  :: TRef.nullary (.of main_call0_call0_call0_c_12 : TRef sig ⟨S_, .i32⟩) (constantI S_ 32 3#32)
  :: TRef.unary (.of main_call0_call0_call0_c_12 : TRef sig ⟨S_, .i32⟩) (.of main_call0_call0_call0_v50 : TRef sig ⟨S2, .i32⟩) (broadcastInDim S2 ![] bcast_S_S2)
  :: TRef.binary (.of main_call0_call0_call0_v46 : TRef sig ⟨S2, .i32⟩) (.of main_call0_call0_call0_v50 : TRef sig ⟨S2, .i32⟩) (.of main_call0_call0_call0_v51 : TRef sig ⟨S2, .i32⟩) Host.shrui
  :: TRef.binary (.of main_call0_call0_call0_v49 : TRef sig ⟨S2, .i32⟩) (.of main_call0_call0_call0_v51 : TRef sig ⟨S2, .i32⟩) (.of main_call0_call0_call0_v52 : TRef sig ⟨S2, .i32⟩) ori
  :: TRef.binary (.of main_call0_call0_call0_v47 : TRef sig ⟨S2, .i32⟩) (.of main_call0_call0_call0_v52 : TRef sig ⟨S2, .i32⟩) (.of main_call0_call0_call0_v53 : TRef sig ⟨S2, .i32⟩) xori
  :: TRef.binary (.of main_call0_call0_call0_v47 : TRef sig ⟨S2, .i32⟩) (.of main_call0_call0_call0_v53 : TRef sig ⟨S2, .i32⟩) (.of main_call0_call0_call0_v54 : TRef sig ⟨S2, .i32⟩) addi
  :: TRef.nullary (.of main_call0_call0_call0_c_13 : TRef sig ⟨S_, .i32⟩) (constantI S_ 32 16#32)
  :: TRef.unary (.of main_call0_call0_call0_c_13 : TRef sig ⟨S_, .i32⟩) (.of main_call0_call0_call0_v55 : TRef sig ⟨S2, .i32⟩) (broadcastInDim S2 ![] bcast_S_S2)
  :: TRef.binary (.of main_call0_call0_call0_v53 : TRef sig ⟨S2, .i32⟩) (.of main_call0_call0_call0_v55 : TRef sig ⟨S2, .i32⟩) (.of main_call0_call0_call0_v56 : TRef sig ⟨S2, .i32⟩) Host.shli
  :: TRef.nullary (.of main_call0_call0_call0_c_14 : TRef sig ⟨S_, .i32⟩) (constantI S_ 32 16#32)
  :: TRef.unary (.of main_call0_call0_call0_c_14 : TRef sig ⟨S_, .i32⟩) (.of main_call0_call0_call0_v57 : TRef sig ⟨S2, .i32⟩) (broadcastInDim S2 ![] bcast_S_S2)
  :: TRef.binary (.of main_call0_call0_call0_v53 : TRef sig ⟨S2, .i32⟩) (.of main_call0_call0_call0_v57 : TRef sig ⟨S2, .i32⟩) (.of main_call0_call0_call0_v58 : TRef sig ⟨S2, .i32⟩) Host.shrui
  :: TRef.binary (.of main_call0_call0_call0_v56 : TRef sig ⟨S2, .i32⟩) (.of main_call0_call0_call0_v58 : TRef sig ⟨S2, .i32⟩) (.of main_call0_call0_call0_v59 : TRef sig ⟨S2, .i32⟩) ori
  :: TRef.binary (.of main_call0_call0_call0_v54 : TRef sig ⟨S2, .i32⟩) (.of main_call0_call0_call0_v59 : TRef sig ⟨S2, .i32⟩) (.of main_call0_call0_call0_v60 : TRef sig ⟨S2, .i32⟩) xori
  :: TRef.binary (.of main_call0_call0_call0_v54 : TRef sig ⟨S2, .i32⟩) (.of main_call0_call0_call0_v60 : TRef sig ⟨S2, .i32⟩) (.of main_call0_call0_call0_v61 : TRef sig ⟨S2, .i32⟩) addi
  :: TRef.nullary (.of main_call0_call0_call0_c_15 : TRef sig ⟨S_, .i32⟩) (constantI S_ 32 24#32)
  :: TRef.unary (.of main_call0_call0_call0_c_15 : TRef sig ⟨S_, .i32⟩) (.of main_call0_call0_call0_v62 : TRef sig ⟨S2, .i32⟩) (broadcastInDim S2 ![] bcast_S_S2)
  :: TRef.binary (.of main_call0_call0_call0_v60 : TRef sig ⟨S2, .i32⟩) (.of main_call0_call0_call0_v62 : TRef sig ⟨S2, .i32⟩) (.of main_call0_call0_call0_v63 : TRef sig ⟨S2, .i32⟩) Host.shli
  :: TRef.nullary (.of main_call0_call0_call0_c_16 : TRef sig ⟨S_, .i32⟩) (constantI S_ 32 8#32)
  :: TRef.unary (.of main_call0_call0_call0_c_16 : TRef sig ⟨S_, .i32⟩) (.of main_call0_call0_call0_v64 : TRef sig ⟨S2, .i32⟩) (broadcastInDim S2 ![] bcast_S_S2)
  :: TRef.binary (.of main_call0_call0_call0_v60 : TRef sig ⟨S2, .i32⟩) (.of main_call0_call0_call0_v64 : TRef sig ⟨S2, .i32⟩) (.of main_call0_call0_call0_v65 : TRef sig ⟨S2, .i32⟩) Host.shrui
  :: TRef.binary (.of main_call0_call0_call0_v63 : TRef sig ⟨S2, .i32⟩) (.of main_call0_call0_call0_v65 : TRef sig ⟨S2, .i32⟩) (.of main_call0_call0_call0_v66 : TRef sig ⟨S2, .i32⟩) ori
  :: TRef.binary (.of main_call0_call0_call0_v61 : TRef sig ⟨S2, .i32⟩) (.of main_call0_call0_call0_v66 : TRef sig ⟨S2, .i32⟩) (.of main_call0_call0_call0_v67 : TRef sig ⟨S2, .i32⟩) xori
  :: TRef.unary (.of main_call0_call0_call0_v1 : TRef sig ⟨S_, .i32⟩) (.of main_call0_call0_call0_v68 : TRef sig ⟨S2, .i32⟩) (broadcastInDim S2 ![] bcast_S_S2)
  :: TRef.binary (.of main_call0_call0_call0_v61 : TRef sig ⟨S2, .i32⟩) (.of main_call0_call0_call0_v68 : TRef sig ⟨S2, .i32⟩) (.of main_call0_call0_call0_v69 : TRef sig ⟨S2, .i32⟩) addi
  :: TRef.unary (.of main_call0_call0_v1 : TRef sig ⟨S_, .i32⟩) (.of main_call0_call0_call0_v70 : TRef sig ⟨S2, .i32⟩) (broadcastInDim S2 ![] bcast_S_S2)
  :: TRef.binary (.of main_call0_call0_call0_v67 : TRef sig ⟨S2, .i32⟩) (.of main_call0_call0_call0_v70 : TRef sig ⟨S2, .i32⟩) (.of main_call0_call0_call0_v71 : TRef sig ⟨S2, .i32⟩) addi
  :: TRef.nullary (.of main_call0_call0_call0_c_17 : TRef sig ⟨S_, .i32⟩) (constantI S_ 32 2#32)
  :: TRef.unary (.of main_call0_call0_call0_c_17 : TRef sig ⟨S_, .i32⟩) (.of main_call0_call0_call0_v72 : TRef sig ⟨S2, .i32⟩) (broadcastInDim S2 ![] bcast_S_S2)
  :: TRef.binary (.of main_call0_call0_call0_v71 : TRef sig ⟨S2, .i32⟩) (.of main_call0_call0_call0_v72 : TRef sig ⟨S2, .i32⟩) (.of main_call0_call0_call0_v73 : TRef sig ⟨S2, .i32⟩) addi
  :: TRef.binary (.of main_call0_call0_call0_v69 : TRef sig ⟨S2, .i32⟩) (.of main_call0_call0_call0_v73 : TRef sig ⟨S2, .i32⟩) (.of main_call0_call0_call0_v74 : TRef sig ⟨S2, .i32⟩) addi
  :: TRef.nullary (.of main_call0_call0_call0_c_18 : TRef sig ⟨S_, .i32⟩) (constantI S_ 32 13#32)
  :: TRef.unary (.of main_call0_call0_call0_c_18 : TRef sig ⟨S_, .i32⟩) (.of main_call0_call0_call0_v75 : TRef sig ⟨S2, .i32⟩) (broadcastInDim S2 ![] bcast_S_S2)
  :: TRef.binary (.of main_call0_call0_call0_v73 : TRef sig ⟨S2, .i32⟩) (.of main_call0_call0_call0_v75 : TRef sig ⟨S2, .i32⟩) (.of main_call0_call0_call0_v76 : TRef sig ⟨S2, .i32⟩) Host.shli
  :: TRef.nullary (.of main_call0_call0_call0_c_19 : TRef sig ⟨S_, .i32⟩) (constantI S_ 32 19#32)
  :: TRef.unary (.of main_call0_call0_call0_c_19 : TRef sig ⟨S_, .i32⟩) (.of main_call0_call0_call0_v77 : TRef sig ⟨S2, .i32⟩) (broadcastInDim S2 ![] bcast_S_S2)
  :: TRef.binary (.of main_call0_call0_call0_v73 : TRef sig ⟨S2, .i32⟩) (.of main_call0_call0_call0_v77 : TRef sig ⟨S2, .i32⟩) (.of main_call0_call0_call0_v78 : TRef sig ⟨S2, .i32⟩) Host.shrui
  :: TRef.binary (.of main_call0_call0_call0_v76 : TRef sig ⟨S2, .i32⟩) (.of main_call0_call0_call0_v78 : TRef sig ⟨S2, .i32⟩) (.of main_call0_call0_call0_v79 : TRef sig ⟨S2, .i32⟩) ori
  :: TRef.binary (.of main_call0_call0_call0_v74 : TRef sig ⟨S2, .i32⟩) (.of main_call0_call0_call0_v79 : TRef sig ⟨S2, .i32⟩) (.of main_call0_call0_call0_v80 : TRef sig ⟨S2, .i32⟩) xori
  :: TRef.binary (.of main_call0_call0_call0_v74 : TRef sig ⟨S2, .i32⟩) (.of main_call0_call0_call0_v80 : TRef sig ⟨S2, .i32⟩) (.of main_call0_call0_call0_v81 : TRef sig ⟨S2, .i32⟩) addi
  :: TRef.nullary (.of main_call0_call0_call0_c_20 : TRef sig ⟨S_, .i32⟩) (constantI S_ 32 15#32)
  :: TRef.unary (.of main_call0_call0_call0_c_20 : TRef sig ⟨S_, .i32⟩) (.of main_call0_call0_call0_v82 : TRef sig ⟨S2, .i32⟩) (broadcastInDim S2 ![] bcast_S_S2)
  :: TRef.binary (.of main_call0_call0_call0_v80 : TRef sig ⟨S2, .i32⟩) (.of main_call0_call0_call0_v82 : TRef sig ⟨S2, .i32⟩) (.of main_call0_call0_call0_v83 : TRef sig ⟨S2, .i32⟩) Host.shli
  :: TRef.nullary (.of main_call0_call0_call0_c_21 : TRef sig ⟨S_, .i32⟩) (constantI S_ 32 17#32)
  :: TRef.unary (.of main_call0_call0_call0_c_21 : TRef sig ⟨S_, .i32⟩) (.of main_call0_call0_call0_v84 : TRef sig ⟨S2, .i32⟩) (broadcastInDim S2 ![] bcast_S_S2)
  :: TRef.binary (.of main_call0_call0_call0_v80 : TRef sig ⟨S2, .i32⟩) (.of main_call0_call0_call0_v84 : TRef sig ⟨S2, .i32⟩) (.of main_call0_call0_call0_v85 : TRef sig ⟨S2, .i32⟩) Host.shrui
  :: TRef.binary (.of main_call0_call0_call0_v83 : TRef sig ⟨S2, .i32⟩) (.of main_call0_call0_call0_v85 : TRef sig ⟨S2, .i32⟩) (.of main_call0_call0_call0_v86 : TRef sig ⟨S2, .i32⟩) ori
  :: TRef.binary (.of main_call0_call0_call0_v81 : TRef sig ⟨S2, .i32⟩) (.of main_call0_call0_call0_v86 : TRef sig ⟨S2, .i32⟩) (.of main_call0_call0_call0_v87 : TRef sig ⟨S2, .i32⟩) xori
  :: TRef.binary (.of main_call0_call0_call0_v81 : TRef sig ⟨S2, .i32⟩) (.of main_call0_call0_call0_v87 : TRef sig ⟨S2, .i32⟩) (.of main_call0_call0_call0_v88 : TRef sig ⟨S2, .i32⟩) addi
  :: TRef.nullary (.of main_call0_call0_call0_c_22 : TRef sig ⟨S_, .i32⟩) (constantI S_ 32 26#32)
  :: TRef.unary (.of main_call0_call0_call0_c_22 : TRef sig ⟨S_, .i32⟩) (.of main_call0_call0_call0_v89 : TRef sig ⟨S2, .i32⟩) (broadcastInDim S2 ![] bcast_S_S2)
  :: TRef.binary (.of main_call0_call0_call0_v87 : TRef sig ⟨S2, .i32⟩) (.of main_call0_call0_call0_v89 : TRef sig ⟨S2, .i32⟩) (.of main_call0_call0_call0_v90 : TRef sig ⟨S2, .i32⟩) Host.shli
  :: TRef.nullary (.of main_call0_call0_call0_c_23 : TRef sig ⟨S_, .i32⟩) (constantI S_ 32 6#32)
  :: TRef.unary (.of main_call0_call0_call0_c_23 : TRef sig ⟨S_, .i32⟩) (.of main_call0_call0_call0_v91 : TRef sig ⟨S2, .i32⟩) (broadcastInDim S2 ![] bcast_S_S2)
  :: TRef.binary (.of main_call0_call0_call0_v87 : TRef sig ⟨S2, .i32⟩) (.of main_call0_call0_call0_v91 : TRef sig ⟨S2, .i32⟩) (.of main_call0_call0_call0_v92 : TRef sig ⟨S2, .i32⟩) Host.shrui
  :: TRef.binary (.of main_call0_call0_call0_v90 : TRef sig ⟨S2, .i32⟩) (.of main_call0_call0_call0_v92 : TRef sig ⟨S2, .i32⟩) (.of main_call0_call0_call0_v93 : TRef sig ⟨S2, .i32⟩) ori
  :: TRef.binary (.of main_call0_call0_call0_v88 : TRef sig ⟨S2, .i32⟩) (.of main_call0_call0_call0_v93 : TRef sig ⟨S2, .i32⟩) (.of main_call0_call0_call0_v94 : TRef sig ⟨S2, .i32⟩) xori
  :: TRef.binary (.of main_call0_call0_call0_v88 : TRef sig ⟨S2, .i32⟩) (.of main_call0_call0_call0_v94 : TRef sig ⟨S2, .i32⟩) (.of main_call0_call0_call0_v95 : TRef sig ⟨S2, .i32⟩) addi
  :: TRef.nullary (.of main_call0_call0_call0_c_24 : TRef sig ⟨S_, .i32⟩) (constantI S_ 32 6#32)
  :: TRef.unary (.of main_call0_call0_call0_c_24 : TRef sig ⟨S_, .i32⟩) (.of main_call0_call0_call0_v96 : TRef sig ⟨S2, .i32⟩) (broadcastInDim S2 ![] bcast_S_S2)
  :: TRef.binary (.of main_call0_call0_call0_v94 : TRef sig ⟨S2, .i32⟩) (.of main_call0_call0_call0_v96 : TRef sig ⟨S2, .i32⟩) (.of main_call0_call0_call0_v97 : TRef sig ⟨S2, .i32⟩) Host.shli
  :: TRef.nullary (.of main_call0_call0_call0_c_25 : TRef sig ⟨S_, .i32⟩) (constantI S_ 32 26#32)
  :: TRef.unary (.of main_call0_call0_call0_c_25 : TRef sig ⟨S_, .i32⟩) (.of main_call0_call0_call0_v98 : TRef sig ⟨S2, .i32⟩) (broadcastInDim S2 ![] bcast_S_S2)
  :: TRef.binary (.of main_call0_call0_call0_v94 : TRef sig ⟨S2, .i32⟩) (.of main_call0_call0_call0_v98 : TRef sig ⟨S2, .i32⟩) (.of main_call0_call0_call0_v99 : TRef sig ⟨S2, .i32⟩) Host.shrui
  :: TRef.binary (.of main_call0_call0_call0_v97 : TRef sig ⟨S2, .i32⟩) (.of main_call0_call0_call0_v99 : TRef sig ⟨S2, .i32⟩) (.of main_call0_call0_call0_v100 : TRef sig ⟨S2, .i32⟩) ori
  :: TRef.binary (.of main_call0_call0_call0_v95 : TRef sig ⟨S2, .i32⟩) (.of main_call0_call0_call0_v100 : TRef sig ⟨S2, .i32⟩) (.of main_call0_call0_call0_v101 : TRef sig ⟨S2, .i32⟩) xori
  :: TRef.unary (.of main_call0_call0_v1 : TRef sig ⟨S_, .i32⟩) (.of main_call0_call0_call0_v102 : TRef sig ⟨S2, .i32⟩) (broadcastInDim S2 ![] bcast_S_S2)
  :: TRef.binary (.of main_call0_call0_call0_v95 : TRef sig ⟨S2, .i32⟩) (.of main_call0_call0_call0_v102 : TRef sig ⟨S2, .i32⟩) (.of main_call0_call0_call0_v103 : TRef sig ⟨S2, .i32⟩) addi
  :: TRef.unary (.of main_call0_call0_v3 : TRef sig ⟨S_, .i32⟩) (.of main_call0_call0_call0_v104 : TRef sig ⟨S2, .i32⟩) (broadcastInDim S2 ![] bcast_S_S2)
  :: TRef.binary (.of main_call0_call0_call0_v101 : TRef sig ⟨S2, .i32⟩) (.of main_call0_call0_call0_v104 : TRef sig ⟨S2, .i32⟩) (.of main_call0_call0_call0_v105 : TRef sig ⟨S2, .i32⟩) addi
  :: TRef.nullary (.of main_call0_call0_call0_c_26 : TRef sig ⟨S_, .i32⟩) (constantI S_ 32 3#32)
  :: TRef.unary (.of main_call0_call0_call0_c_26 : TRef sig ⟨S_, .i32⟩) (.of main_call0_call0_call0_v106 : TRef sig ⟨S2, .i32⟩) (broadcastInDim S2 ![] bcast_S_S2)
  :: TRef.binary (.of main_call0_call0_call0_v105 : TRef sig ⟨S2, .i32⟩) (.of main_call0_call0_call0_v106 : TRef sig ⟨S2, .i32⟩) (.of main_call0_call0_call0_v107 : TRef sig ⟨S2, .i32⟩) addi
  :: TRef.binary (.of main_call0_call0_call0_v103 : TRef sig ⟨S2, .i32⟩) (.of main_call0_call0_call0_v107 : TRef sig ⟨S2, .i32⟩) (.of main_call0_call0_call0_v108 : TRef sig ⟨S2, .i32⟩) addi
  :: TRef.nullary (.of main_call0_call0_call0_c_27 : TRef sig ⟨S_, .i32⟩) (constantI S_ 32 17#32)
  :: TRef.unary (.of main_call0_call0_call0_c_27 : TRef sig ⟨S_, .i32⟩) (.of main_call0_call0_call0_v109 : TRef sig ⟨S2, .i32⟩) (broadcastInDim S2 ![] bcast_S_S2)
  :: TRef.binary (.of main_call0_call0_call0_v107 : TRef sig ⟨S2, .i32⟩) (.of main_call0_call0_call0_v109 : TRef sig ⟨S2, .i32⟩) (.of main_call0_call0_call0_v110 : TRef sig ⟨S2, .i32⟩) Host.shli
  :: TRef.nullary (.of main_call0_call0_call0_c_28 : TRef sig ⟨S_, .i32⟩) (constantI S_ 32 15#32)
  :: TRef.unary (.of main_call0_call0_call0_c_28 : TRef sig ⟨S_, .i32⟩) (.of main_call0_call0_call0_v111 : TRef sig ⟨S2, .i32⟩) (broadcastInDim S2 ![] bcast_S_S2)
  :: TRef.binary (.of main_call0_call0_call0_v107 : TRef sig ⟨S2, .i32⟩) (.of main_call0_call0_call0_v111 : TRef sig ⟨S2, .i32⟩) (.of main_call0_call0_call0_v112 : TRef sig ⟨S2, .i32⟩) Host.shrui
  :: TRef.binary (.of main_call0_call0_call0_v110 : TRef sig ⟨S2, .i32⟩) (.of main_call0_call0_call0_v112 : TRef sig ⟨S2, .i32⟩) (.of main_call0_call0_call0_v113 : TRef sig ⟨S2, .i32⟩) ori
  :: TRef.binary (.of main_call0_call0_call0_v108 : TRef sig ⟨S2, .i32⟩) (.of main_call0_call0_call0_v113 : TRef sig ⟨S2, .i32⟩) (.of main_call0_call0_call0_v114 : TRef sig ⟨S2, .i32⟩) xori
  :: TRef.binary (.of main_call0_call0_call0_v108 : TRef sig ⟨S2, .i32⟩) (.of main_call0_call0_call0_v114 : TRef sig ⟨S2, .i32⟩) (.of main_call0_call0_call0_v115 : TRef sig ⟨S2, .i32⟩) addi
  :: TRef.nullary (.of main_call0_call0_call0_c_29 : TRef sig ⟨S_, .i32⟩) (constantI S_ 32 29#32)
  :: TRef.unary (.of main_call0_call0_call0_c_29 : TRef sig ⟨S_, .i32⟩) (.of main_call0_call0_call0_v116 : TRef sig ⟨S2, .i32⟩) (broadcastInDim S2 ![] bcast_S_S2)
  :: TRef.binary (.of main_call0_call0_call0_v114 : TRef sig ⟨S2, .i32⟩) (.of main_call0_call0_call0_v116 : TRef sig ⟨S2, .i32⟩) (.of main_call0_call0_call0_v117 : TRef sig ⟨S2, .i32⟩) Host.shli
  :: TRef.nullary (.of main_call0_call0_call0_c_30 : TRef sig ⟨S_, .i32⟩) (constantI S_ 32 3#32)
  :: TRef.unary (.of main_call0_call0_call0_c_30 : TRef sig ⟨S_, .i32⟩) (.of main_call0_call0_call0_v118 : TRef sig ⟨S2, .i32⟩) (broadcastInDim S2 ![] bcast_S_S2)
  :: TRef.binary (.of main_call0_call0_call0_v114 : TRef sig ⟨S2, .i32⟩) (.of main_call0_call0_call0_v118 : TRef sig ⟨S2, .i32⟩) (.of main_call0_call0_call0_v119 : TRef sig ⟨S2, .i32⟩) Host.shrui
  :: TRef.binary (.of main_call0_call0_call0_v117 : TRef sig ⟨S2, .i32⟩) (.of main_call0_call0_call0_v119 : TRef sig ⟨S2, .i32⟩) (.of main_call0_call0_call0_v120 : TRef sig ⟨S2, .i32⟩) ori
  :: TRef.binary (.of main_call0_call0_call0_v115 : TRef sig ⟨S2, .i32⟩) (.of main_call0_call0_call0_v120 : TRef sig ⟨S2, .i32⟩) (.of main_call0_call0_call0_v121 : TRef sig ⟨S2, .i32⟩) xori
  :: TRef.binary (.of main_call0_call0_call0_v115 : TRef sig ⟨S2, .i32⟩) (.of main_call0_call0_call0_v121 : TRef sig ⟨S2, .i32⟩) (.of main_call0_call0_call0_v122 : TRef sig ⟨S2, .i32⟩) addi
  :: TRef.nullary (.of main_call0_call0_call0_c_31 : TRef sig ⟨S_, .i32⟩) (constantI S_ 32 16#32)
  :: TRef.unary (.of main_call0_call0_call0_c_31 : TRef sig ⟨S_, .i32⟩) (.of main_call0_call0_call0_v123 : TRef sig ⟨S2, .i32⟩) (broadcastInDim S2 ![] bcast_S_S2)
  :: TRef.binary (.of main_call0_call0_call0_v121 : TRef sig ⟨S2, .i32⟩) (.of main_call0_call0_call0_v123 : TRef sig ⟨S2, .i32⟩) (.of main_call0_call0_call0_v124 : TRef sig ⟨S2, .i32⟩) Host.shli
  :: TRef.nullary (.of main_call0_call0_call0_c_32 : TRef sig ⟨S_, .i32⟩) (constantI S_ 32 16#32)
  :: TRef.unary (.of main_call0_call0_call0_c_32 : TRef sig ⟨S_, .i32⟩) (.of main_call0_call0_call0_v125 : TRef sig ⟨S2, .i32⟩) (broadcastInDim S2 ![] bcast_S_S2)
  :: TRef.binary (.of main_call0_call0_call0_v121 : TRef sig ⟨S2, .i32⟩) (.of main_call0_call0_call0_v125 : TRef sig ⟨S2, .i32⟩) (.of main_call0_call0_call0_v126 : TRef sig ⟨S2, .i32⟩) Host.shrui
  :: TRef.binary (.of main_call0_call0_call0_v124 : TRef sig ⟨S2, .i32⟩) (.of main_call0_call0_call0_v126 : TRef sig ⟨S2, .i32⟩) (.of main_call0_call0_call0_v127 : TRef sig ⟨S2, .i32⟩) ori
  :: TRef.binary (.of main_call0_call0_call0_v122 : TRef sig ⟨S2, .i32⟩) (.of main_call0_call0_call0_v127 : TRef sig ⟨S2, .i32⟩) (.of main_call0_call0_call0_v128 : TRef sig ⟨S2, .i32⟩) xori
  :: TRef.binary (.of main_call0_call0_call0_v122 : TRef sig ⟨S2, .i32⟩) (.of main_call0_call0_call0_v128 : TRef sig ⟨S2, .i32⟩) (.of main_call0_call0_call0_v129 : TRef sig ⟨S2, .i32⟩) addi
  :: TRef.nullary (.of main_call0_call0_call0_c_33 : TRef sig ⟨S_, .i32⟩) (constantI S_ 32 24#32)
  :: TRef.unary (.of main_call0_call0_call0_c_33 : TRef sig ⟨S_, .i32⟩) (.of main_call0_call0_call0_v130 : TRef sig ⟨S2, .i32⟩) (broadcastInDim S2 ![] bcast_S_S2)
  :: TRef.binary (.of main_call0_call0_call0_v128 : TRef sig ⟨S2, .i32⟩) (.of main_call0_call0_call0_v130 : TRef sig ⟨S2, .i32⟩) (.of main_call0_call0_call0_v131 : TRef sig ⟨S2, .i32⟩) Host.shli
  :: TRef.nullary (.of main_call0_call0_call0_c_34 : TRef sig ⟨S_, .i32⟩) (constantI S_ 32 8#32)
  :: TRef.unary (.of main_call0_call0_call0_c_34 : TRef sig ⟨S_, .i32⟩) (.of main_call0_call0_call0_v132 : TRef sig ⟨S2, .i32⟩) (broadcastInDim S2 ![] bcast_S_S2)
  :: TRef.binary (.of main_call0_call0_call0_v128 : TRef sig ⟨S2, .i32⟩) (.of main_call0_call0_call0_v132 : TRef sig ⟨S2, .i32⟩) (.of main_call0_call0_call0_v133 : TRef sig ⟨S2, .i32⟩) Host.shrui
  :: TRef.binary (.of main_call0_call0_call0_v131 : TRef sig ⟨S2, .i32⟩) (.of main_call0_call0_call0_v133 : TRef sig ⟨S2, .i32⟩) (.of main_call0_call0_call0_v134 : TRef sig ⟨S2, .i32⟩) ori
  :: TRef.binary (.of main_call0_call0_call0_v129 : TRef sig ⟨S2, .i32⟩) (.of main_call0_call0_call0_v134 : TRef sig ⟨S2, .i32⟩) (.of main_call0_call0_call0_v135 : TRef sig ⟨S2, .i32⟩) xori
  :: TRef.unary (.of main_call0_call0_v3 : TRef sig ⟨S_, .i32⟩) (.of main_call0_call0_call0_v136 : TRef sig ⟨S2, .i32⟩) (broadcastInDim S2 ![] bcast_S_S2)
  :: TRef.binary (.of main_call0_call0_call0_v129 : TRef sig ⟨S2, .i32⟩) (.of main_call0_call0_call0_v136 : TRef sig ⟨S2, .i32⟩) (.of main_call0_call0_call0_v137 : TRef sig ⟨S2, .i32⟩) addi
  :: TRef.unary (.of main_call0_call0_call0_v1 : TRef sig ⟨S_, .i32⟩) (.of main_call0_call0_call0_v138 : TRef sig ⟨S2, .i32⟩) (broadcastInDim S2 ![] bcast_S_S2)
  :: TRef.binary (.of main_call0_call0_call0_v135 : TRef sig ⟨S2, .i32⟩) (.of main_call0_call0_call0_v138 : TRef sig ⟨S2, .i32⟩) (.of main_call0_call0_call0_v139 : TRef sig ⟨S2, .i32⟩) addi
  :: TRef.nullary (.of main_call0_call0_call0_c_35 : TRef sig ⟨S_, .i32⟩) (constantI S_ 32 4#32)
  :: TRef.unary (.of main_call0_call0_call0_c_35 : TRef sig ⟨S_, .i32⟩) (.of main_call0_call0_call0_v140 : TRef sig ⟨S2, .i32⟩) (broadcastInDim S2 ![] bcast_S_S2)
  :: TRef.binary (.of main_call0_call0_call0_v139 : TRef sig ⟨S2, .i32⟩) (.of main_call0_call0_call0_v140 : TRef sig ⟨S2, .i32⟩) (.of main_call0_call0_call0_v141 : TRef sig ⟨S2, .i32⟩) addi
  :: TRef.binary (.of main_call0_call0_call0_v137 : TRef sig ⟨S2, .i32⟩) (.of main_call0_call0_call0_v141 : TRef sig ⟨S2, .i32⟩) (.of main_call0_call0_call0_v142 : TRef sig ⟨S2, .i32⟩) addi
  :: TRef.nullary (.of main_call0_call0_call0_c_36 : TRef sig ⟨S_, .i32⟩) (constantI S_ 32 13#32)
  :: TRef.unary (.of main_call0_call0_call0_c_36 : TRef sig ⟨S_, .i32⟩) (.of main_call0_call0_call0_v143 : TRef sig ⟨S2, .i32⟩) (broadcastInDim S2 ![] bcast_S_S2)
  :: TRef.binary (.of main_call0_call0_call0_v141 : TRef sig ⟨S2, .i32⟩) (.of main_call0_call0_call0_v143 : TRef sig ⟨S2, .i32⟩) (.of main_call0_call0_call0_v144 : TRef sig ⟨S2, .i32⟩) Host.shli
  :: TRef.nullary (.of main_call0_call0_call0_c_37 : TRef sig ⟨S_, .i32⟩) (constantI S_ 32 19#32)
  :: TRef.unary (.of main_call0_call0_call0_c_37 : TRef sig ⟨S_, .i32⟩) (.of main_call0_call0_call0_v145 : TRef sig ⟨S2, .i32⟩) (broadcastInDim S2 ![] bcast_S_S2)
  :: TRef.binary (.of main_call0_call0_call0_v141 : TRef sig ⟨S2, .i32⟩) (.of main_call0_call0_call0_v145 : TRef sig ⟨S2, .i32⟩) (.of main_call0_call0_call0_v146 : TRef sig ⟨S2, .i32⟩) Host.shrui
  :: TRef.binary (.of main_call0_call0_call0_v144 : TRef sig ⟨S2, .i32⟩) (.of main_call0_call0_call0_v146 : TRef sig ⟨S2, .i32⟩) (.of main_call0_call0_call0_v147 : TRef sig ⟨S2, .i32⟩) ori
  :: TRef.binary (.of main_call0_call0_call0_v142 : TRef sig ⟨S2, .i32⟩) (.of main_call0_call0_call0_v147 : TRef sig ⟨S2, .i32⟩) (.of main_call0_call0_call0_v148 : TRef sig ⟨S2, .i32⟩) xori
  :: TRef.binary (.of main_call0_call0_call0_v142 : TRef sig ⟨S2, .i32⟩) (.of main_call0_call0_call0_v148 : TRef sig ⟨S2, .i32⟩) (.of main_call0_call0_call0_v149 : TRef sig ⟨S2, .i32⟩) addi
  :: TRef.nullary (.of main_call0_call0_call0_c_38 : TRef sig ⟨S_, .i32⟩) (constantI S_ 32 15#32)
  :: TRef.unary (.of main_call0_call0_call0_c_38 : TRef sig ⟨S_, .i32⟩) (.of main_call0_call0_call0_v150 : TRef sig ⟨S2, .i32⟩) (broadcastInDim S2 ![] bcast_S_S2)
  :: TRef.binary (.of main_call0_call0_call0_v148 : TRef sig ⟨S2, .i32⟩) (.of main_call0_call0_call0_v150 : TRef sig ⟨S2, .i32⟩) (.of main_call0_call0_call0_v151 : TRef sig ⟨S2, .i32⟩) Host.shli
  :: TRef.nullary (.of main_call0_call0_call0_c_39 : TRef sig ⟨S_, .i32⟩) (constantI S_ 32 17#32)
  :: TRef.unary (.of main_call0_call0_call0_c_39 : TRef sig ⟨S_, .i32⟩) (.of main_call0_call0_call0_v152 : TRef sig ⟨S2, .i32⟩) (broadcastInDim S2 ![] bcast_S_S2)
  :: TRef.binary (.of main_call0_call0_call0_v148 : TRef sig ⟨S2, .i32⟩) (.of main_call0_call0_call0_v152 : TRef sig ⟨S2, .i32⟩) (.of main_call0_call0_call0_v153 : TRef sig ⟨S2, .i32⟩) Host.shrui
  :: TRef.binary (.of main_call0_call0_call0_v151 : TRef sig ⟨S2, .i32⟩) (.of main_call0_call0_call0_v153 : TRef sig ⟨S2, .i32⟩) (.of main_call0_call0_call0_v154 : TRef sig ⟨S2, .i32⟩) ori
  :: TRef.binary (.of main_call0_call0_call0_v149 : TRef sig ⟨S2, .i32⟩) (.of main_call0_call0_call0_v154 : TRef sig ⟨S2, .i32⟩) (.of main_call0_call0_call0_v155 : TRef sig ⟨S2, .i32⟩) xori
  :: TRef.binary (.of main_call0_call0_call0_v149 : TRef sig ⟨S2, .i32⟩) (.of main_call0_call0_call0_v155 : TRef sig ⟨S2, .i32⟩) (.of main_call0_call0_call0_v156 : TRef sig ⟨S2, .i32⟩) addi
  :: TRef.nullary (.of main_call0_call0_call0_c_40 : TRef sig ⟨S_, .i32⟩) (constantI S_ 32 26#32)
  :: TRef.unary (.of main_call0_call0_call0_c_40 : TRef sig ⟨S_, .i32⟩) (.of main_call0_call0_call0_v157 : TRef sig ⟨S2, .i32⟩) (broadcastInDim S2 ![] bcast_S_S2)
  :: TRef.binary (.of main_call0_call0_call0_v155 : TRef sig ⟨S2, .i32⟩) (.of main_call0_call0_call0_v157 : TRef sig ⟨S2, .i32⟩) (.of main_call0_call0_call0_v158 : TRef sig ⟨S2, .i32⟩) Host.shli
  :: TRef.nullary (.of main_call0_call0_call0_c_41 : TRef sig ⟨S_, .i32⟩) (constantI S_ 32 6#32)
  :: TRef.unary (.of main_call0_call0_call0_c_41 : TRef sig ⟨S_, .i32⟩) (.of main_call0_call0_call0_v159 : TRef sig ⟨S2, .i32⟩) (broadcastInDim S2 ![] bcast_S_S2)
  :: TRef.binary (.of main_call0_call0_call0_v155 : TRef sig ⟨S2, .i32⟩) (.of main_call0_call0_call0_v159 : TRef sig ⟨S2, .i32⟩) (.of main_call0_call0_call0_v160 : TRef sig ⟨S2, .i32⟩) Host.shrui
  :: TRef.binary (.of main_call0_call0_call0_v158 : TRef sig ⟨S2, .i32⟩) (.of main_call0_call0_call0_v160 : TRef sig ⟨S2, .i32⟩) (.of main_call0_call0_call0_v161 : TRef sig ⟨S2, .i32⟩) ori
  :: TRef.binary (.of main_call0_call0_call0_v156 : TRef sig ⟨S2, .i32⟩) (.of main_call0_call0_call0_v161 : TRef sig ⟨S2, .i32⟩) (.of main_call0_call0_call0_v162 : TRef sig ⟨S2, .i32⟩) xori
  :: TRef.binary (.of main_call0_call0_call0_v156 : TRef sig ⟨S2, .i32⟩) (.of main_call0_call0_call0_v162 : TRef sig ⟨S2, .i32⟩) (.of main_call0_call0_call0_v163 : TRef sig ⟨S2, .i32⟩) addi
  :: TRef.nullary (.of main_call0_call0_call0_c_42 : TRef sig ⟨S_, .i32⟩) (constantI S_ 32 6#32)
  :: TRef.unary (.of main_call0_call0_call0_c_42 : TRef sig ⟨S_, .i32⟩) (.of main_call0_call0_call0_v164 : TRef sig ⟨S2, .i32⟩) (broadcastInDim S2 ![] bcast_S_S2)
  :: TRef.binary (.of main_call0_call0_call0_v162 : TRef sig ⟨S2, .i32⟩) (.of main_call0_call0_call0_v164 : TRef sig ⟨S2, .i32⟩) (.of main_call0_call0_call0_v165 : TRef sig ⟨S2, .i32⟩) Host.shli
  :: TRef.nullary (.of main_call0_call0_call0_c_43 : TRef sig ⟨S_, .i32⟩) (constantI S_ 32 26#32)
  :: TRef.unary (.of main_call0_call0_call0_c_43 : TRef sig ⟨S_, .i32⟩) (.of main_call0_call0_call0_v166 : TRef sig ⟨S2, .i32⟩) (broadcastInDim S2 ![] bcast_S_S2)
  :: TRef.binary (.of main_call0_call0_call0_v162 : TRef sig ⟨S2, .i32⟩) (.of main_call0_call0_call0_v166 : TRef sig ⟨S2, .i32⟩) (.of main_call0_call0_call0_v167 : TRef sig ⟨S2, .i32⟩) Host.shrui
  :: TRef.binary (.of main_call0_call0_call0_v165 : TRef sig ⟨S2, .i32⟩) (.of main_call0_call0_call0_v167 : TRef sig ⟨S2, .i32⟩) (.of main_call0_call0_call0_v168 : TRef sig ⟨S2, .i32⟩) ori
  :: TRef.binary (.of main_call0_call0_call0_v163 : TRef sig ⟨S2, .i32⟩) (.of main_call0_call0_call0_v168 : TRef sig ⟨S2, .i32⟩) (.of main_call0_call0_call0_v169 : TRef sig ⟨S2, .i32⟩) xori
  :: TRef.unary (.of main_call0_call0_call0_v1 : TRef sig ⟨S_, .i32⟩) (.of main_call0_call0_call0_v170 : TRef sig ⟨S2, .i32⟩) (broadcastInDim S2 ![] bcast_S_S2)
  :: TRef.binary (.of main_call0_call0_call0_v163 : TRef sig ⟨S2, .i32⟩) (.of main_call0_call0_call0_v170 : TRef sig ⟨S2, .i32⟩) (.of main_call0_call0_v11_0 : TRef sig ⟨S2, .i32⟩) addi
  :: TRef.unary (.of main_call0_call0_v1 : TRef sig ⟨S_, .i32⟩) (.of main_call0_call0_call0_v172 : TRef sig ⟨S2, .i32⟩) (broadcastInDim S2 ![] bcast_S_S2)
  :: TRef.binary (.of main_call0_call0_call0_v169 : TRef sig ⟨S2, .i32⟩) (.of main_call0_call0_call0_v172 : TRef sig ⟨S2, .i32⟩) (.of main_call0_call0_call0_v173 : TRef sig ⟨S2, .i32⟩) addi
  :: TRef.nullary (.of main_call0_call0_call0_c_44 : TRef sig ⟨S_, .i32⟩) (constantI S_ 32 5#32)
  :: TRef.unary (.of main_call0_call0_call0_c_44 : TRef sig ⟨S_, .i32⟩) (.of main_call0_call0_call0_v174 : TRef sig ⟨S2, .i32⟩) (broadcastInDim S2 ![] bcast_S_S2)
  :: TRef.binary (.of main_call0_call0_call0_v173 : TRef sig ⟨S2, .i32⟩) (.of main_call0_call0_call0_v174 : TRef sig ⟨S2, .i32⟩) (.of main_call0_call0_v11_1 : TRef sig ⟨S2, .i32⟩) addi
  :: TRef.unary main_call0_call0_call0.v171 (.of main_call0_call0_v12 : TRef sig ⟨S2x1, .i32⟩) (broadcastInDim S2x1 ![0] bcast_S2_S2x1_0)
  :: TRef.unary main_call0_call0_call0.v175 (.of main_call0_call0_v13 : TRef sig ⟨S2x1, .i32⟩) (broadcastInDim S2x1 ![0] bcast_S2_S2x1_0)
  :: TRef.binary (.of main_call0_call0_v12 : TRef sig ⟨S2x1, .i32⟩) (.of main_call0_call0_v13 : TRef sig ⟨S2x1, .i32⟩) (.of main_call0_v0 : TRef sig ⟨S2x2, .i32⟩) (fun a b => concatenate S2x2 1 [⟨S2x1, a⟩, ⟨S2x1, b⟩] concatenates_S2x1_S2x1_S2x2_d1)
  :: TRef.unary main_call0_call0.v14 (.of main_call0_v1 : TRef sig ⟨S1x2, .i32⟩) (extractStridedSlice S1x2 ![0, 0] · slices_S2x2_S1x2_0_0)
  :: TRef.reshape (.of main_call0_v1 : TRef sig ⟨S1x2, .i32⟩) (.of main_call0_v2 : TRef sig ⟨S2, .i32⟩) (rfl : (.i32 : EltTy) = .i32) shapeCasts_S1x2_S2
  :: TRef.unary main_call0_call0.v14 (.of main_call0_v3 : TRef sig ⟨S1x2, .i32⟩) (extractStridedSlice S1x2 ![1, 0] · slices_S2x2_S1x2_1_0)
  :: TRef.reshape (.of main_call0_v3 : TRef sig ⟨S1x2, .i32⟩) (.of main_call0_v4 : TRef sig ⟨S2, .i32⟩) (rfl : (.i32 : EltTy) = .i32) shapeCasts_S1x2_S2
  :: TRef.unary (.of main_call0_v4 : TRef sig ⟨S2, .i32⟩) (.of main_call0_v5 : TRef sig ⟨S1, .i32⟩) (extractStridedSlice S1 ![0] · slices_S2_S1_0)
  :: TRef.reshape (.of main_call0_v5 : TRef sig ⟨S1, .i32⟩) (.of main_call0_v6 : TRef sig ⟨S_, .i32⟩) (rfl : (.i32 : EltTy) = .i32) shapeCasts_S1_S_
  :: TRef.unary (.of main_call0_v4 : TRef sig ⟨S2, .i32⟩) (.of main_call0_v7 : TRef sig ⟨S1, .i32⟩) (extractStridedSlice S1 ![1] · slices_S2_S1_1)
  :: TRef.reshape (.of main_call0_v7 : TRef sig ⟨S1, .i32⟩) (.of main_call0_v8 : TRef sig ⟨S_, .i32⟩) (rfl : (.i32 : EltTy) = .i32) shapeCasts_S1_S_
  :: TRef.nullary (.of main_call0_v9 : TRef sig ⟨S48, .i64⟩) (iotaInDim S48 64 0)
  :: TRef.nullary (.of main_call0_c : TRef sig ⟨S_, .i64⟩) (constantI S_ 64 1#64)
  :: TRef.unary (.of main_call0_c : TRef sig ⟨S_, .i64⟩) (.of main_call0_v10 : TRef sig ⟨S48, .i64⟩) (broadcastInDim S48 ![] bcast_S_S48)
  :: TRef.binary (.of main_call0_v10 : TRef sig ⟨S48, .i64⟩) (.of main_call0_v9 : TRef sig ⟨S48, .i64⟩) (.of main_call0_v11 : TRef sig ⟨S48, .i64⟩) muli
  :: TRef.nullary (.of main_call0_c_0 : TRef sig ⟨S_, .i64⟩) (constantI S_ 64 32#64)
  :: TRef.unary (.of main_call0_c_0 : TRef sig ⟨S_, .i64⟩) (.of main_call0_v12 : TRef sig ⟨S48, .i64⟩) (broadcastInDim S48 ![] bcast_S_S48)
  :: TRef.binary (.of main_call0_v11 : TRef sig ⟨S48, .i64⟩) (.of main_call0_v12 : TRef sig ⟨S48, .i64⟩) (.of main_call0_v13 : TRef sig ⟨S48, .i64⟩) Host.shrui
  :: TRef.unary (.of main_call0_v11 : TRef sig ⟨S48, .i64⟩) (.of main_call0_v14 : TRef sig ⟨S48, .i32⟩) (trunci 32 · natLt_32_64)
  :: TRef.unary (.of main_call0_v13 : TRef sig ⟨S48, .i64⟩) (.of main_call0_v15 : TRef sig ⟨S48, .i32⟩) (trunci 32 · natLt_32_64)
  :: TRef.binary (.of main_call0_v6 : TRef sig ⟨S_, .i32⟩) (.of main_call0_v8 : TRef sig ⟨S_, .i32⟩) (.of main_call0_call1_v0 : TRef sig ⟨S_, .i32⟩) xori
  :: TRef.nullary (.of main_call0_call1_c : TRef sig ⟨S_, .i32⟩) (constantI S_ 32 466688986#32)
  :: TRef.binary (.of main_call0_call1_v0 : TRef sig ⟨S_, .i32⟩) (.of main_call0_call1_c : TRef sig ⟨S_, .i32⟩) (.of main_call0_call1_v1 : TRef sig ⟨S_, .i32⟩) xori
  :: TRef.unary (.of main_call0_v6 : TRef sig ⟨S_, .i32⟩) (.of main_call0_call1_v2 : TRef sig ⟨S48, .i32⟩) (broadcastInDim S48 ![] bcast_S_S48)
  :: TRef.binary (.of main_call0_v15 : TRef sig ⟨S48, .i32⟩) (.of main_call0_call1_v2 : TRef sig ⟨S48, .i32⟩) (.of main_call0_call1_v3 : TRef sig ⟨S48, .i32⟩) addi
  :: TRef.unary (.of main_call0_v8 : TRef sig ⟨S_, .i32⟩) (.of main_call0_call1_v4 : TRef sig ⟨S48, .i32⟩) (broadcastInDim S48 ![] bcast_S_S48)
  :: TRef.binary (.of main_call0_v14 : TRef sig ⟨S48, .i32⟩) (.of main_call0_call1_v4 : TRef sig ⟨S48, .i32⟩) (.of main_call0_call1_v5 : TRef sig ⟨S48, .i32⟩) addi
  :: TRef.binary (.of main_call0_call1_v3 : TRef sig ⟨S48, .i32⟩) (.of main_call0_call1_v5 : TRef sig ⟨S48, .i32⟩) (.of main_call0_call1_v6 : TRef sig ⟨S48, .i32⟩) addi
  :: TRef.nullary (.of main_call0_call1_c_0 : TRef sig ⟨S_, .i32⟩) (constantI S_ 32 13#32)
  :: TRef.unary (.of main_call0_call1_c_0 : TRef sig ⟨S_, .i32⟩) (.of main_call0_call1_v7 : TRef sig ⟨S48, .i32⟩) (broadcastInDim S48 ![] bcast_S_S48)
  :: TRef.binary (.of main_call0_call1_v5 : TRef sig ⟨S48, .i32⟩) (.of main_call0_call1_v7 : TRef sig ⟨S48, .i32⟩) (.of main_call0_call1_v8 : TRef sig ⟨S48, .i32⟩) Host.shli
  :: TRef.nullary (.of main_call0_call1_c_1 : TRef sig ⟨S_, .i32⟩) (constantI S_ 32 19#32)
  :: TRef.unary (.of main_call0_call1_c_1 : TRef sig ⟨S_, .i32⟩) (.of main_call0_call1_v9 : TRef sig ⟨S48, .i32⟩) (broadcastInDim S48 ![] bcast_S_S48)
  :: TRef.binary (.of main_call0_call1_v5 : TRef sig ⟨S48, .i32⟩) (.of main_call0_call1_v9 : TRef sig ⟨S48, .i32⟩) (.of main_call0_call1_v10 : TRef sig ⟨S48, .i32⟩) Host.shrui
  :: TRef.binary (.of main_call0_call1_v8 : TRef sig ⟨S48, .i32⟩) (.of main_call0_call1_v10 : TRef sig ⟨S48, .i32⟩) (.of main_call0_call1_v11 : TRef sig ⟨S48, .i32⟩) ori
  :: TRef.binary (.of main_call0_call1_v6 : TRef sig ⟨S48, .i32⟩) (.of main_call0_call1_v11 : TRef sig ⟨S48, .i32⟩) (.of main_call0_call1_v12 : TRef sig ⟨S48, .i32⟩) xori
  :: TRef.binary (.of main_call0_call1_v6 : TRef sig ⟨S48, .i32⟩) (.of main_call0_call1_v12 : TRef sig ⟨S48, .i32⟩) (.of main_call0_call1_v13 : TRef sig ⟨S48, .i32⟩) addi
  :: TRef.nullary (.of main_call0_call1_c_2 : TRef sig ⟨S_, .i32⟩) (constantI S_ 32 15#32)
  :: TRef.unary (.of main_call0_call1_c_2 : TRef sig ⟨S_, .i32⟩) (.of main_call0_call1_v14 : TRef sig ⟨S48, .i32⟩) (broadcastInDim S48 ![] bcast_S_S48)
  :: TRef.binary (.of main_call0_call1_v12 : TRef sig ⟨S48, .i32⟩) (.of main_call0_call1_v14 : TRef sig ⟨S48, .i32⟩) (.of main_call0_call1_v15 : TRef sig ⟨S48, .i32⟩) Host.shli
  :: TRef.nullary (.of main_call0_call1_c_3 : TRef sig ⟨S_, .i32⟩) (constantI S_ 32 17#32)
  :: TRef.unary (.of main_call0_call1_c_3 : TRef sig ⟨S_, .i32⟩) (.of main_call0_call1_v16 : TRef sig ⟨S48, .i32⟩) (broadcastInDim S48 ![] bcast_S_S48)
  :: TRef.binary (.of main_call0_call1_v12 : TRef sig ⟨S48, .i32⟩) (.of main_call0_call1_v16 : TRef sig ⟨S48, .i32⟩) (.of main_call0_call1_v17 : TRef sig ⟨S48, .i32⟩) Host.shrui
  :: TRef.binary (.of main_call0_call1_v15 : TRef sig ⟨S48, .i32⟩) (.of main_call0_call1_v17 : TRef sig ⟨S48, .i32⟩) (.of main_call0_call1_v18 : TRef sig ⟨S48, .i32⟩) ori
  :: TRef.binary (.of main_call0_call1_v13 : TRef sig ⟨S48, .i32⟩) (.of main_call0_call1_v18 : TRef sig ⟨S48, .i32⟩) (.of main_call0_call1_v19 : TRef sig ⟨S48, .i32⟩) xori
  :: TRef.binary (.of main_call0_call1_v13 : TRef sig ⟨S48, .i32⟩) (.of main_call0_call1_v19 : TRef sig ⟨S48, .i32⟩) (.of main_call0_call1_v20 : TRef sig ⟨S48, .i32⟩) addi
  :: TRef.nullary (.of main_call0_call1_c_4 : TRef sig ⟨S_, .i32⟩) (constantI S_ 32 26#32)
  :: TRef.unary (.of main_call0_call1_c_4 : TRef sig ⟨S_, .i32⟩) (.of main_call0_call1_v21 : TRef sig ⟨S48, .i32⟩) (broadcastInDim S48 ![] bcast_S_S48)
  :: TRef.binary (.of main_call0_call1_v19 : TRef sig ⟨S48, .i32⟩) (.of main_call0_call1_v21 : TRef sig ⟨S48, .i32⟩) (.of main_call0_call1_v22 : TRef sig ⟨S48, .i32⟩) Host.shli
  :: TRef.nullary (.of main_call0_call1_c_5 : TRef sig ⟨S_, .i32⟩) (constantI S_ 32 6#32)
  :: TRef.unary (.of main_call0_call1_c_5 : TRef sig ⟨S_, .i32⟩) (.of main_call0_call1_v23 : TRef sig ⟨S48, .i32⟩) (broadcastInDim S48 ![] bcast_S_S48)
  :: TRef.binary (.of main_call0_call1_v19 : TRef sig ⟨S48, .i32⟩) (.of main_call0_call1_v23 : TRef sig ⟨S48, .i32⟩) (.of main_call0_call1_v24 : TRef sig ⟨S48, .i32⟩) Host.shrui
  :: TRef.binary (.of main_call0_call1_v22 : TRef sig ⟨S48, .i32⟩) (.of main_call0_call1_v24 : TRef sig ⟨S48, .i32⟩) (.of main_call0_call1_v25 : TRef sig ⟨S48, .i32⟩) ori
  :: TRef.binary (.of main_call0_call1_v20 : TRef sig ⟨S48, .i32⟩) (.of main_call0_call1_v25 : TRef sig ⟨S48, .i32⟩) (.of main_call0_call1_v26 : TRef sig ⟨S48, .i32⟩) xori
  :: TRef.binary (.of main_call0_call1_v20 : TRef sig ⟨S48, .i32⟩) (.of main_call0_call1_v26 : TRef sig ⟨S48, .i32⟩) (.of main_call0_call1_v27 : TRef sig ⟨S48, .i32⟩) addi
  :: TRef.nullary (.of main_call0_call1_c_6 : TRef sig ⟨S_, .i32⟩) (constantI S_ 32 6#32)
  :: TRef.unary (.of main_call0_call1_c_6 : TRef sig ⟨S_, .i32⟩) (.of main_call0_call1_v28 : TRef sig ⟨S48, .i32⟩) (broadcastInDim S48 ![] bcast_S_S48)
  :: TRef.binary (.of main_call0_call1_v26 : TRef sig ⟨S48, .i32⟩) (.of main_call0_call1_v28 : TRef sig ⟨S48, .i32⟩) (.of main_call0_call1_v29 : TRef sig ⟨S48, .i32⟩) Host.shli
  :: TRef.nullary (.of main_call0_call1_c_7 : TRef sig ⟨S_, .i32⟩) (constantI S_ 32 26#32)
  :: TRef.unary (.of main_call0_call1_c_7 : TRef sig ⟨S_, .i32⟩) (.of main_call0_call1_v30 : TRef sig ⟨S48, .i32⟩) (broadcastInDim S48 ![] bcast_S_S48)
  :: TRef.binary (.of main_call0_call1_v26 : TRef sig ⟨S48, .i32⟩) (.of main_call0_call1_v30 : TRef sig ⟨S48, .i32⟩) (.of main_call0_call1_v31 : TRef sig ⟨S48, .i32⟩) Host.shrui
  :: TRef.binary (.of main_call0_call1_v29 : TRef sig ⟨S48, .i32⟩) (.of main_call0_call1_v31 : TRef sig ⟨S48, .i32⟩) (.of main_call0_call1_v32 : TRef sig ⟨S48, .i32⟩) ori
  :: TRef.binary (.of main_call0_call1_v27 : TRef sig ⟨S48, .i32⟩) (.of main_call0_call1_v32 : TRef sig ⟨S48, .i32⟩) (.of main_call0_call1_v33 : TRef sig ⟨S48, .i32⟩) xori
  :: TRef.unary (.of main_call0_v8 : TRef sig ⟨S_, .i32⟩) (.of main_call0_call1_v34 : TRef sig ⟨S48, .i32⟩) (broadcastInDim S48 ![] bcast_S_S48)
  :: TRef.binary (.of main_call0_call1_v27 : TRef sig ⟨S48, .i32⟩) (.of main_call0_call1_v34 : TRef sig ⟨S48, .i32⟩) (.of main_call0_call1_v35 : TRef sig ⟨S48, .i32⟩) addi
  :: TRef.unary (.of main_call0_call1_v1 : TRef sig ⟨S_, .i32⟩) (.of main_call0_call1_v36 : TRef sig ⟨S48, .i32⟩) (broadcastInDim S48 ![] bcast_S_S48)
  :: TRef.binary (.of main_call0_call1_v33 : TRef sig ⟨S48, .i32⟩) (.of main_call0_call1_v36 : TRef sig ⟨S48, .i32⟩) (.of main_call0_call1_v37 : TRef sig ⟨S48, .i32⟩) addi
  :: TRef.nullary (.of main_call0_call1_c_8 : TRef sig ⟨S_, .i32⟩) (constantI S_ 32 1#32)
  :: TRef.unary (.of main_call0_call1_c_8 : TRef sig ⟨S_, .i32⟩) (.of main_call0_call1_v38 : TRef sig ⟨S48, .i32⟩) (broadcastInDim S48 ![] bcast_S_S48)
  :: TRef.binary (.of main_call0_call1_v37 : TRef sig ⟨S48, .i32⟩) (.of main_call0_call1_v38 : TRef sig ⟨S48, .i32⟩) (.of main_call0_call1_v39 : TRef sig ⟨S48, .i32⟩) addi
  :: TRef.binary (.of main_call0_call1_v35 : TRef sig ⟨S48, .i32⟩) (.of main_call0_call1_v39 : TRef sig ⟨S48, .i32⟩) (.of main_call0_call1_v40 : TRef sig ⟨S48, .i32⟩) addi
  :: TRef.nullary (.of main_call0_call1_c_9 : TRef sig ⟨S_, .i32⟩) (constantI S_ 32 17#32)
  :: TRef.unary (.of main_call0_call1_c_9 : TRef sig ⟨S_, .i32⟩) (.of main_call0_call1_v41 : TRef sig ⟨S48, .i32⟩) (broadcastInDim S48 ![] bcast_S_S48)
  :: TRef.binary (.of main_call0_call1_v39 : TRef sig ⟨S48, .i32⟩) (.of main_call0_call1_v41 : TRef sig ⟨S48, .i32⟩) (.of main_call0_call1_v42 : TRef sig ⟨S48, .i32⟩) Host.shli
  :: TRef.nullary (.of main_call0_call1_c_10 : TRef sig ⟨S_, .i32⟩) (constantI S_ 32 15#32)
  :: TRef.unary (.of main_call0_call1_c_10 : TRef sig ⟨S_, .i32⟩) (.of main_call0_call1_v43 : TRef sig ⟨S48, .i32⟩) (broadcastInDim S48 ![] bcast_S_S48)
  :: TRef.binary (.of main_call0_call1_v39 : TRef sig ⟨S48, .i32⟩) (.of main_call0_call1_v43 : TRef sig ⟨S48, .i32⟩) (.of main_call0_call1_v44 : TRef sig ⟨S48, .i32⟩) Host.shrui
  :: TRef.binary (.of main_call0_call1_v42 : TRef sig ⟨S48, .i32⟩) (.of main_call0_call1_v44 : TRef sig ⟨S48, .i32⟩) (.of main_call0_call1_v45 : TRef sig ⟨S48, .i32⟩) ori
  :: TRef.binary (.of main_call0_call1_v40 : TRef sig ⟨S48, .i32⟩) (.of main_call0_call1_v45 : TRef sig ⟨S48, .i32⟩) (.of main_call0_call1_v46 : TRef sig ⟨S48, .i32⟩) xori
  :: TRef.binary (.of main_call0_call1_v40 : TRef sig ⟨S48, .i32⟩) (.of main_call0_call1_v46 : TRef sig ⟨S48, .i32⟩) (.of main_call0_call1_v47 : TRef sig ⟨S48, .i32⟩) addi
  :: TRef.nullary (.of main_call0_call1_c_11 : TRef sig ⟨S_, .i32⟩) (constantI S_ 32 29#32)
  :: TRef.unary (.of main_call0_call1_c_11 : TRef sig ⟨S_, .i32⟩) (.of main_call0_call1_v48 : TRef sig ⟨S48, .i32⟩) (broadcastInDim S48 ![] bcast_S_S48)
  :: TRef.binary (.of main_call0_call1_v46 : TRef sig ⟨S48, .i32⟩) (.of main_call0_call1_v48 : TRef sig ⟨S48, .i32⟩) (.of main_call0_call1_v49 : TRef sig ⟨S48, .i32⟩) Host.shli
  :: TRef.nullary (.of main_call0_call1_c_12 : TRef sig ⟨S_, .i32⟩) (constantI S_ 32 3#32)
  :: TRef.unary (.of main_call0_call1_c_12 : TRef sig ⟨S_, .i32⟩) (.of main_call0_call1_v50 : TRef sig ⟨S48, .i32⟩) (broadcastInDim S48 ![] bcast_S_S48)
  :: TRef.binary (.of main_call0_call1_v46 : TRef sig ⟨S48, .i32⟩) (.of main_call0_call1_v50 : TRef sig ⟨S48, .i32⟩) (.of main_call0_call1_v51 : TRef sig ⟨S48, .i32⟩) Host.shrui
  :: TRef.binary (.of main_call0_call1_v49 : TRef sig ⟨S48, .i32⟩) (.of main_call0_call1_v51 : TRef sig ⟨S48, .i32⟩) (.of main_call0_call1_v52 : TRef sig ⟨S48, .i32⟩) ori
  :: TRef.binary (.of main_call0_call1_v47 : TRef sig ⟨S48, .i32⟩) (.of main_call0_call1_v52 : TRef sig ⟨S48, .i32⟩) (.of main_call0_call1_v53 : TRef sig ⟨S48, .i32⟩) xori
  :: TRef.binary (.of main_call0_call1_v47 : TRef sig ⟨S48, .i32⟩) (.of main_call0_call1_v53 : TRef sig ⟨S48, .i32⟩) (.of main_call0_call1_v54 : TRef sig ⟨S48, .i32⟩) addi
  :: TRef.nullary (.of main_call0_call1_c_13 : TRef sig ⟨S_, .i32⟩) (constantI S_ 32 16#32)
  :: TRef.unary (.of main_call0_call1_c_13 : TRef sig ⟨S_, .i32⟩) (.of main_call0_call1_v55 : TRef sig ⟨S48, .i32⟩) (broadcastInDim S48 ![] bcast_S_S48)
  :: TRef.binary (.of main_call0_call1_v53 : TRef sig ⟨S48, .i32⟩) (.of main_call0_call1_v55 : TRef sig ⟨S48, .i32⟩) (.of main_call0_call1_v56 : TRef sig ⟨S48, .i32⟩) Host.shli
  :: TRef.nullary (.of main_call0_call1_c_14 : TRef sig ⟨S_, .i32⟩) (constantI S_ 32 16#32)
  :: TRef.unary (.of main_call0_call1_c_14 : TRef sig ⟨S_, .i32⟩) (.of main_call0_call1_v57 : TRef sig ⟨S48, .i32⟩) (broadcastInDim S48 ![] bcast_S_S48)
  :: TRef.binary (.of main_call0_call1_v53 : TRef sig ⟨S48, .i32⟩) (.of main_call0_call1_v57 : TRef sig ⟨S48, .i32⟩) (.of main_call0_call1_v58 : TRef sig ⟨S48, .i32⟩) Host.shrui
  :: TRef.binary (.of main_call0_call1_v56 : TRef sig ⟨S48, .i32⟩) (.of main_call0_call1_v58 : TRef sig ⟨S48, .i32⟩) (.of main_call0_call1_v59 : TRef sig ⟨S48, .i32⟩) ori
  :: TRef.binary (.of main_call0_call1_v54 : TRef sig ⟨S48, .i32⟩) (.of main_call0_call1_v59 : TRef sig ⟨S48, .i32⟩) (.of main_call0_call1_v60 : TRef sig ⟨S48, .i32⟩) xori
  :: TRef.binary (.of main_call0_call1_v54 : TRef sig ⟨S48, .i32⟩) (.of main_call0_call1_v60 : TRef sig ⟨S48, .i32⟩) (.of main_call0_call1_v61 : TRef sig ⟨S48, .i32⟩) addi
  :: TRef.nullary (.of main_call0_call1_c_15 : TRef sig ⟨S_, .i32⟩) (constantI S_ 32 24#32)
  :: TRef.unary (.of main_call0_call1_c_15 : TRef sig ⟨S_, .i32⟩) (.of main_call0_call1_v62 : TRef sig ⟨S48, .i32⟩) (broadcastInDim S48 ![] bcast_S_S48)
  :: TRef.binary (.of main_call0_call1_v60 : TRef sig ⟨S48, .i32⟩) (.of main_call0_call1_v62 : TRef sig ⟨S48, .i32⟩) (.of main_call0_call1_v63 : TRef sig ⟨S48, .i32⟩) Host.shli
  :: TRef.nullary (.of main_call0_call1_c_16 : TRef sig ⟨S_, .i32⟩) (constantI S_ 32 8#32)
  :: TRef.unary (.of main_call0_call1_c_16 : TRef sig ⟨S_, .i32⟩) (.of main_call0_call1_v64 : TRef sig ⟨S48, .i32⟩) (broadcastInDim S48 ![] bcast_S_S48)
  :: TRef.binary (.of main_call0_call1_v60 : TRef sig ⟨S48, .i32⟩) (.of main_call0_call1_v64 : TRef sig ⟨S48, .i32⟩) (.of main_call0_call1_v65 : TRef sig ⟨S48, .i32⟩) Host.shrui
  :: TRef.binary (.of main_call0_call1_v63 : TRef sig ⟨S48, .i32⟩) (.of main_call0_call1_v65 : TRef sig ⟨S48, .i32⟩) (.of main_call0_call1_v66 : TRef sig ⟨S48, .i32⟩) ori
  :: TRef.binary (.of main_call0_call1_v61 : TRef sig ⟨S48, .i32⟩) (.of main_call0_call1_v66 : TRef sig ⟨S48, .i32⟩) (.of main_call0_call1_v67 : TRef sig ⟨S48, .i32⟩) xori
  :: TRef.unary (.of main_call0_call1_v1 : TRef sig ⟨S_, .i32⟩) (.of main_call0_call1_v68 : TRef sig ⟨S48, .i32⟩) (broadcastInDim S48 ![] bcast_S_S48)
  :: TRef.binary (.of main_call0_call1_v61 : TRef sig ⟨S48, .i32⟩) (.of main_call0_call1_v68 : TRef sig ⟨S48, .i32⟩) (.of main_call0_call1_v69 : TRef sig ⟨S48, .i32⟩) addi
  :: TRef.unary (.of main_call0_v6 : TRef sig ⟨S_, .i32⟩) (.of main_call0_call1_v70 : TRef sig ⟨S48, .i32⟩) (broadcastInDim S48 ![] bcast_S_S48)
  :: TRef.binary (.of main_call0_call1_v67 : TRef sig ⟨S48, .i32⟩) (.of main_call0_call1_v70 : TRef sig ⟨S48, .i32⟩) (.of main_call0_call1_v71 : TRef sig ⟨S48, .i32⟩) addi
  :: TRef.nullary (.of main_call0_call1_c_17 : TRef sig ⟨S_, .i32⟩) (constantI S_ 32 2#32)
  :: TRef.unary (.of main_call0_call1_c_17 : TRef sig ⟨S_, .i32⟩) (.of main_call0_call1_v72 : TRef sig ⟨S48, .i32⟩) (broadcastInDim S48 ![] bcast_S_S48)
  :: TRef.binary (.of main_call0_call1_v71 : TRef sig ⟨S48, .i32⟩) (.of main_call0_call1_v72 : TRef sig ⟨S48, .i32⟩) (.of main_call0_call1_v73 : TRef sig ⟨S48, .i32⟩) addi
  :: TRef.binary (.of main_call0_call1_v69 : TRef sig ⟨S48, .i32⟩) (.of main_call0_call1_v73 : TRef sig ⟨S48, .i32⟩) (.of main_call0_call1_v74 : TRef sig ⟨S48, .i32⟩) addi
  :: TRef.nullary (.of main_call0_call1_c_18 : TRef sig ⟨S_, .i32⟩) (constantI S_ 32 13#32)
  :: TRef.unary (.of main_call0_call1_c_18 : TRef sig ⟨S_, .i32⟩) (.of main_call0_call1_v75 : TRef sig ⟨S48, .i32⟩) (broadcastInDim S48 ![] bcast_S_S48)
  :: TRef.binary (.of main_call0_call1_v73 : TRef sig ⟨S48, .i32⟩) (.of main_call0_call1_v75 : TRef sig ⟨S48, .i32⟩) (.of main_call0_call1_v76 : TRef sig ⟨S48, .i32⟩) Host.shli
  :: TRef.nullary (.of main_call0_call1_c_19 : TRef sig ⟨S_, .i32⟩) (constantI S_ 32 19#32)
  :: TRef.unary (.of main_call0_call1_c_19 : TRef sig ⟨S_, .i32⟩) (.of main_call0_call1_v77 : TRef sig ⟨S48, .i32⟩) (broadcastInDim S48 ![] bcast_S_S48)
  :: TRef.binary (.of main_call0_call1_v73 : TRef sig ⟨S48, .i32⟩) (.of main_call0_call1_v77 : TRef sig ⟨S48, .i32⟩) (.of main_call0_call1_v78 : TRef sig ⟨S48, .i32⟩) Host.shrui
  :: TRef.binary (.of main_call0_call1_v76 : TRef sig ⟨S48, .i32⟩) (.of main_call0_call1_v78 : TRef sig ⟨S48, .i32⟩) (.of main_call0_call1_v79 : TRef sig ⟨S48, .i32⟩) ori
  :: TRef.binary (.of main_call0_call1_v74 : TRef sig ⟨S48, .i32⟩) (.of main_call0_call1_v79 : TRef sig ⟨S48, .i32⟩) (.of main_call0_call1_v80 : TRef sig ⟨S48, .i32⟩) xori
  :: TRef.binary (.of main_call0_call1_v74 : TRef sig ⟨S48, .i32⟩) (.of main_call0_call1_v80 : TRef sig ⟨S48, .i32⟩) (.of main_call0_call1_v81 : TRef sig ⟨S48, .i32⟩) addi
  :: TRef.nullary (.of main_call0_call1_c_20 : TRef sig ⟨S_, .i32⟩) (constantI S_ 32 15#32)
  :: TRef.unary (.of main_call0_call1_c_20 : TRef sig ⟨S_, .i32⟩) (.of main_call0_call1_v82 : TRef sig ⟨S48, .i32⟩) (broadcastInDim S48 ![] bcast_S_S48)
  :: TRef.binary (.of main_call0_call1_v80 : TRef sig ⟨S48, .i32⟩) (.of main_call0_call1_v82 : TRef sig ⟨S48, .i32⟩) (.of main_call0_call1_v83 : TRef sig ⟨S48, .i32⟩) Host.shli
  :: TRef.nullary (.of main_call0_call1_c_21 : TRef sig ⟨S_, .i32⟩) (constantI S_ 32 17#32)
  :: TRef.unary (.of main_call0_call1_c_21 : TRef sig ⟨S_, .i32⟩) (.of main_call0_call1_v84 : TRef sig ⟨S48, .i32⟩) (broadcastInDim S48 ![] bcast_S_S48)
  :: TRef.binary (.of main_call0_call1_v80 : TRef sig ⟨S48, .i32⟩) (.of main_call0_call1_v84 : TRef sig ⟨S48, .i32⟩) (.of main_call0_call1_v85 : TRef sig ⟨S48, .i32⟩) Host.shrui
  :: TRef.binary (.of main_call0_call1_v83 : TRef sig ⟨S48, .i32⟩) (.of main_call0_call1_v85 : TRef sig ⟨S48, .i32⟩) (.of main_call0_call1_v86 : TRef sig ⟨S48, .i32⟩) ori
  :: TRef.binary (.of main_call0_call1_v81 : TRef sig ⟨S48, .i32⟩) (.of main_call0_call1_v86 : TRef sig ⟨S48, .i32⟩) (.of main_call0_call1_v87 : TRef sig ⟨S48, .i32⟩) xori
  :: TRef.binary (.of main_call0_call1_v81 : TRef sig ⟨S48, .i32⟩) (.of main_call0_call1_v87 : TRef sig ⟨S48, .i32⟩) (.of main_call0_call1_v88 : TRef sig ⟨S48, .i32⟩) addi
  :: TRef.nullary (.of main_call0_call1_c_22 : TRef sig ⟨S_, .i32⟩) (constantI S_ 32 26#32)
  :: TRef.unary (.of main_call0_call1_c_22 : TRef sig ⟨S_, .i32⟩) (.of main_call0_call1_v89 : TRef sig ⟨S48, .i32⟩) (broadcastInDim S48 ![] bcast_S_S48)
  :: TRef.binary (.of main_call0_call1_v87 : TRef sig ⟨S48, .i32⟩) (.of main_call0_call1_v89 : TRef sig ⟨S48, .i32⟩) (.of main_call0_call1_v90 : TRef sig ⟨S48, .i32⟩) Host.shli
  :: TRef.nullary (.of main_call0_call1_c_23 : TRef sig ⟨S_, .i32⟩) (constantI S_ 32 6#32)
  :: TRef.unary (.of main_call0_call1_c_23 : TRef sig ⟨S_, .i32⟩) (.of main_call0_call1_v91 : TRef sig ⟨S48, .i32⟩) (broadcastInDim S48 ![] bcast_S_S48)
  :: TRef.binary (.of main_call0_call1_v87 : TRef sig ⟨S48, .i32⟩) (.of main_call0_call1_v91 : TRef sig ⟨S48, .i32⟩) (.of main_call0_call1_v92 : TRef sig ⟨S48, .i32⟩) Host.shrui
  :: TRef.binary (.of main_call0_call1_v90 : TRef sig ⟨S48, .i32⟩) (.of main_call0_call1_v92 : TRef sig ⟨S48, .i32⟩) (.of main_call0_call1_v93 : TRef sig ⟨S48, .i32⟩) ori
  :: TRef.binary (.of main_call0_call1_v88 : TRef sig ⟨S48, .i32⟩) (.of main_call0_call1_v93 : TRef sig ⟨S48, .i32⟩) (.of main_call0_call1_v94 : TRef sig ⟨S48, .i32⟩) xori
  :: TRef.binary (.of main_call0_call1_v88 : TRef sig ⟨S48, .i32⟩) (.of main_call0_call1_v94 : TRef sig ⟨S48, .i32⟩) (.of main_call0_call1_v95 : TRef sig ⟨S48, .i32⟩) addi
  :: TRef.nullary (.of main_call0_call1_c_24 : TRef sig ⟨S_, .i32⟩) (constantI S_ 32 6#32)
  :: TRef.unary (.of main_call0_call1_c_24 : TRef sig ⟨S_, .i32⟩) (.of main_call0_call1_v96 : TRef sig ⟨S48, .i32⟩) (broadcastInDim S48 ![] bcast_S_S48)
  :: TRef.binary (.of main_call0_call1_v94 : TRef sig ⟨S48, .i32⟩) (.of main_call0_call1_v96 : TRef sig ⟨S48, .i32⟩) (.of main_call0_call1_v97 : TRef sig ⟨S48, .i32⟩) Host.shli
  :: TRef.nullary (.of main_call0_call1_c_25 : TRef sig ⟨S_, .i32⟩) (constantI S_ 32 26#32)
  :: TRef.unary (.of main_call0_call1_c_25 : TRef sig ⟨S_, .i32⟩) (.of main_call0_call1_v98 : TRef sig ⟨S48, .i32⟩) (broadcastInDim S48 ![] bcast_S_S48)
  :: TRef.binary (.of main_call0_call1_v94 : TRef sig ⟨S48, .i32⟩) (.of main_call0_call1_v98 : TRef sig ⟨S48, .i32⟩) (.of main_call0_call1_v99 : TRef sig ⟨S48, .i32⟩) Host.shrui
  :: TRef.binary (.of main_call0_call1_v97 : TRef sig ⟨S48, .i32⟩) (.of main_call0_call1_v99 : TRef sig ⟨S48, .i32⟩) (.of main_call0_call1_v100 : TRef sig ⟨S48, .i32⟩) ori
  :: TRef.binary (.of main_call0_call1_v95 : TRef sig ⟨S48, .i32⟩) (.of main_call0_call1_v100 : TRef sig ⟨S48, .i32⟩) (.of main_call0_call1_v101 : TRef sig ⟨S48, .i32⟩) xori
  :: TRef.unary (.of main_call0_v6 : TRef sig ⟨S_, .i32⟩) (.of main_call0_call1_v102 : TRef sig ⟨S48, .i32⟩) (broadcastInDim S48 ![] bcast_S_S48)
  :: TRef.binary (.of main_call0_call1_v95 : TRef sig ⟨S48, .i32⟩) (.of main_call0_call1_v102 : TRef sig ⟨S48, .i32⟩) (.of main_call0_call1_v103 : TRef sig ⟨S48, .i32⟩) addi
  :: TRef.unary (.of main_call0_v8 : TRef sig ⟨S_, .i32⟩) (.of main_call0_call1_v104 : TRef sig ⟨S48, .i32⟩) (broadcastInDim S48 ![] bcast_S_S48)
  :: TRef.binary (.of main_call0_call1_v101 : TRef sig ⟨S48, .i32⟩) (.of main_call0_call1_v104 : TRef sig ⟨S48, .i32⟩) (.of main_call0_call1_v105 : TRef sig ⟨S48, .i32⟩) addi
  :: TRef.nullary (.of main_call0_call1_c_26 : TRef sig ⟨S_, .i32⟩) (constantI S_ 32 3#32)
  :: TRef.unary (.of main_call0_call1_c_26 : TRef sig ⟨S_, .i32⟩) (.of main_call0_call1_v106 : TRef sig ⟨S48, .i32⟩) (broadcastInDim S48 ![] bcast_S_S48)
  :: TRef.binary (.of main_call0_call1_v105 : TRef sig ⟨S48, .i32⟩) (.of main_call0_call1_v106 : TRef sig ⟨S48, .i32⟩) (.of main_call0_call1_v107 : TRef sig ⟨S48, .i32⟩) addi
  :: TRef.binary (.of main_call0_call1_v103 : TRef sig ⟨S48, .i32⟩) (.of main_call0_call1_v107 : TRef sig ⟨S48, .i32⟩) (.of main_call0_call1_v108 : TRef sig ⟨S48, .i32⟩) addi
  :: TRef.nullary (.of main_call0_call1_c_27 : TRef sig ⟨S_, .i32⟩) (constantI S_ 32 17#32)
  :: TRef.unary (.of main_call0_call1_c_27 : TRef sig ⟨S_, .i32⟩) (.of main_call0_call1_v109 : TRef sig ⟨S48, .i32⟩) (broadcastInDim S48 ![] bcast_S_S48)
  :: TRef.binary (.of main_call0_call1_v107 : TRef sig ⟨S48, .i32⟩) (.of main_call0_call1_v109 : TRef sig ⟨S48, .i32⟩) (.of main_call0_call1_v110 : TRef sig ⟨S48, .i32⟩) Host.shli
  :: TRef.nullary (.of main_call0_call1_c_28 : TRef sig ⟨S_, .i32⟩) (constantI S_ 32 15#32)
  :: TRef.unary (.of main_call0_call1_c_28 : TRef sig ⟨S_, .i32⟩) (.of main_call0_call1_v111 : TRef sig ⟨S48, .i32⟩) (broadcastInDim S48 ![] bcast_S_S48)
  :: TRef.binary (.of main_call0_call1_v107 : TRef sig ⟨S48, .i32⟩) (.of main_call0_call1_v111 : TRef sig ⟨S48, .i32⟩) (.of main_call0_call1_v112 : TRef sig ⟨S48, .i32⟩) Host.shrui
  :: TRef.binary (.of main_call0_call1_v110 : TRef sig ⟨S48, .i32⟩) (.of main_call0_call1_v112 : TRef sig ⟨S48, .i32⟩) (.of main_call0_call1_v113 : TRef sig ⟨S48, .i32⟩) ori
  :: TRef.binary (.of main_call0_call1_v108 : TRef sig ⟨S48, .i32⟩) (.of main_call0_call1_v113 : TRef sig ⟨S48, .i32⟩) (.of main_call0_call1_v114 : TRef sig ⟨S48, .i32⟩) xori
  :: TRef.binary (.of main_call0_call1_v108 : TRef sig ⟨S48, .i32⟩) (.of main_call0_call1_v114 : TRef sig ⟨S48, .i32⟩) (.of main_call0_call1_v115 : TRef sig ⟨S48, .i32⟩) addi
  :: TRef.nullary (.of main_call0_call1_c_29 : TRef sig ⟨S_, .i32⟩) (constantI S_ 32 29#32)
  :: TRef.unary (.of main_call0_call1_c_29 : TRef sig ⟨S_, .i32⟩) (.of main_call0_call1_v116 : TRef sig ⟨S48, .i32⟩) (broadcastInDim S48 ![] bcast_S_S48)
  :: TRef.binary (.of main_call0_call1_v114 : TRef sig ⟨S48, .i32⟩) (.of main_call0_call1_v116 : TRef sig ⟨S48, .i32⟩) (.of main_call0_call1_v117 : TRef sig ⟨S48, .i32⟩) Host.shli
  :: TRef.nullary (.of main_call0_call1_c_30 : TRef sig ⟨S_, .i32⟩) (constantI S_ 32 3#32)
  :: TRef.unary (.of main_call0_call1_c_30 : TRef sig ⟨S_, .i32⟩) (.of main_call0_call1_v118 : TRef sig ⟨S48, .i32⟩) (broadcastInDim S48 ![] bcast_S_S48)
  :: TRef.binary (.of main_call0_call1_v114 : TRef sig ⟨S48, .i32⟩) (.of main_call0_call1_v118 : TRef sig ⟨S48, .i32⟩) (.of main_call0_call1_v119 : TRef sig ⟨S48, .i32⟩) Host.shrui
  :: TRef.binary (.of main_call0_call1_v117 : TRef sig ⟨S48, .i32⟩) (.of main_call0_call1_v119 : TRef sig ⟨S48, .i32⟩) (.of main_call0_call1_v120 : TRef sig ⟨S48, .i32⟩) ori
  :: TRef.binary (.of main_call0_call1_v115 : TRef sig ⟨S48, .i32⟩) (.of main_call0_call1_v120 : TRef sig ⟨S48, .i32⟩) (.of main_call0_call1_v121 : TRef sig ⟨S48, .i32⟩) xori
  :: TRef.binary (.of main_call0_call1_v115 : TRef sig ⟨S48, .i32⟩) (.of main_call0_call1_v121 : TRef sig ⟨S48, .i32⟩) (.of main_call0_call1_v122 : TRef sig ⟨S48, .i32⟩) addi
  :: TRef.nullary (.of main_call0_call1_c_31 : TRef sig ⟨S_, .i32⟩) (constantI S_ 32 16#32)
  :: TRef.unary (.of main_call0_call1_c_31 : TRef sig ⟨S_, .i32⟩) (.of main_call0_call1_v123 : TRef sig ⟨S48, .i32⟩) (broadcastInDim S48 ![] bcast_S_S48)
  :: TRef.binary (.of main_call0_call1_v121 : TRef sig ⟨S48, .i32⟩) (.of main_call0_call1_v123 : TRef sig ⟨S48, .i32⟩) (.of main_call0_call1_v124 : TRef sig ⟨S48, .i32⟩) Host.shli
  :: TRef.nullary (.of main_call0_call1_c_32 : TRef sig ⟨S_, .i32⟩) (constantI S_ 32 16#32)
  :: TRef.unary (.of main_call0_call1_c_32 : TRef sig ⟨S_, .i32⟩) (.of main_call0_call1_v125 : TRef sig ⟨S48, .i32⟩) (broadcastInDim S48 ![] bcast_S_S48)
  :: TRef.binary (.of main_call0_call1_v121 : TRef sig ⟨S48, .i32⟩) (.of main_call0_call1_v125 : TRef sig ⟨S48, .i32⟩) (.of main_call0_call1_v126 : TRef sig ⟨S48, .i32⟩) Host.shrui
  :: TRef.binary (.of main_call0_call1_v124 : TRef sig ⟨S48, .i32⟩) (.of main_call0_call1_v126 : TRef sig ⟨S48, .i32⟩) (.of main_call0_call1_v127 : TRef sig ⟨S48, .i32⟩) ori
  :: TRef.binary (.of main_call0_call1_v122 : TRef sig ⟨S48, .i32⟩) (.of main_call0_call1_v127 : TRef sig ⟨S48, .i32⟩) (.of main_call0_call1_v128 : TRef sig ⟨S48, .i32⟩) xori
  :: TRef.binary (.of main_call0_call1_v122 : TRef sig ⟨S48, .i32⟩) (.of main_call0_call1_v128 : TRef sig ⟨S48, .i32⟩) (.of main_call0_call1_v129 : TRef sig ⟨S48, .i32⟩) addi
  :: TRef.nullary (.of main_call0_call1_c_33 : TRef sig ⟨S_, .i32⟩) (constantI S_ 32 24#32)
  :: TRef.unary (.of main_call0_call1_c_33 : TRef sig ⟨S_, .i32⟩) (.of main_call0_call1_v130 : TRef sig ⟨S48, .i32⟩) (broadcastInDim S48 ![] bcast_S_S48)
  :: TRef.binary (.of main_call0_call1_v128 : TRef sig ⟨S48, .i32⟩) (.of main_call0_call1_v130 : TRef sig ⟨S48, .i32⟩) (.of main_call0_call1_v131 : TRef sig ⟨S48, .i32⟩) Host.shli
  :: TRef.nullary (.of main_call0_call1_c_34 : TRef sig ⟨S_, .i32⟩) (constantI S_ 32 8#32)
  :: TRef.unary (.of main_call0_call1_c_34 : TRef sig ⟨S_, .i32⟩) (.of main_call0_call1_v132 : TRef sig ⟨S48, .i32⟩) (broadcastInDim S48 ![] bcast_S_S48)
  :: TRef.binary (.of main_call0_call1_v128 : TRef sig ⟨S48, .i32⟩) (.of main_call0_call1_v132 : TRef sig ⟨S48, .i32⟩) (.of main_call0_call1_v133 : TRef sig ⟨S48, .i32⟩) Host.shrui
  :: TRef.binary (.of main_call0_call1_v131 : TRef sig ⟨S48, .i32⟩) (.of main_call0_call1_v133 : TRef sig ⟨S48, .i32⟩) (.of main_call0_call1_v134 : TRef sig ⟨S48, .i32⟩) ori
  :: TRef.binary (.of main_call0_call1_v129 : TRef sig ⟨S48, .i32⟩) (.of main_call0_call1_v134 : TRef sig ⟨S48, .i32⟩) (.of main_call0_call1_v135 : TRef sig ⟨S48, .i32⟩) xori
  :: TRef.unary (.of main_call0_v8 : TRef sig ⟨S_, .i32⟩) (.of main_call0_call1_v136 : TRef sig ⟨S48, .i32⟩) (broadcastInDim S48 ![] bcast_S_S48)
  :: TRef.binary (.of main_call0_call1_v129 : TRef sig ⟨S48, .i32⟩) (.of main_call0_call1_v136 : TRef sig ⟨S48, .i32⟩) (.of main_call0_call1_v137 : TRef sig ⟨S48, .i32⟩) addi
  :: TRef.unary (.of main_call0_call1_v1 : TRef sig ⟨S_, .i32⟩) (.of main_call0_call1_v138 : TRef sig ⟨S48, .i32⟩) (broadcastInDim S48 ![] bcast_S_S48)
  :: TRef.binary (.of main_call0_call1_v135 : TRef sig ⟨S48, .i32⟩) (.of main_call0_call1_v138 : TRef sig ⟨S48, .i32⟩) (.of main_call0_call1_v139 : TRef sig ⟨S48, .i32⟩) addi
  :: TRef.nullary (.of main_call0_call1_c_35 : TRef sig ⟨S_, .i32⟩) (constantI S_ 32 4#32)
  :: TRef.unary (.of main_call0_call1_c_35 : TRef sig ⟨S_, .i32⟩) (.of main_call0_call1_v140 : TRef sig ⟨S48, .i32⟩) (broadcastInDim S48 ![] bcast_S_S48)
  :: TRef.binary (.of main_call0_call1_v139 : TRef sig ⟨S48, .i32⟩) (.of main_call0_call1_v140 : TRef sig ⟨S48, .i32⟩) (.of main_call0_call1_v141 : TRef sig ⟨S48, .i32⟩) addi
  :: TRef.binary (.of main_call0_call1_v137 : TRef sig ⟨S48, .i32⟩) (.of main_call0_call1_v141 : TRef sig ⟨S48, .i32⟩) (.of main_call0_call1_v142 : TRef sig ⟨S48, .i32⟩) addi
  :: TRef.nullary (.of main_call0_call1_c_36 : TRef sig ⟨S_, .i32⟩) (constantI S_ 32 13#32)
  :: TRef.unary (.of main_call0_call1_c_36 : TRef sig ⟨S_, .i32⟩) (.of main_call0_call1_v143 : TRef sig ⟨S48, .i32⟩) (broadcastInDim S48 ![] bcast_S_S48)
  :: TRef.binary (.of main_call0_call1_v141 : TRef sig ⟨S48, .i32⟩) (.of main_call0_call1_v143 : TRef sig ⟨S48, .i32⟩) (.of main_call0_call1_v144 : TRef sig ⟨S48, .i32⟩) Host.shli
  :: TRef.nullary (.of main_call0_call1_c_37 : TRef sig ⟨S_, .i32⟩) (constantI S_ 32 19#32)
  :: TRef.unary (.of main_call0_call1_c_37 : TRef sig ⟨S_, .i32⟩) (.of main_call0_call1_v145 : TRef sig ⟨S48, .i32⟩) (broadcastInDim S48 ![] bcast_S_S48)
  :: TRef.binary (.of main_call0_call1_v141 : TRef sig ⟨S48, .i32⟩) (.of main_call0_call1_v145 : TRef sig ⟨S48, .i32⟩) (.of main_call0_call1_v146 : TRef sig ⟨S48, .i32⟩) Host.shrui
  :: TRef.binary (.of main_call0_call1_v144 : TRef sig ⟨S48, .i32⟩) (.of main_call0_call1_v146 : TRef sig ⟨S48, .i32⟩) (.of main_call0_call1_v147 : TRef sig ⟨S48, .i32⟩) ori
  :: TRef.binary (.of main_call0_call1_v142 : TRef sig ⟨S48, .i32⟩) (.of main_call0_call1_v147 : TRef sig ⟨S48, .i32⟩) (.of main_call0_call1_v148 : TRef sig ⟨S48, .i32⟩) xori
  :: TRef.binary (.of main_call0_call1_v142 : TRef sig ⟨S48, .i32⟩) (.of main_call0_call1_v148 : TRef sig ⟨S48, .i32⟩) (.of main_call0_call1_v149 : TRef sig ⟨S48, .i32⟩) addi
  :: TRef.nullary (.of main_call0_call1_c_38 : TRef sig ⟨S_, .i32⟩) (constantI S_ 32 15#32)
  :: TRef.unary (.of main_call0_call1_c_38 : TRef sig ⟨S_, .i32⟩) (.of main_call0_call1_v150 : TRef sig ⟨S48, .i32⟩) (broadcastInDim S48 ![] bcast_S_S48)
  :: TRef.binary (.of main_call0_call1_v148 : TRef sig ⟨S48, .i32⟩) (.of main_call0_call1_v150 : TRef sig ⟨S48, .i32⟩) (.of main_call0_call1_v151 : TRef sig ⟨S48, .i32⟩) Host.shli
  :: TRef.nullary (.of main_call0_call1_c_39 : TRef sig ⟨S_, .i32⟩) (constantI S_ 32 17#32)
  :: TRef.unary (.of main_call0_call1_c_39 : TRef sig ⟨S_, .i32⟩) (.of main_call0_call1_v152 : TRef sig ⟨S48, .i32⟩) (broadcastInDim S48 ![] bcast_S_S48)
  :: TRef.binary (.of main_call0_call1_v148 : TRef sig ⟨S48, .i32⟩) (.of main_call0_call1_v152 : TRef sig ⟨S48, .i32⟩) (.of main_call0_call1_v153 : TRef sig ⟨S48, .i32⟩) Host.shrui
  :: TRef.binary (.of main_call0_call1_v151 : TRef sig ⟨S48, .i32⟩) (.of main_call0_call1_v153 : TRef sig ⟨S48, .i32⟩) (.of main_call0_call1_v154 : TRef sig ⟨S48, .i32⟩) ori
  :: TRef.binary (.of main_call0_call1_v149 : TRef sig ⟨S48, .i32⟩) (.of main_call0_call1_v154 : TRef sig ⟨S48, .i32⟩) (.of main_call0_call1_v155 : TRef sig ⟨S48, .i32⟩) xori
  :: TRef.binary (.of main_call0_call1_v149 : TRef sig ⟨S48, .i32⟩) (.of main_call0_call1_v155 : TRef sig ⟨S48, .i32⟩) (.of main_call0_call1_v156 : TRef sig ⟨S48, .i32⟩) addi
  :: TRef.nullary (.of main_call0_call1_c_40 : TRef sig ⟨S_, .i32⟩) (constantI S_ 32 26#32)
  :: TRef.unary (.of main_call0_call1_c_40 : TRef sig ⟨S_, .i32⟩) (.of main_call0_call1_v157 : TRef sig ⟨S48, .i32⟩) (broadcastInDim S48 ![] bcast_S_S48)
  :: TRef.binary (.of main_call0_call1_v155 : TRef sig ⟨S48, .i32⟩) (.of main_call0_call1_v157 : TRef sig ⟨S48, .i32⟩) (.of main_call0_call1_v158 : TRef sig ⟨S48, .i32⟩) Host.shli
  :: TRef.nullary (.of main_call0_call1_c_41 : TRef sig ⟨S_, .i32⟩) (constantI S_ 32 6#32)
  :: TRef.unary (.of main_call0_call1_c_41 : TRef sig ⟨S_, .i32⟩) (.of main_call0_call1_v159 : TRef sig ⟨S48, .i32⟩) (broadcastInDim S48 ![] bcast_S_S48)
  :: TRef.binary (.of main_call0_call1_v155 : TRef sig ⟨S48, .i32⟩) (.of main_call0_call1_v159 : TRef sig ⟨S48, .i32⟩) (.of main_call0_call1_v160 : TRef sig ⟨S48, .i32⟩) Host.shrui
  :: TRef.binary (.of main_call0_call1_v158 : TRef sig ⟨S48, .i32⟩) (.of main_call0_call1_v160 : TRef sig ⟨S48, .i32⟩) (.of main_call0_call1_v161 : TRef sig ⟨S48, .i32⟩) ori
  :: TRef.binary (.of main_call0_call1_v156 : TRef sig ⟨S48, .i32⟩) (.of main_call0_call1_v161 : TRef sig ⟨S48, .i32⟩) (.of main_call0_call1_v162 : TRef sig ⟨S48, .i32⟩) xori
  :: TRef.binary (.of main_call0_call1_v156 : TRef sig ⟨S48, .i32⟩) (.of main_call0_call1_v162 : TRef sig ⟨S48, .i32⟩) (.of main_call0_call1_v163 : TRef sig ⟨S48, .i32⟩) addi
  :: TRef.nullary (.of main_call0_call1_c_42 : TRef sig ⟨S_, .i32⟩) (constantI S_ 32 6#32)
  :: TRef.unary (.of main_call0_call1_c_42 : TRef sig ⟨S_, .i32⟩) (.of main_call0_call1_v164 : TRef sig ⟨S48, .i32⟩) (broadcastInDim S48 ![] bcast_S_S48)
  :: TRef.binary (.of main_call0_call1_v162 : TRef sig ⟨S48, .i32⟩) (.of main_call0_call1_v164 : TRef sig ⟨S48, .i32⟩) (.of main_call0_call1_v165 : TRef sig ⟨S48, .i32⟩) Host.shli
  :: TRef.nullary (.of main_call0_call1_c_43 : TRef sig ⟨S_, .i32⟩) (constantI S_ 32 26#32)
  :: TRef.unary (.of main_call0_call1_c_43 : TRef sig ⟨S_, .i32⟩) (.of main_call0_call1_v166 : TRef sig ⟨S48, .i32⟩) (broadcastInDim S48 ![] bcast_S_S48)
  :: TRef.binary (.of main_call0_call1_v162 : TRef sig ⟨S48, .i32⟩) (.of main_call0_call1_v166 : TRef sig ⟨S48, .i32⟩) (.of main_call0_call1_v167 : TRef sig ⟨S48, .i32⟩) Host.shrui
  :: TRef.binary (.of main_call0_call1_v165 : TRef sig ⟨S48, .i32⟩) (.of main_call0_call1_v167 : TRef sig ⟨S48, .i32⟩) (.of main_call0_call1_v168 : TRef sig ⟨S48, .i32⟩) ori
  :: TRef.binary (.of main_call0_call1_v163 : TRef sig ⟨S48, .i32⟩) (.of main_call0_call1_v168 : TRef sig ⟨S48, .i32⟩) (.of main_call0_call1_v169 : TRef sig ⟨S48, .i32⟩) xori
  :: TRef.unary (.of main_call0_call1_v1 : TRef sig ⟨S_, .i32⟩) (.of main_call0_call1_v170 : TRef sig ⟨S48, .i32⟩) (broadcastInDim S48 ![] bcast_S_S48)
  :: TRef.binary (.of main_call0_call1_v163 : TRef sig ⟨S48, .i32⟩) (.of main_call0_call1_v170 : TRef sig ⟨S48, .i32⟩) (.of main_call0_v16_0 : TRef sig ⟨S48, .i32⟩) addi
  :: TRef.unary (.of main_call0_v6 : TRef sig ⟨S_, .i32⟩) (.of main_call0_call1_v172 : TRef sig ⟨S48, .i32⟩) (broadcastInDim S48 ![] bcast_S_S48)
  :: TRef.binary (.of main_call0_call1_v169 : TRef sig ⟨S48, .i32⟩) (.of main_call0_call1_v172 : TRef sig ⟨S48, .i32⟩) (.of main_call0_call1_v173 : TRef sig ⟨S48, .i32⟩) addi
  :: TRef.nullary (.of main_call0_call1_c_44 : TRef sig ⟨S_, .i32⟩) (constantI S_ 32 5#32)
  :: TRef.unary (.of main_call0_call1_c_44 : TRef sig ⟨S_, .i32⟩) (.of main_call0_call1_v174 : TRef sig ⟨S48, .i32⟩) (broadcastInDim S48 ![] bcast_S_S48)
  :: TRef.binary (.of main_call0_call1_v173 : TRef sig ⟨S48, .i32⟩) (.of main_call0_call1_v174 : TRef sig ⟨S48, .i32⟩) (.of main_call0_v16_1 : TRef sig ⟨S48, .i32⟩) addi
  :: TRef.binary main_call0_call1.v171 main_call0_call1.v175 (.of main_call0_v17 : TRef sig ⟨S48, .i32⟩) xori
  :: TRef.binary (.of main_call0_v17 : TRef sig ⟨S48, .i32⟩) (.of main_v8 : TRef sig ⟨S48, .i32⟩) (.of main_call0_v18_0 : TRef sig ⟨S48, .i32⟩) (fun x y => (Host.sort2 S48 0 comparator_i32_i32_d0 x y).1)
  :: TRef.binary (.of main_call0_v17 : TRef sig ⟨S48, .i32⟩) (.of main_v8 : TRef sig ⟨S48, .i32⟩) (.of main_v9 : TRef sig ⟨S48, .i32⟩) (fun x y => (Host.sort2 S48 0 comparator_i32_i32_d0 x y).2)
  :: [] )

/-- The batches taken in the shuffle's order, the sorts and the blend. -/
abbrev ops₃ : List (HloOp τ sig (Elt F)) :=
  [ nullary main_c_2 (constantI S_ 32 0#32),
    unary main_c_2 main_v10 (broadcastInDim S48 ![] bcast_S_S48 : (⟨S_, .i32⟩ : BufTy).Contents (Elt F) → (⟨S48, .i32⟩ : BufTy).Contents (Elt F)),
    binary main_v9 main_v10 main_v11 (cmpi .slt : (⟨S48, .i32⟩ : BufTy).Contents (Elt F) → (⟨S48, .i32⟩ : BufTy).Contents (Elt F) → (⟨S48, .i1⟩ : BufTy).Contents (Elt F)),
    nullary main_c_3 (constantI S_ 32 48#32),
    unary main_c_3 main_v12 (broadcastInDim S48 ![] bcast_S_S48 : (⟨S_, .i32⟩ : BufTy).Contents (Elt F) → (⟨S48, .i32⟩ : BufTy).Contents (Elt F)),
    binary main_v9 main_v12 main_v13 (addi : (⟨S48, .i32⟩ : BufTy).Contents (Elt F) → (⟨S48, .i32⟩ : BufTy).Contents (Elt F) → (⟨S48, .i32⟩ : BufTy).Contents (Elt F)),
    ternary main_v11 main_v13 main_v9 main_v14 (select : (⟨S48, .i1⟩ : BufTy).Contents (Elt F) → (⟨S48, .i32⟩ : BufTy).Contents (Elt F) → (⟨S48, .i32⟩ : BufTy).Contents (Elt F) → (⟨S48, .i32⟩ : BufTy).Contents (Elt F)),
    unary main_v14 main_v15 (broadcastInDim S48x1 ![0] bcast_S48_S48x1_0 : (⟨S48, .i32⟩ : BufTy).Contents (Elt F) → (⟨S48x1, .i32⟩ : BufTy).Contents (Elt F)),
    binary main_arg0 main_v15 main_v16 ((fun x i => Host.gather gather_S48x256x32x64_S48x1_S48x256x32x64_123_0_n_n_0_1_12563264 x i) : (⟨S48x256x32x64, .f32⟩ : BufTy).Contents (Elt F) → (⟨S48x1, .i32⟩ : BufTy).Contents (Elt F) → (⟨S48x256x32x64, .f32⟩ : BufTy).Contents (Elt F)),
    reshape main_v16 main_v17 (rfl : (.f32 : EltTy) = .f32) shapeCasts_S48x256x32x64_S48x256x2048,
    TRef.nullary (.of main_call1_v0 : TRef sig ⟨S48x256x2048, .i32⟩) (iotaInDim S48x256x2048 32 2),
    TRef.binary (.of main_v0 : TRef sig ⟨S48x256x2048, .f32⟩) (.of main_call1_v0 : TRef sig ⟨S48x256x2048, .i32⟩) (.of main_call1_v1_0 : TRef sig ⟨S48x256x2048, .f32⟩) (fun x y => (Host.sort2 S48x256x2048 2 comparator_f32_i32_d2 x y).1),
    TRef.binary (.of main_v0 : TRef sig ⟨S48x256x2048, .f32⟩) (.of main_call1_v0 : TRef sig ⟨S48x256x2048, .i32⟩) (.of main_v18 : TRef sig ⟨S48x256x2048, .i32⟩) (fun x y => (Host.sort2 S48x256x2048 2 comparator_f32_i32_d2 x y).2),
    TRef.unary (.of main_v17 : TRef sig ⟨S48x256x2048, .f32⟩) (.of main_v19 : TRef sig ⟨S48x256x2048, .f32⟩) (fun x => Host.sort S48x256x2048 2 comparator_f32_d2 x),
    nullary main_cst (constant S_ .f32 0x3F666666#32),
    unary main_cst main_v20 (broadcastInDim S48x256x2048 ![] bcast_S_S48x256x2048 : (⟨S_, .f32⟩ : BufTy).Contents (Elt F) → (⟨S48x256x2048, .f32⟩ : BufTy).Contents (Elt F)),
    binary main_v20 main_arg1 main_v21 (mulf : (⟨S48x256x2048, .f32⟩ : BufTy).Contents (Elt F) → (⟨S48x256x2048, .f32⟩ : BufTy).Contents (Elt F) → (⟨S48x256x2048, .f32⟩ : BufTy).Contents (Elt F)),
    nullary main_cst_4 (constant S_ .f32 0x3DCCCCCD#32),
    unary main_cst_4 main_v22 (broadcastInDim S48x256x2048 ![] bcast_S_S48x256x2048 : (⟨S_, .f32⟩ : BufTy).Contents (Elt F) → (⟨S48x256x2048, .f32⟩ : BufTy).Contents (Elt F)),
    binary main_v22 main_v19 main_v23 (mulf : (⟨S48x256x2048, .f32⟩ : BufTy).Contents (Elt F) → (⟨S48x256x2048, .f32⟩ : BufTy).Contents (Elt F) → (⟨S48x256x2048, .f32⟩ : BufTy).Contents (Elt F)),
    binary main_v21 main_v23 main_v24 (addf : (⟨S48x256x2048, .f32⟩ : BufTy).Contents (Elt F) → (⟨S48x256x2048, .f32⟩ : BufTy).Contents (Elt F) → (⟨S48x256x2048, .f32⟩ : BufTy).Contents (Elt F)) ]

abbrev ops : List (HloOp τ sig (Elt F)) := ops₁ ++ (ops₂ ++ ops₃)

theorem main_eq (c : Dev nD) : main (F := F) c = seq ops := by chain_rfl

end Cert.PlainIdeal.Own

end
-- ==== Proof.ValP.lean ====
/-
  The values the plain program ends with.
-/
module

public import proofs.«01_k».proof.Proof.OpsP
public import proofs.«01_k».proof.Proof.Sorts

@[expose] public section

set_option maxRecDepth 8192

noncomputable section

namespace Cert.PlainIdeal.Own

open Cert.PlainIdeal Cert.PlainIdeal.Gen Cert.Scat
open Idealize.ShloMosaic Idealize.ShloMosaic.TcCoe Idealize.SL.Sem Idealize.ShloMosaic.StableHlo

variable {F : FTy → Type} [FloatOps F]
variable (V : Valuation τ sig (Elt F))

/-- The buffers after the key's operations, after the shuffle's, and at the end. -/
def W₁ : Valuation τ sig (Elt F) := after ops₁ V
def W₂ : Valuation τ sig (Elt F) := after ops₂ (W₁ V)
def W₃ : Valuation τ sig (Elt F) := after ops₃ (W₂ V)

theorem after_ops : after ops V = W₃ V := by
  rw [ops, after_append, after_append]; rfl

/-- No operation of a line writes `b`, by one check of the line. -/
theorem after_kept {b : DevRef τ sig} (l : List (HloOp τ sig (Elt F))) (h : (l.all fun op => decide (b ∉ op.writes)) = true)
    (V : Valuation τ sig (Elt F)) : after l V b = V b :=
  after_of_forall_not_mem l V fun op hop => of_decide_eq_true (List.all_eq_true.mp h op hop)

theorem W₁_arg0 : W₁ V (Proc.devRef .tc main_arg0) = V (Proc.devRef .tc main_arg0) := after_kept ops₁ rfl _
theorem W₂_arg0 : W₂ V (Proc.devRef .tc main_arg0) = V (Proc.devRef .tc main_arg0) := (after_kept ops₂ rfl _).trans (W₁_arg0 V)
theorem W₃_arg0 : W₃ V (Proc.devRef .tc main_arg0) = V (Proc.devRef .tc main_arg0) := (after_kept ops₃ rfl _).trans (W₂_arg0 V)
theorem W₁_arg1 : W₁ V (Proc.devRef .tc main_arg1) = V (Proc.devRef .tc main_arg1) := after_kept ops₁ rfl _
theorem W₂_arg1 : W₂ V (Proc.devRef .tc main_arg1) = V (Proc.devRef .tc main_arg1) := (after_kept ops₂ rfl _).trans (W₁_arg1 V)
theorem W₃_arg1 : W₃ V (Proc.devRef .tc main_arg1) = V (Proc.devRef .tc main_arg1) := (after_kept ops₃ rfl _).trans (W₂_arg1 V)

/-- The content, a row per channel. -/
def flat : FVec F S48x256x2048 .f32 := shapeCast S48x256x2048 (V (Proc.devRef .tc main_arg0)) shapeCasts_S48x256x32x64_S48x256x2048

theorem W₁_v0 : W₁ V (Proc.devRef .tc main_v0) = flat V := rfl
theorem W₂_v0 : W₂ V (Proc.devRef .tc main_v0) = flat V := (after_kept ops₂ rfl _).trans (W₁_v0 V)

/-- The keys the shuffle sorts by, and the order it makes. -/
def keys : IVec S48 32 := W₂ V (Proc.devRef .tc main_call0_v17)
def perm : IVec S48 32 := W₂ V (Proc.devRef .tc main_v9)

theorem perm_eq : perm V = (Host.sort2 S48 0 comparator_i32_i32_d0 (keys V) (iotaInDim S48 32 0)).2 := rfl

attribute [local irreducible] W₁ W₂

/-- The content with its batches in the shuffle's order. -/
def taken : FVec F S48x256x32x64 .f32 :=
  Host.gather gather_S48x256x32x64_S48x1_S48x256x32x64_123_0_n_n_0_1_12563264 (V (Proc.devRef .tc main_arg0))
    (broadcastInDim S48x1 ![0] bcast_S48_S48x1_0 (select (cmpi .slt (perm V) (broadcastInDim S48 ![] bcast_S_S48 (constantI S_ 32 0#32)))
      (addi (perm V) (broadcastInDim S48 ![] bcast_S_S48 (constantI S_ 32 48#32))) (perm V)))

theorem W₃_v18 : W₃ V (Proc.devRef .tc main_v18) = (Host.sort2 S48x256x2048 2 comparator_f32_i32_d2 (flat V) (iotaInDim S48x256x2048 32 2)).2 := by
  rw [← W₂_v0]; rfl

theorem W₃_v24 : W₃ V (Proc.devRef .tc main_v24) =
    addf (mulf (broadcastInDim S48x256x2048 ![] bcast_S_S48x256x2048 (constant S_ .f32 0x3F666666#32)) (V (Proc.devRef .tc main_arg1)))
      (mulf (broadcastInDim S48x256x2048 ![] bcast_S_S48x256x2048 (constant S_ .f32 0x3DCCCCCD#32))
        (Host.sort S48x256x2048 2 comparator_f32_d2 (shapeCast S48x256x2048 (taken V) shapeCasts_S48x256x32x64_S48x256x2048))) := by
  rw [taken, ← W₂_arg0 V, ← W₂_arg1 V]; rfl

end Cert.PlainIdeal.Own

end
-- ==== Proof.RunP.lean ====
/-
  The plain program's run: both results at the values of `ValP`, the arguments unchanged.
-/
module

public import proofs.«01_k».proof.Proof.ValP
public import Idealize.ShloMosaic.Lib.SparseCore.Quiescent

@[expose] public section

set_option maxRecDepth 16384

noncomputable section

namespace Cert.PlainIdeal.Own

open Cert.PlainIdeal Cert.PlainIdeal.Gen
open Idealize.ShloMosaic Idealize.ShloMosaic.TcCoe Idealize.SL.Sem Idealize.ShloMosaic.StableHlo

variable {F : FTy → Type} [FloatOps F]

theorem ops₁_sub : (ops₁ : List (HloOp τ sig (Elt F))).Forall fun op => op.bufs ⊆ tcRefs τ sig :=
  ⟨reshape_bufs_sub .., nullary_bufs_sub .., nullary_bufs_sub .., binary_bufs_sub .., unary_bufs_sub .., unary_bufs_sub .., nullary_bufs_sub ..,
   binary_bufs_sub .., unary_bufs_sub .., unary_bufs_sub .., binary_bufs_sub .., nullary_bufs_sub ..⟩

set_option maxHeartbeats 40000000 in
theorem ops₂_sub : (ops₂ : List (HloOp τ sig (Elt F))).Forall fun op => op.bufs ⊆ tcRefs τ sig :=
  ⟨unary_bufs_sub .., reshape_bufs_sub .., unary_bufs_sub .., reshape_bufs_sub .., nullary_bufs_sub .., nullary_bufs_sub .., unary_bufs_sub ..,
   binary_bufs_sub .., nullary_bufs_sub .., unary_bufs_sub .., binary_bufs_sub .., unary_bufs_sub .., unary_bufs_sub .., binary_bufs_sub ..,
   nullary_bufs_sub .., binary_bufs_sub .., unary_bufs_sub .., binary_bufs_sub .., unary_bufs_sub .., binary_bufs_sub .., binary_bufs_sub ..,
   nullary_bufs_sub .., unary_bufs_sub .., binary_bufs_sub .., nullary_bufs_sub .., unary_bufs_sub .., binary_bufs_sub .., binary_bufs_sub ..,
   binary_bufs_sub .., binary_bufs_sub .., nullary_bufs_sub .., unary_bufs_sub .., binary_bufs_sub .., nullary_bufs_sub .., unary_bufs_sub ..,
   binary_bufs_sub .., binary_bufs_sub .., binary_bufs_sub .., binary_bufs_sub .., nullary_bufs_sub .., unary_bufs_sub .., binary_bufs_sub ..,
   nullary_bufs_sub .., unary_bufs_sub .., binary_bufs_sub .., binary_bufs_sub .., binary_bufs_sub .., binary_bufs_sub .., nullary_bufs_sub ..,
   unary_bufs_sub .., binary_bufs_sub .., nullary_bufs_sub .., unary_bufs_sub .., binary_bufs_sub .., binary_bufs_sub .., binary_bufs_sub ..,
   unary_bufs_sub .., binary_bufs_sub .., unary_bufs_sub .., binary_bufs_sub .., nullary_bufs_sub .., unary_bufs_sub .., binary_bufs_sub ..,
   binary_bufs_sub .., nullary_bufs_sub .., unary_bufs_sub .., binary_bufs_sub .., nullary_bufs_sub .., unary_bufs_sub .., binary_bufs_sub ..,
   binary_bufs_sub .., binary_bufs_sub .., binary_bufs_sub .., nullary_bufs_sub .., unary_bufs_sub .., binary_bufs_sub .., nullary_bufs_sub ..,
   unary_bufs_sub .., binary_bufs_sub .., binary_bufs_sub .., binary_bufs_sub .., binary_bufs_sub .., nullary_bufs_sub .., unary_bufs_sub ..,
   binary_bufs_sub .., nullary_bufs_sub .., unary_bufs_sub .., binary_bufs_sub .., binary_bufs_sub .., binary_bufs_sub .., binary_bufs_sub ..,
   nullary_bufs_sub .., unary_bufs_sub .., binary_bufs_sub .., nullary_bufs_sub .., unary_bufs_sub .., binary_bufs_sub .., binary_bufs_sub ..,
   binary_bufs_sub .., unary_bufs_sub .., binary_bufs_sub .., unary_bufs_sub .., binary_bufs_sub .., nullary_bufs_sub .., unary_bufs_sub ..,
   binary_bufs_sub .., binary_bufs_sub .., nullary_bufs_sub .., unary_bufs_sub .., binary_bufs_sub .., nullary_bufs_sub .., unary_bufs_sub ..,
   binary_bufs_sub .., binary_bufs_sub .., binary_bufs_sub .., binary_bufs_sub .., nullary_bufs_sub .., unary_bufs_sub .., binary_bufs_sub ..,
   nullary_bufs_sub .., unary_bufs_sub .., binary_bufs_sub .., binary_bufs_sub .., binary_bufs_sub .., binary_bufs_sub .., nullary_bufs_sub ..,
   unary_bufs_sub .., binary_bufs_sub .., nullary_bufs_sub .., unary_bufs_sub .., binary_bufs_sub .., binary_bufs_sub .., binary_bufs_sub ..,
   binary_bufs_sub .., nullary_bufs_sub .., unary_bufs_sub .., binary_bufs_sub .., nullary_bufs_sub .., unary_bufs_sub .., binary_bufs_sub ..,
   binary_bufs_sub .., binary_bufs_sub .., unary_bufs_sub .., binary_bufs_sub .., unary_bufs_sub .., binary_bufs_sub .., nullary_bufs_sub ..,
   unary_bufs_sub .., binary_bufs_sub .., binary_bufs_sub .., nullary_bufs_sub .., unary_bufs_sub .., binary_bufs_sub .., nullary_bufs_sub ..,
   unary_bufs_sub .., binary_bufs_sub .., binary_bufs_sub .., binary_bufs_sub .., binary_bufs_sub .., nullary_bufs_sub .., unary_bufs_sub ..,
   binary_bufs_sub .., nullary_bufs_sub .., unary_bufs_sub .., binary_bufs_sub .., binary_bufs_sub .., binary_bufs_sub .., binary_bufs_sub ..,
   nullary_bufs_sub .., unary_bufs_sub .., binary_bufs_sub .., nullary_bufs_sub .., unary_bufs_sub .., binary_bufs_sub .., binary_bufs_sub ..,
   binary_bufs_sub .., binary_bufs_sub .., nullary_bufs_sub .., unary_bufs_sub .., binary_bufs_sub .., nullary_bufs_sub .., unary_bufs_sub ..,
   binary_bufs_sub .., binary_bufs_sub .., binary_bufs_sub .., unary_bufs_sub .., binary_bufs_sub .., unary_bufs_sub .., binary_bufs_sub ..,
   nullary_bufs_sub .., unary_bufs_sub .., binary_bufs_sub .., binary_bufs_sub .., nullary_bufs_sub .., unary_bufs_sub .., binary_bufs_sub ..,
   nullary_bufs_sub .., unary_bufs_sub .., binary_bufs_sub .., binary_bufs_sub .., binary_bufs_sub .., binary_bufs_sub .., nullary_bufs_sub ..,
   unary_bufs_sub .., binary_bufs_sub .., nullary_bufs_sub .., unary_bufs_sub .., binary_bufs_sub .., binary_bufs_sub .., binary_bufs_sub ..,
   binary_bufs_sub .., nullary_bufs_sub .., unary_bufs_sub .., binary_bufs_sub .., nullary_bufs_sub .., unary_bufs_sub .., binary_bufs_sub ..,
   binary_bufs_sub .., binary_bufs_sub .., binary_bufs_sub .., nullary_bufs_sub .., unary_bufs_sub .., binary_bufs_sub .., nullary_bufs_sub ..,
   unary_bufs_sub .., binary_bufs_sub .., binary_bufs_sub .., binary_bufs_sub .., unary_bufs_sub .., binary_bufs_sub .., unary_bufs_sub ..,
   binary_bufs_sub .., nullary_bufs_sub .., unary_bufs_sub .., binary_bufs_sub .., unary_bufs_sub .., unary_bufs_sub .., binary_bufs_sub ..,
   unary_bufs_sub .., reshape_bufs_sub .., unary_bufs_sub .., reshape_bufs_sub .., unary_bufs_sub .., reshape_bufs_sub .., unary_bufs_sub ..,
   reshape_bufs_sub .., nullary_bufs_sub .., nullary_bufs_sub .., unary_bufs_sub .., binary_bufs_sub .., nullary_bufs_sub .., unary_bufs_sub ..,
   binary_bufs_sub .., unary_bufs_sub .., unary_bufs_sub .., binary_bufs_sub .., nullary_bufs_sub .., binary_bufs_sub .., unary_bufs_sub ..,
   binary_bufs_sub .., unary_bufs_sub .., binary_bufs_sub .., binary_bufs_sub .., nullary_bufs_sub .., unary_bufs_sub .., binary_bufs_sub ..,
   nullary_bufs_sub .., unary_bufs_sub .., binary_bufs_sub .., binary_bufs_sub .., binary_bufs_sub .., binary_bufs_sub .., nullary_bufs_sub ..,
   unary_bufs_sub .., binary_bufs_sub .., nullary_bufs_sub .., unary_bufs_sub .., binary_bufs_sub .., binary_bufs_sub .., binary_bufs_sub ..,
   binary_bufs_sub .., nullary_bufs_sub .., unary_bufs_sub .., binary_bufs_sub .., nullary_bufs_sub .., unary_bufs_sub .., binary_bufs_sub ..,
   binary_bufs_sub .., binary_bufs_sub .., binary_bufs_sub .., nullary_bufs_sub .., unary_bufs_sub .., binary_bufs_sub .., nullary_bufs_sub ..,
   unary_bufs_sub .., binary_bufs_sub .., binary_bufs_sub .., binary_bufs_sub .., unary_bufs_sub .., binary_bufs_sub .., unary_bufs_sub ..,
   binary_bufs_sub .., nullary_bufs_sub .., unary_bufs_sub .., binary_bufs_sub .., binary_bufs_sub .., nullary_bufs_sub .., unary_bufs_sub ..,
   binary_bufs_sub .., nullary_bufs_sub .., unary_bufs_sub .., binary_bufs_sub .., binary_bufs_sub .., binary_bufs_sub .., binary_bufs_sub ..,
   nullary_bufs_sub .., unary_bufs_sub .., binary_bufs_sub .., nullary_bufs_sub .., unary_bufs_sub .., binary_bufs_sub .., binary_bufs_sub ..,
   binary_bufs_sub .., binary_bufs_sub .., nullary_bufs_sub .., unary_bufs_sub .., binary_bufs_sub .., nullary_bufs_sub .., unary_bufs_sub ..,
   binary_bufs_sub .., binary_bufs_sub .., binary_bufs_sub .., binary_bufs_sub .., nullary_bufs_sub .., unary_bufs_sub .., binary_bufs_sub ..,
   nullary_bufs_sub .., unary_bufs_sub .., binary_bufs_sub .., binary_bufs_sub .., binary_bufs_sub .., unary_bufs_sub .., binary_bufs_sub ..,
   unary_bufs_sub .., binary_bufs_sub .., nullary_bufs_sub .., unary_bufs_sub .., binary_bufs_sub .., binary_bufs_sub .., nullary_bufs_sub ..,
   unary_bufs_sub .., binary_bufs_sub .., nullary_bufs_sub .., unary_bufs_sub .., binary_bufs_sub .., binary_bufs_sub .., binary_bufs_sub ..,
   binary_bufs_sub .., nullary_bufs_sub .., unary_bufs_sub .., binary_bufs_sub .., nullary_bufs_sub .., unary_bufs_sub .., binary_bufs_sub ..,
   binary_bufs_sub .., binary_bufs_sub .., binary_bufs_sub .., nullary_bufs_sub .., unary_bufs_sub .., binary_bufs_sub .., nullary_bufs_sub ..,
   unary_bufs_sub .., binary_bufs_sub .., binary_bufs_sub .., binary_bufs_sub .., binary_bufs_sub .., nullary_bufs_sub .., unary_bufs_sub ..,
   binary_bufs_sub .., nullary_bufs_sub .., unary_bufs_sub .., binary_bufs_sub .., binary_bufs_sub .., binary_bufs_sub .., unary_bufs_sub ..,
   binary_bufs_sub .., unary_bufs_sub .., binary_bufs_sub .., nullary_bufs_sub .., unary_bufs_sub .., binary_bufs_sub .., binary_bufs_sub ..,
   nullary_bufs_sub .., unary_bufs_sub .., binary_bufs_sub .., nullary_bufs_sub .., unary_bufs_sub .., binary_bufs_sub .., binary_bufs_sub ..,
   binary_bufs_sub .., binary_bufs_sub .., nullary_bufs_sub .., unary_bufs_sub .., binary_bufs_sub .., nullary_bufs_sub .., unary_bufs_sub ..,
   binary_bufs_sub .., binary_bufs_sub .., binary_bufs_sub .., binary_bufs_sub .., nullary_bufs_sub .., unary_bufs_sub .., binary_bufs_sub ..,
   nullary_bufs_sub .., unary_bufs_sub .., binary_bufs_sub .., binary_bufs_sub .., binary_bufs_sub .., binary_bufs_sub .., nullary_bufs_sub ..,
   unary_bufs_sub .., binary_bufs_sub .., nullary_bufs_sub .., unary_bufs_sub .., binary_bufs_sub .., binary_bufs_sub .., binary_bufs_sub ..,
   unary_bufs_sub .., binary_bufs_sub .., unary_bufs_sub .., binary_bufs_sub .., nullary_bufs_sub .., unary_bufs_sub .., binary_bufs_sub ..,
   binary_bufs_sub .., nullary_bufs_sub .., unary_bufs_sub .., binary_bufs_sub .., nullary_bufs_sub .., unary_bufs_sub .., binary_bufs_sub ..,
   binary_bufs_sub .., binary_bufs_sub .., binary_bufs_sub .., nullary_bufs_sub .., unary_bufs_sub .., binary_bufs_sub .., nullary_bufs_sub ..,
   unary_bufs_sub .., binary_bufs_sub .., binary_bufs_sub .., binary_bufs_sub .., binary_bufs_sub .., nullary_bufs_sub .., unary_bufs_sub ..,
   binary_bufs_sub .., nullary_bufs_sub .., unary_bufs_sub .., binary_bufs_sub .., binary_bufs_sub .., binary_bufs_sub .., binary_bufs_sub ..,
   nullary_bufs_sub .., unary_bufs_sub .., binary_bufs_sub .., nullary_bufs_sub .., unary_bufs_sub .., binary_bufs_sub .., binary_bufs_sub ..,
   binary_bufs_sub .., unary_bufs_sub .., binary_bufs_sub .., unary_bufs_sub .., binary_bufs_sub .., nullary_bufs_sub .., unary_bufs_sub ..,
   binary_bufs_sub .., binary_bufs_sub .., binary_bufs_sub .., binary_bufs_sub ..⟩

theorem ops₃_sub : (ops₃ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
   unary_bufs_sub .., binary_bufs_sub .., reshape_bufs_sub .., nullary_bufs_sub .., binary_bufs_sub .., binary_bufs_sub .., unary_bufs_sub ..,
   nullary_bufs_sub .., unary_bufs_sub .., binary_bufs_sub .., nullary_bufs_sub .., unary_bufs_sub .., binary_bufs_sub .., binary_bufs_sub ..⟩

/-- Every operation of a line determines its results, by one check of the line. -/
theorem fresh_of (l : List (HloOp τ sig (Elt F))) (h : (l.all fun op => decide (op.fresh = ∅)) = true) : ∀ op ∈ l, op.fresh = ∅ :=
  fun op hop => of_decide_eq_true (List.all_eq_true.mp h op hop)

theorem ops_fresh : ∀ op ∈ (ops : List (HloOp τ sig (Elt F))), op.fresh = ∅ := fun op h =>
  (List.mem_append.mp h).elim (fresh_of ops₁ rfl op) fun h => (List.mem_append.mp h).elim (fresh_of ops₂ rfl op) (fresh_of ops₃ rfl op)

variable (m : (ℓ : Loc nD τ sig) → Buf (Elt F) ℓ) (ρ : Dev nD → PrngReg)

/-- Core `c`'s buffers at launch. -/
def V₀ (c : Dev nD) : Valuation τ sig (Elt F) := fun b => m (c, b)

theorem scopedRefs_eq : (Finset.univ.filter fun b : Ref sig .tc => b.isScoped) = ∅ := by decide +kernel
theorem scopedSems_eq : (Finset.univ.filter fun sm : SemLoc sig => sm.isScoped .tc) = ∅ := by decide

theorem run_main : θ_run defs (onTc (τ := τ) (main (F := F))) ⟨m, fun _ => 0, ρ⟩ fun r => (∀ c : Dev nD,
    r.2.mem ((c.tc : Thread nD τ).loc main_v18) = W₃ (V₀ m c) (Proc.devRef .tc main_v18)
    ∧ r.2.mem ((c.tc : Thread nD τ).loc main_v24) = W₃ (V₀ m c) (Proc.devRef .tc main_v24)
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0 := by
  refine (θ_run defs _ _).mono (fun r h => ⟨fun c => ?_, Idealize.ShloMosaic.sem_eq_zero_of_no_sems (by decide) r.2⟩)
    (run_seq scopedRefs_eq scopedSems_eq defs main (fun _ => ops) main_eq
      (fun _ => List.forall_append.mpr ⟨ops₁_sub, List.forall_append.mpr ⟨ops₂_sub, ops₃_sub⟩⟩) m ρ (fun _ => ops_fresh))
  have e : ∀ b : Ref sig .tc, r.2.mem ((c.tc : Thread nD τ).loc b) = W₃ (V₀ m c) (Proc.devRef .tc b) := fun b =>
    (h c b).trans (congrFun (after_ops (V₀ m c)) (Proc.devRef .tc b))
  exact ⟨e _, e _, (e _).trans (W₃_arg0 (V₀ m c)), (e _).trans (W₃_arg1 (V₀ m c))⟩

end Cert.PlainIdeal.Own

end
-- ==== Proof.EndSI.lean ====
/-
  The TensorCore call's arrays at its end: grid point `b` reads batch `b` of the first input and writes batch `b` of the ids; it
  reads and writes batch `ip b` of the second input and of the blend, `ip` being the prefetched table.
-/
module

public import proofs.«01_k».proof.Proof.FrameSI
public import Idealize.ShloMosaic.Lib.Pipeline.Value
public import Idealize.ShloMosaic.Lib.Pipeline.Covers

@[expose] public section

set_option maxRecDepth 16384

noncomputable section

namespace Cert.Proof.SortIdeal

open Cert.SortIdeal Cert.SortIdeal.Gen Cert.Scat

open Idealize.ShloMosaic
open Idealize.ShloMosaic.TcCoe
open Idealize.ShloMosaic.Pipeline (Dat Cfg Window afterRegion)

variable {F : FTy → Type} [FloatOps F]
variable (m : (ℓ : Loc nD τ sig) → Buf (Elt F) ℓ)

attribute [local irreducible] V₀ V₁ V₂ V₃ out

/-- The batch of a grid point. -/
def batch (t : Fin (cfg m).N) : Fin 48 := (grid0.coords t 0)

/-- The batch the table names at a batch. -/
abbrev ip : Fin 48 → Fin 48 := border comparator_i32_i32_d0_2 (shuf m 0)

theorem coord_1 (i : grid0.Coords) : (i 1).val = 0 := Nat.lt_one_iff.mp (i 1).isLt

theorem transform_0 (i : grid0.Coords) : cc0_transform_0 i = ![(i 0).val, 0, 0] := by
  have h0 : (BitVec.ofNat 32 (i 0).val).toNat = (i 0).val := by
    have h : (i 0).val < 48 := (i 0).isLt
    rw [BitVec.toNat_ofNat]; omega
  unfold cc0_transform_0
  dsimp only
  rw [h0, coord_1]
  rfl

theorem index_0 (t : Fin (cfg m).N) : ((cfg m).win (0 : Fin 4)).index t = ![(batch m t).val, 0, 0] := transform_0 (grid0.coords t)

theorem index_2 (t : Fin (cfg m).N) : ((cfg m).win (2 : Fin 4)).index t = ![(batch m t).val, 0, 0] := transform_0 (grid0.coords t)

theorem index_1 (t : Fin (cfg m).N) : ((cfg m).win (1 : Fin 4)).index t = ![(ip m (batch m t)).val, 0, 0] :=
  (transform_1 (pf m) (grid0.coords t)).trans (congrArg₂ (fun a b : Nat => (![a, b, 0] : Fin 3 → Nat)) (entry_pf m (batch m t)) (coord_1 (grid0.coords t)))

theorem index_3 (t : Fin (cfg m).N) : ((cfg m).win (3 : Fin 4)).index t = ![(ip m (batch m t)).val, 0, 0] := index_1 m t

/-- A block of one batch, placed in the array. -/
theorem at3_of {p : SC.Idx} {ix : Fin 3 → Nat} {b : Fin 48} (hix : ix = ![b.val, 0, 0]) (c : Fin 256) (n : Fin 2048)
    (h : ∀ a : Fin 3, (p a).val = ix a * S1x256x2048.size a + (in1 c n a).val) : p = at3 b c n := by
  subst hix
  funext a
  refine Fin.ext ?_
  rw [h a]
  match a with
  | 0 => show b.val * 1 + 0 = b.val; omega
  | 1 => show 0 * 256 + c.val = c.val; omega
  | 2 => show 0 * 2048 + n.val = n.val; omega

theorem emb_0 (t : Fin (cfg m).N) (c : Fin 256) (n : Fin 2048) : (((cfg m).win (0 : Fin 4)).blk t).view.emb (in1 c n) = at3 (batch m t) c n :=
  at3_of (index_0 m t) c n (((cfg m).win (0 : Fin 4)).rect_emb_val t (in1 c n))

theorem emb_1 (t : Fin (cfg m).N) (c : Fin 256) (n : Fin 2048) : (((cfg m).win (1 : Fin 4)).blk t).view.emb (in1 c n) = at3 (ip m (batch m t)) c n :=
  at3_of (index_1 m t) c n (((cfg m).win (1 : Fin 4)).rect_emb_val t (in1 c n))

theorem emb_2 (t : Fin (cfg m).N) (c : Fin 256) (n : Fin 2048) : (((cfg m).win (2 : Fin 4)).blk t).view.emb (in1 c n) = at3 (batch m t) c n :=
  at3_of (index_2 m t) c n (((cfg m).win (2 : Fin 4)).rect_emb_val t (in1 c n))

theorem emb_3 (t : Fin (cfg m).N) (c : Fin 256) (n : Fin 2048) : (((cfg m).win (3 : Fin 4)).blk t).view.emb (in1 c n) = at3 (ip m (batch m t)) c n :=
  at3_of (index_3 m t) c n (((cfg m).win (3 : Fin 4)).rect_emb_val t (in1 c n))

theorem batch_val (t : Fin (cfg m).N) : (batch m t).val = t.val % 48 := by
  have h := Pipeline.Grid.coords_val (G := grid0) t 0 (S := 1) (B := 48) rfl rfl
  rw [Nat.div_one] at h
  exact h

theorem N_eq : (cfg m).N = 48 := rfl

theorem batch_succ (t : Fin (cfg m).N) (h : t.val + 1 < (cfg m).N) : batch m ⟨t.val + 1, h⟩ ≠ batch m t := by
  intro e
  have hs : ∀ s : Nat, s + 1 < 48 → (s + 1) % 48 ≠ s % 48 := by omega
  exact hs t.val h ((batch_val m ⟨t.val + 1, h⟩).symm.trans ((congrArg Fin.val e).trans (batch_val m t)))

theorem ip_injective : Function.Injective (ip m) := border_injective _ _

theorem head_eq {a b : Nat} (h : (![a, 0, 0] : Fin 3 → Nat) = ![b, 0, 0]) : a = b := congrFun h 0

theorem flush_2 (t : Fin (cfg m).N) : ((cfg m).win (2 : Fin 4)).flush t = true := by
  rw [Pipeline.Window.flush_out _ rfl]
  by_cases h : t.val + 1 = (cfg m).N
  · exact .inl h
  · have ht : t.val + 1 < (cfg m).N := lt_of_le_of_ne t.isLt h
    refine .inr ⟨ht, fun e => batch_succ m t ht (Fin.ext ?_)⟩
    exact head_eq ((index_2 m ⟨t.val + 1, ht⟩).symm.trans (e.trans (index_2 m t)))

theorem flush_3 (t : Fin (cfg m).N) : ((cfg m).win (3 : Fin 4)).flush t = true := by
  rw [Pipeline.Window.flush_out _ rfl]
  by_cases h : t.val + 1 = (cfg m).N
  · exact .inl h
  · have ht : t.val + 1 < (cfg m).N := lt_of_le_of_ne t.isLt h
    refine .inr ⟨ht, fun e => batch_succ m t ht (ip_injective m (Fin.ext ?_))⟩
    exact head_eq ((index_3 m ⟨t.val + 1, ht⟩).symm.trans (e.trans (index_3 m t)))

theorem batch_surjective : Function.Surjective (batch m) := fun b =>
  ⟨⟨b.val, b.isLt⟩, Fin.ext ((batch_val m _).trans (Nat.mod_eq_of_lt b.isLt))⟩

theorem ip_surjective : Function.Surjective (ip m) := Finite.injective_iff_surjective.mp (border_injective _ _)

/-! ## What is read and what is left -/

/-- Batch `b` of the first input. -/
def x0 (b : Fin 48) : Vec F S1x256x2048 .f32 := fun y => V₃ m 0 (Proc.devRef .tc main_v0) (at3 b (y 1) (y 2))
/-- Batch `b` of the second. -/
def x1 (b : Fin 48) : Vec F S1x256x2048 .f32 := fun y => V₃ m 0 (Proc.devRef .tc main_arg1) (at3 b (y 1) (y 2))

theorem emb_0_at (t : Fin (cfg m).N) (y : S1x256x2048.Idx) : (((cfg m).win (0 : Fin 4)).blk t).view.emb y = at3 (batch m t) (y 1) (y 2) :=
  (congrArg (((cfg m).win (0 : Fin 4)).blk t).view.emb (in1_eta y)).trans (emb_0 m t (y 1) (y 2))
theorem emb_1_at (t : Fin (cfg m).N) (y : S1x256x2048.Idx) : (((cfg m).win (1 : Fin 4)).blk t).view.emb y = at3 (ip m (batch m t)) (y 1) (y 2) :=
  (congrArg (((cfg m).win (1 : Fin 4)).blk t).view.emb (in1_eta y)).trans (emb_1 m t (y 1) (y 2))
theorem emb_2_at (t : Fin (cfg m).N) (y : S1x256x2048.Idx) : (((cfg m).win (2 : Fin 4)).blk t).view.emb y = at3 (batch m t) (y 1) (y 2) :=
  (congrArg (((cfg m).win (2 : Fin 4)).blk t).view.emb (in1_eta y)).trans (emb_2 m t (y 1) (y 2))
theorem emb_3_at (t : Fin (cfg m).N) (y : S1x256x2048.Idx) : (((cfg m).win (3 : Fin 4)).blk t).view.emb y = at3 (ip m (batch m t)) (y 1) (y 2) :=
  (congrArg (((cfg m).win (3 : Fin 4)).blk t).view.emb (in1_eta y)).trans (emb_3 m t (y 1) (y 2))

theorem rd_0 (t : Fin (cfg m).N) : rd m 0 0 t = x0 m (batch m t) :=
  funext fun y => congrArg (V₃ m 0 (Proc.devRef .tc main_v0)) (emb_0_at m t y)

theorem rd_1 (t : Fin (cfg m).N) : rd m 0 1 t = x1 m (ip m (batch m t)) :=
  funext fun y => congrArg (V₃ m 0 (Proc.devRef .tc main_arg1)) (emb_1_at m t y)

/-- The array of ids at the end. -/
def ids : SC.Idx → BitVec 32 := fun p => k0_pay60 (out (x0 m (p 0))).2 (in1 (p 1) (p 2))

/-- The batch that writes batch `b` of the blend. -/
def from3 (b : Fin 48) : Fin 48 := (ip_surjective m b).choose

theorem ip_from3 (b : Fin 48) : ip m (from3 m b) = b := (ip_surjective m b).choose_spec
theorem from3_ip (b : Fin 48) : from3 m (ip m b) = b := border_injective _ _ (ip_from3 m (ip m b))

/-- The blend at the end. -/
def blend : SC.Idx → F .f32 := fun p => k0_pay1 (k0_pay61 (x1 m (p 0)) (out (x0 m (from3 m (p 0)))).1) (in1 (p 1) (p 2))

theorem ids_at3 (b : Fin 48) (c : Fin 256) (n : Fin 2048) : ids m (at3 b c n) = k0_pay60 (out (x0 m b)).2 (in1 c n) := rfl

theorem blend_at3 (b : Fin 48) (c : Fin 256) (n : Fin 2048) :
    blend m (at3 b c n) = k0_pay1 (k0_pay61 (x1 m b) (out (x0 m (from3 m b))).1) (in1 c n) := rfl

theorem ids_block (t : Fin (cfg m).N) (y : S1x256x2048.Idx) : k0_pay60 (out (x0 m (batch m t))).2 y = ids m (at3 (batch m t) (y 1) (y 2)) :=
  (congrArg (k0_pay60 (out (x0 m (batch m t))).2) (in1_eta y)).trans (ids_at3 m _ _ _).symm

theorem blend_block (t : Fin (cfg m).N) (y : S1x256x2048.Idx) :
    k0_pay1 (k0_pay61 (x1 m (ip m (batch m t))) (out (x0 m (batch m t))).1) y = blend m (at3 (ip m (batch m t)) (y 1) (y 2)) := by
  refine ((congrArg (k0_pay1 (k0_pay61 (x1 m (ip m (batch m t))) (out (x0 m (batch m t))).1)) (in1_eta y)).trans ?_).trans (blend_at3 m _ _ _).symm
  exact congrArg (fun b => k0_pay1 (k0_pay61 (x1 m (ip m (batch m t))) (out (x0 m b)).1) (in1 (y 1) (y 2))) (from3_ip m (batch m t)).symm

theorem flushed_2 (t : Fin (cfg m).N) : (dats m 0 0).flushed (2 : Fin 4) t = k0_pay60 (out (x0 m (batch m t))).2 :=
  congrArg (fun x : Vec F S1x256x2048 .f32 => k0_pay60 (out x).2) (rd_0 m t)

theorem flushed_3 (t : Fin (cfg m).N) :
    (dats m 0 0).flushed (3 : Fin 4) t = k0_pay1 (k0_pay61 (x1 m (ip m (batch m t))) (out (x0 m (batch m t))).1) :=
  congrArg₂ (fun b x : Vec F S1x256x2048 .f32 => k0_pay1 (k0_pay61 b (out x).1)) (rd_1 m t) (rd_0 m t)

theorem end_2 : (dats m 0 0).arrAt (2 : Fin 4) (cfg m).N = ids m := by
  refine (dats m 0 0).arrAt_eq_of_cover (2 : Fin 4) (ids m) (fun t _ => (flushed_2 m t).trans (funext fun y => ?_)) fun p => ?_
  · exact (ids_block m t y).trans (congrArg (ids m) (emb_2_at m t y)).symm
  · obtain ⟨t, ht⟩ := batch_surjective m (p 0)
    refine ⟨t, flush_2 m t, ?_⟩
    have h : (((cfg m).win (2 : Fin 4)).blk t).view.emb (in1 (p 1) (p 2)) = p :=
      (emb_2 m t (p 1) (p 2)).trans ((congrArg (fun b => at3 b (p 1) (p 2)) ht).trans (at3_eta p).symm)
    exact h ▸ View.emb_mem_set _ _

theorem end_3 : (dats m 0 0).arrAt (3 : Fin 4) (cfg m).N = blend m := by
  refine (dats m 0 0).arrAt_eq_of_cover (3 : Fin 4) (blend m) (fun t _ => (flushed_3 m t).trans (funext fun y => ?_)) fun p => ?_
  · exact (blend_block m t y).trans (congrArg (blend m) (emb_3_at m t y)).symm
  · obtain ⟨b, hb⟩ := ip_surjective m (p 0)
    obtain ⟨t, ht⟩ := batch_surjective m b
    refine ⟨t, flush_3 m t, ?_⟩
    have h : (((cfg m).win (3 : Fin 4)).blk t).view.emb (in1 (p 1) (p 2)) = p :=
      (emb_3 m t (p 1) (p 2)).trans ((congrArg (fun b => at3 b (p 1) (p 2)) ((congrArg (ip m) ht).trans hb)).trans (at3_eta p).symm)
    exact h ▸ View.emb_mem_set _ _

/-! ## The two result arrays after the run -/

theorem Vₙ_ids : Vₙ m 0 (Proc.devRef .tc main_v11_0) = ids m := by
  unfold Vₙ
  exact (Pipeline.afterRegion_arr (dats m 0 0) (V₃ m 0) arr_inj (2 : Fin 4)).trans (end_2 m)

theorem Vₙ_blend : Vₙ m 0 (Proc.devRef .tc main_v11_1) = blend m := by
  unfold Vₙ
  exact (Pipeline.afterRegion_arr (dats m 0 0) (V₃ m 0) arr_inj (3 : Fin 4)).trans (end_3 m)

end Cert.Proof.SortIdeal
-- ==== Proof.Net.lean ====
/-
  One stage of the sort, read on a column of the two scratch buffers. A column's entries are the pairs (value, row number) in
  lexicographic order. The halves of each block of `2 j` rows exchanged give every row its partner's entry (`flip`); the printed
  compare and select are then one stage of the bitonic network on every column (`stage_col`).
-/
module

public import Idealize.ShloMosaic.Lib.SortNet.Sorts
public import Idealize.ShloMosaic.Lib.SortNet.Printed
public import Idealize.ShloMosaic.Lib.Pointwise.Select
public import proofs.«01_k».proof.Proof.Stages

@[expose] public section

set_option maxRecDepth 16384

noncomputable section

namespace Cert.Net

open Idealize.ShloMosaic Idealize.ShloMosaic.SortNet

abbrev SA : Shape := ⟨2, ![2048, 256]⟩
abbrev S1 : Shape := ⟨2, ![2048, 1]⟩

/-- Row `r`, column `c`. -/
def rc (r : Fin (2 ^ 11)) (c : Fin 256) : SA.Idx := fun | 0 => ⟨r.val, r.isLt⟩ | 1 => c
/-- Row `r` of the one column. -/
def r1 (r : Fin (2 ^ 11)) : S1.Idx := fun | 0 => ⟨r.val, r.isLt⟩ | 1 => ⟨0, Nat.one_pos⟩

theorem rc_eta (p : SA.Idx) : p = rc ⟨(p 0).val, (p 0).isLt⟩ (p 1) := by
  funext a; match a with
  | 0 => rfl
  | 1 => rfl

variable {α : Type}

/-- Index (a, s, i, c) of a rank-4 shape. -/
def at4 {m n j k : Nat} (a : Fin m) (s : Fin n) (i : Fin j) (c : Fin k) : (⟨4, ![m, n, j, k]⟩ : Shape).Idx :=
  fun | 0 => a | 1 => s | 2 => i | 3 => c

theorem row_at4 {m n j : Nat} (a : Fin m) (s : Fin n) (i : Fin j) (c : Fin 256) (r : Fin (2 ^ 11)) (h : r.val = (a.val * n + s.val) * j + i.val) :
    (SA.rowMajor (rc r c)).val = ((⟨4, ![m, n, j, 256]⟩ : Shape).rowMajor (at4 a s i c)).val := by
  rw [Shape.rowMajor_val_two, Shape.rowMajor_val_four]
  show r.val * 256 + c.val = ((a.val * n + s.val) * j + i.val) * 256 + c.val
  rw [h]

/-- The two halves of every block of `2 j` rows exchanged. -/
theorem flip {m j : Nat} (q : Nat) (hq : q < 11) (hj : j = 2 ^ q) (hm : m * 2 * j = 2048) (x : SA.Idx → α)
    (h₁ : SA.ShapeCasts ⟨4, ![m, 2, j, 256]⟩)
    (h₂ : (⟨4, ![m, 2, j, 256]⟩ : Shape).Slices ![0, 1, 0, 0] ⟨4, ![m, 1, j, 256]⟩)
    (h₃ : (⟨4, ![m, 2, j, 256]⟩ : Shape).Slices ![0, 0, 0, 0] ⟨4, ![m, 1, j, 256]⟩)
    (h₄ : Shape.Concatenates [⟨4, ![m, 1, j, 256]⟩, ⟨4, ![m, 1, j, 256]⟩] ⟨4, ![m, 2, j, 256]⟩ 1)
    (h₅ : (⟨4, ![m, 2, j, 256]⟩ : Shape).ShapeCasts SA) (r : Fin (2 ^ 11)) (c : Fin 256) :
    shapeCast SA (concatenate ⟨4, ![m, 2, j, 256]⟩ 1
      [⟨⟨4, ![m, 1, j, 256]⟩, extractStridedSlice ⟨4, ![m, 1, j, 256]⟩ ![0, 1, 0, 0] (shapeCast ⟨4, ![m, 2, j, 256]⟩ x h₁) h₂⟩,
       ⟨⟨4, ![m, 1, j, 256]⟩, extractStridedSlice ⟨4, ![m, 1, j, 256]⟩ ![0, 0, 0, 0] (shapeCast ⟨4, ![m, 2, j, 256]⟩ x h₁) h₃⟩] h₄) h₅ (rc r c)
      = x (rc (partner 11 q r) c) := by
  have hj0 : 0 < j := by rw [hj]; exact Nat.two_pow_pos q
  have hr : r.val < 2048 := r.isLt
  have hd := Nat.div_add_mod r.val j
  have hi : r.val % j < j := Nat.mod_lt _ hj0
  have hb := Nat.div_add_mod (r.val / j) 2
  have ha : r.val / j / 2 < m := by
    rw [Nat.div_div_eq_div_mul]
    exact Nat.div_lt_of_lt_mul (by rw [Nat.mul_comm j 2, Nat.mul_comm, ← Nat.mul_assoc, hm]; exact hr)
  have hbit : r.val &&& 2 ^ q = 0 ↔ r.val / j % 2 = 0 := by
    rw [and_two_pow_eq_zero_iff_testBit, Nat.testBit_eq_decide_div_mod_eq, ← hj, decide_eq_false_iff_not]
    omega
  have e2 : ∀ u : Nat, (r.val / j / 2 * 2 + u) * j + r.val % j = r.val + u * j - (r.val / j % 2) * j := by
    intro u
    have : r.val = (r.val / j / 2 * 2 + r.val / j % 2) * j + r.val % j := by
      rw [show r.val / j / 2 * 2 + r.val / j % 2 = r.val / j by omega, Nat.mul_comm]; exact hd.symm
    rw [Nat.add_mul] at this ⊢
    omega
  by_cases h : r.val / j % 2 = 0
  · have hp := partner_val_of_clear hq r (hbit.mpr h)
    rw [← hj] at hp
    rw [shapeCast_apply _ h₅ (rc r c) (at4 ⟨_, ha⟩ 0 ⟨_, hi⟩ c) (row_at4 _ _ _ _ _ (by have := e2 0; rw [h] at this; simpa using this.symm)).symm]
    rw [concatenate_pair_apply_left 1 _ _ h₄ _ rfl (at4 ⟨_, ha⟩ 0 ⟨_, hi⟩ c) (fun b => by match b with | 0 => rfl | 1 => rfl | 2 => rfl | 3 => rfl)]
    rw [extractStridedSlice_apply _ _ h₂ _ (at4 ⟨_, ha⟩ 1 ⟨_, hi⟩ c) (fun b => by
      match b with
      | 0 => exact (Nat.zero_add _).symm
      | 1 => rfl
      | 2 => exact (Nat.zero_add _).symm
      | 3 => exact (Nat.zero_add _).symm)]
    exact shapeCast_apply _ h₁ _ _ (row_at4 _ _ _ _ _ (by
      rw [hp]; have := e2 1; rw [h] at this; simpa using this.symm))
  · have h1 : r.val / j % 2 = 1 := by omega
    obtain ⟨hle, hp⟩ := partner_val_of_set hq r (fun e => h (hbit.mp e))
    rw [← hj] at hp hle
    rw [shapeCast_apply _ h₅ (rc r c) (at4 ⟨_, ha⟩ 1 ⟨_, hi⟩ c) (row_at4 _ _ _ _ _ (by have := e2 1; rw [h1] at this; simpa using this.symm)).symm]
    rw [concatenate_pair_apply_right 1 _ _ h₄ _ rfl rfl (at4 ⟨_, ha⟩ 0 ⟨_, hi⟩ c)
      (fun b hb => by match b with | 0 => rfl | 1 => exact absurd rfl hb | 2 => rfl | 3 => rfl) rfl]
    rw [extractStridedSlice_apply _ _ h₃ _ (at4 ⟨_, ha⟩ 0 ⟨_, hi⟩ c) (fun b => by
      match b with
      | 0 => exact (Nat.zero_add _).symm
      | 1 => rfl
      | 2 => exact (Nat.zero_add _).symm
      | 3 => exact (Nat.zero_add _).symm)]
    exact shapeCast_apply _ h₁ _ _ (row_at4 _ _ _ _ _ (by
      rw [hp]; have := e2 0; rw [h1] at this; simpa using this.symm))

/-! ## A stage on a column -/

/-- An entry: a value and a row number, ordered by the value and then the number. -/
abbrev Ent : Type := EReal ×ₗ ℤ

/-- The entries of column `c`. -/
def col (v : FVec Ideal SA .f32) (w : IVec SA 32) (c : Fin 256) (r : Fin (2 ^ 11)) : Ent := toLex (v (rc r c), (w (rc r c)).toInt)

theorem less_eq (v v' : EReal) (w w' : BitVec 32) :
    IntOp.ori (Ideal.cmp .olt v v') (IntOp.andi (Ideal.cmp .oeq v v') (IntOp.cmpi .slt w w'))
      = BitVec.ofBool (decide ((toLex (v, w.toInt) : Ent) < toLex (v', w'.toInt))) := by
  have e : IntOp.cmpi .slt w w' = BitVec.ofBool (decide (w.toInt < w'.toInt)) := by
    simp only [IntOp.cmpi, BitVec.slt_eq_decide]
  rw [Ideal.cmp_olt, Ideal.cmp_oeq, e]
  have h : decide ((toLex (v, w.toInt) : Ent) < toLex (v', w'.toInt)) = (decide (v < v') || (decide (v = v') && decide (w.toInt < w'.toInt))) := by
    rw [Bool.eq_iff_iff]
    simp only [decide_eq_true_eq, Bool.or_eq_true, Bool.and_eq_true, Prod.Lex.toLex_lt_toLex]
  rw [h]
  cases decide (v < v') <;> cases decide (v = v') <;> cases decide (w.toInt < w'.toInt) <;> rfl

theorem stage_col {q : Nat} (hq : q < 11) (low : Fin (2 ^ 11) → Bool) (hlow : ∀ r, low (partner 11 q r) = low r)
    (v v' : FVec Ideal SA .f32) (w w' : IVec SA 32) (D P : IVec S1 1)
    (hv : ∀ r c, v' (rc r c) = v (rc (partner 11 q r) c)) (hw : ∀ r c, w' (rc r c) = w (rc (partner 11 q r) c))
    (hD : ∀ r, D (r1 r) = BitVec.ofBool (low r)) (hP : ∀ r, P (r1 r) = BitVec.ofBool (decide (r.val &&& 2 ^ q = 0)))
    (hb : S1.Broadcasts SA) (hs : SA.ShapeCasts SA) (c : Fin 256) :
    col (shapeCast SA (select (xori (ori (cmpf .olt v v') (andi (cmpf .oeq v v') (cmpi .slt w w'))) (broadcastTo SA (xori D P) hb)) v' v) hs)
        (shapeCast SA (select (xori (ori (cmpf .olt v v') (andi (cmpf .oeq v v') (cmpi .slt w w'))) (broadcastTo SA (xori D P) hb)) w' w) hs) c
      = Network.apply (stage 11 q low) (col v w c) := by
  funext r
  rw [← stage_upperXor, apply_stage_select hq _ (fun j => upperXor_partner hq low j (hlow j)), shapeCast_self, shapeCast_self]
  have ht : xori (ori (cmpf .olt v v') (andi (cmpf .oeq v v') (cmpi .slt w w'))) (broadcastTo SA (xori D P) hb) (rc r c)
      = BitVec.ofBool (decide (col v w c r < col v w c (partner 11 q r)) ^^ (low r ^^ decide (r.val &&& 2 ^ q = 0))) := by
    show IntOp.xori (IntOp.ori (Ideal.cmp .olt (v (rc r c)) (v' (rc r c))) (IntOp.andi (Ideal.cmp .oeq (v (rc r c)) (v' (rc r c))) (IntOp.cmpi .slt (w (rc r c)) (w' (rc r c)))))
      (broadcastTo SA (xori D P) hb (rc r c)) = _
    rw [less_eq, broadcastTo_apply _ hb (rc r c) (r1 r) (fun a => by match a with | 0 => rfl | 1 => rfl)]
    show IntOp.xori _ (IntOp.xori (D (r1 r)) (P (r1 r))) = _
    rw [hD, hP, ofBool_xor, ofBool_xor, hv, hw]
    rfl
  have hsel : ∀ {β : Type} (y x : SA.Idx → β), select (xori (ori (cmpf .olt v v') (andi (cmpf .oeq v v') (cmpi .slt w w'))) (broadcastTo SA (xori D P) hb)) y x (rc r c)
      = if (decide (col v w c r < col v w c (partner 11 q r)) ^^ (low r ^^ decide (r.val &&& 2 ^ q = 0))) then y (rc r c) else x (rc r c) := by
    intro β y x
    show Scalar.select (_ : BitVec 1) _ _ = _
    rw [ht, select_ofBool]
  have hcol : ∀ (A : Bool), (toLex (if A then v' (rc r c) else v (rc r c), (if A then w' (rc r c) else w (rc r c)).toInt) : Ent)
      = if A then col v w c (partner 11 q r) else col v w c r := by
    intro A
    cases A
    · rfl
    · rw [if_pos rfl, if_pos rfl, if_pos rfl, hv, hw]; rfl
  show (toLex (_, BitVec.toInt _) : Ent) = _
  rw [hsel, hsel, hcol]
  unfold upperXor
  have hneg : decide (r.val &&& 2 ^ q ≠ 0) = !decide (r.val &&& 2 ^ q = 0) := by rw [decide_not]
  rw [hneg]
  generalize col v w c r = e, col v w c (partner 11 q r) = e', decide (r.val &&& 2 ^ q = 0) = z, low r = l
  rcases lt_trichotomy e e' with h | h | h
  · rw [decide_eq_true h, decide_eq_false (lt_asymm h)]
    cases z <;> cases l <;> rfl
  · subst h
    rw [ite_self, ite_self]
  · rw [decide_eq_true h, decide_eq_false (lt_asymm h)]
    cases z <;> cases l <;> rfl

end Cert.Net
-- ==== Proof.NetSI.lean ====
/-
  What the scratch buffers hold after all phases, at the extended reals: on every column, the entries the bitonic network leaves,
  in order.
-/
module

public import proofs.«01_k».proof.Proof.BodySI
public import proofs.«01_k».proof.Proof.Net

@[expose] public section

set_option maxRecDepth 16384

noncomputable section

namespace Cert.Proof.SortIdeal

open Cert.SortIdeal Cert.SortIdeal.Gen Cert.Stages Cert.Net
open Idealize.ShloMosaic Idealize.ShloMosaic.SortNet

/-- A phase's descending rows. -/
def low (t : Nat) (r : Fin (2 ^ 11)) : Bool := decide (r.val &&& 2 ^ (t + 1) = 0) == false

theorem trips_eq : k0_t1_loop.trips = 11 := by decide

theorem above_iff : ∀ (t : Fin k0_t1_loop.trips) (q : Fin 11), above t (BitVec.ofNat 32 q.val) = 1#1 ↔ q.val ≤ t.val := by
  decide +kernel

theorem bit_word : ∀ t : Fin k0_t1_loop.trips, (Scalar.shli 1#32 (Scf.iv 1#32 1#32 t)).toNat = 2 ^ (t.val + 1) := by
  decide +kernel

theorem pos_at (r : Fin (2 ^ 11)) : pos (r1 r) = BitVec.ofNat 32 r.val := iota_single_apply .tc S2048x1 32 0 _ (r1 r)

theorem lt32 (r : Fin (2 ^ 11)) : r.val < 2 ^ 32 := lt_trans r.isLt (by decide)

theorem down_at (t : Fin k0_t1_loop.trips) (r : Fin (2 ^ 11)) : down t (r1 r) = BitVec.ofBool (low t.val r) := by
  show BitVec.ofBool (IntOp.andi (pos (r1 r)) (Scalar.shli 1#32 (Scf.iv 1#32 1#32 t)) != 0#32) = _
  rw [pos_at]
  congr 1
  have h := and_distance_eq_zero_iff (lt32 r) _ (bit_word t)
  unfold low
  rw [Bool.eq_iff_iff, bne_iff_ne, beq_iff_eq, decide_eq_false_iff_not, Ne, h]

theorem clear_at {q : Nat} (d : BitVec 32) (hd : d.toNat = 2 ^ q) (r : Fin (2 ^ 11)) :
    cmpi .eq (andi pos (broadcast S2048x1 d)) (broadcast S2048x1 0#32) (r1 r) = BitVec.ofBool (decide (r.val &&& 2 ^ q = 0)) := by
  show BitVec.ofBool (IntOp.andi (pos (r1 r)) d == 0#32) = _
  rw [pos_at]
  congr 1
  rw [Bool.eq_iff_iff, beq_iff_eq, decide_eq_true_eq, and_distance_eq_zero_iff (lt32 r) d hd]

theorem low_partner {q t : Nat} (hq : q < 11) (h : q ≤ t) (r : Fin (2 ^ 11)) : low t (partner 11 q r) = low t r :=
  sizeClear_partner hq h false r

/-- The entries of column `c` of the two buffers. -/
abbrev colOf (S : Both Ideal) (c : Fin 256) : Fin (2 ^ 11) → Ent := col S.1 S.2 c

/-- One conditional stage on a column. -/
theorem cond_col {t : Fin k0_t1_loop.trips} {q : Nat} (hq : q < 11) {f : Vec Ideal S2048x256 .f32 → Vec Ideal S2048x256 .i32 → Vec Ideal S2048x256 .f32}
    {g : Vec Ideal S2048x256 .f32 → Vec Ideal S2048x256 .i32 → Vec Ideal S2048x256 .i32}
    (h : ∀ v w c, (∀ r, low t.val (partner 11 q r) = low t.val r) → col (f v w) (g v w) c = Network.apply (stage 11 q (low t.val)) (col v w c)) (S : Both Ideal) (c : Fin 256) :
    colOf (onBoth (above t (BitVec.ofNat 32 q)) f g S) c = Network.apply (if q ≤ t.val then stage 11 q (low t.val) else []) (colOf S c) := by
  unfold onBoth
  by_cases hqt : q ≤ t.val
  · rw [if_pos ((above_iff t ⟨q, hq⟩).mpr hqt), if_pos hqt]
    exact h _ _ c (low_partner hq hqt)
  · rw [if_neg (fun e => hqt ((above_iff t ⟨q, hq⟩).mp e)), if_neg hqt]
    rfl

/-- The stages of phase `t`, those above its number left out. -/
def phaseNet (t n : Nat) : Network (2 ^ 11) := (List.range n).reverse.flatMap fun q => if q ≤ t then stage 11 q (low t) else []

theorem phaseNet_succ (t n : Nat) : phaseNet t (n + 1) = (if n ≤ t then stage 11 n (low t) else []) ++ phaseNet t n := by
  unfold phaseNet
  rw [List.range_succ, List.reverse_append, List.flatMap_append]
  simp

theorem phaseNet_eq (t : Nat) : ∀ n, phaseNet t (t + 1 + n) = levelNet 11 false t
  | 0 => by
    unfold phaseNet levelNet
    have hm : ∀ q ∈ (List.range (t + 1)).reverse, (if q ≤ t then stage 11 q (low t) else []) = stage 11 q (low t) := fun q hq =>
      if_pos (Nat.lt_succ_iff.mp (List.mem_range.mp (List.mem_reverse.mp hq)))
    exact List.flatMap_congr hm
  | n + 1 => by
    rw [← Nat.add_assoc, phaseNet_succ, if_neg (by omega), List.nil_append, phaseNet_eq t n]

/-- The printed stage at distance `d = 2 ^ q`. -/
theorem printed {q : Nat} (hq : q < 11) (t : Fin k0_t1_loop.trips) (hlow : ∀ r, low t.val (partner 11 q r) = low t.val r)
    (v v' : FVec Ideal SA .f32) (w w' : IVec SA 32) (d : BitVec 32) (hd : d.toNat = 2 ^ q)
    (hv : ∀ r c, v' (rc r c) = v (rc (partner 11 q r) c)) (hw : ∀ r c, w' (rc r c) = w (rc (partner 11 q r) c))
    (hb : Cert.Net.S1.Broadcasts SA) (hs : SA.ShapeCasts SA) (c : Fin 256) :
    col (shapeCast SA (select (xori (ori (cmpf .olt v v') (andi (cmpf .oeq v v') (cmpi .slt w w'))) (broadcastTo SA (xori (down t) (cmpi .eq (andi pos (broadcast S2048x1 d)) (broadcast S2048x1 0#32))) hb)) v' v) hs)
        (shapeCast SA (select (xori (ori (cmpf .olt v v') (andi (cmpf .oeq v v') (cmpi .slt w w'))) (broadcastTo SA (xori (down t) (cmpi .eq (andi pos (broadcast S2048x1 d)) (broadcast S2048x1 0#32))) hb)) w' w) hs) c
      = Network.apply (stage 11 q (low t.val)) (col v w c) :=
  stage_col hq (low t.val) hlow v v' w w' (down t) _ hv hw (down_at t) (clear_at d hd) hb hs c

/-- The next stage of a phase, done. -/
theorem step {t : Fin k0_t1_loop.trips} {f : Vec Ideal S2048x256 .f32 → Vec Ideal S2048x256 .i32 → Vec Ideal S2048x256 .f32}
    {g : Vec Ideal S2048x256 .f32 → Vec Ideal S2048x256 .i32 → Vec Ideal S2048x256 .i32} (n : Nat) (hn : n < 11)
    (h : ∀ v w c, (∀ r, low t.val (partner 11 n r) = low t.val r) → col (f v w) (g v w) c = Network.apply (stage 11 n (low t.val)) (col v w c)) (S : Both Ideal) (c : Fin 256) :
    Network.apply (phaseNet t.val (n + 1)) (colOf S c) = Network.apply (phaseNet t.val n) (colOf (onBoth (above t (BitVec.ofNat 32 n)) f g S) c) := by
  rw [phaseNet_succ, Network.apply_append, cond_col hn h]

theorem trip_col (t : Fin k0_t1_loop.trips) (S : Both Ideal) (c : Fin 256) : colOf (trip t S) c = Network.apply (levelNet 11 false t.val) (colOf S c) := by
  have ht : t.val < 11 := lt_of_lt_of_eq t.isLt trips_eq
  obtain ⟨n, hn⟩ : ∃ n, 11 = t.val + 1 + n := ⟨10 - t.val, by omega⟩
  rw [← phaseNet_eq t.val n, ← hn]
  symm
  rw [
    step (f := k0_pay6 pos 1#32 1#32 t) (g := k0_pay7 pos 1#32 1#32 t) 10 (by decide)
      (fun v w c h => printed (by decide) t h v _ w _ 1024#32 rfl (flip 10 (by decide) rfl rfl v _ _ _ _ _) (flip 10 (by decide) rfl rfl w _ _ _ _ _) _ _ c),
    step (f := k0_pay11 pos 1#32 1#32 t) (g := k0_pay12 pos 1#32 1#32 t) 9 (by decide)
      (fun v w c h => printed (by decide) t h v _ w _ 512#32 rfl (flip 9 (by decide) rfl rfl v _ _ _ _ _) (flip 9 (by decide) rfl rfl w _ _ _ _ _) _ _ c),
    step (f := k0_pay16 pos 1#32 1#32 t) (g := k0_pay17 pos 1#32 1#32 t) 8 (by decide)
      (fun v w c h => printed (by decide) t h v _ w _ 256#32 rfl (flip 8 (by decide) rfl rfl v _ _ _ _ _) (flip 8 (by decide) rfl rfl w _ _ _ _ _) _ _ c),
    step (f := k0_pay21 pos 1#32 1#32 t) (g := k0_pay22 pos 1#32 1#32 t) 7 (by decide)
      (fun v w c h => printed (by decide) t h v _ w _ 128#32 rfl (flip 7 (by decide) rfl rfl v _ _ _ _ _) (flip 7 (by decide) rfl rfl w _ _ _ _ _) _ _ c),
    step (f := k0_pay26 pos 1#32 1#32 t) (g := k0_pay27 pos 1#32 1#32 t) 6 (by decide)
      (fun v w c h => printed (by decide) t h v _ w _ 64#32 rfl (flip 6 (by decide) rfl rfl v _ _ _ _ _) (flip 6 (by decide) rfl rfl w _ _ _ _ _) _ _ c),
    step (f := k0_pay31 pos 1#32 1#32 t) (g := k0_pay32 pos 1#32 1#32 t) 5 (by decide)
      (fun v w c h => printed (by decide) t h v _ w _ 32#32 rfl (flip 5 (by decide) rfl rfl v _ _ _ _ _) (flip 5 (by decide) rfl rfl w _ _ _ _ _) _ _ c),
    step (f := k0_pay36 pos 1#32 1#32 t) (g := k0_pay37 pos 1#32 1#32 t) 4 (by decide)
      (fun v w c h => printed (by decide) t h v _ w _ 16#32 rfl (flip 4 (by decide) rfl rfl v _ _ _ _ _) (flip 4 (by decide) rfl rfl w _ _ _ _ _) _ _ c),
    step (f := k0_pay41 pos 1#32 1#32 t) (g := k0_pay42 pos 1#32 1#32 t) 3 (by decide)
      (fun v w c h => printed (by decide) t h v _ w _ 8#32 rfl (flip 3 (by decide) rfl rfl v _ _ _ _ _) (flip 3 (by decide) rfl rfl w _ _ _ _ _) _ _ c),
    step (f := k0_pay48 (down t)) (g := k0_pay49 (down t)) 2 (by decide)
      (fun v w c h => printed (by decide) t h v _ w _ 4#32 rfl (flip 2 (by decide) rfl rfl v _ _ _ _ _) (flip 2 (by decide) rfl rfl w _ _ _ _ _) _ _ c),
    step (f := k0_pay53 (down t)) (g := k0_pay54 (down t)) 1 (by decide)
      (fun v w c h => printed (by decide) t h v _ w _ 2#32 rfl (flip 1 (by decide) rfl rfl v _ _ _ _ _) (flip 1 (by decide) rfl rfl w _ _ _ _ _) _ _ c),
    step (f := k0_pay58 (down t)) (g := k0_pay59 (down t)) 0 (by decide)
      (fun v w c h => printed (by decide) t h v _ w _ 1#32 rfl (flip 0 (by decide) rfl rfl v _ _ _ _ _) (flip 0 (by decide) rfl rfl w _ _ _ _ _) _ _ c)]
  rfl

theorem trips_col (S : Both Ideal) (c : Fin 256) : ∀ k ≤ k0_t1_loop.trips, colOf (trips k S) c = Network.apply (levelsNet 11 false k) (colOf S c)
  | 0, _ => rfl
  | k + 1, h => by
    rw [trips_succ ⟨k, h⟩, trip_col, levelsNet_succ, Network.apply_append, trips_col S c k (Nat.le_of_succ_le h)]

/-- After all phases a column's entries are in order. -/
theorem trips_mono (S : Both Ideal) (c : Fin 256) : Monotone (colOf (trips k0_t1_loop.trips S) c) := by
  rw [trips_col S c _ le_rfl, trips_eq, ← sortNet_eq_levelsNet]
  exact sortNet_apply_monotone 11 _

/-- They are the entries there were, in another order. -/
theorem trips_perm (S : Both Ideal) (c : Fin 256) : ∃ σ : Equiv.Perm (Fin (2 ^ 11)), ∀ r, colOf (trips k0_t1_loop.trips S) c r = colOf S c (σ r) := by
  rw [trips_col S c _ le_rfl]
  obtain ⟨σ, hσ⟩ := Network.exists_perm (levelsNet 11 false k0_t1_loop.trips) (colOf S c)
  exact ⟨σ, fun r => congrFun hσ r⟩

end Cert.Proof.SortIdeal
-- ==== Proof.Order.lean ====
/-
  A stable sort by value is the sort of the pairs (value, position): it is the only rearrangement that puts the pairs in order.
-/
module

public import Idealize.ShloMosaic.Lib.SortFacts
public import proofs.«01_k».proof.Proof.Net

@[expose] public section

noncomputable section

namespace Cert.Net

open Idealize.ShloMosaic

variable {n : Nat} (x : Fin n → EReal)

/-- The pair at position `k`. -/
def pair (k : Fin n) : Ent := toLex (x k, (k.val : ℤ))

theorem pair_injective : Function.Injective (pair x) := by
  intro a b h
  have h2 : ((a.val : ℤ)) = (b.val : ℤ) := congrArg (fun e : Ent => (ofLex e).2) h
  exact Fin.ext (by exact_mod_cast h2)

theorem pair_lt {a b : Fin n} (h : a < b) : decide (x b < x a) = decide (pair x b < pair x a) := by
  rw [decide_eq_decide]
  unfold pair
  rw [Prod.Lex.toLex_lt_toLex]
  constructor
  · exact Or.inl
  · rintro (h' | ⟨_, h'⟩)
    · exact h'
    · exfalso; have : b.val < a.val := Int.ofNat_lt.mp h'
      exact absurd h (not_lt.mpr (le_of_lt this))

theorem stable_pair : ∀ l : List (Fin n), l.Pairwise (· < ·) →
    stableSort (fun k k' => decide (x k < x k')) l = stableSort (fun k k' => decide (pair x k < pair x k')) l
  | [], _ => rfl
  | a :: l, h => by
    rw [List.pairwise_cons] at h
    unfold stableSort
    rw [stable_pair l h.2]
    exact insertBefore_congr _ _ a _ fun b hb => pair_lt x (h.1 b ((perm_stableSort _ l).mem_iff.mp hb))

theorem sorted_pair : (sortedFrom fun k k' => decide (x k < x k')) = sortedFrom fun k k' => decide (pair x k < pair x k') := by
  have h : sortPositions n (fun k k' => decide (x k < x k')) = sortPositions n fun k k' => decide (pair x k < pair x k') :=
    stable_pair x (List.finRange n) (List.pairwise_lt_finRange n)
  funext k
  unfold sortedFrom
  rw [List.get_of_eq h]
  rfl

theorem sorted_strictMono : StrictMono fun k => pair x (sortedFrom (fun k k' => decide (x k < x k')) k) := by
  intro i j hij
  have h := sortedFrom_noInversion (fun k k' => decide (pair x k < pair x k')) (fun k k' => decide (pair x k < pair x k'))
    (fun a b h => by simp only [decide_eq_true_eq, decide_eq_false_iff_not] at h ⊢; exact lt_asymm h) (fun _ _ h => h)
    (fun a b c h h' => by simp only [decide_eq_false_iff_not, not_lt] at h h' ⊢; exact le_trans h' h) i j hij
  have hne : pair x (sortedFrom (fun k k' => decide (pair x k < pair x k')) i) ≠ pair x (sortedFrom (fun k k' => decide (pair x k < pair x k')) j) :=
    fun e => absurd (sortedFrom_injective _ (pair_injective x e)) (ne_of_lt hij)
  show pair x (sortedFrom _ i) < pair x (sortedFrom _ j)
  rw [sorted_pair]
  exact lt_of_le_of_ne (not_lt.mp (of_decide_eq_false h)) hne

/-- A rearrangement that puts the pairs in order is the stable sort's. -/
theorem sorted_unique (σ : Equiv.Perm (Fin n)) (hσ : Monotone fun k => pair x (σ k)) (k : Fin n) :
    σ k = sortedFrom (fun k k' => decide (x k < x k')) k := by
  have h1 : StrictMono fun k => pair x (σ k) := hσ.strictMono_of_injective fun a b h => σ.injective (pair_injective x h)
  have hs : Function.Surjective (sortedFrom fun k k' => decide (x k < x k')) := sortedFrom_surjective _
  have hr : Set.range (fun k => pair x (σ k)) = Set.range fun k => pair x (sortedFrom (fun k k' => decide (x k < x k')) k) := by
    show Set.range (pair x ∘ σ) = Set.range (pair x ∘ _)
    rw [σ.surjective.range_comp, hs.range_comp]
  exact pair_injective x (congrFun ((h1.range_inj (sorted_strictMono x)).mp hr) k)

end Cert.Net
-- ==== Proof.OutSI.lean ====
/-
  The two blocks a grid point writes, at the extended reals: the ids are the order of each row of the first block read, and the
  values are that row in order.
-/
module

public import proofs.«01_k».proof.Proof.NetSI
public import proofs.«01_k».proof.Proof.TabSI
public import proofs.«01_k».proof.Proof.Order

@[expose] public section

set_option maxRecDepth 16384

noncomputable section

namespace Cert.Proof.SortIdeal

open Cert.SortIdeal Cert.SortIdeal.Gen Cert.Stages Cert.Net
open Idealize.ShloMosaic Idealize.ShloMosaic.SortNet

def in2 (c : Fin 256) (n : Fin 2048) : S256x2048.Idx := fun | 0 => c | 1 => n

theorem row_in1 (c : Fin 256) (n : Fin 2048) : (S1x256x2048.rowMajor (in1 c n)).val = (S256x2048.rowMajor (in2 c n)).val := by
  rw [Shape.rowMajor_val_three, Shape.rowMajor_val_two]
  show (0 * 256 + c.val) * 2048 + n.val = c.val * 2048 + n.val
  omega

/-- The stable order of row `c` of a block. -/
def ordOf (x : Vec Ideal S1x256x2048 .f32) (c : Fin 256) : Fin 2048 → Fin 2048 :=
  sortedFrom fun k k' => decide ((x (in1 c k) : EReal) < x (in1 c k'))

theorem start_val (x : Vec Ideal S1x256x2048 .f32) (r : Fin (2 ^ 11)) (c : Fin 256) : k0_pay43 x (rc r c) = x (in1 c r) := by
  unfold k0_pay43
  rw [shapeCast_self, transpose_apply _ _ _ (rc r c) (in2 c r) (fun b => by match b with | 0 => rfl | 1 => rfl)]
  exact shapeCast_apply _ _ _ _ (row_in1 c r)

theorem start_id (r : Fin (2 ^ 11)) (c : Fin 256) : k0_pay44 (rc r c) = BitVec.ofNat 32 r.val := by
  unfold k0_pay44
  rw [shapeCast_self]
  exact iota_single_apply .tc S2048x256 32 0 _ (rc r c)

theorem out_at (x : Vec Ideal S1x256x2048 .f32) (r : Fin (2 ^ 11)) (c : Fin 256) :
    (out x).1 (rc r c) = x (in1 c (ordOf x c r)) ∧ (out x).2 (rc r c) = BitVec.ofNat 32 (ordOf x c r).val := by
  obtain ⟨σ, hσ⟩ := trips_perm (k0_pay43 x, k0_pay44) c
  have hp : ∀ r, colOf (k0_pay43 x, k0_pay44) c r = pair (fun k : Fin 2048 => (x (in1 c k) : EReal)) r := by
    intro r
    show (toLex (k0_pay43 x (rc r c), (k0_pay44 (rc r c)).toInt) : Ent) = toLex (x (in1 c r), (r.val : ℤ))
    rw [start_val, start_id]
    have : (BitVec.ofNat 32 r.val).toInt = (r.val : ℤ) := by
      have := r.isLt
      rw [BitVec.toInt_eq_toNat_cond, BitVec.toNat_ofNat]; omega
    rw [this]
  have hm : Monotone fun k : Fin 2048 => pair (fun k : Fin 2048 => (x (in1 c k) : EReal)) (σ k) := by
    intro a b hab
    have h := trips_mono (k0_pay43 x, k0_pay44) c hab
    rw [hσ, hσ, hp, hp] at h
    exact h
  have hu : σ r = ordOf x c r := sorted_unique (fun k : Fin 2048 => (x (in1 c k) : EReal)) σ hm r
  have he := hσ r
  rw [hu] at he
  have he' : ((out x).1 (rc r c), ((out x).2 (rc r c)).toInt) = (k0_pay43 x (rc (ordOf x c r) c), (k0_pay44 (rc (ordOf x c r) c)).toInt) := toLex.injective he
  have h1 := congrArg Prod.fst he'
  have h2 := BitVec.eq_of_toInt_eq (congrArg Prod.snd he')
  rw [start_val] at h1
  rw [start_id] at h2
  exact ⟨h1, h2⟩

/-- The block of ids. -/
theorem ids_at (x : Vec Ideal S1x256x2048 .f32) (c : Fin 256) (n : Fin 2048) : k0_pay60 (out x).2 (in1 c n) = BitVec.ofNat 32 (ordOf x c n).val := by
  unfold k0_pay60
  dsimp only
  rw [shapeCast_apply _ _ (in1 c n) (in2 c n) (row_in1 c n).symm, transpose_apply _ _ _ (in2 c n) (rc n c) (fun b => by match b with | 0 => rfl | 1 => rfl)]
  exact (out_at x n c).2

/-- The blended block. -/
theorem blend_at (b x : Vec Ideal S1x256x2048 .f32) (c : Fin 256) (n : Fin 2048) :
    k0_pay1 (k0_pay61 b (out x).1) (in1 c n)
      = FloatOps.addf (FloatOps.mulf (FloatOps.ofBits .f32 0x3F666666#32) (b (in1 c n))) (FloatOps.mulf (FloatOps.ofBits .f32 0x3DCCCCCD#32) (x (in1 c (ordOf x c n)))) := by
  unfold k0_pay1 k0_pay61
  dsimp only
  rw [shapeCast_apply _ _ (in1 c n) (in2 c n) (row_in1 c n).symm]
  refine congrArg₂ (FloatOps.addf (F := Ideal) (φ := .f32)) (congrArg (FloatOps.mulf (F := Ideal) (φ := .f32) _) ?_) (congrArg (FloatOps.mulf (F := Ideal) (φ := .f32) _) ?_)
  · exact shapeCast_apply _ _ (in2 c n) (in1 c n) (row_in1 c n)
  · exact (transpose_apply _ _ _ (in2 c n) (rc n c) (fun b => by match b with | 0 => rfl | 1 => rfl)).trans (out_at x n c).1

end Cert.Proof.SortIdeal
-- ==== Proof.PlainAt.lean ====
/-
  The plain program's values read at an index, at the extended reals, and its run: the ids are each row's stable order; the blend
  takes batch `b` of the sorted content from batch `border keys b` of the content.
-/
module

public import proofs.«01_k».proof.Proof.ValP
public import proofs.«01_k».proof.Proof.TabSI
public import Idealize.ShloMosaic.Lib.SparseCore.Quiescent
public import Idealize.ShloMosaic.PureOps.Ideal

@[expose] public section

set_option maxRecDepth 16384

noncomputable section

namespace Cert.PlainIdeal.Own

open Cert.PlainIdeal Cert.PlainIdeal.Gen Cert.Scat
open Cert.Proof.SortIdeal (bat entry border border_injective entry_sort)
open Idealize.ShloMosaic Idealize.ShloMosaic.TcCoe Idealize.SL.Sem Idealize.ShloMosaic.StableHlo

attribute [local irreducible] W₁ W₂ W₃

/-! ## The comparators -/

/-- Zeros read as zero: nothing changes. -/
theorem zeros (z l : EReal) : Scalar.select (Ideal.cmp .oeq l z) z l = l := by
  by_cases h : l = z
  · subst h; unfold Scalar.select; split <;> rfl
  · have : Ideal.cmp .oeq l z = 0#1 := by unfold Ideal.cmp; simp [h]
    rw [this]; rfl

/-- No value differs from itself. -/
theorem selves (n l x : EReal) : Scalar.select (Ideal.cmp .une l l) n x = x := by
  have : Ideal.cmp .une l l = 0#1 := by unfold Ideal.cmp; simp
  rw [this]; rfl

theorem lt_bit (l r : EReal) : (Ideal.cmp .olt l r == 1#1) = decide (l < r) := by
  unfold Ideal.cmp
  cases decide (l < r) <;> rfl

theorem comparator_pair (l r : EReal) (i j : BitVec 32) :
    (comparator_f32_i32_d2 (F := Ideal) ((l, i) : Ideal .f32 × BitVec 32) (r, j) == 1#1) = decide (l < r) := by
  refine Eq.trans ?_ (lt_bit l r)
  refine congrArg (· == 1#1) ?_
  exact congrArg₂ (Ideal.cmp .olt) ((selves _ l _).trans (zeros _ l)) ((selves _ r _).trans (zeros _ r))

theorem comparator_one (l r : EReal) : (comparator_f32_d2 (F := Ideal) (l : Ideal .f32) r == 1#1) = decide (l < r) := by
  refine Eq.trans ?_ (lt_bit l r)
  refine congrArg (· == 1#1) ?_
  exact congrArg₂ (Ideal.cmp .olt) ((selves _ l _).trans (zeros _ l)) ((selves _ r _).trans (zeros _ r))

/-- The stable order of row `b, c`. -/
def rowOrd (x : SC.Idx → EReal) (b : Fin 48) (c : Fin 256) : Fin 2048 → Fin 2048 := sortedFrom fun k k' => decide (x (at3 b c k) < x (at3 b c k'))

theorem argsort_at (x : SC.Idx → EReal) (b : Fin 48) (c : Fin 256) (n : Fin 2048) :
    (Host.sort2 SC 2 (comparator_f32_i32_d2 (F := Ideal)) x (iotaInDim SC 32 2)).2 (at3 b c n) = BitVec.ofNat 32 (rowOrd x b c n).val := by
  refine (sort2_words (comparator_f32_i32_d2 (F := Ideal)) x b c n).trans (congrArg (fun f : Fin 2048 → Fin 2048 => BitVec.ofNat 32 (f n).val) ?_)
  unfold ord rowOrd
  exact congrArg sortedFrom (funext fun k => funext fun k' => comparator_pair _ _ _ _)

theorem sort_at (x : SC.Idx → EReal) (b : Fin 48) (c : Fin 256) (n : Fin 2048) :
    Host.sort SC 2 (comparator_f32_d2 (F := Ideal)) x (at3 b c n) = x (at3 b c (rowOrd x b c n)) := by
  have hd : 2 < SC.rank := by decide
  unfold Host.sort rowOrd
  rw [dif_pos hd]
  refine (congrArg x (along_at3 b c n _)).trans ?_
  refine congrArg (fun f : Fin 2048 → Fin 2048 => x (at3 b c (f n))) ?_
  refine congrArg sortedFrom (funext fun k => funext fun k' => ?_)
  refine Eq.trans (congrArg₂ (fun l r : EReal => comparator_f32_d2 (F := Ideal) (l : Ideal .f32) r == 1#1) ?_ ?_) (comparator_one _ _)
  · exact congrArg x (along_at3 b c n k)
  · exact congrArg x (along_at3 b c n k')

/-! ## The batches taken -/

variable {F : FTy → Type} [FloatOps F] {α : Type}

/-- Position `k` of a row, as a place of the image. -/
def px (b : Fin 48) (c : Fin 256) (k : Fin 2048) : SX.Idx := fun
  | 0 => b
  | 1 => c
  | 2 => (⟨k.val / 64, by omega⟩ : Fin 32)
  | 3 => (⟨k.val % 64, by omega⟩ : Fin 64)

theorem cast_px (h : SX.ShapeCasts SC) (x : SX.Idx → α) (b : Fin 48) (c : Fin 256) (k : Fin 2048) : shapeCast SC x h (at3 b c k) = x (px b c k) := by
  refine shapeCast_apply x h _ _ ?_
  rw [Shape.rowMajor_val_three, Shape.rowMajor_val_four]
  show ((b.val * 256 + c.val) * 32 + k.val / 64) * 64 + k.val % 64 = (b.val * 256 + c.val) * 2048 + k.val
  omega

def one (b : Fin 48) : S48x1.Idx := fun | 0 => b | 1 => (0 : Fin 1)

theorem gather_px (x : SX.Idx → α) (idx : IVec S48x1 32) (b : Fin 48) (c : Fin 256) (k : Fin 2048) :
    Host.gather gather_S48x256x32x64_S48x1_S48x256x32x64_123_0_n_n_0_1_12563264 x idx (px b c k)
      = x (px ⟨min (idx (one b)).toInt.toNat 47, by omega⟩ c k) := by
  unfold Host.gather
  congr 1
  have hs : gather_S48x256x32x64_S48x1_S48x256x32x64_123_0_n_n_0_1_12563264.siIdx (px b c k) ⟨0, Nat.zero_lt_one⟩ = one b := by
    funext a; match a with
    | 0 => rfl
    | 1 => rfl
  funext a
  match a with
  | 0 =>
    apply Fin.ext
    show min (idx (gather_S48x256x32x64_S48x1_S48x256x32x64_123_0_n_n_0_1_12563264.siIdx (px b c k) ⟨0, Nat.zero_lt_one⟩)).toInt.toNat 47 + 0 + 0 = min (idx (one b)).toInt.toNat 47
    rw [hs]; rfl
  | 1 =>
    apply Fin.ext
    show 0 + 0 + c.val = c.val
    omega
  | 2 =>
    apply Fin.ext
    show 0 + 0 + k.val / 64 = k.val / 64
    omega
  | 3 =>
    apply Fin.ext
    show 0 + 0 + k.val % 64 = k.val % 64
    omega

variable (V : Valuation τ sig (Elt F))

/-- The batch the shuffle puts at `b`. -/
def from_ (b : Fin 48) : Fin 48 := border comparator_i32_i32_d0 (keys V) b

theorem perm_at (b : Fin 48) : perm V (bat b) = BitVec.ofNat 32 (from_ V b).val := by
  rw [perm_eq]
  exact entry_sort comparator_i32_i32_d0 (keys V) b

/-- A batch's number is not negative: no wrap. -/
theorem wrapped (p : Fin 48) : Scalar.select (IntOp.cmpi .slt (BitVec.ofNat 32 p.val) 0#32) (BitVec.ofNat 32 p.val + 48#32) (BitVec.ofNat 32 p.val) = BitVec.ofNat 32 p.val := by
  revert p; decide

/-- Words with the negative ones wrapped, as a column. -/
def starts (w : IVec S48 32) : IVec S48x1 32 :=
  broadcastInDim S48x1 ![0] bcast_S48_S48x1_0 (select (cmpi .slt w (broadcastInDim S48 ![] bcast_S_S48 (constantI S_ 32 0#32)))
    (addi w (broadcastInDim S48 ![] bcast_S_S48 (constantI S_ 32 48#32))) w)

theorem starts_at (w : IVec S48 32) (b p : Fin 48) (h : w (bat b) = BitVec.ofNat 32 p.val) : starts w (one b) = BitVec.ofNat 32 p.val := by
  refine Eq.trans (b := Scalar.select (IntOp.cmpi .slt (w (bat b)) 0#32) (w (bat b) + 48#32) (w (bat b))) ?_ ?_
  · refine congrArg (fun q => Scalar.select (IntOp.cmpi .slt (w q) 0#32) (w q + 48#32) (w q)) ?_
    funext a
    obtain rfl : a = 0 := Subsingleton.elim _ _
    rfl
  · rw [h]; exact wrapped p

theorem gather_starts (x : SX.Idx → α) (w : IVec S48 32) (b p : Fin 48) (h : w (bat b) = BitVec.ofNat 32 p.val) (c : Fin 256) (k : Fin 2048) :
    Host.gather gather_S48x256x32x64_S48x1_S48x256x32x64_123_0_n_n_0_1_12563264 x (starts w) (px b c k) = x (px p c k) := by
  refine (gather_px x (starts w) b c k).trans (congrArg (fun q => x (px q c k)) (Fin.ext ?_))
  show min (starts w (one b)).toInt.toNat 47 = p.val
  rw [starts_at w b p h]
  have := p.isLt
  rw [BitVec.toInt_eq_toNat_cond, BitVec.toNat_ofNat]
  omega

theorem taken_eq : taken V = Host.gather gather_S48x256x32x64_S48x1_S48x256x32x64_123_0_n_n_0_1_12563264 (V (Proc.devRef .tc main_arg0)) (starts (perm V)) := rfl

attribute [local irreducible] perm from_ starts in
theorem taken_at (b : Fin 48) (c : Fin 256) (k : Fin 2048) :
    shapeCast S48x256x2048 (taken V) shapeCasts_S48x256x32x64_S48x256x2048 (at3 b c k) = flat V (at3 (from_ V b) c k) :=
  (cast_px shapeCasts_S48x256x32x64_S48x256x2048 (taken V) b c k).trans
    (((congrFun (taken_eq V) (px b c k)).trans (gather_starts (V (Proc.devRef .tc main_arg0)) (perm V) b (from_ V b) (perm_at V b) c k)).trans
      (cast_px shapeCasts_S48x256x32x64_S48x256x2048 (V (Proc.devRef .tc main_arg0)) (from_ V b) c k).symm)

/-! ## The two results and the run -/

theorem ids_at (V : Valuation τ sig (Elt Ideal)) (b : Fin 48) (c : Fin 256) (n : Fin 2048) :
    W₃ V (Proc.devRef .tc main_v18) (at3 b c n) = BitVec.ofNat 32 (rowOrd (flat V) b c n).val :=
  (congrFun (W₃_v18 V) (at3 b c n)).trans (argsort_at (flat V) b c n)

theorem blend_at (V : Valuation τ sig (Elt Ideal)) (b : Fin 48) (c : Fin 256) (n : Fin 2048) :
    W₃ V (Proc.devRef .tc main_v24) (at3 b c n)
      = FloatOps.addf (FloatOps.mulf (FloatOps.ofBits .f32 0x3F666666#32) (V (Proc.devRef .tc main_arg1) (at3 b c n)))
          (FloatOps.mulf (FloatOps.ofBits .f32 0x3DCCCCCD#32) (flat V (at3 (from_ V b) c (rowOrd (flat V) (from_ V b) c n)))) := by
  refine (congrFun (W₃_v24 V) (at3 b c n)).trans ?_
  refine congrArg₂ (FloatOps.addf (F := Ideal) (φ := .f32)) rfl (congrArg (FloatOps.mulf (F := Ideal) (φ := .f32) _) ?_)
  refine (sort_at _ b c n).trans ((taken_at V b c _).trans ?_)
  refine congrArg (fun f : Fin 2048 → Fin 2048 => flat V (at3 (from_ V b) c (f n))) ?_
  unfold rowOrd
  refine congrArg sortedFrom (funext fun k => funext fun k' => ?_)
  rw [taken_at, taken_at]

end Cert.PlainIdeal.Own

end
-- ==== Proof.EqualS.lean ====
/-
  The TensorCore call's two results are the plain program's, at the extended reals.
-/
module

public import proofs.«01_k».proof.Proof.EndSI
public import proofs.«01_k».proof.Proof.OutSI
public import proofs.«01_k».proof.Proof.PlainAt
public import Idealize.ShloMosaic.Lib.Pipeline.Regions

@[expose] public section

set_option maxRecDepth 16384

noncomputable section

namespace Cert.EqualS

open Cert.Scat
open Idealize.ShloMosaic Idealize.ShloMosaic.TcCoe
open Cert.Proof.SortIdeal (V₁ V₂ V₃ shuf ip x0 x1 from3 ip_from3 ids blend ids_at3 blend_at3 ids_at blend_at ordOf in1 bat border border_injective entry entry_sort)
open Cert.PlainIdeal.Own (W₁ W₂ W₃ keys perm from_ flat rowOrd)

section Keys

variable {F : FTy → Type} [FloatOps F]
variable (m : (ℓ : Loc Cert.SortIdeal.nD Cert.SortIdeal.τ Cert.SortIdeal.sig) → Buf (Elt F) ℓ) (c : Dev Cert.SortIdeal.nD)
  (V : Valuation Cert.PlainIdeal.τ Cert.PlainIdeal.sig (Elt F))

/-- Both programs shuffle by the same keys. -/
theorem keys_eq : (V₂ m c (Proc.devRef .tc Cert.SortIdeal.main_call0_v17) : IVec Cert.SortIdeal.S48 32) = keys V := by chain_rfl

theorem shuf_eq : shuf m c = (Host.sort2 Cert.SortIdeal.S48 0 Cert.SortIdeal.comparator_i32_i32_d0
    (V₂ m c (Proc.devRef .tc Cert.SortIdeal.main_call0_v17)) (iotaInDim Cert.SortIdeal.S48 32 0)).2 := rfl

theorem V₁_v0 : V₁ m c (Proc.devRef .tc Cert.SortIdeal.main_v0)
    = shapeCast SC (m (c, Proc.devRef .tc Cert.SortIdeal.main_arg0)) Cert.SortIdeal.Gen.shapeCasts_S48x256x32x64_S48x256x2048 := rfl
theorem V₂_v0 : V₂ m c (Proc.devRef .tc Cert.SortIdeal.main_v0) = V₁ m c (Proc.devRef .tc Cert.SortIdeal.main_v0) :=
  Cert.Proof.SortIdeal.after_kept Cert.SortIdeal.Gen.hostOps0_1 rfl _
theorem V₃_v0 : V₃ m c (Proc.devRef .tc Cert.SortIdeal.main_v0) = V₂ m c (Proc.devRef .tc Cert.SortIdeal.main_v0) :=
  Cert.Proof.SortIdeal.after_kept Cert.SortIdeal.Gen.hostOps0_2 rfl _

end Keys

attribute [local irreducible] V₁ V₂ V₃ W₁ W₂ W₃ Cert.Proof.SortIdeal.out shuf keys perm border

/-- A sort of the batches by an order's words undoes the order. -/
theorem undone (w : Cert.SortIdeal.S48.Idx → BitVec 32) (p : Fin 48 → Fin 48) (hp : Function.Injective p) (hw : ∀ b, w (bat b) = BitVec.ofNat 32 (p b).val)
    (k : Fin 48) : p (border Cert.SortIdeal.comparator_i32_i32_d0_2 w k) = k := by
  have hc : ∀ k k' : Fin 48, (Cert.SortIdeal.comparator_i32_i32_d0_2 (w (bat k), BitVec.ofNat 32 k.val) (w (bat k'), BitVec.ofNat 32 k'.val) == 1#1)
      = decide (p k < p k') := by
    intro k k'
    show (IntOp.cmpi .slt (w (bat k)) (w (bat k')) == 1#1) = _
    rw [hw, hw, slt_ofNat (lt_trans (p k).isLt (by decide)) (lt_trans (p k').isLt (by decide))]
    show _ = decide ((p k).val < (p k').val)
    cases decide ((p k).val < (p k').val) <;> rfl
  have e : border Cert.SortIdeal.comparator_i32_i32_d0_2 w = sortedFrom fun k k' => decide (p k < p k') := by
    unfold border
    exact congrArg sortedFrom (funext fun k => funext fun k' => hc k k')
  rw [e]
  exact sorted_undoes p hp k

variable (m : (ℓ : Loc Cert.SortIdeal.nD Cert.SortIdeal.τ Cert.SortIdeal.sig) → Buf (Elt Ideal) ℓ)
  (V : Valuation Cert.PlainIdeal.τ Cert.PlainIdeal.sig (Elt Ideal))

theorem shuf_at (b : Fin 48) : shuf m 0 (bat b) = BitVec.ofNat 32 (from_ V b).val := by
  have h := entry_sort Cert.SortIdeal.comparator_i32_i32_d0 (keys V) b
  refine Eq.trans ?_ h
  rw [shuf_eq, keys_eq m 0 V]
  rfl

theorem from_eq (b : Fin 48) : from3 m b = from_ V b := by
  have hu : ∀ k, from_ V (ip m k) = k := undone (shuf m 0) (from_ V) (border_injective _ _) (shuf_at m V)
  have h := hu (from3 m b)
  rw [ip_from3] at h
  exact h.symm

variable (h0 : V (Proc.devRef .tc Cert.PlainIdeal.main_arg0) = m (0, Proc.devRef .tc Cert.SortIdeal.main_arg0))
  (h1 : V (Proc.devRef .tc Cert.PlainIdeal.main_arg1) = m (0, Proc.devRef .tc Cert.SortIdeal.main_arg1))

include h0 in
theorem v0_eq : V₃ m 0 (Proc.devRef .tc Cert.SortIdeal.main_v0) = flat V := by
  refine (V₃_v0 m 0).trans ((V₂_v0 m 0).trans ((V₁_v0 m 0).trans ?_))
  unfold flat
  rw [h0]

include h0 in
theorem x0_at (b : Fin 48) (c : Fin 256) (n : Fin 2048) : x0 m b (in1 c n) = flat V (at3 b c n) := congrFun (v0_eq m V h0) (at3 b c n)

include h0 in
theorem ord_eq (b : Fin 48) (c : Fin 256) : ordOf (x0 m b) c = rowOrd (flat V) b c := by
  unfold ordOf rowOrd
  refine congrArg sortedFrom (funext fun k => funext fun k' => ?_)
  exact congrArg₂ (fun l r : EReal => decide (l < r)) (x0_at m V h0 b c k) (x0_at m V h0 b c k')

include h0 in
theorem ids_eq : ids m = W₃ V (Proc.devRef .tc Cert.PlainIdeal.main_v18) := by
  funext p
  refine (congrArg (ids m) (at3_eta p)).trans (Eq.trans ?_ (congrArg (W₃ V (Proc.devRef .tc Cert.PlainIdeal.main_v18)) (at3_eta p)).symm)
  refine (ids_at3 m (p 0) (p 1) (p 2)).trans ((ids_at _ _ _).trans (Eq.trans ?_ (Cert.PlainIdeal.Own.ids_at V (p 0) (p 1) (p 2)).symm))
  exact congrArg (fun f : Fin 2048 → Fin 2048 => BitVec.ofNat 32 (f (p 2)).val) (ord_eq m V h0 (p 0) (p 1))

include h0 in
theorem blended (b : Fin 48) (c : Fin 256) (n : Fin 2048) : x0 m (from3 m b) (in1 c (ordOf (x0 m (from3 m b)) c n))
    = flat V (at3 (from_ V b) c (rowOrd (flat V) (from_ V b) c n)) := by
  rw [x0_at m V h0, from_eq m V, ord_eq m V h0]

include h0 h1 in
theorem blend_eq : blend m = W₃ V (Proc.devRef .tc Cert.PlainIdeal.main_v24) := by
  funext p
  refine (congrArg (blend m) (at3_eta p)).trans (Eq.trans ?_ (congrArg (W₃ V (Proc.devRef .tc Cert.PlainIdeal.main_v24)) (at3_eta p)).symm)
  refine (blend_at3 m (p 0) (p 1) (p 2)).trans ((blend_at _ _ _ _).trans (Eq.trans ?_ (Cert.PlainIdeal.Own.blend_at V (p 0) (p 1) (p 2)).symm))
  refine congrArg₂ (FloatOps.addf (F := Ideal) (φ := .f32)) (congrArg (FloatOps.mulf (F := Ideal) (φ := .f32) _) ?_) (congrArg (FloatOps.mulf (F := Ideal) (φ := .f32) _) ?_)
  · exact congrFun ((Cert.Proof.SortIdeal.V₃_arg1 m 0).trans h1.symm) (at3 (p 0) (p 1) (p 2))
  · exact blended m V h0 (p 0) (p 1) (p 2)

end Cert.EqualS

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Sort
public import proofs.«01_k».proof.Proof.Gen.Sort.Launch
public import proofs.«01_k».proof.Proof.Gen.Sort.Loops
public import proofs.«01_k».proof.Proof.Gen.SortIdeal
public import proofs.«01_k».proof.Proof.Gen.SortIdeal.Launch
public import proofs.«01_k».proof.Proof.Gen.SortIdeal.Loops
public import proofs.«01_k».proof.Proof.Gen.PlainIdeal
public import proofs.«01_k».proof.Proof.RunK
public import proofs.«01_k».proof.Proof.RunKI
public import proofs.«01_k».proof.Proof.RefI
public import proofs.«01_k».proof.Proof.Equal
public import proofs.«01_k».proof.Proof.FrameS
public import proofs.«01_k».proof.Proof.FrameSI
public import proofs.«01_k».proof.Proof.RunP
public import proofs.«01_k».proof.Proof.EqualS
public import Idealize.ShloMosaic.Adequacy
public import Idealize.ShloMosaic.Init

@[expose] public section

noncomputable section

namespace Cert.Proof

open Idealize.ShloMosaic Idealize.SL.Sem Cert.Kernel

theorem frame_p : quiescent_Kernel (hKernel := Cert.Kernel.Gen.facts) := fun m g _ =>
  (θ_run Cert.Kernel.defs _ _).mono (fun _ h => ⟨fun c => (h.1 c).2, h.2⟩)
    (Cert.Kernel.Own.run_main m g fun _ p => Cert.Scat.words_lt _ _ _ p)

theorem run_pi (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (Cert.KernelIdeal.Own.QC m) :=
  Cert.KernelIdeal.Own.run_main m g fun _ p => Cert.Scat.words_lt _ _ _ p

theorem frame_pi : quiescent_KernelIdeal (hKernelIdeal := Cert.KernelIdeal.Gen.facts) := fun m g _ =>
  (θ_run Cert.KernelIdeal.defs _ _).mono (fun _ h => ⟨fun c => (h.1 c).2, h.2⟩) (run_pi m g)

theorem frame_r : quiescent_ReferenceIdeal (hReferenceIdeal := Cert.ReferenceIdeal.Gen.facts) := fun m g _ =>
  (θ_run Cert.ReferenceIdeal.defs _ _).mono (fun _ h => ⟨fun c => (h.1 c).2, h.2⟩) (Cert.ReferenceIdeal.Own.run_main m g)

theorem algebraic : algebraic_KernelIdeal_ReferenceIdeal (hKernelIdeal := Cert.KernelIdeal.Gen.facts) (hReferenceIdeal := Cert.ReferenceIdeal.Gen.facts) := by
  intro m g m' g' _ hag
  refine ⟨fun c => shapeCast Cert.Scat.SX (Cert.ReferenceIdeal.Own.R (F := Ideal) (m (Cert.KernelIdeal.Own.aLoc c)) (m (Cert.KernelIdeal.Own.bLoc c)))
    Cert.ReferenceIdeal.Gen.shapeCasts_S48x256x2048_S48x256x32x64, ?_, ?_⟩
  · refine (θ_run Cert.KernelIdeal.defs _ _).mono (fun r h c => ?_) (run_pi m g)
    obtain ⟨⟨o, ho, hr⟩, ha, hb⟩ := h.1 c
    exact ⟨hr.trans (Cert.Equal.result_eq _ _ o ho), ha, hb⟩
  · refine (θ_run Cert.ReferenceIdeal.defs _ _).mono (fun r h c => ?_) (Cert.ReferenceIdeal.Own.run_main m' g')
    obtain ⟨hr, ha, hb⟩ := h.1 c
    refine ⟨hr.trans ?_, ha, hb⟩
    rw [(hag c).1, (hag c).2]

theorem frame_s : quiescent_Sort (hSort := Cert.Sort.Gen.facts) := fun m g _ => Cert.Proof.Sort.run_args m g

theorem frame_si : quiescent_SortIdeal (hSortIdeal := Cert.SortIdeal.Gen.facts) := fun m g _ => Cert.Proof.SortIdeal.run_args m g

theorem frame_p' : quiescent_PlainIdeal (hPlainIdeal := Cert.PlainIdeal.Gen.facts) := fun m g _ =>
  (θ_run Cert.PlainIdeal.defs _ _).mono (fun _ h => ⟨fun c => (h.1 c).2.2, h.2⟩) (Cert.PlainIdeal.Own.run_main m g)

theorem algebraic' : algebraic_SortIdeal_PlainIdeal (hSortIdeal := Cert.SortIdeal.Gen.facts) (hPlainIdeal := Cert.PlainIdeal.Gen.facts) := by
  intro m g m' g' _ hag
  refine ⟨fun c => Cert.Proof.SortIdeal.Vₙ m c (Proc.devRef .tc Cert.SortIdeal.main_v11_0),
    fun c => Cert.Proof.SortIdeal.Vₙ m c (Proc.devRef .tc Cert.SortIdeal.main_v11_1), ?_, ?_⟩
  · exact (θ_run Cert.SortIdeal.defs _ _).mono (fun r h c => ⟨h.1 c _ (Pipeline.devRef_mem_ucRefs rfl), h.1 c _ (Pipeline.devRef_mem_ucRefs rfl),
      (h.1 c _ (Pipeline.devRef_mem_ucRefs rfl)).trans (Cert.Proof.SortIdeal.Vₙ_arg0 m c),
      (h.1 c _ (Pipeline.devRef_mem_ucRefs rfl)).trans (Cert.Proof.SortIdeal.Vₙ_arg1 m c)⟩) (Cert.Proof.SortIdeal.run_main m g)
  · refine (θ_run Cert.PlainIdeal.defs _ _).mono (fun r h c => ?_) (Cert.PlainIdeal.Own.run_main m' g')
    obtain rfl : c = 0 := Subsingleton.elim _ _
    obtain ⟨hi, hb, ha, hz⟩ := h.1 0
    exact ⟨hi.trans ((Cert.EqualS.ids_eq m (Cert.PlainIdeal.Own.V₀ m' 0) (hag 0).1).symm.trans (Cert.Proof.SortIdeal.Vₙ_ids m).symm),
      hb.trans ((Cert.EqualS.blend_eq m (Cert.PlainIdeal.Own.V₀ m' 0) (hag 0).1 (hag 0).2).symm.trans (Cert.Proof.SortIdeal.Vₙ_blend m).symm), ha, hz⟩

theorem claim : Cert.Claim := ⟨Cert.Kernel.Gen.facts, Cert.KernelIdeal.Gen.facts, Cert.ReferenceIdeal.Gen.facts,
  Cert.Sort.Gen.facts, Cert.SortIdeal.Gen.facts, Cert.PlainIdeal.Gen.facts,
  frame_p, frame_pi, frame_r, frame_s, frame_si, frame_p', trivial, algebraic, trivial, algebraic'⟩

end Cert.Proof

end
